-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_KernelInIdeal_all_finite [hPre_all_finite : Cert.Pre_all_finite.Facts] (m : (ℓ : Loc Cert.KernelInIdeal.nD Cert.KernelInIdeal.τ Cert.KernelInIdeal.sig) → Buf (Elt Ideal) ℓ) : Prop :=
  ∀ c : Dev Cert.KernelInIdeal.nD,
    (Cert.Pre_all_finite.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5))) = (fun _ => 1#1)

def Pre_ReferenceInIdeal (m : (ℓ : Loc Cert.ReferenceInIdeal.nD Cert.ReferenceInIdeal.τ Cert.ReferenceInIdeal.sig) → Buf (Elt Ideal) ℓ) : Prop :=
  True

def Pre_ReferenceInIdeal_all_finite [hPre_all_finite : Cert.Pre_all_finite.Facts] (m : (ℓ : Loc Cert.ReferenceInIdeal.nD Cert.ReferenceInIdeal.τ Cert.ReferenceInIdeal.sig) → Buf (Elt Ideal) ℓ) : Prop :=
  ∀ c : Dev Cert.ReferenceInIdeal.nD,
    (Cert.Pre_all_finite.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_ffn_finite [hPre_ffn_finite : Cert.Pre_ffn_finite.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6)) (m ((c.tc : Thread Cert.KernelFfnIdeal.nD Cert.KernelFfnIdeal.τ).loc Cert.KernelFfnIdeal.main_arg7)) (m ((c.tc : Thread Cert.KernelFfnIdeal.nD Cert.KernelFfnIdeal.τ).loc Cert.KernelFfnIdeal.main_arg8)) (m ((c.tc : Thread Cert.KernelFfnIdeal.nD Cert.KernelFfnIdeal.τ).loc Cert.KernelFfnIdeal.main_arg9)) (m ((c.tc : Thread Cert.KernelFfnIdeal.nD Cert.KernelFfnIdeal.τ).loc Cert.KernelFfnIdeal.main_arg10)) (m ((c.tc : Thread Cert.KernelFfnIdeal.nD Cert.KernelFfnIdeal.τ).loc Cert.KernelFfnIdeal.main_arg11))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_ffn_finite [hPre_ffn_finite : Cert.Pre_ffn_finite.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5)) (m ((c.tc : Thread Cert.ReferenceFfnIdeal.nD Cert.ReferenceFfnIdeal.τ).loc Cert.ReferenceFfnIdeal.main_arg6)) (m ((c.tc : Thread Cert.ReferenceFfnIdeal.nD Cert.ReferenceFfnIdeal.τ).loc Cert.ReferenceFfnIdeal.main_arg7)) (m ((c.tc : Thread Cert.ReferenceFfnIdeal.nD Cert.ReferenceFfnIdeal.τ).loc Cert.ReferenceFfnIdeal.main_arg8)) (m ((c.tc : Thread Cert.ReferenceFfnIdeal.nD Cert.ReferenceFfnIdeal.τ).loc Cert.ReferenceFfnIdeal.main_arg9)) (m ((c.tc : Thread Cert.ReferenceFfnIdeal.nD Cert.ReferenceFfnIdeal.τ).loc Cert.ReferenceFfnIdeal.main_arg10)) (m ((c.tc : Thread Cert.ReferenceFfnIdeal.nD Cert.ReferenceFfnIdeal.τ).loc Cert.ReferenceFfnIdeal.main_arg11))) = (fun _ => 1#1)

def Pre_KernelUpFwd (m : (ℓ : Loc Cert.KernelUpFwd.nD Cert.KernelUpFwd.τ Cert.KernelUpFwd.sig) → Buf (Elt Bits) ℓ) : Prop :=
  True

def Pre_KernelUpFwdIdeal (m : (ℓ : Loc Cert.KernelUpFwdIdeal.nD Cert.KernelUpFwdIdeal.τ Cert.KernelUpFwdIdeal.sig) → Buf (Elt Ideal) ℓ) : Prop :=
  True

def Pre_ReferenceUpFwdIdeal (m : (ℓ : Loc Cert.ReferenceUpFwdIdeal.nD Cert.ReferenceUpFwdIdeal.τ Cert.ReferenceUpFwdIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelStepUp (m : (ℓ : Loc Cert.KernelStepUp.nD Cert.KernelStepUp.τ Cert.KernelStepUp.sig) → Buf (Elt Bits) ℓ) : Prop :=
  True

def Pre_KernelStepUpIdeal (m : (ℓ : Loc Cert.KernelStepUpIdeal.nD Cert.KernelStepUpIdeal.τ Cert.KernelStepUpIdeal.sig) → Buf (Elt Ideal) ℓ) : Prop :=
  True

def Pre_ReferenceStepUpIdeal (m : (ℓ : Loc Cert.ReferenceStepUpIdeal.nD Cert.ReferenceStepUpIdeal.τ Cert.ReferenceStepUpIdeal.sig) → Buf (Elt Ideal) ℓ) : Prop :=
  True

def Pre_KernelStepDown (m : (ℓ : Loc Cert.KernelStepDown.nD Cert.KernelStepDown.τ Cert.KernelStepDown.sig) → Buf (Elt Bits) ℓ) : Prop :=
  True

def Pre_KernelStepDownIdeal (m : (ℓ : Loc Cert.KernelStepDownIdeal.nD Cert.KernelStepDownIdeal.τ Cert.KernelStepDownIdeal.sig) → Buf (Elt Ideal) ℓ) : Prop :=
  True

def Pre_ReferenceStepDownIdeal (m : (ℓ : Loc Cert.ReferenceStepDownIdeal.nD Cert.ReferenceStepDownIdeal.τ Cert.ReferenceStepDownIdeal.sig) → Buf (Elt Ideal) ℓ) : Prop :=
  True

def Pre_KernelStepOut (m : (ℓ : Loc Cert.KernelStepOut.nD Cert.KernelStepOut.τ Cert.KernelStepOut.sig) → Buf (Elt Bits) ℓ) : Prop :=
  True

def Pre_KernelStepOutIdeal (m : (ℓ : Loc Cert.KernelStepOutIdeal.nD Cert.KernelStepOutIdeal.τ Cert.KernelStepOutIdeal.sig) → Buf (Elt Ideal) ℓ) : Prop :=
  True

def Pre_ReferenceStepOutIdeal (m : (ℓ : Loc Cert.ReferenceStepOutIdeal.nD Cert.ReferenceStepOutIdeal.τ Cert.ReferenceStepOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_KernelInIdeal_pre_all_finite [hKernelInIdeal : Cert.KernelInIdeal.Facts] [hPre_all_finite : Cert.Pre_all_finite.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal_all_finite m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_ReferenceInIdeal_pre_all_finite [hReferenceInIdeal : Cert.ReferenceInIdeal.Facts] [hPre_all_finite : Cert.Pre_all_finite.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal_all_finite m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8)
      ∧ r.2.mem ((c.tc : Thread Cert.KernelFfn.nD Cert.KernelFfn.τ).loc Cert.KernelFfn.main_arg9) = m ((c.tc : Thread Cert.KernelFfn.nD Cert.KernelFfn.τ).loc Cert.KernelFfn.main_arg9)
      ∧ r.2.mem ((c.tc : Thread Cert.KernelFfn.nD Cert.KernelFfn.τ).loc Cert.KernelFfn.main_arg10) = m ((c.tc : Thread Cert.KernelFfn.nD Cert.KernelFfn.τ).loc Cert.KernelFfn.main_arg10)
      ∧ r.2.mem ((c.tc : Thread Cert.KernelFfn.nD Cert.KernelFfn.τ).loc Cert.KernelFfn.main_arg11) = m ((c.tc : Thread Cert.KernelFfn.nD Cert.KernelFfn.τ).loc Cert.KernelFfn.main_arg11))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
      ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9)
      ∧ r.2.mem ((c.tc : Thread Cert.KernelFfnIdeal.nD Cert.KernelFfnIdeal.τ).loc Cert.KernelFfnIdeal.main_arg10) = m ((c.tc : Thread Cert.KernelFfnIdeal.nD Cert.KernelFfnIdeal.τ).loc Cert.KernelFfnIdeal.main_arg10)
      ∧ r.2.mem ((c.tc : Thread Cert.KernelFfnIdeal.nD Cert.KernelFfnIdeal.τ).loc Cert.KernelFfnIdeal.main_arg11) = m ((c.tc : Thread Cert.KernelFfnIdeal.nD Cert.KernelFfnIdeal.τ).loc Cert.KernelFfnIdeal.main_arg11))
      ∧ r.2.sem = fun _ => 0)

def quiescent_KernelFfnIdeal_pre_ffn_finite [hKernelFfnIdeal : Cert.KernelFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_ffn_finite m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
      ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9)
      ∧ r.2.mem ((c.tc : Thread Cert.KernelFfnIdeal.nD Cert.KernelFfnIdeal.τ).loc Cert.KernelFfnIdeal.main_arg10) = m ((c.tc : Thread Cert.KernelFfnIdeal.nD Cert.KernelFfnIdeal.τ).loc Cert.KernelFfnIdeal.main_arg10)
      ∧ r.2.mem ((c.tc : Thread Cert.KernelFfnIdeal.nD Cert.KernelFfnIdeal.τ).loc Cert.KernelFfnIdeal.main_arg11) = m ((c.tc : Thread Cert.KernelFfnIdeal.nD Cert.KernelFfnIdeal.τ).loc Cert.KernelFfnIdeal.main_arg11))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8)
      ∧ r.2.mem ((c.tc : Thread Cert.ReferenceFfnIdeal.nD Cert.ReferenceFfnIdeal.τ).loc Cert.ReferenceFfnIdeal.main_arg9) = m ((c.tc : Thread Cert.ReferenceFfnIdeal.nD Cert.ReferenceFfnIdeal.τ).loc Cert.ReferenceFfnIdeal.main_arg9)
      ∧ r.2.mem ((c.tc : Thread Cert.ReferenceFfnIdeal.nD Cert.ReferenceFfnIdeal.τ).loc Cert.ReferenceFfnIdeal.main_arg10) = m ((c.tc : Thread Cert.ReferenceFfnIdeal.nD Cert.ReferenceFfnIdeal.τ).loc Cert.ReferenceFfnIdeal.main_arg10)
      ∧ r.2.mem ((c.tc : Thread Cert.ReferenceFfnIdeal.nD Cert.ReferenceFfnIdeal.τ).loc Cert.ReferenceFfnIdeal.main_arg11) = m ((c.tc : Thread Cert.ReferenceFfnIdeal.nD Cert.ReferenceFfnIdeal.τ).loc Cert.ReferenceFfnIdeal.main_arg11))
      ∧ r.2.sem = fun _ => 0)

def quiescent_ReferenceFfnIdeal_pre_ffn_finite [hReferenceFfnIdeal : Cert.ReferenceFfnIdeal.Facts] [hPre_ffn_finite : Cert.Pre_ffn_finite.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_ffn_finite m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8)
      ∧ r.2.mem ((c.tc : Thread Cert.ReferenceFfnIdeal.nD Cert.ReferenceFfnIdeal.τ).loc Cert.ReferenceFfnIdeal.main_arg9) = m ((c.tc : Thread Cert.ReferenceFfnIdeal.nD Cert.ReferenceFfnIdeal.τ).loc Cert.ReferenceFfnIdeal.main_arg9)
      ∧ r.2.mem ((c.tc : Thread Cert.ReferenceFfnIdeal.nD Cert.ReferenceFfnIdeal.τ).loc Cert.ReferenceFfnIdeal.main_arg10) = m ((c.tc : Thread Cert.ReferenceFfnIdeal.nD Cert.ReferenceFfnIdeal.τ).loc Cert.ReferenceFfnIdeal.main_arg10)
      ∧ r.2.mem ((c.tc : Thread Cert.ReferenceFfnIdeal.nD Cert.ReferenceFfnIdeal.τ).loc Cert.ReferenceFfnIdeal.main_arg11) = m ((c.tc : Thread Cert.ReferenceFfnIdeal.nD Cert.ReferenceFfnIdeal.τ).loc Cert.ReferenceFfnIdeal.main_arg11))
      ∧ r.2.sem = fun _ => 0)

def quiescent_KernelUpFwd [hKernelUpFwd : Cert.KernelUpFwd.Facts] : Prop :=
  ∀ (m : (ℓ : Loc Cert.KernelUpFwd.nD Cert.KernelUpFwd.τ Cert.KernelUpFwd.sig) → Buf (Elt Bits) ℓ) (g : Dev Cert.KernelUpFwd.nD → PrngReg), Pre_KernelUpFwd m →
    θ_run (Cert.KernelUpFwd.defs (F := Bits)) (onTc (τ := Cert.KernelUpFwd.τ) (Cert.KernelUpFwd.main (F := Bits))) ⟨m, fun _ => 0, g⟩ (fun r => (∀ c : Dev Cert.KernelUpFwd.nD,
      r.2.mem ((c.tc : Thread Cert.KernelUpFwd.nD Cert.KernelUpFwd.τ).loc Cert.KernelUpFwd.main_arg0) = m ((c.tc : Thread Cert.KernelUpFwd.nD Cert.KernelUpFwd.τ).loc Cert.KernelUpFwd.main_arg0)
      ∧ r.2.mem ((c.tc : Thread Cert.KernelUpFwd.nD Cert.KernelUpFwd.τ).loc Cert.KernelUpFwd.main_arg1) = m ((c.tc : Thread Cert.KernelUpFwd.nD Cert.KernelUpFwd.τ).loc Cert.KernelUpFwd.main_arg1)
      ∧ r.2.mem ((c.tc : Thread Cert.KernelUpFwd.nD Cert.KernelUpFwd.τ).loc Cert.KernelUpFwd.main_arg2) = m ((c.tc : Thread Cert.KernelUpFwd.nD Cert.KernelUpFwd.τ).loc Cert.KernelUpFwd.main_arg2)
      ∧ r.2.mem ((c.tc : Thread Cert.KernelUpFwd.nD Cert.KernelUpFwd.τ).loc Cert.KernelUpFwd.main_arg3) = m ((c.tc : Thread Cert.KernelUpFwd.nD Cert.KernelUpFwd.τ).loc Cert.KernelUpFwd.main_arg3)
      ∧ r.2.mem ((c.tc : Thread Cert.KernelUpFwd.nD Cert.KernelUpFwd.τ).loc Cert.KernelUpFwd.main_arg4) = m ((c.tc : Thread Cert.KernelUpFwd.nD Cert.KernelUpFwd.τ).loc Cert.KernelUpFwd.main_arg4)
      ∧ r.2.mem ((c.tc : Thread Cert.KernelUpFwd.nD Cert.KernelUpFwd.τ).loc Cert.KernelUpFwd.main_arg5) = m ((c.tc : Thread Cert.KernelUpFwd.nD Cert.KernelUpFwd.τ).loc Cert.KernelUpFwd.main_arg5)
      ∧ r.2.mem ((c.tc : Thread Cert.KernelUpFwd.nD Cert.KernelUpFwd.τ).loc Cert.KernelUpFwd.main_arg6) = m ((c.tc : Thread Cert.KernelUpFwd.nD Cert.KernelUpFwd.τ).loc Cert.KernelUpFwd.main_arg6)
      ∧ r.2.mem ((c.tc : Thread Cert.KernelUpFwd.nD Cert.KernelUpFwd.τ).loc Cert.KernelUpFwd.main_arg7) = m ((c.tc : Thread Cert.KernelUpFwd.nD Cert.KernelUpFwd.τ).loc Cert.KernelUpFwd.main_arg7)
      ∧ r.2.mem ((c.tc : Thread Cert.KernelUpFwd.nD Cert.KernelUpFwd.τ).loc Cert.KernelUpFwd.main_arg8) = m ((c.tc : Thread Cert.KernelUpFwd.nD Cert.KernelUpFwd.τ).loc Cert.KernelUpFwd.main_arg8)
      ∧ r.2.mem ((c.tc : Thread Cert.KernelUpFwd.nD Cert.KernelUpFwd.τ).loc Cert.KernelUpFwd.main_arg9) = m ((c.tc : Thread Cert.KernelUpFwd.nD Cert.KernelUpFwd.τ).loc Cert.KernelUpFwd.main_arg9)
      ∧ r.2.mem ((c.tc : Thread Cert.KernelUpFwd.nD Cert.KernelUpFwd.τ).loc Cert.KernelUpFwd.main_arg10) = m ((c.tc : Thread Cert.KernelUpFwd.nD Cert.KernelUpFwd.τ).loc Cert.KernelUpFwd.main_arg10))
      ∧ r.2.sem = fun _ => 0)

def quiescent_KernelUpFwdIdeal [hKernelUpFwdIdeal : Cert.KernelUpFwdIdeal.Facts] : Prop :=
  ∀ (m : (ℓ : Loc Cert.KernelUpFwdIdeal.nD Cert.KernelUpFwdIdeal.τ Cert.KernelUpFwdIdeal.sig) → Buf (Elt Ideal) ℓ) (g : Dev Cert.KernelUpFwdIdeal.nD → PrngReg), Pre_KernelUpFwdIdeal m →
    θ_run (Cert.KernelUpFwdIdeal.defs (F := Ideal)) (onTc (τ := Cert.KernelUpFwdIdeal.τ) (Cert.KernelUpFwdIdeal.main (F := Ideal))) ⟨m, fun _ => 0, g⟩ (fun r => (∀ c : Dev Cert.KernelUpFwdIdeal.nD,
      r.2.mem ((c.tc : Thread Cert.KernelUpFwdIdeal.nD Cert.KernelUpFwdIdeal.τ).loc Cert.KernelUpFwdIdeal.main_arg0) = m ((c.tc : Thread Cert.KernelUpFwdIdeal.nD Cert.KernelUpFwdIdeal.τ).loc Cert.KernelUpFwdIdeal.main_arg0)
      ∧ r.2.mem ((c.tc : Thread Cert.KernelUpFwdIdeal.nD Cert.KernelUpFwdIdeal.τ).loc Cert.KernelUpFwdIdeal.main_arg1) = m ((c.tc : Thread Cert.KernelUpFwdIdeal.nD Cert.KernelUpFwdIdeal.τ).loc Cert.KernelUpFwdIdeal.main_arg1)
      ∧ r.2.mem ((c.tc : Thread Cert.KernelUpFwdIdeal.nD Cert.KernelUpFwdIdeal.τ).loc Cert.KernelUpFwdIdeal.main_arg2) = m ((c.tc : Thread Cert.KernelUpFwdIdeal.nD Cert.KernelUpFwdIdeal.τ).loc Cert.KernelUpFwdIdeal.main_arg2)
      ∧ r.2.mem ((c.tc : Thread Cert.KernelUpFwdIdeal.nD Cert.KernelUpFwdIdeal.τ).loc Cert.KernelUpFwdIdeal.main_arg3) = m ((c.tc : Thread Cert.KernelUpFwdIdeal.nD Cert.KernelUpFwdIdeal.τ).loc Cert.KernelUpFwdIdeal.main_arg3)
      ∧ r.2.mem ((c.tc : Thread Cert.KernelUpFwdIdeal.nD Cert.KernelUpFwdIdeal.τ).loc Cert.KernelUpFwdIdeal.main_arg4) = m ((c.tc : Thread Cert.KernelUpFwdIdeal.nD Cert.KernelUpFwdIdeal.τ).loc Cert.KernelUpFwdIdeal.main_arg4)
      ∧ r.2.mem ((c.tc : Thread Cert.KernelUpFwdIdeal.nD Cert.KernelUpFwdIdeal.τ).loc Cert.KernelUpFwdIdeal.main_arg5) = m ((c.tc : Thread Cert.KernelUpFwdIdeal.nD Cert.KernelUpFwdIdeal.τ).loc Cert.KernelUpFwdIdeal.main_arg5)
      ∧ r.2.mem ((c.tc : Thread Cert.KernelUpFwdIdeal.nD Cert.KernelUpFwdIdeal.τ).loc Cert.KernelUpFwdIdeal.main_arg6) = m ((c.tc : Thread Cert.KernelUpFwdIdeal.nD Cert.KernelUpFwdIdeal.τ).loc Cert.KernelUpFwdIdeal.main_arg6)
      ∧ r.2.mem ((c.tc : Thread Cert.KernelUpFwdIdeal.nD Cert.KernelUpFwdIdeal.τ).loc Cert.KernelUpFwdIdeal.main_arg7) = m ((c.tc : Thread Cert.KernelUpFwdIdeal.nD Cert.KernelUpFwdIdeal.τ).loc Cert.KernelUpFwdIdeal.main_arg7)
      ∧ r.2.mem ((c.tc : Thread Cert.KernelUpFwdIdeal.nD Cert.KernelUpFwdIdeal.τ).loc Cert.KernelUpFwdIdeal.main_arg8) = m ((c.tc : Thread Cert.KernelUpFwdIdeal.nD Cert.KernelUpFwdIdeal.τ).loc Cert.KernelUpFwdIdeal.main_arg8)
      ∧ r.2.mem ((c.tc : Thread Cert.KernelUpFwdIdeal.nD Cert.KernelUpFwdIdeal.τ).loc Cert.KernelUpFwdIdeal.main_arg9) = m ((c.tc : Thread Cert.KernelUpFwdIdeal.nD Cert.KernelUpFwdIdeal.τ).loc Cert.KernelUpFwdIdeal.main_arg9)
      ∧ r.2.mem ((c.tc : Thread Cert.KernelUpFwdIdeal.nD Cert.KernelUpFwdIdeal.τ).loc Cert.KernelUpFwdIdeal.main_arg10) = m ((c.tc : Thread Cert.KernelUpFwdIdeal.nD Cert.KernelUpFwdIdeal.τ).loc Cert.KernelUpFwdIdeal.main_arg10))
      ∧ r.2.sem = fun _ => 0)

def quiescent_ReferenceUpFwdIdeal [hReferenceUpFwdIdeal : Cert.ReferenceUpFwdIdeal.Facts] : Prop :=
  ∀ (m : (ℓ : Loc Cert.ReferenceUpFwdIdeal.nD Cert.ReferenceUpFwdIdeal.τ Cert.ReferenceUpFwdIdeal.sig) → Buf (Elt Ideal) ℓ) (g : Dev Cert.ReferenceUpFwdIdeal.nD → PrngReg), Pre_ReferenceUpFwdIdeal m →
    θ_run (Cert.ReferenceUpFwdIdeal.defs (F := Ideal)) (onTc (τ := Cert.ReferenceUpFwdIdeal.τ) (Cert.ReferenceUpFwdIdeal.main (F := Ideal))) ⟨m, fun _ => 0, g⟩ (fun r => (∀ c : Dev Cert.ReferenceUpFwdIdeal.nD,
      r.2.mem ((c.tc : Thread Cert.ReferenceUpFwdIdeal.nD Cert.ReferenceUpFwdIdeal.τ).loc Cert.ReferenceUpFwdIdeal.main_arg0) = m ((c.tc : Thread Cert.ReferenceUpFwdIdeal.nD Cert.ReferenceUpFwdIdeal.τ).loc Cert.ReferenceUpFwdIdeal.main_arg0)
      ∧ r.2.mem ((c.tc : Thread Cert.ReferenceUpFwdIdeal.nD Cert.ReferenceUpFwdIdeal.τ).loc Cert.ReferenceUpFwdIdeal.main_arg1) = m ((c.tc : Thread Cert.ReferenceUpFwdIdeal.nD Cert.ReferenceUpFwdIdeal.τ).loc Cert.ReferenceUpFwdIdeal.main_arg1)
      ∧ r.2.mem ((c.tc : Thread Cert.ReferenceUpFwdIdeal.nD Cert.ReferenceUpFwdIdeal.τ).loc Cert.ReferenceUpFwdIdeal.main_arg2) = m ((c.tc : Thread Cert.ReferenceUpFwdIdeal.nD Cert.ReferenceUpFwdIdeal.τ).loc Cert.ReferenceUpFwdIdeal.main_arg2)
      ∧ r.2.mem ((c.tc : Thread Cert.ReferenceUpFwdIdeal.nD Cert.ReferenceUpFwdIdeal.τ).loc Cert.ReferenceUpFwdIdeal.main_arg3) = m ((c.tc : Thread Cert.ReferenceUpFwdIdeal.nD Cert.ReferenceUpFwdIdeal.τ).loc Cert.ReferenceUpFwdIdeal.main_arg3)
      ∧ r.2.mem ((c.tc : Thread Cert.ReferenceUpFwdIdeal.nD Cert.ReferenceUpFwdIdeal.τ).loc Cert.ReferenceUpFwdIdeal.main_arg4) = m ((c.tc : Thread Cert.ReferenceUpFwdIdeal.nD Cert.ReferenceUpFwdIdeal.τ).loc Cert.ReferenceUpFwdIdeal.main_arg4)
      ∧ r.2.mem ((c.tc : Thread Cert.ReferenceUpFwdIdeal.nD Cert.ReferenceUpFwdIdeal.τ).loc Cert.ReferenceUpFwdIdeal.main_arg5) = m ((c.tc : Thread Cert.ReferenceUpFwdIdeal.nD Cert.ReferenceUpFwdIdeal.τ).loc Cert.ReferenceUpFwdIdeal.main_arg5)
      ∧ r.2.mem ((c.tc : Thread Cert.ReferenceUpFwdIdeal.nD Cert.ReferenceUpFwdIdeal.τ).loc Cert.ReferenceUpFwdIdeal.main_arg6) = m ((c.tc : Thread Cert.ReferenceUpFwdIdeal.nD Cert.ReferenceUpFwdIdeal.τ).loc Cert.ReferenceUpFwdIdeal.main_arg6)
      ∧ r.2.mem ((c.tc : Thread Cert.ReferenceUpFwdIdeal.nD Cert.ReferenceUpFwdIdeal.τ).loc Cert.ReferenceUpFwdIdeal.main_arg7) = m ((c.tc : Thread Cert.ReferenceUpFwdIdeal.nD Cert.ReferenceUpFwdIdeal.τ).loc Cert.ReferenceUpFwdIdeal.main_arg7)
      ∧ r.2.mem ((c.tc : Thread Cert.ReferenceUpFwdIdeal.nD Cert.ReferenceUpFwdIdeal.τ).loc Cert.ReferenceUpFwdIdeal.main_arg8) = m ((c.tc : Thread Cert.ReferenceUpFwdIdeal.nD Cert.ReferenceUpFwdIdeal.τ).loc Cert.ReferenceUpFwdIdeal.main_arg8)
      ∧ r.2.mem ((c.tc : Thread Cert.ReferenceUpFwdIdeal.nD Cert.ReferenceUpFwdIdeal.τ).loc Cert.ReferenceUpFwdIdeal.main_arg9) = m ((c.tc : Thread Cert.ReferenceUpFwdIdeal.nD Cert.ReferenceUpFwdIdeal.τ).loc Cert.ReferenceUpFwdIdeal.main_arg9)
      ∧ r.2.mem ((c.tc : Thread Cert.ReferenceUpFwdIdeal.nD Cert.ReferenceUpFwdIdeal.τ).loc Cert.ReferenceUpFwdIdeal.main_arg10) = m ((c.tc : Thread Cert.ReferenceUpFwdIdeal.nD Cert.ReferenceUpFwdIdeal.τ).loc Cert.ReferenceUpFwdIdeal.main_arg10))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3)
      ∧ r.2.mem ((c.tc : Thread Cert.KernelAda.nD Cert.KernelAda.τ).loc Cert.KernelAda.main_arg4) = m ((c.tc : Thread Cert.KernelAda.nD Cert.KernelAda.τ).loc Cert.KernelAda.main_arg4))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
      ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3)
      ∧ r.2.mem ((c.tc : Thread Cert.ReferenceAdaIdeal.nD Cert.ReferenceAdaIdeal.τ).loc Cert.ReferenceAdaIdeal.main_arg4) = m ((c.tc : Thread Cert.ReferenceAdaIdeal.nD Cert.ReferenceAdaIdeal.τ).loc Cert.ReferenceAdaIdeal.main_arg4))
      ∧ r.2.sem = fun _ => 0)

def quiescent_KernelStepUp [hKernelStepUp : Cert.KernelStepUp.Facts] : Prop :=
  ∀ (m : (ℓ : Loc Cert.KernelStepUp.nD Cert.KernelStepUp.τ Cert.KernelStepUp.sig) → Buf (Elt Bits) ℓ) (g : Dev Cert.KernelStepUp.nD → PrngReg), Pre_KernelStepUp m →
    θ_run (Cert.KernelStepUp.defs (F := Bits)) (onTc (τ := Cert.KernelStepUp.τ) (Cert.KernelStepUp.main (F := Bits))) ⟨m, fun _ => 0, g⟩ (fun r => (∀ c : Dev Cert.KernelStepUp.nD,
      r.2.mem ((c.tc : Thread Cert.KernelStepUp.nD Cert.KernelStepUp.τ).loc Cert.KernelStepUp.main_arg0) = m ((c.tc : Thread Cert.KernelStepUp.nD Cert.KernelStepUp.τ).loc Cert.KernelStepUp.main_arg0)
      ∧ r.2.mem ((c.tc : Thread Cert.KernelStepUp.nD Cert.KernelStepUp.τ).loc Cert.KernelStepUp.main_arg1) = m ((c.tc : Thread Cert.KernelStepUp.nD Cert.KernelStepUp.τ).loc Cert.KernelStepUp.main_arg1)
      ∧ r.2.mem ((c.tc : Thread Cert.KernelStepUp.nD Cert.KernelStepUp.τ).loc Cert.KernelStepUp.main_arg2) = m ((c.tc : Thread Cert.KernelStepUp.nD Cert.KernelStepUp.τ).loc Cert.KernelStepUp.main_arg2)
      ∧ r.2.mem ((c.tc : Thread Cert.KernelStepUp.nD Cert.KernelStepUp.τ).loc Cert.KernelStepUp.main_arg3) = m ((c.tc : Thread Cert.KernelStepUp.nD Cert.KernelStepUp.τ).loc Cert.KernelStepUp.main_arg3)
      ∧ r.2.mem ((c.tc : Thread Cert.KernelStepUp.nD Cert.KernelStepUp.τ).loc Cert.KernelStepUp.main_arg4) = m ((c.tc : Thread Cert.KernelStepUp.nD Cert.KernelStepUp.τ).loc Cert.KernelStepUp.main_arg4))
      ∧ r.2.sem = fun _ => 0)

def quiescent_KernelStepUpIdeal [hKernelStepUpIdeal : Cert.KernelStepUpIdeal.Facts] : Prop :=
  ∀ (m : (ℓ : Loc Cert.KernelStepUpIdeal.nD Cert.KernelStepUpIdeal.τ Cert.KernelStepUpIdeal.sig) → Buf (Elt Ideal) ℓ) (g : Dev Cert.KernelStepUpIdeal.nD → PrngReg), Pre_KernelStepUpIdeal m →
    θ_run (Cert.KernelStepUpIdeal.defs (F := Ideal)) (onTc (τ := Cert.KernelStepUpIdeal.τ) (Cert.KernelStepUpIdeal.main (F := Ideal))) ⟨m, fun _ => 0, g⟩ (fun r => (∀ c : Dev Cert.KernelStepUpIdeal.nD,
      r.2.mem ((c.tc : Thread Cert.KernelStepUpIdeal.nD Cert.KernelStepUpIdeal.τ).loc Cert.KernelStepUpIdeal.main_arg0) = m ((c.tc : Thread Cert.KernelStepUpIdeal.nD Cert.KernelStepUpIdeal.τ).loc Cert.KernelStepUpIdeal.main_arg0)
      ∧ r.2.mem ((c.tc : Thread Cert.KernelStepUpIdeal.nD Cert.KernelStepUpIdeal.τ).loc Cert.KernelStepUpIdeal.main_arg1) = m ((c.tc : Thread Cert.KernelStepUpIdeal.nD Cert.KernelStepUpIdeal.τ).loc Cert.KernelStepUpIdeal.main_arg1)
      ∧ r.2.mem ((c.tc : Thread Cert.KernelStepUpIdeal.nD Cert.KernelStepUpIdeal.τ).loc Cert.KernelStepUpIdeal.main_arg2) = m ((c.tc : Thread Cert.KernelStepUpIdeal.nD Cert.KernelStepUpIdeal.τ).loc Cert.KernelStepUpIdeal.main_arg2)
      ∧ r.2.mem ((c.tc : Thread Cert.KernelStepUpIdeal.nD Cert.KernelStepUpIdeal.τ).loc Cert.KernelStepUpIdeal.main_arg3) = m ((c.tc : Thread Cert.KernelStepUpIdeal.nD Cert.KernelStepUpIdeal.τ).loc Cert.KernelStepUpIdeal.main_arg3)
      ∧ r.2.mem ((c.tc : Thread Cert.KernelStepUpIdeal.nD Cert.KernelStepUpIdeal.τ).loc Cert.KernelStepUpIdeal.main_arg4) = m ((c.tc : Thread Cert.KernelStepUpIdeal.nD Cert.KernelStepUpIdeal.τ).loc Cert.KernelStepUpIdeal.main_arg4))
      ∧ r.2.sem = fun _ => 0)

def quiescent_ReferenceStepUpIdeal [hReferenceStepUpIdeal : Cert.ReferenceStepUpIdeal.Facts] : Prop :=
  ∀ (m : (ℓ : Loc Cert.ReferenceStepUpIdeal.nD Cert.ReferenceStepUpIdeal.τ Cert.ReferenceStepUpIdeal.sig) → Buf (Elt Ideal) ℓ) (g : Dev Cert.ReferenceStepUpIdeal.nD → PrngReg), Pre_ReferenceStepUpIdeal m →
    θ_run (Cert.ReferenceStepUpIdeal.defs (F := Ideal)) (onTc (τ := Cert.ReferenceStepUpIdeal.τ) (Cert.ReferenceStepUpIdeal.main (F := Ideal))) ⟨m, fun _ => 0, g⟩ (fun r => (∀ c : Dev Cert.ReferenceStepUpIdeal.nD,
      r.2.mem ((c.tc : Thread Cert.ReferenceStepUpIdeal.nD Cert.ReferenceStepUpIdeal.τ).loc Cert.ReferenceStepUpIdeal.main_arg0) = m ((c.tc : Thread Cert.ReferenceStepUpIdeal.nD Cert.ReferenceStepUpIdeal.τ).loc Cert.ReferenceStepUpIdeal.main_arg0)
      ∧ r.2.mem ((c.tc : Thread Cert.ReferenceStepUpIdeal.nD Cert.ReferenceStepUpIdeal.τ).loc Cert.ReferenceStepUpIdeal.main_arg1) = m ((c.tc : Thread Cert.ReferenceStepUpIdeal.nD Cert.ReferenceStepUpIdeal.τ).loc Cert.ReferenceStepUpIdeal.main_arg1)
      ∧ r.2.mem ((c.tc : Thread Cert.ReferenceStepUpIdeal.nD Cert.ReferenceStepUpIdeal.τ).loc Cert.ReferenceStepUpIdeal.main_arg2) = m ((c.tc : Thread Cert.ReferenceStepUpIdeal.nD Cert.ReferenceStepUpIdeal.τ).loc Cert.ReferenceStepUpIdeal.main_arg2)
      ∧ r.2.mem ((c.tc : Thread Cert.ReferenceStepUpIdeal.nD Cert.ReferenceStepUpIdeal.τ).loc Cert.ReferenceStepUpIdeal.main_arg3) = m ((c.tc : Thread Cert.ReferenceStepUpIdeal.nD Cert.ReferenceStepUpIdeal.τ).loc Cert.ReferenceStepUpIdeal.main_arg3)
      ∧ r.2.mem ((c.tc : Thread Cert.ReferenceStepUpIdeal.nD Cert.ReferenceStepUpIdeal.τ).loc Cert.ReferenceStepUpIdeal.main_arg4) = m ((c.tc : Thread Cert.ReferenceStepUpIdeal.nD Cert.ReferenceStepUpIdeal.τ).loc Cert.ReferenceStepUpIdeal.main_arg4))
      ∧ r.2.sem = fun _ => 0)

def quiescent_KernelStepDown [hKernelStepDown : Cert.KernelStepDown.Facts] : Prop :=
  ∀ (m : (ℓ : Loc Cert.KernelStepDown.nD Cert.KernelStepDown.τ Cert.KernelStepDown.sig) → Buf (Elt Bits) ℓ) (g : Dev Cert.KernelStepDown.nD → PrngReg), Pre_KernelStepDown m →
    θ_run (Cert.KernelStepDown.defs (F := Bits)) (onTc (τ := Cert.KernelStepDown.τ) (Cert.KernelStepDown.main (F := Bits))) ⟨m, fun _ => 0, g⟩ (fun r => (∀ c : Dev Cert.KernelStepDown.nD,
      r.2.mem ((c.tc : Thread Cert.KernelStepDown.nD Cert.KernelStepDown.τ).loc Cert.KernelStepDown.main_arg0) = m ((c.tc : Thread Cert.KernelStepDown.nD Cert.KernelStepDown.τ).loc Cert.KernelStepDown.main_arg0)
      ∧ r.2.mem ((c.tc : Thread Cert.KernelStepDown.nD Cert.KernelStepDown.τ).loc Cert.KernelStepDown.main_arg1) = m ((c.tc : Thread Cert.KernelStepDown.nD Cert.KernelStepDown.τ).loc Cert.KernelStepDown.main_arg1)
      ∧ r.2.mem ((c.tc : Thread Cert.KernelStepDown.nD Cert.KernelStepDown.τ).loc Cert.KernelStepDown.main_arg2) = m ((c.tc : Thread Cert.KernelStepDown.nD Cert.KernelStepDown.τ).loc Cert.KernelStepDown.main_arg2)
      ∧ r.2.mem ((c.tc : Thread Cert.KernelStepDown.nD Cert.KernelStepDown.τ).loc Cert.KernelStepDown.main_arg3) = m ((c.tc : Thread Cert.KernelStepDown.nD Cert.KernelStepDown.τ).loc Cert.KernelStepDown.main_arg3)
      ∧ r.2.mem ((c.tc : Thread Cert.KernelStepDown.nD Cert.KernelStepDown.τ).loc Cert.KernelStepDown.main_arg4) = m ((c.tc : Thread Cert.KernelStepDown.nD Cert.KernelStepDown.τ).loc Cert.KernelStepDown.main_arg4))
      ∧ r.2.sem = fun _ => 0)

def quiescent_KernelStepDownIdeal [hKernelStepDownIdeal : Cert.KernelStepDownIdeal.Facts] : Prop :=
  ∀ (m : (ℓ : Loc Cert.KernelStepDownIdeal.nD Cert.KernelStepDownIdeal.τ Cert.KernelStepDownIdeal.sig) → Buf (Elt Ideal) ℓ) (g : Dev Cert.KernelStepDownIdeal.nD → PrngReg), Pre_KernelStepDownIdeal m →
    θ_run (Cert.KernelStepDownIdeal.defs (F := Ideal)) (onTc (τ := Cert.KernelStepDownIdeal.τ) (Cert.KernelStepDownIdeal.main (F := Ideal))) ⟨m, fun _ => 0, g⟩ (fun r => (∀ c : Dev Cert.KernelStepDownIdeal.nD,
      r.2.mem ((c.tc : Thread Cert.KernelStepDownIdeal.nD Cert.KernelStepDownIdeal.τ).loc Cert.KernelStepDownIdeal.main_arg0) = m ((c.tc : Thread Cert.KernelStepDownIdeal.nD Cert.KernelStepDownIdeal.τ).loc Cert.KernelStepDownIdeal.main_arg0)
      ∧ r.2.mem ((c.tc : Thread Cert.KernelStepDownIdeal.nD Cert.KernelStepDownIdeal.τ).loc Cert.KernelStepDownIdeal.main_arg1) = m ((c.tc : Thread Cert.KernelStepDownIdeal.nD Cert.KernelStepDownIdeal.τ).loc Cert.KernelStepDownIdeal.main_arg1)
      ∧ r.2.mem ((c.tc : Thread Cert.KernelStepDownIdeal.nD Cert.KernelStepDownIdeal.τ).loc Cert.KernelStepDownIdeal.main_arg2) = m ((c.tc : Thread Cert.KernelStepDownIdeal.nD Cert.KernelStepDownIdeal.τ).loc Cert.KernelStepDownIdeal.main_arg2)
      ∧ r.2.mem ((c.tc : Thread Cert.KernelStepDownIdeal.nD Cert.KernelStepDownIdeal.τ).loc Cert.KernelStepDownIdeal.main_arg3) = m ((c.tc : Thread Cert.KernelStepDownIdeal.nD Cert.KernelStepDownIdeal.τ).loc Cert.KernelStepDownIdeal.main_arg3)
      ∧ r.2.mem ((c.tc : Thread Cert.KernelStepDownIdeal.nD Cert.KernelStepDownIdeal.τ).loc Cert.KernelStepDownIdeal.main_arg4) = m ((c.tc : Thread Cert.KernelStepDownIdeal.nD Cert.KernelStepDownIdeal.τ).loc Cert.KernelStepDownIdeal.main_arg4))
      ∧ r.2.sem = fun _ => 0)

def quiescent_ReferenceStepDownIdeal [hReferenceStepDownIdeal : Cert.ReferenceStepDownIdeal.Facts] : Prop :=
  ∀ (m : (ℓ : Loc Cert.ReferenceStepDownIdeal.nD Cert.ReferenceStepDownIdeal.τ Cert.ReferenceStepDownIdeal.sig) → Buf (Elt Ideal) ℓ) (g : Dev Cert.ReferenceStepDownIdeal.nD → PrngReg), Pre_ReferenceStepDownIdeal m →
    θ_run (Cert.ReferenceStepDownIdeal.defs (F := Ideal)) (onTc (τ := Cert.ReferenceStepDownIdeal.τ) (Cert.ReferenceStepDownIdeal.main (F := Ideal))) ⟨m, fun _ => 0, g⟩ (fun r => (∀ c : Dev Cert.ReferenceStepDownIdeal.nD,
      r.2.mem ((c.tc : Thread Cert.ReferenceStepDownIdeal.nD Cert.ReferenceStepDownIdeal.τ).loc Cert.ReferenceStepDownIdeal.main_arg0) = m ((c.tc : Thread Cert.ReferenceStepDownIdeal.nD Cert.ReferenceStepDownIdeal.τ).loc Cert.ReferenceStepDownIdeal.main_arg0)
      ∧ r.2.mem ((c.tc : Thread Cert.ReferenceStepDownIdeal.nD Cert.ReferenceStepDownIdeal.τ).loc Cert.ReferenceStepDownIdeal.main_arg1) = m ((c.tc : Thread Cert.ReferenceStepDownIdeal.nD Cert.ReferenceStepDownIdeal.τ).loc Cert.ReferenceStepDownIdeal.main_arg1)
      ∧ r.2.mem ((c.tc : Thread Cert.ReferenceStepDownIdeal.nD Cert.ReferenceStepDownIdeal.τ).loc Cert.ReferenceStepDownIdeal.main_arg2) = m ((c.tc : Thread Cert.ReferenceStepDownIdeal.nD Cert.ReferenceStepDownIdeal.τ).loc Cert.ReferenceStepDownIdeal.main_arg2)
      ∧ r.2.mem ((c.tc : Thread Cert.ReferenceStepDownIdeal.nD Cert.ReferenceStepDownIdeal.τ).loc Cert.ReferenceStepDownIdeal.main_arg3) = m ((c.tc : Thread Cert.ReferenceStepDownIdeal.nD Cert.ReferenceStepDownIdeal.τ).loc Cert.ReferenceStepDownIdeal.main_arg3)
      ∧ r.2.mem ((c.tc : Thread Cert.ReferenceStepDownIdeal.nD Cert.ReferenceStepDownIdeal.τ).loc Cert.ReferenceStepDownIdeal.main_arg4) = m ((c.tc : Thread Cert.ReferenceStepDownIdeal.nD Cert.ReferenceStepDownIdeal.τ).loc Cert.ReferenceStepDownIdeal.main_arg4))
      ∧ r.2.sem = fun _ => 0)

def quiescent_KernelStepOut [hKernelStepOut : Cert.KernelStepOut.Facts] : Prop :=
  ∀ (m : (ℓ : Loc Cert.KernelStepOut.nD Cert.KernelStepOut.τ Cert.KernelStepOut.sig) → Buf (Elt Bits) ℓ) (g : Dev Cert.KernelStepOut.nD → PrngReg), Pre_KernelStepOut m →
    θ_run (Cert.KernelStepOut.defs (F := Bits)) (onTc (τ := Cert.KernelStepOut.τ) (Cert.KernelStepOut.main (F := Bits))) ⟨m, fun _ => 0, g⟩ (fun r => (∀ c : Dev Cert.KernelStepOut.nD,
      r.2.mem ((c.tc : Thread Cert.KernelStepOut.nD Cert.KernelStepOut.τ).loc Cert.KernelStepOut.main_arg0) = m ((c.tc : Thread Cert.KernelStepOut.nD Cert.KernelStepOut.τ).loc Cert.KernelStepOut.main_arg0)
      ∧ r.2.mem ((c.tc : Thread Cert.KernelStepOut.nD Cert.KernelStepOut.τ).loc Cert.KernelStepOut.main_arg1) = m ((c.tc : Thread Cert.KernelStepOut.nD Cert.KernelStepOut.τ).loc Cert.KernelStepOut.main_arg1)
      ∧ r.2.mem ((c.tc : Thread Cert.KernelStepOut.nD Cert.KernelStepOut.τ).loc Cert.KernelStepOut.main_arg2) = m ((c.tc : Thread Cert.KernelStepOut.nD Cert.KernelStepOut.τ).loc Cert.KernelStepOut.main_arg2)
      ∧ r.2.mem ((c.tc : Thread Cert.KernelStepOut.nD Cert.KernelStepOut.τ).loc Cert.KernelStepOut.main_arg3) = m ((c.tc : Thread Cert.KernelStepOut.nD Cert.KernelStepOut.τ).loc Cert.KernelStepOut.main_arg3)
      ∧ r.2.mem ((c.tc : Thread Cert.KernelStepOut.nD Cert.KernelStepOut.τ).loc Cert.KernelStepOut.main_arg4) = m ((c.tc : Thread Cert.KernelStepOut.nD Cert.KernelStepOut.τ).loc Cert.KernelStepOut.main_arg4))
      ∧ r.2.sem = fun _ => 0)

def quiescent_KernelStepOutIdeal [hKernelStepOutIdeal : Cert.KernelStepOutIdeal.Facts] : Prop :=
  ∀ (m : (ℓ : Loc Cert.KernelStepOutIdeal.nD Cert.KernelStepOutIdeal.τ Cert.KernelStepOutIdeal.sig) → Buf (Elt Ideal) ℓ) (g : Dev Cert.KernelStepOutIdeal.nD → PrngReg), Pre_KernelStepOutIdeal m →
    θ_run (Cert.KernelStepOutIdeal.defs (F := Ideal)) (onTc (τ := Cert.KernelStepOutIdeal.τ) (Cert.KernelStepOutIdeal.main (F := Ideal))) ⟨m, fun _ => 0, g⟩ (fun r => (∀ c : Dev Cert.KernelStepOutIdeal.nD,
      r.2.mem ((c.tc : Thread Cert.KernelStepOutIdeal.nD Cert.KernelStepOutIdeal.τ).loc Cert.KernelStepOutIdeal.main_arg0) = m ((c.tc : Thread Cert.KernelStepOutIdeal.nD Cert.KernelStepOutIdeal.τ).loc Cert.KernelStepOutIdeal.main_arg0)
      ∧ r.2.mem ((c.tc : Thread Cert.KernelStepOutIdeal.nD Cert.KernelStepOutIdeal.τ).loc Cert.KernelStepOutIdeal.main_arg1) = m ((c.tc : Thread Cert.KernelStepOutIdeal.nD Cert.KernelStepOutIdeal.τ).loc Cert.KernelStepOutIdeal.main_arg1)
      ∧ r.2.mem ((c.tc : Thread Cert.KernelStepOutIdeal.nD Cert.KernelStepOutIdeal.τ).loc Cert.KernelStepOutIdeal.main_arg2) = m ((c.tc : Thread Cert.KernelStepOutIdeal.nD Cert.KernelStepOutIdeal.τ).loc Cert.KernelStepOutIdeal.main_arg2)
      ∧ r.2.mem ((c.tc : Thread Cert.KernelStepOutIdeal.nD Cert.KernelStepOutIdeal.τ).loc Cert.KernelStepOutIdeal.main_arg3) = m ((c.tc : Thread Cert.KernelStepOutIdeal.nD Cert.KernelStepOutIdeal.τ).loc Cert.KernelStepOutIdeal.main_arg3)
      ∧ r.2.mem ((c.tc : Thread Cert.KernelStepOutIdeal.nD Cert.KernelStepOutIdeal.τ).loc Cert.KernelStepOutIdeal.main_arg4) = m ((c.tc : Thread Cert.KernelStepOutIdeal.nD Cert.KernelStepOutIdeal.τ).loc Cert.KernelStepOutIdeal.main_arg4))
      ∧ r.2.sem = fun _ => 0)

def quiescent_ReferenceStepOutIdeal [hReferenceStepOutIdeal : Cert.ReferenceStepOutIdeal.Facts] : Prop :=
  ∀ (m : (ℓ : Loc Cert.ReferenceStepOutIdeal.nD Cert.ReferenceStepOutIdeal.τ Cert.ReferenceStepOutIdeal.sig) → Buf (Elt Ideal) ℓ) (g : Dev Cert.ReferenceStepOutIdeal.nD → PrngReg), Pre_ReferenceStepOutIdeal m →
    θ_run (Cert.ReferenceStepOutIdeal.defs (F := Ideal)) (onTc (τ := Cert.ReferenceStepOutIdeal.τ) (Cert.ReferenceStepOutIdeal.main (F := Ideal))) ⟨m, fun _ => 0, g⟩ (fun r => (∀ c : Dev Cert.ReferenceStepOutIdeal.nD,
      r.2.mem ((c.tc : Thread Cert.ReferenceStepOutIdeal.nD Cert.ReferenceStepOutIdeal.τ).loc Cert.ReferenceStepOutIdeal.main_arg0) = m ((c.tc : Thread Cert.ReferenceStepOutIdeal.nD Cert.ReferenceStepOutIdeal.τ).loc Cert.ReferenceStepOutIdeal.main_arg0)
      ∧ r.2.mem ((c.tc : Thread Cert.ReferenceStepOutIdeal.nD Cert.ReferenceStepOutIdeal.τ).loc Cert.ReferenceStepOutIdeal.main_arg1) = m ((c.tc : Thread Cert.ReferenceStepOutIdeal.nD Cert.ReferenceStepOutIdeal.τ).loc Cert.ReferenceStepOutIdeal.main_arg1)
      ∧ r.2.mem ((c.tc : Thread Cert.ReferenceStepOutIdeal.nD Cert.ReferenceStepOutIdeal.τ).loc Cert.ReferenceStepOutIdeal.main_arg2) = m ((c.tc : Thread Cert.ReferenceStepOutIdeal.nD Cert.ReferenceStepOutIdeal.τ).loc Cert.ReferenceStepOutIdeal.main_arg2)
      ∧ r.2.mem ((c.tc : Thread Cert.ReferenceStepOutIdeal.nD Cert.ReferenceStepOutIdeal.τ).loc Cert.ReferenceStepOutIdeal.main_arg3) = m ((c.tc : Thread Cert.ReferenceStepOutIdeal.nD Cert.ReferenceStepOutIdeal.τ).loc Cert.ReferenceStepOutIdeal.main_arg3)
      ∧ r.2.mem ((c.tc : Thread Cert.ReferenceStepOutIdeal.nD Cert.ReferenceStepOutIdeal.τ).loc Cert.ReferenceStepOutIdeal.main_arg4) = m ((c.tc : Thread Cert.ReferenceStepOutIdeal.nD Cert.ReferenceStepOutIdeal.τ).loc Cert.ReferenceStepOutIdeal.main_arg4))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 6144]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v10_0) i = v0 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v10_1) i = v1 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v10_2) i = v2 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v10_3) i = v3 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.KernelIdeal.nD Cert.KernelIdeal.τ).loc Cert.KernelIdeal.main_v10_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 6144]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v37) i = v0 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v38) i = v1 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v39) i = v2 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v40) i = v3 c i)
          ∧ (∀ i : (⟨2, ![8192, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 i = 1#1 → r.2.mem ((c.tc : Thread Cert.ReferenceIdeal.nD Cert.ReferenceIdeal.τ).loc Cert.ReferenceIdeal.main_v41) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v2_0)) (v1 : (c : Dev Cert.KernelUpIdeal.nD) → Buf (Elt Ideal) ((c.tc : Thread Cert.KernelUpIdeal.nD Cert.KernelUpIdeal.τ).loc Cert.KernelUpIdeal.main_v2_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2_0) = v0 c
          ∧ r.2.mem ((c.tc : Thread Cert.KernelUpIdeal.nD Cert.KernelUpIdeal.τ).loc Cert.KernelUpIdeal.main_v2_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v5) = v0 c
          ∧ r.2.mem ((c.tc : Thread Cert.ReferenceUpIdeal.nD Cert.ReferenceUpIdeal.τ).loc Cert.ReferenceUpIdeal.main_v6) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2_0)) (v1 : (c : Dev Cert.KernelOutIdeal.nD) → Buf (Elt Ideal) ((c.tc : Thread Cert.KernelOutIdeal.nD Cert.KernelOutIdeal.τ).loc Cert.KernelOutIdeal.main_v2_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2_0) = v0 c
          ∧ r.2.mem ((c.tc : Thread Cert.KernelOutIdeal.nD Cert.KernelOutIdeal.τ).loc Cert.KernelOutIdeal.main_v2_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_v6) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v2_0)) (v1 : (c : Dev Cert.KernelDownIdeal.nD) → Buf (Elt Ideal) ((c.tc : Thread Cert.KernelDownIdeal.nD Cert.KernelDownIdeal.τ).loc Cert.KernelDownIdeal.main_v2_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2_0) = v0 c
          ∧ r.2.mem ((c.tc : Thread Cert.KernelDownIdeal.nD Cert.KernelDownIdeal.τ).loc Cert.KernelDownIdeal.main_v2_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_v6) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelIn_KernelInIdeal : Prop :=
  True

def algebraic_KernelInIdeal_ReferenceInIdeal_pre_all_finite [hKernelInIdeal : Cert.KernelInIdeal.Facts] [hReferenceInIdeal : Cert.ReferenceInIdeal.Facts] [hPre_all_finite : Cert.Pre_all_finite.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal_all_finite m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v6_0)) (v1 : (c : Dev Cert.KernelInIdeal.nD) → Buf (Elt Ideal) ((c.tc : Thread Cert.KernelInIdeal.nD Cert.KernelInIdeal.τ).loc Cert.KernelInIdeal.main_v6_1)) (v2 : (c : Dev Cert.KernelInIdeal.nD) → Buf (Elt Ideal) ((c.tc : Thread Cert.KernelInIdeal.nD Cert.KernelInIdeal.τ).loc Cert.KernelInIdeal.main_v6_2)) (v3 : (c : Dev Cert.KernelInIdeal.nD) → Buf (Elt Ideal) ((c.tc : Thread Cert.KernelInIdeal.nD Cert.KernelInIdeal.τ).loc Cert.KernelInIdeal.main_v6_3)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v6_0) = v0 c
          ∧ r.2.mem ((c.tc : Thread Cert.KernelInIdeal.nD Cert.KernelInIdeal.τ).loc Cert.KernelInIdeal.main_v6_1) = v1 c
          ∧ r.2.mem ((c.tc : Thread Cert.KernelInIdeal.nD Cert.KernelInIdeal.τ).loc Cert.KernelInIdeal.main_v6_2) = v2 c
          ∧ r.2.mem ((c.tc : Thread Cert.KernelInIdeal.nD Cert.KernelInIdeal.τ).loc Cert.KernelInIdeal.main_v6_3) = v3 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v56) = v0 c
          ∧ r.2.mem ((c.tc : Thread Cert.ReferenceInIdeal.nD Cert.ReferenceInIdeal.τ).loc Cert.ReferenceInIdeal.main_v57) = v1 c
          ∧ r.2.mem ((c.tc : Thread Cert.ReferenceInIdeal.nD Cert.ReferenceInIdeal.τ).loc Cert.ReferenceInIdeal.main_v58) = v2 c
          ∧ r.2.mem ((c.tc : Thread Cert.ReferenceInIdeal.nD Cert.ReferenceInIdeal.τ).loc Cert.ReferenceInIdeal.main_v59) = v3 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelFfn_KernelFfnIdeal : Prop :=
  True

def algebraic_KernelFfnIdeal_ReferenceFfnIdeal_pre_ffn_finite [hKernelFfnIdeal : Cert.KernelFfnIdeal.Facts] [hReferenceFfnIdeal : Cert.ReferenceFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_ffn_finite m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)
      ∧ m' ((c.tc : Thread Cert.ReferenceFfnIdeal.nD Cert.ReferenceFfnIdeal.τ).loc Cert.ReferenceFfnIdeal.main_arg8) = m ((c.tc : Thread Cert.KernelFfnIdeal.nD Cert.KernelFfnIdeal.τ).loc Cert.KernelFfnIdeal.main_arg8)
      ∧ m' ((c.tc : Thread Cert.ReferenceFfnIdeal.nD Cert.ReferenceFfnIdeal.τ).loc Cert.ReferenceFfnIdeal.main_arg9) = m ((c.tc : Thread Cert.KernelFfnIdeal.nD Cert.KernelFfnIdeal.τ).loc Cert.KernelFfnIdeal.main_arg9)
      ∧ m' ((c.tc : Thread Cert.ReferenceFfnIdeal.nD Cert.ReferenceFfnIdeal.τ).loc Cert.ReferenceFfnIdeal.main_arg10) = m ((c.tc : Thread Cert.KernelFfnIdeal.nD Cert.KernelFfnIdeal.τ).loc Cert.KernelFfnIdeal.main_arg10)
      ∧ m' ((c.tc : Thread Cert.ReferenceFfnIdeal.nD Cert.ReferenceFfnIdeal.τ).loc Cert.ReferenceFfnIdeal.main_arg11) = m ((c.tc : Thread Cert.KernelFfnIdeal.nD Cert.KernelFfnIdeal.τ).loc Cert.KernelFfnIdeal.main_arg11)) →
    ∃ (v0 : (c : Dev Cert.KernelFfnIdeal.nD) → Buf (Elt Ideal) ((c.tc : Thread Cert.KernelFfnIdeal.nD Cert.KernelFfnIdeal.τ).loc Cert.KernelFfnIdeal.main_v96_0)) (v1 : (c : Dev Cert.KernelFfnIdeal.nD) → Buf (Elt Ideal) ((c.tc : Thread Cert.KernelFfnIdeal.nD Cert.KernelFfnIdeal.τ).loc Cert.KernelFfnIdeal.main_v96_1)) (v2 : (c : Dev Cert.KernelFfnIdeal.nD) → Buf (Elt Ideal) ((c.tc : Thread Cert.KernelFfnIdeal.nD Cert.KernelFfnIdeal.τ).loc Cert.KernelFfnIdeal.main_v96_2)) (v3 : (c : Dev Cert.KernelFfnIdeal.nD) → Buf (Elt Ideal) ((c.tc : Thread Cert.KernelFfnIdeal.nD Cert.KernelFfnIdeal.τ).loc Cert.KernelFfnIdeal.main_v96_3)) (v4 : (c : Dev Cert.KernelFfnIdeal.nD) → Buf (Elt Ideal) ((c.tc : Thread Cert.KernelFfnIdeal.nD Cert.KernelFfnIdeal.τ).loc Cert.KernelFfnIdeal.main_v96_4)) (v5 : (c : Dev Cert.KernelFfnIdeal.nD) → Buf (Elt Ideal) ((c.tc : Thread Cert.KernelFfnIdeal.nD Cert.KernelFfnIdeal.τ).loc Cert.KernelFfnIdeal.main_v96_5)) (v6 : (c : Dev Cert.KernelFfnIdeal.nD) → Buf (Elt Ideal) ((c.tc : Thread Cert.KernelFfnIdeal.nD Cert.KernelFfnIdeal.τ).loc Cert.KernelFfnIdeal.main_v96_6)) (v7 : (c : Dev Cert.KernelFfnIdeal.nD) → Buf (Elt Ideal) ((c.tc : Thread Cert.KernelFfnIdeal.nD Cert.KernelFfnIdeal.τ).loc Cert.KernelFfnIdeal.main_v96_7)) (v8 : (c : Dev Cert.KernelFfnIdeal.nD) → Buf (Elt Ideal) ((c.tc : Thread Cert.KernelFfnIdeal.nD Cert.KernelFfnIdeal.τ).loc Cert.KernelFfnIdeal.main_v96_8)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v96_0) = v0 c
          ∧ r.2.mem ((c.tc : Thread Cert.KernelFfnIdeal.nD Cert.KernelFfnIdeal.τ).loc Cert.KernelFfnIdeal.main_v96_1) = v1 c
          ∧ r.2.mem ((c.tc : Thread Cert.KernelFfnIdeal.nD Cert.KernelFfnIdeal.τ).loc Cert.KernelFfnIdeal.main_v96_2) = v2 c
          ∧ r.2.mem ((c.tc : Thread Cert.KernelFfnIdeal.nD Cert.KernelFfnIdeal.τ).loc Cert.KernelFfnIdeal.main_v96_3) = v3 c
          ∧ r.2.mem ((c.tc : Thread Cert.KernelFfnIdeal.nD Cert.KernelFfnIdeal.τ).loc Cert.KernelFfnIdeal.main_v96_4) = v4 c
          ∧ r.2.mem ((c.tc : Thread Cert.KernelFfnIdeal.nD Cert.KernelFfnIdeal.τ).loc Cert.KernelFfnIdeal.main_v96_5) = v5 c
          ∧ r.2.mem ((c.tc : Thread Cert.KernelFfnIdeal.nD Cert.KernelFfnIdeal.τ).loc Cert.KernelFfnIdeal.main_v96_6) = v6 c
          ∧ r.2.mem ((c.tc : Thread Cert.KernelFfnIdeal.nD Cert.KernelFfnIdeal.τ).loc Cert.KernelFfnIdeal.main_v96_7) = v7 c
          ∧ r.2.mem ((c.tc : Thread Cert.KernelFfnIdeal.nD Cert.KernelFfnIdeal.τ).loc Cert.KernelFfnIdeal.main_v96_8) = v8 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
          ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9)
          ∧ r.2.mem ((c.tc : Thread Cert.KernelFfnIdeal.nD Cert.KernelFfnIdeal.τ).loc Cert.KernelFfnIdeal.main_arg10) = m ((c.tc : Thread Cert.KernelFfnIdeal.nD Cert.KernelFfnIdeal.τ).loc Cert.KernelFfnIdeal.main_arg10)
          ∧ r.2.mem ((c.tc : Thread Cert.KernelFfnIdeal.nD Cert.KernelFfnIdeal.τ).loc Cert.KernelFfnIdeal.main_arg11) = m ((c.tc : Thread Cert.KernelFfnIdeal.nD Cert.KernelFfnIdeal.τ).loc Cert.KernelFfnIdeal.main_arg11))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v168) = v0 c
          ∧ r.2.mem ((c.tc : Thread Cert.ReferenceFfnIdeal.nD Cert.ReferenceFfnIdeal.τ).loc Cert.ReferenceFfnIdeal.main_v123) = v1 c
          ∧ r.2.mem ((c.tc : Thread Cert.ReferenceFfnIdeal.nD Cert.ReferenceFfnIdeal.τ).loc Cert.ReferenceFfnIdeal.main_v169) = v2 c
          ∧ r.2.mem ((c.tc : Thread Cert.ReferenceFfnIdeal.nD Cert.ReferenceFfnIdeal.τ).loc Cert.ReferenceFfnIdeal.main_v158) = v3 c
          ∧ r.2.mem ((c.tc : Thread Cert.ReferenceFfnIdeal.nD Cert.ReferenceFfnIdeal.τ).loc Cert.ReferenceFfnIdeal.main_v170) = v4 c
          ∧ r.2.mem ((c.tc : Thread Cert.ReferenceFfnIdeal.nD Cert.ReferenceFfnIdeal.τ).loc Cert.ReferenceFfnIdeal.main_v171) = v5 c
          ∧ r.2.mem ((c.tc : Thread Cert.ReferenceFfnIdeal.nD Cert.ReferenceFfnIdeal.τ).loc Cert.ReferenceFfnIdeal.main_v172) = v6 c
          ∧ r.2.mem ((c.tc : Thread Cert.ReferenceFfnIdeal.nD Cert.ReferenceFfnIdeal.τ).loc Cert.ReferenceFfnIdeal.main_v173) = v7 c
          ∧ r.2.mem ((c.tc : Thread Cert.ReferenceFfnIdeal.nD Cert.ReferenceFfnIdeal.τ).loc Cert.ReferenceFfnIdeal.main_v174) = v8 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7)
          ∧ r.2.mem ((c.tc : Thread Cert.ReferenceFfnIdeal.nD Cert.ReferenceFfnIdeal.τ).loc Cert.ReferenceFfnIdeal.main_arg8) = m' ((c.tc : Thread Cert.ReferenceFfnIdeal.nD Cert.ReferenceFfnIdeal.τ).loc Cert.ReferenceFfnIdeal.main_arg8)
          ∧ r.2.mem ((c.tc : Thread Cert.ReferenceFfnIdeal.nD Cert.ReferenceFfnIdeal.τ).loc Cert.ReferenceFfnIdeal.main_arg9) = m' ((c.tc : Thread Cert.ReferenceFfnIdeal.nD Cert.ReferenceFfnIdeal.τ).loc Cert.ReferenceFfnIdeal.main_arg9)
          ∧ r.2.mem ((c.tc : Thread Cert.ReferenceFfnIdeal.nD Cert.ReferenceFfnIdeal.τ).loc Cert.ReferenceFfnIdeal.main_arg10) = m' ((c.tc : Thread Cert.ReferenceFfnIdeal.nD Cert.ReferenceFfnIdeal.τ).loc Cert.ReferenceFfnIdeal.main_arg10)
          ∧ r.2.mem ((c.tc : Thread Cert.ReferenceFfnIdeal.nD Cert.ReferenceFfnIdeal.τ).loc Cert.ReferenceFfnIdeal.main_arg11) = m' ((c.tc : Thread Cert.ReferenceFfnIdeal.nD Cert.ReferenceFfnIdeal.τ).loc Cert.ReferenceFfnIdeal.main_arg11))

def preserves_KernelUpFwd_KernelUpFwdIdeal : Prop :=
  True

def algebraic_KernelUpFwdIdeal_ReferenceUpFwdIdeal [hKernelUpFwdIdeal : Cert.KernelUpFwdIdeal.Facts] [hReferenceUpFwdIdeal : Cert.ReferenceUpFwdIdeal.Facts] : Prop :=
  ∀ (m : (ℓ : Loc Cert.KernelUpFwdIdeal.nD Cert.KernelUpFwdIdeal.τ Cert.KernelUpFwdIdeal.sig) → Buf (Elt Ideal) ℓ) (g : Dev Cert.KernelUpFwdIdeal.nD → PrngReg)
    (m' : (ℓ : Loc Cert.ReferenceUpFwdIdeal.nD Cert.ReferenceUpFwdIdeal.τ Cert.ReferenceUpFwdIdeal.sig) → Buf (Elt Ideal) ℓ) (g' : Dev Cert.ReferenceUpFwdIdeal.nD → PrngReg), Pre_KernelUpFwdIdeal m →
    (∀ c : Dev Cert.KernelUpFwdIdeal.nD,
      m' ((c.tc : Thread Cert.ReferenceUpFwdIdeal.nD Cert.ReferenceUpFwdIdeal.τ).loc Cert.ReferenceUpFwdIdeal.main_arg0) = m ((c.tc : Thread Cert.KernelUpFwdIdeal.nD Cert.KernelUpFwdIdeal.τ).loc Cert.KernelUpFwdIdeal.main_arg0)
      ∧ m' ((c.tc : Thread Cert.ReferenceUpFwdIdeal.nD Cert.ReferenceUpFwdIdeal.τ).loc Cert.ReferenceUpFwdIdeal.main_arg1) = m ((c.tc : Thread Cert.KernelUpFwdIdeal.nD Cert.KernelUpFwdIdeal.τ).loc Cert.KernelUpFwdIdeal.main_arg1)
      ∧ m' ((c.tc : Thread Cert.ReferenceUpFwdIdeal.nD Cert.ReferenceUpFwdIdeal.τ).loc Cert.ReferenceUpFwdIdeal.main_arg2) = m ((c.tc : Thread Cert.KernelUpFwdIdeal.nD Cert.KernelUpFwdIdeal.τ).loc Cert.KernelUpFwdIdeal.main_arg2)
      ∧ m' ((c.tc : Thread Cert.ReferenceUpFwdIdeal.nD Cert.ReferenceUpFwdIdeal.τ).loc Cert.ReferenceUpFwdIdeal.main_arg3) = m ((c.tc : Thread Cert.KernelUpFwdIdeal.nD Cert.KernelUpFwdIdeal.τ).loc Cert.KernelUpFwdIdeal.main_arg3)
      ∧ m' ((c.tc : Thread Cert.ReferenceUpFwdIdeal.nD Cert.ReferenceUpFwdIdeal.τ).loc Cert.ReferenceUpFwdIdeal.main_arg4) = m ((c.tc : Thread Cert.KernelUpFwdIdeal.nD Cert.KernelUpFwdIdeal.τ).loc Cert.KernelUpFwdIdeal.main_arg4)
      ∧ m' ((c.tc : Thread Cert.ReferenceUpFwdIdeal.nD Cert.ReferenceUpFwdIdeal.τ).loc Cert.ReferenceUpFwdIdeal.main_arg5) = m ((c.tc : Thread Cert.KernelUpFwdIdeal.nD Cert.KernelUpFwdIdeal.τ).loc Cert.KernelUpFwdIdeal.main_arg5)
      ∧ m' ((c.tc : Thread Cert.ReferenceUpFwdIdeal.nD Cert.ReferenceUpFwdIdeal.τ).loc Cert.ReferenceUpFwdIdeal.main_arg6) = m ((c.tc : Thread Cert.KernelUpFwdIdeal.nD Cert.KernelUpFwdIdeal.τ).loc Cert.KernelUpFwdIdeal.main_arg6)
      ∧ m' ((c.tc : Thread Cert.ReferenceUpFwdIdeal.nD Cert.ReferenceUpFwdIdeal.τ).loc Cert.ReferenceUpFwdIdeal.main_arg7) = m ((c.tc : Thread Cert.KernelUpFwdIdeal.nD Cert.KernelUpFwdIdeal.τ).loc Cert.KernelUpFwdIdeal.main_arg7)
      ∧ m' ((c.tc : Thread Cert.ReferenceUpFwdIdeal.nD Cert.ReferenceUpFwdIdeal.τ).loc Cert.ReferenceUpFwdIdeal.main_arg8) = m ((c.tc : Thread Cert.KernelUpFwdIdeal.nD Cert.KernelUpFwdIdeal.τ).loc Cert.KernelUpFwdIdeal.main_arg8)
      ∧ m' ((c.tc : Thread Cert.ReferenceUpFwdIdeal.nD Cert.ReferenceUpFwdIdeal.τ).loc Cert.ReferenceUpFwdIdeal.main_arg9) = m ((c.tc : Thread Cert.KernelUpFwdIdeal.nD Cert.KernelUpFwdIdeal.τ).loc Cert.KernelUpFwdIdeal.main_arg9)
      ∧ m' ((c.tc : Thread Cert.ReferenceUpFwdIdeal.nD Cert.ReferenceUpFwdIdeal.τ).loc Cert.ReferenceUpFwdIdeal.main_arg10) = m ((c.tc : Thread Cert.KernelUpFwdIdeal.nD Cert.KernelUpFwdIdeal.τ).loc Cert.KernelUpFwdIdeal.main_arg10)) →
    ∃ (v0 : (c : Dev Cert.KernelUpFwdIdeal.nD) → Buf (Elt Ideal) ((c.tc : Thread Cert.KernelUpFwdIdeal.nD Cert.KernelUpFwdIdeal.τ).loc Cert.KernelUpFwdIdeal.main_v10_0)) (v1 : (c : Dev Cert.KernelUpFwdIdeal.nD) → Buf (Elt Ideal) ((c.tc : Thread Cert.KernelUpFwdIdeal.nD Cert.KernelUpFwdIdeal.τ).loc Cert.KernelUpFwdIdeal.main_v10_1)),
      θ_run (Cert.KernelUpFwdIdeal.defs (F := Ideal)) (onTc (τ := Cert.KernelUpFwdIdeal.τ) (Cert.KernelUpFwdIdeal.main (F := Ideal))) ⟨m, fun _ => 0, g⟩ (fun r => ∀ c : Dev Cert.KernelUpFwdIdeal.nD,
          r.2.mem ((c.tc : Thread Cert.KernelUpFwdIdeal.nD Cert.KernelUpFwdIdeal.τ).loc Cert.KernelUpFwdIdeal.main_v10_0) = v0 c
          ∧ r.2.mem ((c.tc : Thread Cert.KernelUpFwdIdeal.nD Cert.KernelUpFwdIdeal.τ).loc Cert.KernelUpFwdIdeal.main_v10_1) = v1 c
          ∧ r.2.mem ((c.tc : Thread Cert.KernelUpFwdIdeal.nD Cert.KernelUpFwdIdeal.τ).loc Cert.KernelUpFwdIdeal.main_arg0) = m ((c.tc : Thread Cert.KernelUpFwdIdeal.nD Cert.KernelUpFwdIdeal.τ).loc Cert.KernelUpFwdIdeal.main_arg0)
          ∧ r.2.mem ((c.tc : Thread Cert.KernelUpFwdIdeal.nD Cert.KernelUpFwdIdeal.τ).loc Cert.KernelUpFwdIdeal.main_arg1) = m ((c.tc : Thread Cert.KernelUpFwdIdeal.nD Cert.KernelUpFwdIdeal.τ).loc Cert.KernelUpFwdIdeal.main_arg1)
          ∧ r.2.mem ((c.tc : Thread Cert.KernelUpFwdIdeal.nD Cert.KernelUpFwdIdeal.τ).loc Cert.KernelUpFwdIdeal.main_arg2) = m ((c.tc : Thread Cert.KernelUpFwdIdeal.nD Cert.KernelUpFwdIdeal.τ).loc Cert.KernelUpFwdIdeal.main_arg2)
          ∧ r.2.mem ((c.tc : Thread Cert.KernelUpFwdIdeal.nD Cert.KernelUpFwdIdeal.τ).loc Cert.KernelUpFwdIdeal.main_arg3) = m ((c.tc : Thread Cert.KernelUpFwdIdeal.nD Cert.KernelUpFwdIdeal.τ).loc Cert.KernelUpFwdIdeal.main_arg3)
          ∧ r.2.mem ((c.tc : Thread Cert.KernelUpFwdIdeal.nD Cert.KernelUpFwdIdeal.τ).loc Cert.KernelUpFwdIdeal.main_arg4) = m ((c.tc : Thread Cert.KernelUpFwdIdeal.nD Cert.KernelUpFwdIdeal.τ).loc Cert.KernelUpFwdIdeal.main_arg4)
          ∧ r.2.mem ((c.tc : Thread Cert.KernelUpFwdIdeal.nD Cert.KernelUpFwdIdeal.τ).loc Cert.KernelUpFwdIdeal.main_arg5) = m ((c.tc : Thread Cert.KernelUpFwdIdeal.nD Cert.KernelUpFwdIdeal.τ).loc Cert.KernelUpFwdIdeal.main_arg5)
          ∧ r.2.mem ((c.tc : Thread Cert.KernelUpFwdIdeal.nD Cert.KernelUpFwdIdeal.τ).loc Cert.KernelUpFwdIdeal.main_arg6) = m ((c.tc : Thread Cert.KernelUpFwdIdeal.nD Cert.KernelUpFwdIdeal.τ).loc Cert.KernelUpFwdIdeal.main_arg6)
          ∧ r.2.mem ((c.tc : Thread Cert.KernelUpFwdIdeal.nD Cert.KernelUpFwdIdeal.τ).loc Cert.KernelUpFwdIdeal.main_arg7) = m ((c.tc : Thread Cert.KernelUpFwdIdeal.nD Cert.KernelUpFwdIdeal.τ).loc Cert.KernelUpFwdIdeal.main_arg7)
          ∧ r.2.mem ((c.tc : Thread Cert.KernelUpFwdIdeal.nD Cert.KernelUpFwdIdeal.τ).loc Cert.KernelUpFwdIdeal.main_arg8) = m ((c.tc : Thread Cert.KernelUpFwdIdeal.nD Cert.KernelUpFwdIdeal.τ).loc Cert.KernelUpFwdIdeal.main_arg8)
          ∧ r.2.mem ((c.tc : Thread Cert.KernelUpFwdIdeal.nD Cert.KernelUpFwdIdeal.τ).loc Cert.KernelUpFwdIdeal.main_arg9) = m ((c.tc : Thread Cert.KernelUpFwdIdeal.nD Cert.KernelUpFwdIdeal.τ).loc Cert.KernelUpFwdIdeal.main_arg9)
          ∧ r.2.mem ((c.tc : Thread Cert.KernelUpFwdIdeal.nD Cert.KernelUpFwdIdeal.τ).loc Cert.KernelUpFwdIdeal.main_arg10) = m ((c.tc : Thread Cert.KernelUpFwdIdeal.nD Cert.KernelUpFwdIdeal.τ).loc Cert.KernelUpFwdIdeal.main_arg10))
      ∧ θ_run (Cert.ReferenceUpFwdIdeal.defs (F := Ideal)) (onTc (τ := Cert.ReferenceUpFwdIdeal.τ) (Cert.ReferenceUpFwdIdeal.main (F := Ideal))) ⟨m', fun _ => 0, g'⟩ (fun r => ∀ c : Dev Cert.ReferenceUpFwdIdeal.nD,
          r.2.mem ((c.tc : Thread Cert.ReferenceUpFwdIdeal.nD Cert.ReferenceUpFwdIdeal.τ).loc Cert.ReferenceUpFwdIdeal.main_v21) = v0 c
          ∧ r.2.mem ((c.tc : Thread Cert.ReferenceUpFwdIdeal.nD Cert.ReferenceUpFwdIdeal.τ).loc Cert.ReferenceUpFwdIdeal.main_v23) = v1 c
          ∧ r.2.mem ((c.tc : Thread Cert.ReferenceUpFwdIdeal.nD Cert.ReferenceUpFwdIdeal.τ).loc Cert.ReferenceUpFwdIdeal.main_arg0) = m' ((c.tc : Thread Cert.ReferenceUpFwdIdeal.nD Cert.ReferenceUpFwdIdeal.τ).loc Cert.ReferenceUpFwdIdeal.main_arg0)
          ∧ r.2.mem ((c.tc : Thread Cert.ReferenceUpFwdIdeal.nD Cert.ReferenceUpFwdIdeal.τ).loc Cert.ReferenceUpFwdIdeal.main_arg1) = m' ((c.tc : Thread Cert.ReferenceUpFwdIdeal.nD Cert.ReferenceUpFwdIdeal.τ).loc Cert.ReferenceUpFwdIdeal.main_arg1)
          ∧ r.2.mem ((c.tc : Thread Cert.ReferenceUpFwdIdeal.nD Cert.ReferenceUpFwdIdeal.τ).loc Cert.ReferenceUpFwdIdeal.main_arg2) = m' ((c.tc : Thread Cert.ReferenceUpFwdIdeal.nD Cert.ReferenceUpFwdIdeal.τ).loc Cert.ReferenceUpFwdIdeal.main_arg2)
          ∧ r.2.mem ((c.tc : Thread Cert.ReferenceUpFwdIdeal.nD Cert.ReferenceUpFwdIdeal.τ).loc Cert.ReferenceUpFwdIdeal.main_arg3) = m' ((c.tc : Thread Cert.ReferenceUpFwdIdeal.nD Cert.ReferenceUpFwdIdeal.τ).loc Cert.ReferenceUpFwdIdeal.main_arg3)
          ∧ r.2.mem ((c.tc : Thread Cert.ReferenceUpFwdIdeal.nD Cert.ReferenceUpFwdIdeal.τ).loc Cert.ReferenceUpFwdIdeal.main_arg4) = m' ((c.tc : Thread Cert.ReferenceUpFwdIdeal.nD Cert.ReferenceUpFwdIdeal.τ).loc Cert.ReferenceUpFwdIdeal.main_arg4)
          ∧ r.2.mem ((c.tc : Thread Cert.ReferenceUpFwdIdeal.nD Cert.ReferenceUpFwdIdeal.τ).loc Cert.ReferenceUpFwdIdeal.main_arg5) = m' ((c.tc : Thread Cert.ReferenceUpFwdIdeal.nD Cert.ReferenceUpFwdIdeal.τ).loc Cert.ReferenceUpFwdIdeal.main_arg5)
          ∧ r.2.mem ((c.tc : Thread Cert.ReferenceUpFwdIdeal.nD Cert.ReferenceUpFwdIdeal.τ).loc Cert.ReferenceUpFwdIdeal.main_arg6) = m' ((c.tc : Thread Cert.ReferenceUpFwdIdeal.nD Cert.ReferenceUpFwdIdeal.τ).loc Cert.ReferenceUpFwdIdeal.main_arg6)
          ∧ r.2.mem ((c.tc : Thread Cert.ReferenceUpFwdIdeal.nD Cert.ReferenceUpFwdIdeal.τ).loc Cert.ReferenceUpFwdIdeal.main_arg7) = m' ((c.tc : Thread Cert.ReferenceUpFwdIdeal.nD Cert.ReferenceUpFwdIdeal.τ).loc Cert.ReferenceUpFwdIdeal.main_arg7)
          ∧ r.2.mem ((c.tc : Thread Cert.ReferenceUpFwdIdeal.nD Cert.ReferenceUpFwdIdeal.τ).loc Cert.ReferenceUpFwdIdeal.main_arg8) = m' ((c.tc : Thread Cert.ReferenceUpFwdIdeal.nD Cert.ReferenceUpFwdIdeal.τ).loc Cert.ReferenceUpFwdIdeal.main_arg8)
          ∧ r.2.mem ((c.tc : Thread Cert.ReferenceUpFwdIdeal.nD Cert.ReferenceUpFwdIdeal.τ).loc Cert.ReferenceUpFwdIdeal.main_arg9) = m' ((c.tc : Thread Cert.ReferenceUpFwdIdeal.nD Cert.ReferenceUpFwdIdeal.τ).loc Cert.ReferenceUpFwdIdeal.main_arg9)
          ∧ r.2.mem ((c.tc : Thread Cert.ReferenceUpFwdIdeal.nD Cert.ReferenceUpFwdIdeal.τ).loc Cert.ReferenceUpFwdIdeal.main_arg10) = m' ((c.tc : Thread Cert.ReferenceUpFwdIdeal.nD Cert.ReferenceUpFwdIdeal.τ).loc Cert.ReferenceUpFwdIdeal.main_arg10))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)) →
    ∃ (v0 : (c : Dev Cert.KernelModIdeal.nD) → Buf (Elt Ideal) ((c.tc : Thread Cert.KernelModIdeal.nD Cert.KernelModIdeal.τ).loc Cert.KernelModIdeal.main_v0)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v0) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v3) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)
      ∧ m' ((c.tc : Thread Cert.ReferenceAdaIdeal.nD Cert.ReferenceAdaIdeal.τ).loc Cert.ReferenceAdaIdeal.main_arg4) = m ((c.tc : Thread Cert.KernelAdaIdeal.nD Cert.KernelAdaIdeal.τ).loc Cert.KernelAdaIdeal.main_arg4)) →
    ∃ (v0 : (c : Dev Cert.KernelAdaIdeal.nD) → Buf (Elt Ideal) ((c.tc : Thread Cert.KernelAdaIdeal.nD Cert.KernelAdaIdeal.τ).loc Cert.KernelAdaIdeal.main_v1_0)) (v1 : (c : Dev Cert.KernelAdaIdeal.nD) → Buf (Elt Ideal) ((c.tc : Thread Cert.KernelAdaIdeal.nD Cert.KernelAdaIdeal.τ).loc Cert.KernelAdaIdeal.main_v1_1)) (v2 : (c : Dev Cert.KernelAdaIdeal.nD) → Buf (Elt Ideal) ((c.tc : Thread Cert.KernelAdaIdeal.nD Cert.KernelAdaIdeal.τ).loc Cert.KernelAdaIdeal.main_v1_2)) (v3 : (c : Dev Cert.KernelAdaIdeal.nD) → Buf (Elt Ideal) ((c.tc : Thread Cert.KernelAdaIdeal.nD Cert.KernelAdaIdeal.τ).loc Cert.KernelAdaIdeal.main_v1_3)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v1_0) = v0 c
          ∧ r.2.mem ((c.tc : Thread Cert.KernelAdaIdeal.nD Cert.KernelAdaIdeal.τ).loc Cert.KernelAdaIdeal.main_v1_1) = v1 c
          ∧ r.2.mem ((c.tc : Thread Cert.KernelAdaIdeal.nD Cert.KernelAdaIdeal.τ).loc Cert.KernelAdaIdeal.main_v1_2) = v2 c
          ∧ r.2.mem ((c.tc : Thread Cert.KernelAdaIdeal.nD Cert.KernelAdaIdeal.τ).loc Cert.KernelAdaIdeal.main_v1_3) = v3 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
          ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v3) = v0 c
          ∧ r.2.mem ((c.tc : Thread Cert.ReferenceAdaIdeal.nD Cert.ReferenceAdaIdeal.τ).loc Cert.ReferenceAdaIdeal.main_v27) = v1 c
          ∧ r.2.mem ((c.tc : Thread Cert.ReferenceAdaIdeal.nD Cert.ReferenceAdaIdeal.τ).loc Cert.ReferenceAdaIdeal.main_v8) = v2 c
          ∧ r.2.mem ((c.tc : Thread Cert.ReferenceAdaIdeal.nD Cert.ReferenceAdaIdeal.τ).loc Cert.ReferenceAdaIdeal.main_v14) = v3 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3)
          ∧ r.2.mem ((c.tc : Thread Cert.ReferenceAdaIdeal.nD Cert.ReferenceAdaIdeal.τ).loc Cert.ReferenceAdaIdeal.main_arg4) = m' ((c.tc : Thread Cert.ReferenceAdaIdeal.nD Cert.ReferenceAdaIdeal.τ).loc Cert.ReferenceAdaIdeal.main_arg4))

def preserves_KernelStepUp_KernelStepUpIdeal : Prop :=
  True

def algebraic_KernelStepUpIdeal_ReferenceStepUpIdeal [hKernelStepUpIdeal : Cert.KernelStepUpIdeal.Facts] [hReferenceStepUpIdeal : Cert.ReferenceStepUpIdeal.Facts] : Prop :=
  ∀ (m : (ℓ : Loc Cert.KernelStepUpIdeal.nD Cert.KernelStepUpIdeal.τ Cert.KernelStepUpIdeal.sig) → Buf (Elt Ideal) ℓ) (g : Dev Cert.KernelStepUpIdeal.nD → PrngReg)
    (m' : (ℓ : Loc Cert.ReferenceStepUpIdeal.nD Cert.ReferenceStepUpIdeal.τ Cert.ReferenceStepUpIdeal.sig) → Buf (Elt Ideal) ℓ) (g' : Dev Cert.ReferenceStepUpIdeal.nD → PrngReg), Pre_KernelStepUpIdeal m →
    (∀ c : Dev Cert.KernelStepUpIdeal.nD,
      m' ((c.tc : Thread Cert.ReferenceStepUpIdeal.nD Cert.ReferenceStepUpIdeal.τ).loc Cert.ReferenceStepUpIdeal.main_arg0) = m ((c.tc : Thread Cert.KernelStepUpIdeal.nD Cert.KernelStepUpIdeal.τ).loc Cert.KernelStepUpIdeal.main_arg0)
      ∧ m' ((c.tc : Thread Cert.ReferenceStepUpIdeal.nD Cert.ReferenceStepUpIdeal.τ).loc Cert.ReferenceStepUpIdeal.main_arg1) = m ((c.tc : Thread Cert.KernelStepUpIdeal.nD Cert.KernelStepUpIdeal.τ).loc Cert.KernelStepUpIdeal.main_arg1)
      ∧ m' ((c.tc : Thread Cert.ReferenceStepUpIdeal.nD Cert.ReferenceStepUpIdeal.τ).loc Cert.ReferenceStepUpIdeal.main_arg2) = m ((c.tc : Thread Cert.KernelStepUpIdeal.nD Cert.KernelStepUpIdeal.τ).loc Cert.KernelStepUpIdeal.main_arg2)
      ∧ m' ((c.tc : Thread Cert.ReferenceStepUpIdeal.nD Cert.ReferenceStepUpIdeal.τ).loc Cert.ReferenceStepUpIdeal.main_arg3) = m ((c.tc : Thread Cert.KernelStepUpIdeal.nD Cert.KernelStepUpIdeal.τ).loc Cert.KernelStepUpIdeal.main_arg3)
      ∧ m' ((c.tc : Thread Cert.ReferenceStepUpIdeal.nD Cert.ReferenceStepUpIdeal.τ).loc Cert.ReferenceStepUpIdeal.main_arg4) = m ((c.tc : Thread Cert.KernelStepUpIdeal.nD Cert.KernelStepUpIdeal.τ).loc Cert.KernelStepUpIdeal.main_arg4)) →
    ∃ (v0 : (c : Dev Cert.KernelStepUpIdeal.nD) → Buf (Elt Ideal) ((c.tc : Thread Cert.KernelStepUpIdeal.nD Cert.KernelStepUpIdeal.τ).loc Cert.KernelStepUpIdeal.main_v0_0)) (v1 : (c : Dev Cert.KernelStepUpIdeal.nD) → Buf (Elt Ideal) ((c.tc : Thread Cert.KernelStepUpIdeal.nD Cert.KernelStepUpIdeal.τ).loc Cert.KernelStepUpIdeal.main_v0_1)) (v2 : (c : Dev Cert.KernelStepUpIdeal.nD) → Buf (Elt Ideal) ((c.tc : Thread Cert.KernelStepUpIdeal.nD Cert.KernelStepUpIdeal.τ).loc Cert.KernelStepUpIdeal.main_v0_2)) (v3 : (c : Dev Cert.KernelStepUpIdeal.nD) → Buf (Elt Ideal) ((c.tc : Thread Cert.KernelStepUpIdeal.nD Cert.KernelStepUpIdeal.τ).loc Cert.KernelStepUpIdeal.main_v0_3)),
      θ_run (Cert.KernelStepUpIdeal.defs (F := Ideal)) (onTc (τ := Cert.KernelStepUpIdeal.τ) (Cert.KernelStepUpIdeal.main (F := Ideal))) ⟨m, fun _ => 0, g⟩ (fun r => ∀ c : Dev Cert.KernelStepUpIdeal.nD,
          r.2.mem ((c.tc : Thread Cert.KernelStepUpIdeal.nD Cert.KernelStepUpIdeal.τ).loc Cert.KernelStepUpIdeal.main_v0_0) = v0 c
          ∧ r.2.mem ((c.tc : Thread Cert.KernelStepUpIdeal.nD Cert.KernelStepUpIdeal.τ).loc Cert.KernelStepUpIdeal.main_v0_1) = v1 c
          ∧ r.2.mem ((c.tc : Thread Cert.KernelStepUpIdeal.nD Cert.KernelStepUpIdeal.τ).loc Cert.KernelStepUpIdeal.main_v0_2) = v2 c
          ∧ r.2.mem ((c.tc : Thread Cert.KernelStepUpIdeal.nD Cert.KernelStepUpIdeal.τ).loc Cert.KernelStepUpIdeal.main_v0_3) = v3 c
          ∧ r.2.mem ((c.tc : Thread Cert.KernelStepUpIdeal.nD Cert.KernelStepUpIdeal.τ).loc Cert.KernelStepUpIdeal.main_arg0) = m ((c.tc : Thread Cert.KernelStepUpIdeal.nD Cert.KernelStepUpIdeal.τ).loc Cert.KernelStepUpIdeal.main_arg0)
          ∧ r.2.mem ((c.tc : Thread Cert.KernelStepUpIdeal.nD Cert.KernelStepUpIdeal.τ).loc Cert.KernelStepUpIdeal.main_arg1) = m ((c.tc : Thread Cert.KernelStepUpIdeal.nD Cert.KernelStepUpIdeal.τ).loc Cert.KernelStepUpIdeal.main_arg1)
          ∧ r.2.mem ((c.tc : Thread Cert.KernelStepUpIdeal.nD Cert.KernelStepUpIdeal.τ).loc Cert.KernelStepUpIdeal.main_arg2) = m ((c.tc : Thread Cert.KernelStepUpIdeal.nD Cert.KernelStepUpIdeal.τ).loc Cert.KernelStepUpIdeal.main_arg2)
          ∧ r.2.mem ((c.tc : Thread Cert.KernelStepUpIdeal.nD Cert.KernelStepUpIdeal.τ).loc Cert.KernelStepUpIdeal.main_arg3) = m ((c.tc : Thread Cert.KernelStepUpIdeal.nD Cert.KernelStepUpIdeal.τ).loc Cert.KernelStepUpIdeal.main_arg3)
          ∧ r.2.mem ((c.tc : Thread Cert.KernelStepUpIdeal.nD Cert.KernelStepUpIdeal.τ).loc Cert.KernelStepUpIdeal.main_arg4) = m ((c.tc : Thread Cert.KernelStepUpIdeal.nD Cert.KernelStepUpIdeal.τ).loc Cert.KernelStepUpIdeal.main_arg4))
      ∧ θ_run (Cert.ReferenceStepUpIdeal.defs (F := Ideal)) (onTc (τ := Cert.ReferenceStepUpIdeal.τ) (Cert.ReferenceStepUpIdeal.main (F := Ideal))) ⟨m', fun _ => 0, g'⟩ (fun r => ∀ c : Dev Cert.ReferenceStepUpIdeal.nD,
          r.2.mem ((c.tc : Thread Cert.ReferenceStepUpIdeal.nD Cert.ReferenceStepUpIdeal.τ).loc Cert.ReferenceStepUpIdeal.main_v0) = v0 c
          ∧ r.2.mem ((c.tc : Thread Cert.ReferenceStepUpIdeal.nD Cert.ReferenceStepUpIdeal.τ).loc Cert.ReferenceStepUpIdeal.main_v24) = v1 c
          ∧ r.2.mem ((c.tc : Thread Cert.ReferenceStepUpIdeal.nD Cert.ReferenceStepUpIdeal.τ).loc Cert.ReferenceStepUpIdeal.main_v5) = v2 c
          ∧ r.2.mem ((c.tc : Thread Cert.ReferenceStepUpIdeal.nD Cert.ReferenceStepUpIdeal.τ).loc Cert.ReferenceStepUpIdeal.main_v11) = v3 c
          ∧ r.2.mem ((c.tc : Thread Cert.ReferenceStepUpIdeal.nD Cert.ReferenceStepUpIdeal.τ).loc Cert.ReferenceStepUpIdeal.main_arg0) = m' ((c.tc : Thread Cert.ReferenceStepUpIdeal.nD Cert.ReferenceStepUpIdeal.τ).loc Cert.ReferenceStepUpIdeal.main_arg0)
          ∧ r.2.mem ((c.tc : Thread Cert.ReferenceStepUpIdeal.nD Cert.ReferenceStepUpIdeal.τ).loc Cert.ReferenceStepUpIdeal.main_arg1) = m' ((c.tc : Thread Cert.ReferenceStepUpIdeal.nD Cert.ReferenceStepUpIdeal.τ).loc Cert.ReferenceStepUpIdeal.main_arg1)
          ∧ r.2.mem ((c.tc : Thread Cert.ReferenceStepUpIdeal.nD Cert.ReferenceStepUpIdeal.τ).loc Cert.ReferenceStepUpIdeal.main_arg2) = m' ((c.tc : Thread Cert.ReferenceStepUpIdeal.nD Cert.ReferenceStepUpIdeal.τ).loc Cert.ReferenceStepUpIdeal.main_arg2)
          ∧ r.2.mem ((c.tc : Thread Cert.ReferenceStepUpIdeal.nD Cert.ReferenceStepUpIdeal.τ).loc Cert.ReferenceStepUpIdeal.main_arg3) = m' ((c.tc : Thread Cert.ReferenceStepUpIdeal.nD Cert.ReferenceStepUpIdeal.τ).loc Cert.ReferenceStepUpIdeal.main_arg3)
          ∧ r.2.mem ((c.tc : Thread Cert.ReferenceStepUpIdeal.nD Cert.ReferenceStepUpIdeal.τ).loc Cert.ReferenceStepUpIdeal.main_arg4) = m' ((c.tc : Thread Cert.ReferenceStepUpIdeal.nD Cert.ReferenceStepUpIdeal.τ).loc Cert.ReferenceStepUpIdeal.main_arg4))

def preserves_KernelStepDown_KernelStepDownIdeal : Prop :=
  True

def algebraic_KernelStepDownIdeal_ReferenceStepDownIdeal [hKernelStepDownIdeal : Cert.KernelStepDownIdeal.Facts] [hReferenceStepDownIdeal : Cert.ReferenceStepDownIdeal.Facts] : Prop :=
  ∀ (m : (ℓ : Loc Cert.KernelStepDownIdeal.nD Cert.KernelStepDownIdeal.τ Cert.KernelStepDownIdeal.sig) → Buf (Elt Ideal) ℓ) (g : Dev Cert.KernelStepDownIdeal.nD → PrngReg)
    (m' : (ℓ : Loc Cert.ReferenceStepDownIdeal.nD Cert.ReferenceStepDownIdeal.τ Cert.ReferenceStepDownIdeal.sig) → Buf (Elt Ideal) ℓ) (g' : Dev Cert.ReferenceStepDownIdeal.nD → PrngReg), Pre_KernelStepDownIdeal m →
    (∀ c : Dev Cert.KernelStepDownIdeal.nD,
      m' ((c.tc : Thread Cert.ReferenceStepDownIdeal.nD Cert.ReferenceStepDownIdeal.τ).loc Cert.ReferenceStepDownIdeal.main_arg0) = m ((c.tc : Thread Cert.KernelStepDownIdeal.nD Cert.KernelStepDownIdeal.τ).loc Cert.KernelStepDownIdeal.main_arg0)
      ∧ m' ((c.tc : Thread Cert.ReferenceStepDownIdeal.nD Cert.ReferenceStepDownIdeal.τ).loc Cert.ReferenceStepDownIdeal.main_arg1) = m ((c.tc : Thread Cert.KernelStepDownIdeal.nD Cert.KernelStepDownIdeal.τ).loc Cert.KernelStepDownIdeal.main_arg1)
      ∧ m' ((c.tc : Thread Cert.ReferenceStepDownIdeal.nD Cert.ReferenceStepDownIdeal.τ).loc Cert.ReferenceStepDownIdeal.main_arg2) = m ((c.tc : Thread Cert.KernelStepDownIdeal.nD Cert.KernelStepDownIdeal.τ).loc Cert.KernelStepDownIdeal.main_arg2)
      ∧ m' ((c.tc : Thread Cert.ReferenceStepDownIdeal.nD Cert.ReferenceStepDownIdeal.τ).loc Cert.ReferenceStepDownIdeal.main_arg3) = m ((c.tc : Thread Cert.KernelStepDownIdeal.nD Cert.KernelStepDownIdeal.τ).loc Cert.KernelStepDownIdeal.main_arg3)
      ∧ m' ((c.tc : Thread Cert.ReferenceStepDownIdeal.nD Cert.ReferenceStepDownIdeal.τ).loc Cert.ReferenceStepDownIdeal.main_arg4) = m ((c.tc : Thread Cert.KernelStepDownIdeal.nD Cert.KernelStepDownIdeal.τ).loc Cert.KernelStepDownIdeal.main_arg4)) →
    ∃ (v0 : (c : Dev Cert.KernelStepDownIdeal.nD) → Buf (Elt Ideal) ((c.tc : Thread Cert.KernelStepDownIdeal.nD Cert.KernelStepDownIdeal.τ).loc Cert.KernelStepDownIdeal.main_v0_0)) (v1 : (c : Dev Cert.KernelStepDownIdeal.nD) → Buf (Elt Ideal) ((c.tc : Thread Cert.KernelStepDownIdeal.nD Cert.KernelStepDownIdeal.τ).loc Cert.KernelStepDownIdeal.main_v0_1)) (v2 : (c : Dev Cert.KernelStepDownIdeal.nD) → Buf (Elt Ideal) ((c.tc : Thread Cert.KernelStepDownIdeal.nD Cert.KernelStepDownIdeal.τ).loc Cert.KernelStepDownIdeal.main_v0_2)) (v3 : (c : Dev Cert.KernelStepDownIdeal.nD) → Buf (Elt Ideal) ((c.tc : Thread Cert.KernelStepDownIdeal.nD Cert.KernelStepDownIdeal.τ).loc Cert.KernelStepDownIdeal.main_v0_3)),
      θ_run (Cert.KernelStepDownIdeal.defs (F := Ideal)) (onTc (τ := Cert.KernelStepDownIdeal.τ) (Cert.KernelStepDownIdeal.main (F := Ideal))) ⟨m, fun _ => 0, g⟩ (fun r => ∀ c : Dev Cert.KernelStepDownIdeal.nD,
          r.2.mem ((c.tc : Thread Cert.KernelStepDownIdeal.nD Cert.KernelStepDownIdeal.τ).loc Cert.KernelStepDownIdeal.main_v0_0) = v0 c
          ∧ r.2.mem ((c.tc : Thread Cert.KernelStepDownIdeal.nD Cert.KernelStepDownIdeal.τ).loc Cert.KernelStepDownIdeal.main_v0_1) = v1 c
          ∧ r.2.mem ((c.tc : Thread Cert.KernelStepDownIdeal.nD Cert.KernelStepDownIdeal.τ).loc Cert.KernelStepDownIdeal.main_v0_2) = v2 c
          ∧ r.2.mem ((c.tc : Thread Cert.KernelStepDownIdeal.nD Cert.KernelStepDownIdeal.τ).loc Cert.KernelStepDownIdeal.main_v0_3) = v3 c
          ∧ r.2.mem ((c.tc : Thread Cert.KernelStepDownIdeal.nD Cert.KernelStepDownIdeal.τ).loc Cert.KernelStepDownIdeal.main_arg0) = m ((c.tc : Thread Cert.KernelStepDownIdeal.nD Cert.KernelStepDownIdeal.τ).loc Cert.KernelStepDownIdeal.main_arg0)
          ∧ r.2.mem ((c.tc : Thread Cert.KernelStepDownIdeal.nD Cert.KernelStepDownIdeal.τ).loc Cert.KernelStepDownIdeal.main_arg1) = m ((c.tc : Thread Cert.KernelStepDownIdeal.nD Cert.KernelStepDownIdeal.τ).loc Cert.KernelStepDownIdeal.main_arg1)
          ∧ r.2.mem ((c.tc : Thread Cert.KernelStepDownIdeal.nD Cert.KernelStepDownIdeal.τ).loc Cert.KernelStepDownIdeal.main_arg2) = m ((c.tc : Thread Cert.KernelStepDownIdeal.nD Cert.KernelStepDownIdeal.τ).loc Cert.KernelStepDownIdeal.main_arg2)
          ∧ r.2.mem ((c.tc : Thread Cert.KernelStepDownIdeal.nD Cert.KernelStepDownIdeal.τ).loc Cert.KernelStepDownIdeal.main_arg3) = m ((c.tc : Thread Cert.KernelStepDownIdeal.nD Cert.KernelStepDownIdeal.τ).loc Cert.KernelStepDownIdeal.main_arg3)
          ∧ r.2.mem ((c.tc : Thread Cert.KernelStepDownIdeal.nD Cert.KernelStepDownIdeal.τ).loc Cert.KernelStepDownIdeal.main_arg4) = m ((c.tc : Thread Cert.KernelStepDownIdeal.nD Cert.KernelStepDownIdeal.τ).loc Cert.KernelStepDownIdeal.main_arg4))
      ∧ θ_run (Cert.ReferenceStepDownIdeal.defs (F := Ideal)) (onTc (τ := Cert.ReferenceStepDownIdeal.τ) (Cert.ReferenceStepDownIdeal.main (F := Ideal))) ⟨m', fun _ => 0, g'⟩ (fun r => ∀ c : Dev Cert.ReferenceStepDownIdeal.nD,
          r.2.mem ((c.tc : Thread Cert.ReferenceStepDownIdeal.nD Cert.ReferenceStepDownIdeal.τ).loc Cert.ReferenceStepDownIdeal.main_v0) = v0 c
          ∧ r.2.mem ((c.tc : Thread Cert.ReferenceStepDownIdeal.nD Cert.ReferenceStepDownIdeal.τ).loc Cert.ReferenceStepDownIdeal.main_v24) = v1 c
          ∧ r.2.mem ((c.tc : Thread Cert.ReferenceStepDownIdeal.nD Cert.ReferenceStepDownIdeal.τ).loc Cert.ReferenceStepDownIdeal.main_v5) = v2 c
          ∧ r.2.mem ((c.tc : Thread Cert.ReferenceStepDownIdeal.nD Cert.ReferenceStepDownIdeal.τ).loc Cert.ReferenceStepDownIdeal.main_v11) = v3 c
          ∧ r.2.mem ((c.tc : Thread Cert.ReferenceStepDownIdeal.nD Cert.ReferenceStepDownIdeal.τ).loc Cert.ReferenceStepDownIdeal.main_arg0) = m' ((c.tc : Thread Cert.ReferenceStepDownIdeal.nD Cert.ReferenceStepDownIdeal.τ).loc Cert.ReferenceStepDownIdeal.main_arg0)
          ∧ r.2.mem ((c.tc : Thread Cert.ReferenceStepDownIdeal.nD Cert.ReferenceStepDownIdeal.τ).loc Cert.ReferenceStepDownIdeal.main_arg1) = m' ((c.tc : Thread Cert.ReferenceStepDownIdeal.nD Cert.ReferenceStepDownIdeal.τ).loc Cert.ReferenceStepDownIdeal.main_arg1)
          ∧ r.2.mem ((c.tc : Thread Cert.ReferenceStepDownIdeal.nD Cert.ReferenceStepDownIdeal.τ).loc Cert.ReferenceStepDownIdeal.main_arg2) = m' ((c.tc : Thread Cert.ReferenceStepDownIdeal.nD Cert.ReferenceStepDownIdeal.τ).loc Cert.ReferenceStepDownIdeal.main_arg2)
          ∧ r.2.mem ((c.tc : Thread Cert.ReferenceStepDownIdeal.nD Cert.ReferenceStepDownIdeal.τ).loc Cert.ReferenceStepDownIdeal.main_arg3) = m' ((c.tc : Thread Cert.ReferenceStepDownIdeal.nD Cert.ReferenceStepDownIdeal.τ).loc Cert.ReferenceStepDownIdeal.main_arg3)
          ∧ r.2.mem ((c.tc : Thread Cert.ReferenceStepDownIdeal.nD Cert.ReferenceStepDownIdeal.τ).loc Cert.ReferenceStepDownIdeal.main_arg4) = m' ((c.tc : Thread Cert.ReferenceStepDownIdeal.nD Cert.ReferenceStepDownIdeal.τ).loc Cert.ReferenceStepDownIdeal.main_arg4))

def preserves_KernelStepOut_KernelStepOutIdeal : Prop :=
  True

def algebraic_KernelStepOutIdeal_ReferenceStepOutIdeal [hKernelStepOutIdeal : Cert.KernelStepOutIdeal.Facts] [hReferenceStepOutIdeal : Cert.ReferenceStepOutIdeal.Facts] : Prop :=
  ∀ (m : (ℓ : Loc Cert.KernelStepOutIdeal.nD Cert.KernelStepOutIdeal.τ Cert.KernelStepOutIdeal.sig) → Buf (Elt Ideal) ℓ) (g : Dev Cert.KernelStepOutIdeal.nD → PrngReg)
    (m' : (ℓ : Loc Cert.ReferenceStepOutIdeal.nD Cert.ReferenceStepOutIdeal.τ Cert.ReferenceStepOutIdeal.sig) → Buf (Elt Ideal) ℓ) (g' : Dev Cert.ReferenceStepOutIdeal.nD → PrngReg), Pre_KernelStepOutIdeal m →
    (∀ c : Dev Cert.KernelStepOutIdeal.nD,
      m' ((c.tc : Thread Cert.ReferenceStepOutIdeal.nD Cert.ReferenceStepOutIdeal.τ).loc Cert.ReferenceStepOutIdeal.main_arg0) = m ((c.tc : Thread Cert.KernelStepOutIdeal.nD Cert.KernelStepOutIdeal.τ).loc Cert.KernelStepOutIdeal.main_arg0)
      ∧ m' ((c.tc : Thread Cert.ReferenceStepOutIdeal.nD Cert.ReferenceStepOutIdeal.τ).loc Cert.ReferenceStepOutIdeal.main_arg1) = m ((c.tc : Thread Cert.KernelStepOutIdeal.nD Cert.KernelStepOutIdeal.τ).loc Cert.KernelStepOutIdeal.main_arg1)
      ∧ m' ((c.tc : Thread Cert.ReferenceStepOutIdeal.nD Cert.ReferenceStepOutIdeal.τ).loc Cert.ReferenceStepOutIdeal.main_arg2) = m ((c.tc : Thread Cert.KernelStepOutIdeal.nD Cert.KernelStepOutIdeal.τ).loc Cert.KernelStepOutIdeal.main_arg2)
      ∧ m' ((c.tc : Thread Cert.ReferenceStepOutIdeal.nD Cert.ReferenceStepOutIdeal.τ).loc Cert.ReferenceStepOutIdeal.main_arg3) = m ((c.tc : Thread Cert.KernelStepOutIdeal.nD Cert.KernelStepOutIdeal.τ).loc Cert.KernelStepOutIdeal.main_arg3)
      ∧ m' ((c.tc : Thread Cert.ReferenceStepOutIdeal.nD Cert.ReferenceStepOutIdeal.τ).loc Cert.ReferenceStepOutIdeal.main_arg4) = m ((c.tc : Thread Cert.KernelStepOutIdeal.nD Cert.KernelStepOutIdeal.τ).loc Cert.KernelStepOutIdeal.main_arg4)) →
    ∃ (v0 : (c : Dev Cert.KernelStepOutIdeal.nD) → Buf (Elt Ideal) ((c.tc : Thread Cert.KernelStepOutIdeal.nD Cert.KernelStepOutIdeal.τ).loc Cert.KernelStepOutIdeal.main_v0_0)) (v1 : (c : Dev Cert.KernelStepOutIdeal.nD) → Buf (Elt Ideal) ((c.tc : Thread Cert.KernelStepOutIdeal.nD Cert.KernelStepOutIdeal.τ).loc Cert.KernelStepOutIdeal.main_v0_1)) (v2 : (c : Dev Cert.KernelStepOutIdeal.nD) → Buf (Elt Ideal) ((c.tc : Thread Cert.KernelStepOutIdeal.nD Cert.KernelStepOutIdeal.τ).loc Cert.KernelStepOutIdeal.main_v0_2)) (v3 : (c : Dev Cert.KernelStepOutIdeal.nD) → Buf (Elt Ideal) ((c.tc : Thread Cert.KernelStepOutIdeal.nD Cert.KernelStepOutIdeal.τ).loc Cert.KernelStepOutIdeal.main_v0_3)),
      θ_run (Cert.KernelStepOutIdeal.defs (F := Ideal)) (onTc (τ := Cert.KernelStepOutIdeal.τ) (Cert.KernelStepOutIdeal.main (F := Ideal))) ⟨m, fun _ => 0, g⟩ (fun r => ∀ c : Dev Cert.KernelStepOutIdeal.nD,
          r.2.mem ((c.tc : Thread Cert.KernelStepOutIdeal.nD Cert.KernelStepOutIdeal.τ).loc Cert.KernelStepOutIdeal.main_v0_0) = v0 c
          ∧ r.2.mem ((c.tc : Thread Cert.KernelStepOutIdeal.nD Cert.KernelStepOutIdeal.τ).loc Cert.KernelStepOutIdeal.main_v0_1) = v1 c
          ∧ r.2.mem ((c.tc : Thread Cert.KernelStepOutIdeal.nD Cert.KernelStepOutIdeal.τ).loc Cert.KernelStepOutIdeal.main_v0_2) = v2 c
          ∧ r.2.mem ((c.tc : Thread Cert.KernelStepOutIdeal.nD Cert.KernelStepOutIdeal.τ).loc Cert.KernelStepOutIdeal.main_v0_3) = v3 c
          ∧ r.2.mem ((c.tc : Thread Cert.KernelStepOutIdeal.nD Cert.KernelStepOutIdeal.τ).loc Cert.KernelStepOutIdeal.main_arg0) = m ((c.tc : Thread Cert.KernelStepOutIdeal.nD Cert.KernelStepOutIdeal.τ).loc Cert.KernelStepOutIdeal.main_arg0)
          ∧ r.2.mem ((c.tc : Thread Cert.KernelStepOutIdeal.nD Cert.KernelStepOutIdeal.τ).loc Cert.KernelStepOutIdeal.main_arg1) = m ((c.tc : Thread Cert.KernelStepOutIdeal.nD Cert.KernelStepOutIdeal.τ).loc Cert.KernelStepOutIdeal.main_arg1)
          ∧ r.2.mem ((c.tc : Thread Cert.KernelStepOutIdeal.nD Cert.KernelStepOutIdeal.τ).loc Cert.KernelStepOutIdeal.main_arg2) = m ((c.tc : Thread Cert.KernelStepOutIdeal.nD Cert.KernelStepOutIdeal.τ).loc Cert.KernelStepOutIdeal.main_arg2)
          ∧ r.2.mem ((c.tc : Thread Cert.KernelStepOutIdeal.nD Cert.KernelStepOutIdeal.τ).loc Cert.KernelStepOutIdeal.main_arg3) = m ((c.tc : Thread Cert.KernelStepOutIdeal.nD Cert.KernelStepOutIdeal.τ).loc Cert.KernelStepOutIdeal.main_arg3)
          ∧ r.2.mem ((c.tc : Thread Cert.KernelStepOutIdeal.nD Cert.KernelStepOutIdeal.τ).loc Cert.KernelStepOutIdeal.main_arg4) = m ((c.tc : Thread Cert.KernelStepOutIdeal.nD Cert.KernelStepOutIdeal.τ).loc Cert.KernelStepOutIdeal.main_arg4))
      ∧ θ_run (Cert.ReferenceStepOutIdeal.defs (F := Ideal)) (onTc (τ := Cert.ReferenceStepOutIdeal.τ) (Cert.ReferenceStepOutIdeal.main (F := Ideal))) ⟨m', fun _ => 0, g'⟩ (fun r => ∀ c : Dev Cert.ReferenceStepOutIdeal.nD,
          r.2.mem ((c.tc : Thread Cert.ReferenceStepOutIdeal.nD Cert.ReferenceStepOutIdeal.τ).loc Cert.ReferenceStepOutIdeal.main_v0) = v0 c
          ∧ r.2.mem ((c.tc : Thread Cert.ReferenceStepOutIdeal.nD Cert.ReferenceStepOutIdeal.τ).loc Cert.ReferenceStepOutIdeal.main_v24) = v1 c
          ∧ r.2.mem ((c.tc : Thread Cert.ReferenceStepOutIdeal.nD Cert.ReferenceStepOutIdeal.τ).loc Cert.ReferenceStepOutIdeal.main_v5) = v2 c
          ∧ r.2.mem ((c.tc : Thread Cert.ReferenceStepOutIdeal.nD Cert.ReferenceStepOutIdeal.τ).loc Cert.ReferenceStepOutIdeal.main_v11) = v3 c
          ∧ r.2.mem ((c.tc : Thread Cert.ReferenceStepOutIdeal.nD Cert.ReferenceStepOutIdeal.τ).loc Cert.ReferenceStepOutIdeal.main_arg0) = m' ((c.tc : Thread Cert.ReferenceStepOutIdeal.nD Cert.ReferenceStepOutIdeal.τ).loc Cert.ReferenceStepOutIdeal.main_arg0)
          ∧ r.2.mem ((c.tc : Thread Cert.ReferenceStepOutIdeal.nD Cert.ReferenceStepOutIdeal.τ).loc Cert.ReferenceStepOutIdeal.main_arg1) = m' ((c.tc : Thread Cert.ReferenceStepOutIdeal.nD Cert.ReferenceStepOutIdeal.τ).loc Cert.ReferenceStepOutIdeal.main_arg1)
          ∧ r.2.mem ((c.tc : Thread Cert.ReferenceStepOutIdeal.nD Cert.ReferenceStepOutIdeal.τ).loc Cert.ReferenceStepOutIdeal.main_arg2) = m' ((c.tc : Thread Cert.ReferenceStepOutIdeal.nD Cert.ReferenceStepOutIdeal.τ).loc Cert.ReferenceStepOutIdeal.main_arg2)
          ∧ r.2.mem ((c.tc : Thread Cert.ReferenceStepOutIdeal.nD Cert.ReferenceStepOutIdeal.τ).loc Cert.ReferenceStepOutIdeal.main_arg3) = m' ((c.tc : Thread Cert.ReferenceStepOutIdeal.nD Cert.ReferenceStepOutIdeal.τ).loc Cert.ReferenceStepOutIdeal.main_arg3)
          ∧ r.2.mem ((c.tc : Thread Cert.ReferenceStepOutIdeal.nD Cert.ReferenceStepOutIdeal.τ).loc Cert.ReferenceStepOutIdeal.main_arg4) = m' ((c.tc : Thread Cert.ReferenceStepOutIdeal.nD Cert.ReferenceStepOutIdeal.τ).loc Cert.ReferenceStepOutIdeal.main_arg4))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelOut : Cert.KernelOut.Facts) (hKernelOutIdeal : Cert.KernelOutIdeal.Facts) (hReferenceOutIdeal : Cert.ReferenceOutIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelFfn : Cert.KernelFfn.Facts) (hKernelFfnIdeal : Cert.KernelFfnIdeal.Facts) (hReferenceFfnIdeal : Cert.ReferenceFfnIdeal.Facts) (hKernelUpFwd : Cert.KernelUpFwd.Facts) (hKernelUpFwdIdeal : Cert.KernelUpFwdIdeal.Facts) (hReferenceUpFwdIdeal : Cert.ReferenceUpFwdIdeal.Facts) (hKernelMod : Cert.KernelMod.Facts) (hKernelModIdeal : Cert.KernelModIdeal.Facts) (hReferenceModIdeal : Cert.ReferenceModIdeal.Facts) (hKernelAda : Cert.KernelAda.Facts) (hKernelAdaIdeal : Cert.KernelAdaIdeal.Facts) (hReferenceAdaIdeal : Cert.ReferenceAdaIdeal.Facts) (hKernelStepUp : Cert.KernelStepUp.Facts) (hKernelStepUpIdeal : Cert.KernelStepUpIdeal.Facts) (hReferenceStepUpIdeal : Cert.ReferenceStepUpIdeal.Facts) (hKernelStepDown : Cert.KernelStepDown.Facts) (hKernelStepDownIdeal : Cert.KernelStepDownIdeal.Facts) (hReferenceStepDownIdeal : Cert.ReferenceStepDownIdeal.Facts) (hKernelStepOut : Cert.KernelStepOut.Facts) (hKernelStepOutIdeal : Cert.KernelStepOutIdeal.Facts) (hReferenceStepOutIdeal : Cert.ReferenceStepOutIdeal.Facts) (hPre_all_finite : Cert.Pre_all_finite.Facts) (hPre_ffn_finite : Cert.Pre_ffn_finite.Facts) (hOn_gate_columns : Cert.On_gate_columns.Facts),
    quiescent_Kernel (hKernel := hKernel)
    ∧ quiescent_KernelIdeal (hKernelIdeal := hKernelIdeal)
    ∧ quiescent_ReferenceIdeal (hReferenceIdeal := hReferenceIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_KernelInIdeal_pre_all_finite (hKernelInIdeal := hKernelInIdeal) (hPre_all_finite := hPre_all_finite)
    ∧ quiescent_ReferenceInIdeal (hReferenceInIdeal := hReferenceInIdeal)
    ∧ quiescent_ReferenceInIdeal_pre_all_finite (hReferenceInIdeal := hReferenceInIdeal) (hPre_all_finite := hPre_all_finite)
    ∧ quiescent_KernelFfn (hKernelFfn := hKernelFfn)
    ∧ quiescent_KernelFfnIdeal (hKernelFfnIdeal := hKernelFfnIdeal)
    ∧ quiescent_KernelFfnIdeal_pre_ffn_finite (hKernelFfnIdeal := hKernelFfnIdeal) (hPre_ffn_finite := hPre_ffn_finite)
    ∧ quiescent_ReferenceFfnIdeal (hReferenceFfnIdeal := hReferenceFfnIdeal)
    ∧ quiescent_ReferenceFfnIdeal_pre_ffn_finite (hReferenceFfnIdeal := hReferenceFfnIdeal) (hPre_ffn_finite := hPre_ffn_finite)
    ∧ quiescent_KernelUpFwd (hKernelUpFwd := hKernelUpFwd)
    ∧ quiescent_KernelUpFwdIdeal (hKernelUpFwdIdeal := hKernelUpFwdIdeal)
    ∧ quiescent_ReferenceUpFwdIdeal (hReferenceUpFwdIdeal := hReferenceUpFwdIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelStepUp (hKernelStepUp := hKernelStepUp)
    ∧ quiescent_KernelStepUpIdeal (hKernelStepUpIdeal := hKernelStepUpIdeal)
    ∧ quiescent_ReferenceStepUpIdeal (hReferenceStepUpIdeal := hReferenceStepUpIdeal)
    ∧ quiescent_KernelStepDown (hKernelStepDown := hKernelStepDown)
    ∧ quiescent_KernelStepDownIdeal (hKernelStepDownIdeal := hKernelStepDownIdeal)
    ∧ quiescent_ReferenceStepDownIdeal (hReferenceStepDownIdeal := hReferenceStepDownIdeal)
    ∧ quiescent_KernelStepOut (hKernelStepOut := hKernelStepOut)
    ∧ quiescent_KernelStepOutIdeal (hKernelStepOutIdeal := hKernelStepOutIdeal)
    ∧ quiescent_ReferenceStepOutIdeal (hReferenceStepOutIdeal := hReferenceStepOutIdeal)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_KernelUp_KernelUpIdeal
    ∧ algebraic_KernelUpIdeal_ReferenceUpIdeal (hKernelUpIdeal := hKernelUpIdeal) (hReferenceUpIdeal := hReferenceUpIdeal)
    ∧ preserves_KernelOut_KernelOutIdeal
    ∧ algebraic_KernelOutIdeal_ReferenceOutIdeal (hKernelOutIdeal := hKernelOutIdeal) (hReferenceOutIdeal := hReferenceOutIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal_pre_all_finite (hKernelInIdeal := hKernelInIdeal) (hReferenceInIdeal := hReferenceInIdeal) (hPre_all_finite := hPre_all_finite)
    ∧ preserves_KernelFfn_KernelFfnIdeal
    ∧ algebraic_KernelFfnIdeal_ReferenceFfnIdeal_pre_ffn_finite (hKernelFfnIdeal := hKernelFfnIdeal) (hReferenceFfnIdeal := hReferenceFfnIdeal) (hPre_ffn_finite := hPre_ffn_finite)
    ∧ preserves_KernelUpFwd_KernelUpFwdIdeal
    ∧ algebraic_KernelUpFwdIdeal_ReferenceUpFwdIdeal (hKernelUpFwdIdeal := hKernelUpFwdIdeal) (hReferenceUpFwdIdeal := hReferenceUpFwdIdeal)
    ∧ preserves_KernelMod_KernelModIdeal
    ∧ algebraic_KernelModIdeal_ReferenceModIdeal (hKernelModIdeal := hKernelModIdeal) (hReferenceModIdeal := hReferenceModIdeal)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelStepUp_KernelStepUpIdeal
    ∧ algebraic_KernelStepUpIdeal_ReferenceStepUpIdeal (hKernelStepUpIdeal := hKernelStepUpIdeal) (hReferenceStepUpIdeal := hReferenceStepUpIdeal)
    ∧ preserves_KernelStepDown_KernelStepDownIdeal
    ∧ algebraic_KernelStepDownIdeal_ReferenceStepDownIdeal (hKernelStepDownIdeal := hKernelStepDownIdeal) (hReferenceStepDownIdeal := hReferenceStepDownIdeal)
    ∧ preserves_KernelStepOut_KernelStepOutIdeal
    ∧ algebraic_KernelStepOutIdeal_ReferenceStepOutIdeal (hKernelStepOutIdeal := hKernelStepOutIdeal) (hReferenceStepOutIdeal := hReferenceStepOutIdeal)
-- ==== On_gate_columns.lean ====
abbrev S8192x1024 : Shape := ⟨2, ![8192, 1024]⟩
abbrev S8192x6144 : Shape := ⟨2, ![8192, 6144]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  bcast_S_S8192x6144 : S_.BroadcastsInDim S8192x6144 (![] : Fin 0 → Fin S8192x6144.rank)

variable [Facts]

def fn {F : FTy → Type} [FloatOps F] (main_arg0 : FVec F S8192x1024 .f32) (main_arg1 : FVec F S8192x1024 .f32) (main_arg2 : FVec F S8192x6144 .f32) (main_arg3 : FVec F S1024x1024 .f32) (main_arg4 : FVec F S1024x1024 .f32) (main_arg5 : FVec F S1024x1024 .f32) (main_arg6 : FVec F S8192x1024 .f32) : IVec S8192x6144 1 × IVec S8192x1024 1 × IVec S8192x1024 1 × IVec S8192x1024 1 × IVec S8192x1024 1 :=
  let main_c : IVec S_ 1 := constantI S_ 1 1#1
  let main_v0 : IVec S8192x1024 1 := broadcastInDim S8192x1024 ![] bcast_S_S8192x1024 main_c
  let main_v1 : IVec S8192x6144 32 := iotaInDim S8192x6144 32 1
  let main_c_0 : IVec S_ 32 := constantI S_ 32 4096#32
  let main_v2 : IVec S8192x6144 32 := broadcastInDim S8192x6144 ![] bcast_S_S8192x6144 main_c_0
  let main_v3 : IVec S8192x6144 1 := cmpi .sge main_v1 main_v2
  (main_v3, main_v0, main_v0, main_v0, main_v0)
-- ==== Pre_all_finite.lean ====
abbrev S8192x1024 : Shape := ⟨2, ![8192, 1024]⟩
abbrev S1024 : Shape := ⟨1, ![1024]⟩
abbrev S1024x6144 : Shape := ⟨2, ![1024, 6144]⟩
abbrev S8192x6144 : Shape := ⟨2, ![8192, 6144]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_
  bcast_S_S8192x6144 : S_.BroadcastsInDim S8192x6144 (![] : Fin 0 → Fin S8192x6144.rank)
  reducesTo_S8192x6144_S_d0_1 : S8192x6144.ReducesTo [0, 1] S_

variable [Facts]

def fn_part1 {F : FTy → Type} [FloatOps F] (main_arg5 : FVec F S8192x6144 .f32) (main_v13 : IVec S_ 1) (main_v16 : IVec S1024x6144 1) : IVec S_ 1 :=
  let main_c_5 : IVec S_ 1 := constantI S_ 1 1#1
  let main_v17 : IVec S_ 1 := (fun x v => Host.reduce IntOp.andi x v reducesTo_S1024x6144_S_d0_1 h_S_) main_v16 main_c_5
  let main_v18 : IVec S_ 1 := andi main_v13 main_v17
  let main_v19 : FVec F S8192x6144 .f32 := Host.absf main_arg5
  let main_cst_6 : FVec F S_ .f32 := constant S_ .f32 0x7F800000#32
  let main_v20 : FVec F S8192x6144 .f32 := broadcastInDim S8192x6144 ![] bcast_S_S8192x6144 main_cst_6
  let main_v21 : IVec S8192x6144 1 := cmpf .olt main_v19 main_v20
  let main_c_7 : IVec S_ 1 := constantI S_ 1 1#1
  let main_v22 : IVec S_ 1 := (fun x v => Host.reduce IntOp.andi x v reducesTo_S8192x6144_S_d0_1 h_S_) main_v21 main_c_7
  let main_v23 : IVec S_ 1 := andi main_v18 main_v22
  main_v23

def fn {F : FTy → Type} [FloatOps F] (main_arg0 : FVec F S8192x1024 .f32) (main_arg1 : FVec F S1024 .f32) (main_arg2 : FVec F S1024 .f32) (main_arg3 : FVec F S1024x6144 .f32) (main_arg4 : FVec F S8192x1024 .f32) (main_arg5 : FVec F S8192x6144 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x6144 .f32 := Host.absf main_arg3
  let main_cst_4 : FVec F S_ .f32 := constant S_ .f32 0x7F800000#32
  let main_v15 : FVec F S1024x6144 .f32 := broadcastInDim S1024x6144 ![] bcast_S_S1024x6144 main_cst_4
  let main_v16 : IVec S1024x6144 1 := cmpf .olt main_v14 main_v15
  fn_part1 (F := F) main_arg5 main_v13 main_v16
-- ==== Pre_ffn_finite.lean ====
abbrev S8192x1024 : Shape := ⟨2, ![8192, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6144 : S_.BroadcastsInDim S1024x6144 (![] : Fin 0 → Fin S1024x6144.rank)
  reducesTo_S1024x6144_S_d0_1 : S1024x6144.ReducesTo [0, 1] S_
  bcast_S_S3x6144 : S_.BroadcastsInDim S3x6144 (![] : Fin 0 → Fin S3x6144.rank)
  reducesTo_S3x6144_S_d0_1 : S3x6144.ReducesTo [0, 1] S_
  bcast_S_S6144 : S_.BroadcastsInDim S6144 (![] : Fin 0 → Fin S6144.rank)
  reducesTo_S6144_S_d0 : S6144.ReducesTo [0] S_
  bcast_S_S3072x1024 : S_.BroadcastsInDim S3072x1024 (![] : Fin 0 → Fin S3072x1024.rank)
  reducesTo_S3072x1024_S_d0_1 : S3072x1024.ReducesTo [0, 1] S_

variable [Facts]

def fn_part2 {F : FTy → Type} [FloatOps F] (main_arg10 : FVec F S6144 .f32) (main_arg11 : FVec F S3072x1024 .f32) (main_v33 : IVec S_ 1) : IVec S_ 1 :=
  let main_v34 : FVec F S6144 .f32 := Host.absf main_arg10
  let main_cst_12 : FVec F S_ .f32 := constant S_ .f32 0x7F800000#32
  let main_v35 : FVec F S6144 .f32 := broadcastInDim S6144 ![] bcast_S_S6144 main_cst_12
  let main_v36 : IVec S6144 1 := cmpf .olt main_v34 main_v35
  let main_c_13 : IVec S_ 1 := constantI S_ 1 1#1
  let main_v37 : IVec S_ 1 := (fun x v => Host.reduce IntOp.andi x v reducesTo_S6144_S_d0 h_S_) main_v36 main_c_13
  let main_v38 : IVec S_ 1 := andi main_v33 main_v37
  let main_v39 : FVec F S3072x1024 .f32 := Host.absf main_arg11
  let main_cst_14 : FVec F S_ .f32 := constant S_ .f32 0x7F800000#32
  let main_v40 : FVec F S3072x1024 .f32 := broadcastInDim S3072x1024 ![] bcast_S_S3072x1024 main_cst_14
  let main_v41 : IVec S3072x1024 1 := cmpf .olt main_v39 main_v40
  let main_c_15 : IVec S_ 1 := constantI S_ 1 1#1
  let main_v42 : IVec S_ 1 := (fun x v => Host.reduce IntOp.andi x v reducesTo_S3072x1024_S_d0_1 h_S_) main_v41 main_c_15
  let main_v43 : IVec S_ 1 := andi main_v38 main_v42
  main_v43

def fn_part1 {F : FTy → Type} [FloatOps F] (main_arg6 : FVec F S1024 .f32) (main_arg8 : FVec F S1024x6144 .f32) (main_arg9 : FVec F S3x6144 .f32) (main_arg10 : FVec F S6144 .f32) (main_arg11 : FVec F S3072x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x6144 .f32 := Host.absf main_arg8
  let main_cst_8 : FVec F S_ .f32 := constant S_ .f32 0x7F800000#32
  let main_v25 : FVec F S1024x6144 .f32 := broadcastInDim S1024x6144 ![] bcast_S_S1024x6144 main_cst_8
  let main_v26 : IVec S1024x6144 1 := cmpf .olt main_v24 main_v25
  let main_c_9 : IVec S_ 1 := constantI S_ 1 1#1
  let main_v27 : IVec S_ 1 := (fun x v => Host.reduce IntOp.andi x v reducesTo_S1024x6144_S_d0_1 h_S_) main_v26 main_c_9
  let main_v28 : IVec S_ 1 := andi main_v23 main_v27
  let main_v29 : FVec F S3x6144 .f32 := Host.absf main_arg9
  let main_cst_10 : FVec F S_ .f32 := constant S_ .f32 0x7F800000#32
  let main_v30 : FVec F S3x6144 .f32 := broadcastInDim S3x6144 ![] bcast_S_S3x6144 main_cst_10
  let main_v31 : IVec S3x6144 1 := cmpf .olt main_v29 main_v30
  let main_c_11 : IVec S_ 1 := constantI S_ 1 1#1
  let main_v32 : IVec S_ 1 := (fun x v => Host.reduce IntOp.andi x v reducesTo_S3x6144_S_d0_1 h_S_) main_v31 main_c_11
  let main_v33 : IVec S_ 1 := andi main_v28 main_v32
  fn_part2 (F := F) main_arg10 main_arg11 main_v33

def fn {F : FTy → Type} [FloatOps F] (main_arg0 : FVec F S8192x1024 .f32) (main_arg1 : FVec F S8192x1024 .f32) (main_arg2 : FVec F S8192x1024 .f32) (main_arg3 : FVec F S8192x1024 .f32) (main_arg4 : FVec F S1024 .f32) (main_arg5 : FVec F S1024 .f32) (main_arg6 : FVec F S1024 .f32) (main_arg7 : FVec F S1024 .f32) (main_arg8 : FVec F S1024x6144 .f32) (main_arg9 : FVec F S3x6144 .f32) (main_arg10 : FVec F S6144 .f32) (main_arg11 : FVec F S3072x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg6 main_arg8 main_arg9 main_arg10 main_arg11 main_v13 main_v16
-- ==== Kernel.lean ====
abbrev S8192x1024 : Shape := ⟨2, ![8192, 1024]⟩
abbrev S8192x6144 : Shape := ⟨2, ![8192, 6144]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 22
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x6144, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S1024x1024, .bf16⟩
  | .hbm, ⟨8, _⟩ => ⟨S1024x1024, .bf16⟩
  | .hbm, ⟨9, _⟩ => ⟨S8192x1024, .bf16⟩
  | .hbm, ⟨10, _⟩ => ⟨S8192x1024, .f32⟩
  | .hbm, ⟨11, _⟩ => ⟨S8192x1024, .bf16⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S1024x1024, .bf16⟩
  | .hbm, ⟨17, _⟩ => ⟨S8192x6144, .bf16⟩
  | .hbm, ⟨18, _⟩ => ⟨S8192x1024, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x2048, .bf16⟩
  | .local _ .vmem, ⟨14, _⟩ => ⟨S512x2048, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8192x1024 : Shape := ⟨2, ![8192, 1024]⟩
abbrev S8192x6144 : Shape := ⟨2, ![8192, 6144]⟩
abbrev S1024x1024 : Shape := ⟨2, ![1024, 1024]⟩
abbrev S_ : Shape := ⟨0, ![]⟩
abbrev S8192x4096 : Shape := ⟨2, ![8192, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x6144, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x4096, .f32⟩
  | .hbm, ⟨50, _⟩ => ⟨S8192x6144, .f32⟩
  | .hbm, ⟨51, _⟩ => ⟨S8192x6144, .bf16⟩
  | .hbm, ⟨52, _⟩ => ⟨S8192x1024, .bf16⟩
  | .hbm, ⟨53, _⟩ => ⟨S8192x1024, .bf16⟩
  | .hbm, ⟨54, _⟩ => ⟨S8192x1024, .bf16⟩
  | .hbm, ⟨55, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelUp.lean ====
abbrev S8192x1024 : Shape := ⟨2, ![8192, 1024]⟩
abbrev S8192x6144 : Shape := ⟨2, ![8192, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .bf16⟩
  | .hbm, ⟨3, _⟩ => ⟨S8192x6144, .bf16⟩
  | .hbm, ⟨4, _⟩ => ⟨S4x1024x1536, .f32⟩
  | .hbm, ⟨5, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .f32⟩
  | .local _ .vmem, ⟨5, _⟩ => ⟨S1x1024x1536, .f32⟩
  | .local _ .vmem, ⟨6, _⟩ => ⟨S1x1024x1536, .bf16⟩
  | .local _ .vmem, ⟨7, _⟩ => ⟨S1x1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceUpIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S_, .f32⟩
  | .hbm, ⟨3, _⟩ => ⟨S1024x6144, .f32⟩
  | .hbm, ⟨4, _⟩ => ⟨S8192x6144, .f32⟩
  | .hbm, ⟨5, _⟩ => ⟨S6144x1024, .f32⟩
  | .hbm, ⟨6, _⟩ => ⟨S1024x6144, .f32⟩
  | .hbm, ⟨7, _⟩ => ⟨S1024x4x1536, .f32⟩
  | .hbm, ⟨8, _⟩ => ⟨S4x1024x1536, .f32⟩
  | .hbm, ⟨9, _⟩ => ⟨S4x1024x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelOut.lean ====
abbrev S8192x1024 : Shape := ⟨2, ![8192, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1x1024x1024, .f32⟩
  | .hbm, ⟨5, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== ReferenceOutIdeal.lean ====
abbrev S8192x1024 : Shape := ⟨2, ![8192, 1024]⟩
abbrev S_ : Shape := ⟨0, ![]⟩
abbrev S1024x1024 : Shape := ⟨2, ![1024, 1024]⟩
abbrev S1024x1x1024 : Shape := ⟨3, ![1024, 1, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1x1024, .f32⟩
  | .hbm, ⟨8, _⟩ => ⟨S1x1024x1024, .f32⟩
  | .hbm, ⟨9, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDown.lean ====
abbrev S8192x3072 : Shape := ⟨2, ![8192, 3072]⟩
abbrev S8192x1024 : Shape := ⟨2, ![8192, 1024]⟩
abbrev S1x3072x1024 : Shape := ⟨3, ![1, 3072, 1024]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x3072, .bf16⟩
  | .hbm, ⟨3, _⟩ => ⟨S8192x1024, .bf16⟩
  | .hbm, ⟨4, _⟩ => ⟨S1x3072x1024, .f32⟩
  | .hbm, ⟨5, _⟩ => ⟨S1x3072x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .bf16⟩
  | .local _ .vmem, ⟨7, _⟩ => ⟨S1x1024x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩
abbrev S3072x1x1024 : Shape := ⟨3, ![3072, 1, 1024]⟩
abbrev S1x3072x1024 : Shape := ⟨3, ![1, 3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S_, .f32⟩
  | .hbm, ⟨3, _⟩ => ⟨S3072x1024, .f32⟩
  | .hbm, ⟨4, _⟩ => ⟨S8192x1024, .f32⟩
  | .hbm, ⟨5, _⟩ => ⟨S1024x3072, .f32⟩
  | .hbm, ⟨6, _⟩ => ⟨S3072x1024, .f32⟩
  | .hbm, ⟨7, _⟩ => ⟨S3072x1x1024, .f32⟩
  | .hbm, ⟨8, _⟩ => ⟨S1x3072x1024, .f32⟩
  | .hbm, ⟨9, _⟩ => ⟨S1x3072x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelIn.lean ====
abbrev S8192x1024 : Shape := ⟨2, ![8192, 1024]⟩
abbrev S1024 : Shape := ⟨1, ![1024]⟩
abbrev S1024x6144 : Shape := ⟨2, ![1024, 6144]⟩
abbrev S8192x6144 : Shape := ⟨2, ![8192, 6144]⟩
abbrev S1024x4x1536 : Shape := ⟨3, ![1024, 4, 1536]⟩
abbrev S4x1024x1536 : Shape := ⟨3, ![4, 1024, 1536]⟩
abbrev S1x1024 : Shape := ⟨2, ![1, 1024]⟩
abbrev S512x6144 : Shape := ⟨2, ![512, 6144]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x6144, .f32⟩
  | .hbm, ⟨4, _⟩ => ⟨S8192x1024, .f32⟩
  | .hbm, ⟨5, _⟩ => ⟨S8192x6144, .f32⟩
  | .hbm, ⟨6, _⟩ => ⟨S1024x4x1536, .f32⟩
  | .hbm, ⟨7, _⟩ => ⟨S4x1024x1536, .f32⟩
  | .hbm, ⟨8, _⟩ => ⟨S4x1024x1536, .bf16⟩
  | .hbm, ⟨9, _⟩ => ⟨S8192x6144, .bf16⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S4x1024x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceInIdeal.lean ====
abbrev S8192x1024 : Shape := ⟨2, ![8192, 1024]⟩
abbrev S1024 : Shape := ⟨1, ![1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x6144, .f32⟩
  | .hbm, ⟨4, _⟩ => ⟨S8192x1024, .f32⟩
  | .hbm, ⟨5, _⟩ => ⟨S8192x6144, .f32⟩
  | .hbm, ⟨6, _⟩ => ⟨S_, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x6144, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S1x1024, .f32⟩
  | .hbm, ⟨79, _⟩ => ⟨S1x1024, .f32⟩
  | .hbm, ⟨80, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== KernelFfn.lean ====
abbrev S8192x1024 : Shape := ⟨2, ![8192, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6144 : Shape := ⟨2, ![8192, 6144]⟩
abbrev S2x6144 : Shape := ⟨2, ![2, 6144]⟩
abbrev S8194x6144 : Shape := ⟨2, ![8194, 6144]⟩
abbrev S1x6144 : Shape := ⟨2, ![1, 6144]⟩
abbrev S8192x3072 : Shape := ⟨2, ![8192, 3072]⟩
abbrev S1024x4x1536 : Shape := ⟨3, ![1024, 4, 1536]⟩
abbrev S4x1024x1536 : Shape := ⟨3, ![4, 1024, 1536]⟩
abbrev S256x1024 : Shape := ⟨2, ![256, 1024]⟩
abbrev S256x6144 : Shape := ⟨2, ![256, 6144]⟩
abbrev S256x3072 : Shape := ⟨2, ![256, 3072]⟩
abbrev S8x6144 : Shape := ⟨2, ![8, 6144]⟩
abbrev S1536x1024 : Shape := ⟨2, ![1536, 1024]⟩
abbrev S256x1536 : Shape := ⟨2, ![256, 1536]⟩
abbrev S8x1536 : Shape := ⟨2, ![8, 1536]⟩
abbrev S248x1536 : Shape := ⟨2, ![248, 1536]⟩
abbrev S1x1536 : Shape := ⟨2, ![1, 1536]⟩
abbrev S1536 : Shape := ⟨1, ![1536]⟩
abbrev S1x1024x1536 : Shape := ⟨3, ![1, 1024, 1536]⟩
abbrev S1024x1536 : Shape := ⟨2, ![1024, 1536]⟩
abbrev S256 : Shape := ⟨1, ![256]⟩
abbrev S256x1 : Shape := ⟨2, ![256, 1]⟩

abbrev nBuf : Space → Nat
  | .hbm => 133
  | .vmem => 33
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S1024, .f32⟩
  | 5 => ⟨S1024, .f32⟩
  | 6 => ⟨S1024, .f32⟩
  | 7 => ⟨S1024, .f32⟩
  | 8 => ⟨S1024x6144, .f32⟩
  | 9 => ⟨S3x6144, .f32⟩
  | 10 => ⟨S6144, .f32⟩
  | 11 => ⟨S3072x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S1x1024, .f32⟩
  | 29 => ⟨S_, .f32⟩
  | 30 => ⟨S1x1024, .f32⟩
  | 31 => ⟨S1x1024, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S8192x6144, .f32⟩
  | 38 => ⟨S_, .f32⟩
  | 39 => ⟨S2x6144, .f32⟩
  | 40 => ⟨S8194x6144, .f32⟩
  | 41 => ⟨S8192x6144, .f32⟩
  | 42 => ⟨S1x6144, .f32⟩
  | 43 => ⟨S6144, .f32⟩
  | 44 => ⟨S1x6144, .f32⟩
  | 45 => ⟨S8192x6144, .f32⟩
  | 46 => ⟨S8192x6144, .f32⟩
  | 47 => ⟨S1x6144, .f32⟩
  | 48 => ⟨S8192x6144, .f32⟩
  | 49 => ⟨S8192x6144, .f32⟩
  | 50 => ⟨S8192x6144, .f32⟩
  | 51 => ⟨S1x6144, .f32⟩
  | 52 => ⟨S6144, .f32⟩
  | 53 => ⟨S1x6144, .f32⟩
  | 54 => ⟨S8192x6144, .f32⟩
  | 55 => ⟨S8192x6144, .f32⟩
  | 56 => ⟨S8192x6144, .f32⟩
  | 57 => ⟨S8192x6144, .f32⟩
  | 58 => ⟨S1x6144, .f32⟩
  | 59 => ⟨S6144, .f32⟩
  | 60 => ⟨S1x6144, .f32⟩
  | 61 => ⟨S8192x6144, .f32⟩
  | 62 => ⟨S8192x6144, .f32⟩
  | 63 => ⟨S8192x6144, .f32⟩
  | 64 => ⟨S8192x3072, .f32⟩
  | 65 => ⟨S8192x3072, .f32⟩
  | 66 => ⟨S8192x3072, .f32⟩
  | 67 => ⟨S8192x3072, .f32⟩
  | 68 => ⟨S8192x3072, .f32⟩
  | 69 => ⟨S_, .f32⟩
  | 70 => ⟨S8192x3072, .f32⟩
  | 71 => ⟨S8192x3072, .f32⟩
  | 72 => ⟨S_, .f32⟩
  | 73 => ⟨S8192x3072, .f32⟩
  | 74 => ⟨S8192x3072, .f32⟩
  | 75 => ⟨S8192x3072, .f32⟩
  | 76 => ⟨S_, .f32⟩
  | 77 => ⟨S8192x3072, .f32⟩
  | 78 => ⟨S8192x3072, .f32⟩
  | 79 => ⟨S8192x3072, .f32⟩
  | 80 => ⟨S_, .f32⟩
  | 81 => ⟨S8192x3072, .f32⟩
  | 82 => ⟨S8192x3072, .f32⟩
  | 83 => ⟨S_, .f32⟩
  | 84 => ⟨S8192x3072, .f32⟩
  | 85 => ⟨S8192x3072, .f32⟩
  | 86 => ⟨S8192x3072, .f32⟩
  | 87 => ⟨S_, .f32⟩
  | 88 => ⟨S8192x3072, .f32⟩
  | 89 => ⟨S8192x3072, .f32⟩
  | 90 => ⟨S_, .f32⟩
  | 91 => ⟨S8192x3072, .f32⟩
  | 92 => ⟨S8192x3072, .f32⟩
  | 93 => ⟨S8192x3072, .f32⟩
  | 94 => ⟨S_, .f32⟩
  | 95 => ⟨S8192x3072, .f32⟩
  | 96 => ⟨S8192x3072, .f32⟩
  | 97 => ⟨S8192x3072, .f32⟩
  | 98 => ⟨S_, .f32⟩
  | 99 => ⟨S8192x3072, .f32⟩
  | 100 => ⟨S8192x3072, .f32⟩
  | 101 => ⟨S8192x3072, .f32⟩
  | 102 => ⟨S_, .f32⟩
  | 103 => ⟨S8192x3072, .f32⟩
  | 104 => ⟨S8192x3072, .f32⟩
  | 105 => ⟨S8192x3072, .f32⟩
  | 106 => ⟨S_, .f32⟩
  | 107 => ⟨S8192x3072, .f32⟩
  | 108 => ⟨S8192x3072, .f32⟩
  | 109 => ⟨S8192x3072, .f32⟩
  | 110 => ⟨S8192x3072, .f32⟩
  | 111 => ⟨S8192x3072, .f32⟩
  | 112 => ⟨S1024x4x1536, .f32⟩
  | 113 => ⟨S4x1024x1536, .f32⟩
  | 114 => ⟨S4x1024x1536, .bf16⟩
  | 115 => ⟨S8192x1024, .bf16⟩
  | 116 => ⟨S3072x1024, .bf16⟩
  | 117 => ⟨S8192x6144, .bf16⟩
  | 118 => ⟨S8192x3072, .bf16⟩
  | 119 => ⟨S8192x3072, .bf16⟩
  | 120 => ⟨S1x1024, .f32⟩
  | 121 => ⟨S1x1024, .f32⟩
  | 122 => ⟨S1x1024, .f32⟩
  | 123 => ⟨S8192x1024, .bf16⟩
  | 124 => ⟨S8192x6144, .bf16⟩
  | 125 => ⟨S3x6144, .f32⟩
  | 126 => ⟨S1x6144, .f32⟩
  | 127 => ⟨S8192x1024, .f32⟩
  | _ => ⟨S8192x1024, .f32⟩

abbrev hbmTy0_1 (i : Nat) : BufTy := match i % 128 with
  | 0 => ⟨S1x1024, .f32⟩
  | 1 => ⟨S1x1024, .f32⟩
  | 2 => ⟨S1x1024, .f32⟩
  | 3 => ⟨S8192x1024, .bf16⟩
  | 4 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S3072x1024, .bf16⟩
  | .local _ .vmem, ⟨3, _⟩ => ⟨S256x6144, .bf16⟩
  | .local _ .vmem, ⟨4, _⟩ => ⟨S256x6144, .bf16⟩
  | .local _ .vmem, ⟨5, _⟩ => ⟨S256x3072, .bf16⟩
  | .local _ .vmem, ⟨6, _⟩ => ⟨S256x3072, .bf16⟩
  | .local _ .vmem, ⟨7, _⟩ => ⟨S256x3072, .bf16⟩
  | .local _ .vmem, ⟨8, _⟩ => ⟨S256x3072, .bf16⟩
  | .local _ .vmem, ⟨9, _⟩ => ⟨S3x6144, .f32⟩
  | .local _ .vmem, ⟨10, _⟩ => ⟨S4x1024x1536, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S256x6144, .bf16⟩
  | .local _ .vmem, ⟨21, _⟩ => ⟨S256x6144, .bf16⟩
  | .local _ .vmem, ⟨22, _⟩ => ⟨S3x6144, .f32⟩
  | .local _ .vmem, ⟨23, _⟩ => ⟨S1x6144, .f32⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S256x1024, .bf16⟩
  | .local _ .vmem, ⟨30, _⟩ => ⟨S256x1024, .bf16⟩
  | .local _ .vmem, ⟨31, _⟩ => ⟨S1x1024, .f32⟩
  | .local _ .vmem, ⟨32, _⟩ => ⟨S8x6144, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_v53 : Ref sig .tc := ⟨.hbm, 71, rfl⟩
abbrev main_cst_5 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_7 : Ref sig .tc := ⟨.hbm, 80, rfl⟩
abbrev main_v60 : Ref sig .tc := ⟨.hbm, 81, rfl⟩
abbrev main_v61 : Ref sig .tc := ⟨.hbm, 82, rfl⟩
abbrev main_cst_8 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_9 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_11 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_14 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96_0 : Ref sig .tc := ⟨.hbm, 124, rfl⟩
abbrev main_v96_1 : Ref sig .tc := ⟨.hbm, 125, rfl⟩
abbrev main_v96_2 : Ref sig .tc := ⟨.hbm, 126, rfl⟩
abbrev main_v96_3 : Ref sig .tc := ⟨.hbm, 127, rfl⟩
abbrev main_v96_4 : Ref sig .tc := ⟨.hbm, 128, rfl⟩
abbrev main_v96_5 : Ref sig .tc := ⟨.hbm, 129, rfl⟩
abbrev main_v96_6 : Ref sig .tc := ⟨.hbm, 130, rfl⟩
abbrev main_v96_7 : Ref sig .tc := ⟨.hbm, 131, rfl⟩
abbrev main_v96_8 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem20_1 : DmaSem sig := 30
abbrev cc0_sem21_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x6144 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x6144 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceFfnIdeal.lean ====
abbrev S8192x1024 : Shape := ⟨2, ![8192, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6144 : Shape := ⟨2, ![8192, 6144]⟩
abbrev S2x6144 : Shape := ⟨2, ![2, 6144]⟩
abbrev S8194x6144 : Shape := ⟨2, ![8194, 6144]⟩
abbrev S1x6144 : Shape := ⟨2, ![1, 6144]⟩
abbrev S8192x3072 : Shape := ⟨2, ![8192, 3072]⟩

abbrev nBuf : Space → Nat
  | .hbm => 229
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S1024, .f32⟩
  | 5 => ⟨S1024, .f32⟩
  | 6 => ⟨S1024, .f32⟩
  | 7 => ⟨S1024, .f32⟩
  | 8 => ⟨S1024x6144, .f32⟩
  | 9 => ⟨S3x6144, .f32⟩
  | 10 => ⟨S6144, .f32⟩
  | 11 => ⟨S3072x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S1x1024, .f32⟩
  | 30 => ⟨S8192x1024, .f32⟩
  | 31 => ⟨S8192x1024, .f32⟩
  | 32 => ⟨S1x1024, .f32⟩
  | 33 => ⟨S_, .f32⟩
  | 34 => ⟨S1x1024, .f32⟩
  | 35 => ⟨S1x1024, .f32⟩
  | 36 => ⟨S8192x1024, .f32⟩
  | 37 => ⟨S8192x1024, .f32⟩
  | 38 => ⟨S1x1024, .f32⟩
  | 39 => ⟨S8192x1024, .f32⟩
  | 40 => ⟨S8192x1024, .f32⟩
  | 41 => ⟨S8192x6144, .f32⟩
  | 42 => ⟨S_, .f32⟩
  | 43 => ⟨S2x6144, .f32⟩
  | 44 => ⟨S8194x6144, .f32⟩
  | 45 => ⟨S_, .f32⟩
  | 46 => ⟨S2x6144, .f32⟩
  | 47 => ⟨S8192x6144, .f32⟩
  | 48 => ⟨S1x6144, .f32⟩
  | 49 => ⟨S6144, .f32⟩
  | 50 => ⟨S1x6144, .f32⟩
  | 51 => ⟨S8192x6144, .f32⟩
  | 52 => ⟨S8192x6144, .f32⟩
  | 53 => ⟨S1x6144, .f32⟩
  | 54 => ⟨S8192x6144, .f32⟩
  | 55 => ⟨S8192x6144, .f32⟩
  | 56 => ⟨S8192x6144, .f32⟩
  | 57 => ⟨S1x6144, .f32⟩
  | 58 => ⟨S6144, .f32⟩
  | 59 => ⟨S1x6144, .f32⟩
  | 60 => ⟨S8192x6144, .f32⟩
  | 61 => ⟨S8192x6144, .f32⟩
  | 62 => ⟨S8192x6144, .f32⟩
  | 63 => ⟨S8192x6144, .f32⟩
  | 64 => ⟨S1x6144, .f32⟩
  | 65 => ⟨S6144, .f32⟩
  | 66 => ⟨S1x6144, .f32⟩
  | 67 => ⟨S8192x6144, .f32⟩
  | 68 => ⟨S8192x6144, .f32⟩
  | 69 => ⟨S8192x6144, .f32⟩
  | 70 => ⟨S8192x3072, .f32⟩
  | 71 => ⟨S8192x3072, .f32⟩
  | 72 => ⟨S8192x3072, .f32⟩
  | 73 => ⟨S8192x3072, .f32⟩
  | 74 => ⟨S8192x3072, .f32⟩
  | 75 => ⟨S_, .f32⟩
  | 76 => ⟨S8192x3072, .f32⟩
  | 77 => ⟨S8192x3072, .f32⟩
  | 78 => ⟨S_, .f32⟩
  | 79 => ⟨S8192x3072, .f32⟩
  | 80 => ⟨S8192x3072, .f32⟩
  | 81 => ⟨S8192x3072, .f32⟩
  | 82 => ⟨S_, .f32⟩
  | 83 => ⟨S8192x3072, .f32⟩
  | 84 => ⟨S8192x3072, .f32⟩
  | 85 => ⟨S8192x3072, .f32⟩
  | 86 => ⟨S_, .f32⟩
  | 87 => ⟨S8192x3072, .f32⟩
  | 88 => ⟨S8192x3072, .f32⟩
  | 89 => ⟨S_, .f32⟩
  | 90 => ⟨S8192x3072, .f32⟩
  | 91 => ⟨S8192x3072, .f32⟩
  | 92 => ⟨S8192x3072, .f32⟩
  | 93 => ⟨S_, .f32⟩
  | 94 => ⟨S8192x3072, .f32⟩
  | 95 => ⟨S8192x3072, .f32⟩
  | 96 => ⟨S_, .f32⟩
  | 97 => ⟨S8192x3072, .f32⟩
  | 98 => ⟨S8192x3072, .f32⟩
  | 99 => ⟨S8192x3072, .f32⟩
  | 100 => ⟨S8192x3072, .f32⟩
  | 101 => ⟨S8192x1024, .f32⟩
  | 102 => ⟨S8192x3072, .f32⟩
  | 103 => ⟨S8192x3072, .f32⟩
  | 104 => ⟨S8192x3072, .f32⟩
  | 105 => ⟨S8192x3072, .f32⟩
  | 106 => ⟨S8192x3072, .f32⟩
  | 107 => ⟨S_, .f32⟩
  | 108 => ⟨S8192x3072, .f32⟩
  | 109 => ⟨S8192x3072, .f32⟩
  | 110 => ⟨S8192x3072, .f32⟩
  | 111 => ⟨S_, .f32⟩
  | 112 => ⟨S8192x3072, .f32⟩
  | 113 => ⟨S8192x3072, .f32⟩
  | 114 => ⟨S8192x3072, .f32⟩
  | 115 => ⟨S_, .f32⟩
  | 116 => ⟨S8192x3072, .f32⟩
  | 117 => ⟨S8192x3072, .f32⟩
  | 118 => ⟨S8192x3072, .f32⟩
  | 119 => ⟨S8192x3072, .f32⟩
  | 120 => ⟨S8192x6144, .f32⟩
  | 121 => ⟨S8192x6144, .f32⟩
  | 122 => ⟨S_, .f32⟩
  | 123 => ⟨S6144, .f32⟩
  | 124 => ⟨S1x6144, .f32⟩
  | 125 => ⟨S8192x6144, .f32⟩
  | 126 => ⟨S8192x6144, .f32⟩
  | 127 => ⟨S_, .f32⟩
  | _ => ⟨S8192x1024, .f32⟩

abbrev hbmTy0_1 (i : Nat) : BufTy := match i % 128 with
  | 0 => ⟨S6144, .f32⟩
  | 1 => ⟨S1x6144, .f32⟩
  | 2 => ⟨S_, .f32⟩
  | 3 => ⟨S3x6144, .f32⟩
  | 4 => ⟨S_, .f32⟩
  | 5 => ⟨S8194x6144, .f32⟩
  | 6 => ⟨S8192x6144, .f32⟩
  | 7 => ⟨S_, .f32⟩
  | 8 => ⟨S6144, .f32⟩
  | 9 => ⟨S1x6144, .f32⟩
  | 10 => ⟨S8192x6144, .f32⟩
  | 11 => ⟨S8192x6144, .f32⟩
  | 12 => ⟨S_, .f32⟩
  | 13 => ⟨S6144, .f32⟩
  | 14 => ⟨S1x6144, .f32⟩
  | 15 => ⟨S_, .f32⟩
  | 16 => ⟨S3x6144, .f32⟩
  | 17 => ⟨S3x6144, .f32⟩
  | 18 => ⟨S_, .f32⟩
  | 19 => ⟨S8194x6144, .f32⟩
  | 20 => ⟨S8194x6144, .f32⟩
  | 21 => ⟨S_, .f32⟩
  | 22 => ⟨S6144, .f32⟩
  | 23 => ⟨S1x6144, .f32⟩
  | 24 => ⟨S_, .f32⟩
  | 25 => ⟨S6144, .f32⟩
  | 26 => ⟨S8192x6144, .f32⟩
  | 27 => ⟨S_, .f32⟩
  | 28 => ⟨S6144, .f32⟩
  | 29 => ⟨S1x6144, .f32⟩
  | 30 => ⟨S8192x6144, .f32⟩
  | 31 => ⟨S8192x6144, .f32⟩
  | 32 => ⟨S_, .f32⟩
  | 33 => ⟨S6144, .f32⟩
  | 34 => ⟨S1x6144, .f32⟩
  | 35 => ⟨S_, .f32⟩
  | 36 => ⟨S3x6144, .f32⟩
  | 37 => ⟨S3x6144, .f32⟩
  | 38 => ⟨S_, .f32⟩
  | 39 => ⟨S8194x6144, .f32⟩
  | 40 => ⟨S8194x6144, .f32⟩
  | 41 => ⟨S2x6144, .f32⟩
  | 42 => ⟨S8192x6144, .f32⟩
  | 43 => ⟨S8192x1024, .f32⟩
  | 44 => ⟨S_, .f32⟩
  | 45 => ⟨S1024, .f32⟩
  | 46 => ⟨S1x1024, .f32⟩
  | 47 => ⟨S_, .f32⟩
  | 48 => ⟨S1024, .f32⟩
  | 49 => ⟨S8192x1024, .f32⟩
  | 50 => ⟨S_, .f32⟩
  | 51 => ⟨S1024, .f32⟩
  | 52 => ⟨S1x1024, .f32⟩
  | 53 => ⟨S8192x1024, .f32⟩
  | 54 => ⟨S8192x1024, .f32⟩
  | 55 => ⟨S_, .f32⟩
  | 56 => ⟨S1024, .f32⟩
  | 57 => ⟨S8192x1024, .f32⟩
  | 58 => ⟨S_, .f32⟩
  | 59 => ⟨S1024, .f32⟩
  | 60 => ⟨S1x1024, .f32⟩
  | 61 => ⟨S8192x1024, .f32⟩
  | 62 => ⟨S8192x1024, .f32⟩
  | 63 => ⟨S_, .f32⟩
  | 64 => ⟨S1024, .f32⟩
  | 65 => ⟨S8192x1024, .f32⟩
  | 66 => ⟨S_, .f32⟩
  | 67 => ⟨S8192, .f32⟩
  | 68 => ⟨S8192x1, .f32⟩
  | 69 => ⟨S8192x1024, .f32⟩
  | 70 => ⟨S8192x1024, .f32⟩
  | 71 => ⟨S8192x1024, .f32⟩
  | 72 => ⟨S8192x1, .f32⟩
  | 73 => ⟨S_, .f32⟩
  | 74 => ⟨S8192x1, .f32⟩
  | 75 => ⟨S8192x1, .f32⟩
  | 76 => ⟨S_, .f32⟩
  | 77 => ⟨S8192, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S1x1024, .f32⟩
  | 84 => ⟨S8192x1024, .f32⟩
  | 85 => ⟨S8192x1024, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S_, .f32⟩
  | 93 => ⟨S1024, .f32⟩
  | 94 => ⟨S8192x6144, .bf16⟩
  | 95 => ⟨S1x6144, .f32⟩
  | 96 => ⟨S1x1024, .f32⟩
  | 97 => ⟨S1x1024, .f32⟩
  | 98 => ⟨S1x1024, .f32⟩
  | 99 => ⟨S8192x1024, .bf16⟩
  | 100 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_9 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_13 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_14 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_15 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_16 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_17 : Ref sig .tc := ⟨.hbm, 127, rfl⟩
abbrev main_v97 : Ref sig .tc := ⟨.hbm, 128, rfl⟩
abbrev main_v98 : Ref sig .tc := ⟨.hbm, 129, rfl⟩
abbrev main_cst_18 : Ref sig .tc := ⟨.hbm, 130, rfl⟩
abbrev main_v99 : Ref sig .tc := ⟨.hbm, 131, rfl⟩
abbrev main_cst_19 : Ref sig .tc := ⟨.hbm, 132, rfl⟩
abbrev main_v100 : Ref sig .tc := ⟨.hbm, 133, rfl⟩
abbrev main_v101 : Ref sig .tc := ⟨.hbm, 134, rfl⟩
abbrev main_cst_20 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_21 : Ref sig .tc := ⟨.hbm, 140, rfl⟩
abbrev main_v106 : Ref sig .tc := ⟨.hbm, 141, rfl⟩
abbrev main_v107 : Ref sig .tc := ⟨.hbm, 142, rfl⟩
abbrev main_cst_22 : Ref sig .tc := ⟨.hbm, 143, rfl⟩
abbrev main_v108 : Ref sig .tc := ⟨.hbm, 144, rfl⟩
abbrev main_v109 : Ref sig .tc := ⟨.hbm, 145, rfl⟩
abbrev main_cst_23 : Ref sig .tc := ⟨.hbm, 146, rfl⟩
abbrev main_v110 : Ref sig .tc := ⟨.hbm, 147, rfl⟩
abbrev main_v111 : Ref sig .tc := ⟨.hbm, 148, rfl⟩
abbrev main_cst_24 : Ref sig .tc := ⟨.hbm, 149, rfl⟩
abbrev main_v112 : Ref sig .tc := ⟨.hbm, 150, rfl⟩
abbrev main_v113 : Ref sig .tc := ⟨.hbm, 151, rfl⟩
abbrev main_cst_25 : Ref sig .tc := ⟨.hbm, 152, rfl⟩
abbrev main_v114 : Ref sig .tc := ⟨.hbm, 153, rfl⟩
abbrev main_v115 : Ref sig .tc := ⟨.hbm, 154, rfl⟩
abbrev main_cst_26 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_27 : Ref sig .tc := ⟨.hbm, 160, rfl⟩
abbrev main_v120 : Ref sig .tc := ⟨.hbm, 161, rfl⟩
abbrev main_v121 : Ref sig .tc := ⟨.hbm, 162, rfl⟩
abbrev main_cst_28 : Ref sig .tc := ⟨.hbm, 163, rfl⟩
abbrev main_v122 : Ref sig .tc := ⟨.hbm, 164, rfl⟩
abbrev main_v123 : Ref sig .tc := ⟨.hbm, 165, rfl⟩
abbrev main_cst_29 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_30 : Ref sig .tc := ⟨.hbm, 172, rfl⟩
abbrev main_v129 : Ref sig .tc := ⟨.hbm, 173, rfl⟩
abbrev main_v130 : Ref sig .tc := ⟨.hbm, 174, rfl⟩
abbrev main_cst_31 : Ref sig .tc := ⟨.hbm, 175, rfl⟩
abbrev main_v131 : Ref sig .tc := ⟨.hbm, 176, rfl⟩
abbrev main_v132 : Ref sig .tc := ⟨.hbm, 177, rfl⟩
abbrev main_cst_32 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_33 : Ref sig .tc := ⟨.hbm, 183, rfl⟩
abbrev main_v137 : Ref sig .tc := ⟨.hbm, 184, rfl⟩
abbrev main_v138 : Ref sig .tc := ⟨.hbm, 185, rfl⟩
abbrev main_cst_34 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_cst_35 : Ref sig .tc := ⟨.hbm, 191, rfl⟩
abbrev main_v143 : Ref sig .tc := ⟨.hbm, 192, rfl⟩
abbrev main_v144 : Ref sig .tc := ⟨.hbm, 193, rfl⟩
abbrev main_cst_36 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_cst_37 : Ref sig .tc := ⟨.hbm, 201, rfl⟩
abbrev main_v151 : Ref sig .tc := ⟨.hbm, 202, rfl⟩
abbrev main_v152 : Ref sig .tc := ⟨.hbm, 203, rfl⟩
abbrev main_cst_38 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_cst_39 : Ref sig .tc := ⟨.hbm, 217, rfl⟩
abbrev main_v165 : Ref sig .tc := ⟨.hbm, 218, rfl⟩
abbrev main_v166 : Ref sig .tc := ⟨.hbm, 219, rfl⟩
abbrev main_cst_40 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩

abbrev nD : Nat := 1
abbrev τ : Topo := Topo.v7x

variable {F : FTy → Type} [FloatOps F]
-- ==== KernelUpFwd.lean ====
abbrev S8192x1024 : Shape := ⟨2, ![8192, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S1024x4x1536 : Shape := ⟨3, ![1024, 4, 1536]⟩
abbrev S4x1024x1536 : Shape := ⟨3, ![4, 1024, 1536]⟩
abbrev S1x1024 : Shape := ⟨2, ![1, 1024]⟩
abbrev S1x6144 : Shape := ⟨2, ![1, 6144]⟩
abbrev S8192x6144 : Shape := ⟨2, ![8192, 6144]⟩
abbrev S8192x3072 : Shape := ⟨2, ![8192, 3072]⟩
abbrev S1x128 : Shape := ⟨2, ![1, 128]⟩
abbrev S256x1024 : Shape := ⟨2, ![256, 1024]⟩
abbrev S256x6144 : Shape := ⟨2, ![256, 6144]⟩
abbrev S256x3072 : Shape := ⟨2, ![256, 3072]⟩
abbrev S8x6144 : Shape := ⟨2, ![8, 6144]⟩
abbrev S256 : Shape := ⟨1, ![256]⟩
abbrev S256x1 : Shape := ⟨2, ![256, 1]⟩
abbrev S1x1024x768 : Shape := ⟨3, ![1, 1024, 768]⟩
abbrev S1024x768 : Shape := ⟨2, ![1024, 768]⟩
abbrev S256x768 : Shape := ⟨2, ![256, 768]⟩
abbrev S8x768 : Shape := ⟨2, ![8, 768]⟩
abbrev S1x768 : Shape := ⟨2, ![1, 768]⟩
abbrev S248x768 : Shape := ⟨2, ![248, 768]⟩
abbrev S768x1024 : Shape := ⟨2, ![768, 1024]⟩
abbrev S1 : Shape := ⟨1, ![1]⟩
abbrev S1x1 : Shape := ⟨2, ![1, 1]⟩

abbrev nBuf : Space → Nat
  | .hbm => 31
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x6144, .f32⟩
  | .hbm, ⟨7, _⟩ => ⟨S3x6144, .f32⟩
  | .hbm, ⟨8, _⟩ => ⟨S6144, .f32⟩
  | .hbm, ⟨9, _⟩ => ⟨S3072x1024, .f32⟩
  | .hbm, ⟨10, _⟩ => ⟨S8192x1024, .f32⟩
  | .hbm, ⟨11, _⟩ => ⟨S1024x4x1536, .f32⟩
  | .hbm, ⟨12, _⟩ => ⟨S4x1024x1536, .f32⟩
  | .hbm, ⟨13, _⟩ => ⟨S4x1024x1536, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S3072x1024, .bf16⟩
  | .hbm, ⟨20, _⟩ => ⟨S1x6144, .f32⟩
  | .hbm, ⟨21, _⟩ => ⟨S8192x1024, .bf16⟩
  | .hbm, ⟨22, _⟩ => ⟨S8192x6144, .bf16⟩
  | .hbm, ⟨23, _⟩ => ⟨S8192x3072, .bf16⟩
  | .hbm, ⟨24, _⟩ => ⟨S8192x3072, .bf16⟩
  | .hbm, ⟨25, _⟩ => ⟨S8192x3072, .bf16⟩
  | .hbm, ⟨26, _⟩ => ⟨S1x128, .f32⟩
  | .hbm, ⟨27, _⟩ => ⟨S8192x1024, .f32⟩
  | .hbm, ⟨28, _⟩ => ⟨S8192x1024, .bf16⟩
  | .hbm, ⟨29, _⟩ => ⟨S1x1024, .f32⟩
  | .hbm, ⟨30, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S4x1024x1536, .bf16⟩
  | .local _ .vmem, ⟨8, _⟩ => ⟨S3072x1024, .bf16⟩
  | .local _ .vmem, ⟨9, _⟩ => ⟨S3x6144, .f32⟩
  | .local _ .vmem, ⟨10, _⟩ => ⟨S1x6144, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x6144, .bf16⟩
  | .local _ .vmem, ⟨16, _⟩ => ⟨S256x6144, .bf16⟩
  | .local _ .vmem, ⟨17, _⟩ => ⟨S256x3072, .bf16⟩
  | .local _ .vmem, ⟨18, _⟩ => ⟨S256x3072, .bf16⟩
  | .local _ .vmem, ⟨19, _⟩ => ⟨S256x3072, .bf16⟩
  | .local _ .vmem, ⟨20, _⟩ => ⟨S256x3072, .bf16⟩
  | .local _ .vmem, ⟨21, _⟩ => ⟨S256x3072, .bf16⟩
  | .local _ .vmem, ⟨22, _⟩ => ⟨S256x3072, .bf16⟩
  | .local _ .vmem, ⟨23, _⟩ => ⟨S1x128, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S1x1024, .f32⟩
  | .local _ .vmem, ⟨29, _⟩ => ⟨S1x1024, .f32⟩
  | .local _ .vmem, ⟨30, _⟩ => ⟨S8x6144, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev main_v10_6 : Ref sig .tc := ⟨.hbm, 27, rfl⟩
abbrev main_v10_7 : Ref sig .tc := ⟨.hbm, 28, rfl⟩
abbrev main_v10_8 : Ref sig .tc := ⟨.hbm, 29, rfl⟩
abbrev main_v10_9 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg20_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem20_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x6144 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceUpFwdIdeal.lean ====
abbrev S8192x1024 : Shape := ⟨2, ![8192, 1024]⟩
abbrev S1024 : Shape := ⟨1, ![1024]⟩
abbrev S1024x6144 : Shape := ⟨2, ![1024, 6144]⟩
abbrev S3x6144 : Shape := ⟨2, ![3, 6144]⟩
abbrev S6144 : Shape := ⟨1, ![6144]⟩
abbrev S3072x1024 : Shape := ⟨2, ![3072, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6144 : Shape := ⟨2, ![8192, 6144]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x6144, .f32⟩
  | .hbm, ⟨7, _⟩ => ⟨S3x6144, .f32⟩
  | .hbm, ⟨8, _⟩ => ⟨S6144, .f32⟩
  | .hbm, ⟨9, _⟩ => ⟨S3072x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x6144, .f32⟩
  | .hbm, ⟨38, _⟩ => ⟨S8192x6144, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== KernelMod.lean ====
abbrev S8x1024 : Shape := ⟨2, ![8, 1024]⟩
abbrev S1024x1536 : Shape := ⟨2, ![1024, 1536]⟩
abbrev S1x1536 : Shape := ⟨2, ![1, 1536]⟩
abbrev S8x1536 : Shape := ⟨2, ![8, 1536]⟩
abbrev S1024x512 : Shape := ⟨2, ![1024, 512]⟩
abbrev S1x512 : Shape := ⟨2, ![1, 512]⟩
abbrev S8x512 : Shape := ⟨2, ![8, 512]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S1x1536, .f32⟩
  | .hbm, ⟨3, _⟩ => ⟨S8x1536, .f32⟩
  | .local _ .vmem, ⟨0, _⟩ => ⟨S8x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S8x512, .f32⟩
  | .local _ .vmem, ⟨6, _⟩ => ⟨S8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceModIdeal.lean ====
abbrev S8x1024 : Shape := ⟨2, ![8, 1024]⟩
abbrev S1024x1536 : Shape := ⟨2, ![1024, 1536]⟩
abbrev S1x1536 : Shape := ⟨2, ![1, 1536]⟩
abbrev S_ : Shape := ⟨0, ![]⟩
abbrev S8x1536 : Shape := ⟨2, ![8, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x1536, .f32⟩
  | .hbm, ⟨2, _⟩ => ⟨S1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1536, .f32⟩
  | .hbm, ⟨13, _⟩ => ⟨S8x1536, .f32⟩
  | .hbm, ⟨14, _⟩ => ⟨S8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== KernelAda.lean ====
abbrev S8x1024 : Shape := ⟨2, ![8, 1024]⟩
abbrev S8x1536 : Shape := ⟨2, ![8, 1536]⟩
abbrev S1024x1536 : Shape := ⟨2, ![1024, 1536]⟩
abbrev S1024x8 : Shape := ⟨2, ![1024, 8]⟩
abbrev S256x8 : Shape := ⟨2, ![256, 8]⟩
abbrev S256x1536 : Shape := ⟨2, ![256, 1536]⟩
abbrev S256x1 : Shape := ⟨2, ![256, 1]⟩
abbrev S1x1536 : Shape := ⟨2, ![1, 1536]⟩

abbrev nBuf : Space → Nat
  | .hbm => 10
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x8, .f32⟩
  | .hbm, ⟨6, _⟩ => ⟨S1024x1536, .f32⟩
  | .hbm, ⟨7, _⟩ => ⟨S1024x1536, .f32⟩
  | .hbm, ⟨8, _⟩ => ⟨S1024x1536, .f32⟩
  | .hbm, ⟨9, _⟩ => ⟨S1024x1536, .f32⟩
  | .local _ .vmem, ⟨0, _⟩ => ⟨S256x8, .f32⟩
  | .local _ .vmem, ⟨1, _⟩ => ⟨S256x8, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdaIdeal.lean ====
abbrev S8x1024 : Shape := ⟨2, ![8, 1024]⟩
abbrev S8x1536 : Shape := ⟨2, ![8, 1536]⟩
abbrev S1024x1536 : Shape := ⟨2, ![1024, 1536]⟩
abbrev S_ : Shape := ⟨0, ![]⟩
abbrev S1536x1024 : Shape := ⟨2, ![1536, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1536, .f32⟩
  | .hbm, ⟨15, _⟩ => ⟨S1536x1024, .f32⟩
  | .hbm, ⟨16, _⟩ => ⟨S1024x1536, .f32⟩
  | .hbm, ⟨17, _⟩ => ⟨S_, .f32⟩
  | .hbm, ⟨18, _⟩ => ⟨S1024x1536, .f32⟩
  | .hbm, ⟨19, _⟩ => ⟨S1024x1536, .f32⟩
  | .hbm, ⟨20, _⟩ => ⟨S_, .f32⟩
  | .hbm, ⟨21, _⟩ => ⟨S1024x1536, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S1024x1536, .f32⟩
  | .hbm, ⟨28, _⟩ => ⟨S_, .f32⟩
  | .hbm, ⟨29, _⟩ => ⟨S1024x1536, .f32⟩
  | .hbm, ⟨30, _⟩ => ⟨S1024x1536, .f32⟩
  | .hbm, ⟨31, _⟩ => ⟨S1024x1536, .f32⟩
  | .hbm, ⟨32, _⟩ => ⟨S_, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | .hbm, ⟨42, _⟩ => ⟨S1024x1536, .f32⟩
  | .hbm, ⟨43, _⟩ => ⟨S_, .f32⟩
  | .hbm, ⟨44, _⟩ => ⟨S1024x1536, .f32⟩
  | .hbm, ⟨45, _⟩ => ⟨S1024x1536, .f32⟩
  | .hbm, ⟨46, _⟩ => ⟨S1024x1536, .f32⟩
  | .hbm, ⟨47, _⟩ => ⟨S_, .f32⟩
  | .hbm, ⟨48, _⟩ => ⟨S1024x1536, .f32⟩
  | .hbm, ⟨49, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== KernelStepUp.lean ====
abbrev S1024x1536 : Shape := ⟨2, ![1024, 1536]⟩
abbrev S256x1536 : Shape := ⟨2, ![256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .hbm, ⟨8, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | .local _ .vmem, ⟨17, _⟩ => ⟨S256x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceStepUpIdeal.lean ====
abbrev S1024x1536 : Shape := ⟨2, ![1024, 1536]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S_, .f32⟩
  | .hbm, ⟨7, _⟩ => ⟨S1024x1536, .f32⟩
  | .hbm, ⟨8, _⟩ => ⟨S1024x1536, .f32⟩
  | .hbm, ⟨9, _⟩ => ⟨S_, .f32⟩
  | .hbm, ⟨10, _⟩ => ⟨S1024x1536, .f32⟩
  | .hbm, ⟨11, _⟩ => ⟨S1024x1536, .f32⟩
  | .hbm, ⟨12, _⟩ => ⟨S1024x1536, .f32⟩
  | .hbm, ⟨13, _⟩ => ⟨S_, .f32⟩
  | .hbm, ⟨14, _⟩ => ⟨S1024x1536, .f32⟩
  | .hbm, ⟨15, _⟩ => ⟨S1024x1536, .f32⟩
  | .hbm, ⟨16, _⟩ => ⟨S1024x1536, .f32⟩
  | .hbm, ⟨17, _⟩ => ⟨S_, .f32⟩
  | .hbm, ⟨18, _⟩ => ⟨S1024x1536, .f32⟩
  | .hbm, ⟨19, _⟩ => ⟨S1024x1536, .f32⟩
  | .hbm, ⟨20, _⟩ => ⟨S1024x1536, .f32⟩
  | .hbm, ⟨21, _⟩ => ⟨S_, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S1024x1536, .f32⟩
  | .hbm, ⟨28, _⟩ => ⟨S_, .f32⟩
  | .hbm, ⟨29, _⟩ => ⟨S1024x1536, .f32⟩
  | .hbm, ⟨30, _⟩ => ⟨S1024x1536, .f32⟩
  | .hbm, ⟨31, _⟩ => ⟨S1024x1536, .f32⟩
  | .hbm, ⟨32, _⟩ => ⟨S_, .f32⟩
  | .hbm, ⟨33, _⟩ => ⟨S1024x1536, .f32⟩
  | .hbm, ⟨34, _⟩ => ⟨S1024x1536, .f32⟩
  | .hbm, ⟨35, _⟩ => ⟨S1024x1536, .f32⟩
  | .hbm, ⟨36, _⟩ => ⟨S_, .f32⟩
  | .hbm, ⟨37, _⟩ => ⟨S1024x1536, .f32⟩
  | .hbm, ⟨38, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelStepDown.lean ====
abbrev S768x1024 : Shape := ⟨2, ![768, 1024]⟩
abbrev S384x1024 : Shape := ⟨2, ![384, 1024]⟩

abbrev nBuf : Space → Nat
  | .hbm => 9
  | .vmem => 18
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S768x1024, .f32⟩
  | .hbm, ⟨7, _⟩ => ⟨S768x1024, .f32⟩
  | .hbm, ⟨8, _⟩ => ⟨S768x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | .local _ .vmem, ⟨14, _⟩ => ⟨S384x1024, .f32⟩
  | .local _ .vmem, ⟨15, _⟩ => ⟨S384x1024, .f32⟩
  | .local _ .vmem, ⟨16, _⟩ => ⟨S384x1024, .f32⟩
  | .local _ .vmem, ⟨17, _⟩ => ⟨S384x1024, .f32⟩
  | _, _ => ⟨S768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceStepDownIdeal.lean ====
abbrev S768x1024 : Shape := ⟨2, ![768, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S768x1024, .f32⟩
  | .hbm, ⟨1, _⟩ => ⟨S768x1024, .f32⟩
  | .hbm, ⟨2, _⟩ => ⟨S768x1024, .f32⟩
  | .hbm, ⟨3, _⟩ => ⟨S768x1024, .f32⟩
  | .hbm, ⟨4, _⟩ => ⟨S768x1024, .f32⟩
  | .hbm, ⟨5, _⟩ => ⟨S768x1024, .f32⟩
  | .hbm, ⟨6, _⟩ => ⟨S_, .f32⟩
  | .hbm, ⟨7, _⟩ => ⟨S768x1024, .f32⟩
  | .hbm, ⟨8, _⟩ => ⟨S768x1024, .f32⟩
  | .hbm, ⟨9, _⟩ => ⟨S_, .f32⟩
  | .hbm, ⟨10, _⟩ => ⟨S768x1024, .f32⟩
  | .hbm, ⟨11, _⟩ => ⟨S768x1024, .f32⟩
  | .hbm, ⟨12, _⟩ => ⟨S768x1024, .f32⟩
  | .hbm, ⟨13, _⟩ => ⟨S_, .f32⟩
  | .hbm, ⟨14, _⟩ => ⟨S768x1024, .f32⟩
  | .hbm, ⟨15, _⟩ => ⟨S768x1024, .f32⟩
  | .hbm, ⟨16, _⟩ => ⟨S768x1024, .f32⟩
  | .hbm, ⟨17, _⟩ => ⟨S_, .f32⟩
  | .hbm, ⟨18, _⟩ => ⟨S768x1024, .f32⟩
  | .hbm, ⟨19, _⟩ => ⟨S768x1024, .f32⟩
  | .hbm, ⟨20, _⟩ => ⟨S768x1024, .f32⟩
  | .hbm, ⟨21, _⟩ => ⟨S_, .f32⟩
  | .hbm, ⟨22, _⟩ => ⟨S768x1024, .f32⟩
  | .hbm, ⟨23, _⟩ => ⟨S768x1024, .f32⟩
  | .hbm, ⟨24, _⟩ => ⟨S_, .f32⟩
  | .hbm, ⟨25, _⟩ => ⟨S768x1024, .f32⟩
  | .hbm, ⟨26, _⟩ => ⟨S768x1024, .f32⟩
  | .hbm, ⟨27, _⟩ => ⟨S768x1024, .f32⟩
  | .hbm, ⟨28, _⟩ => ⟨S_, .f32⟩
  | .hbm, ⟨29, _⟩ => ⟨S768x1024, .f32⟩
  | .hbm, ⟨30, _⟩ => ⟨S768x1024, .f32⟩
  | .hbm, ⟨31, _⟩ => ⟨S768x1024, .f32⟩
  | .hbm, ⟨32, _⟩ => ⟨S_, .f32⟩
  | .hbm, ⟨33, _⟩ => ⟨S768x1024, .f32⟩
  | .hbm, ⟨34, _⟩ => ⟨S768x1024, .f32⟩
  | .hbm, ⟨35, _⟩ => ⟨S768x1024, .f32⟩
  | .hbm, ⟨36, _⟩ => ⟨S_, .f32⟩
  | .hbm, ⟨37, _⟩ => ⟨S768x1024, .f32⟩
  | .hbm, ⟨38, _⟩ => ⟨S768x1024, .f32⟩
  | _, _ => ⟨S768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelStepOut.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceStepOutIdeal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.Sigmoid.lean ====
module

public import Idealize.ShloMosaic.Lib.Pipeline.ValueKit
public import Idealize.ShloMosaic.Lib.IdealHost

@[expose] public section

namespace Cert.Sigmoid

open Idealize.ShloMosaic

/-- The logistic function by one tanh, on every extended real. -/
theorem half_tanh (x : EReal) :
    ((2⁻¹ : ℝ) : EReal) * Ideal.tanh (((2⁻¹ : ℝ) : EReal) * x) + ((2⁻¹ : ℝ) : EReal) = Ideal.div 1 (1 + Ideal.exp (-x)) := by
  show _ = Ideal.logistic x
  induction x with
  | bot =>
    rw [EReal.coe_mul_bot_of_pos (by norm_num), Ideal.tanh_bot, Ideal.logistic_bot, ← EReal.coe_one, ← EReal.coe_neg,
      ← EReal.coe_mul, ← EReal.coe_add, ← EReal.coe_zero]
    norm_num
  | top =>
    rw [EReal.coe_mul_top_of_pos (by norm_num), Ideal.tanh_top, Ideal.logistic_top, ← EReal.coe_one, ← EReal.coe_mul,
      ← EReal.coe_add]
    norm_num
  | coe x =>
    rw [← EReal.coe_mul, Ideal.tanh_coe, Ideal.logistic_coe, ← EReal.coe_mul, ← EReal.coe_add, EReal.coe_eq_coe_iff,
      Real.tanh_eq_sinh_div_cosh, Real.sinh_eq, Real.cosh_eq]
    have h : Real.exp (-x) = Real.exp (-(2⁻¹ * x)) * Real.exp (-(2⁻¹ * x)) := by
      rw [← Real.exp_add]; ring_nf
    have h1 : Real.exp (2⁻¹ * x) * Real.exp (-(2⁻¹ * x)) = 1 := by rw [← Real.exp_add]; simp
    rw [h]
    set p := Real.exp (2⁻¹ * x)
    set q := Real.exp (-(2⁻¹ * x))
    have hp : 0 < p := Real.exp_pos _
    have hq : 0 < q := Real.exp_pos _
    field_simp
    nlinarith [h1]

/-- The f32 pattern `0x3F000000` is one half. -/
theorem ofBits_half : Ideal.ofBits .f32 0x3F000000#32 = ((2⁻¹ : ℝ) : EReal) := by
  simp [Ideal.ofBits, Ideal.ieee, -EReal.coe_mul]; norm_num

/-- `half_tanh` with the halves as f32 patterns. -/
theorem half_tanh_bits (x : EReal) :
    Ideal.ofBits .f32 0x3F000000#32 * Ideal.tanh (Ideal.ofBits .f32 0x3F000000#32 * x) + Ideal.ofBits .f32 0x3F000000#32
      = Ideal.div 1 (1 + Ideal.exp (-x)) := by
  rw [ofBits_half, half_tanh]

end Cert.Sigmoid

end
-- ==== Proof.MergeValue.lean ====
module

public import proofs.«01_k».proof.Proof.Gen.KernelIdeal.Frame
public import proofs.«01_k».proof.Proof.Gen.ReferenceIdeal.Read
public import Idealize.ShloMosaic.Lib.Pipeline.ValueKit
public import Idealize.ShloMosaic.Lib.Claim
public import proofs.«01_k».proof.Proof.Sigmoid

@[expose] public section

set_option maxRecDepth 16384

noncomputable section

namespace Cert.MergeValue

open Idealize.ShloMosaic Idealize.ShloMosaic.TcCoe Idealize.SL.Sem
open Idealize.ShloMosaic.Pipeline (Dat)
open Cert.KernelIdeal Cert.KernelIdeal.Gen
open Cert.ReferenceIdeal.Read

variable (m : (ℓ : Loc nD τ sig) → Buf (Elt Ideal) ℓ)

/-- Where every window's block sits at each grid point. -/
theorem idx : ∀ t : Fin cfg0.N, win0_0.index t = ![t.val, 0] ∧ win0_1.index t = ![t.val, 0] ∧ win0_2.index t = ![t.val, 0]
    ∧ win0_3.index t = ![t.val, 4] ∧ win0_4.index t = ![t.val, 5] ∧ win0_5.index t = ![0, 0] ∧ win0_6.index t = ![0, 0]
    ∧ win0_7.index t = ![0, 0] ∧ win0_8.index t = ![t.val, 2] ∧ win0_9.index t = ![t.val, 0] ∧ win0_10.index t = ![t.val, 0]
    ∧ win0_11.index t = ![t.val, 0] ∧ win0_12.index t = ![t.val, 0] :=
  (by decide +kernel : ∀ t : Fin grid0.N, _)

/-- The first branch's gradient: the merge gate times the gradient of the merged value. -/
theorem final9 (c : Dev nD) : (dats m 0 c).arrAt 9 (cfgs 0).N
    = val_main_v38 (F := Ideal) (m ((c : Thread nD τ).loc main_arg2)) (m ((c : Thread nD τ).loc main_arg5)) (m ((c : Thread nD τ).loc main_arg6)) := by
  refine (dats m 0 c).arrAt_eq_of_covers 9 _ (by decide +kernel) fun t _ y => ?_
  blk_simp
  rw [after0_9]; frame_out
  pointwise [k0_pay10, k0_pay11, k0_pay8, k0_pay7, k0_pay6, k0_pay5, k0_pay4, k0_pay3, k0_pay2,
    val_main_v4, val_main_v5, val_main_v6, val_main_v7, val_main_v8, val_main_v9, val_main_v2, val_main_v3, val_main_v13, val_main_v14,
    val_main_v15, val_main_v16, val_main_v17, val_main_v18, val_main_v19, val_main_v26, val_main_v27, val_main_v30, val_main_v33, val_main_v34,
    val_main_v38, val_main_v39, val_main_v40, val_main_v41, val_main_cst, val_main_cst_0, val_main_cst_2, val_main_cst_3]
  simp only [Cert.Sigmoid.half_tanh_bits]
  blk_point [iblk, V, idx t]

/-- The second branch's gradient. -/
theorem final10 (c : Dev nD) : (dats m 0 c).arrAt 10 (cfgs 0).N
    = val_main_v39 (F := Ideal) (m ((c : Thread nD τ).loc main_arg2)) (m ((c : Thread nD τ).loc main_arg5)) (m ((c : Thread nD τ).loc main_arg6)) := by
  refine (dats m 0 c).arrAt_eq_of_covers 10 _ (by decide +kernel) fun t _ y => ?_
  blk_simp
  rw [after0_10]; frame_out
  pointwise [k0_pay10, k0_pay11, k0_pay8, k0_pay7, k0_pay6, k0_pay5, k0_pay4, k0_pay3, k0_pay2,
    val_main_v4, val_main_v5, val_main_v6, val_main_v7, val_main_v8, val_main_v9, val_main_v2, val_main_v3, val_main_v13, val_main_v14,
    val_main_v15, val_main_v16, val_main_v17, val_main_v18, val_main_v19, val_main_v26, val_main_v27, val_main_v30, val_main_v33, val_main_v34,
    val_main_v38, val_main_v39, val_main_v40, val_main_v41, val_main_cst, val_main_cst_0, val_main_cst_2, val_main_cst_3]
  simp only [Cert.Sigmoid.half_tanh_bits]
  blk_point [iblk, V, idx t]

/-- The gradient of the first branch's input: the branch's gradient times the transposed branch weight. -/
theorem final11 (c : Dev nD) : (dats m 0 c).arrAt 11 (cfgs 0).N
    = val_main_v40 (F := Ideal) (m ((c : Thread nD τ).loc main_arg2)) (m ((c : Thread nD τ).loc main_arg3)) (m ((c : Thread nD τ).loc main_arg5)) (m ((c : Thread nD τ).loc main_arg6)) := by
  refine (dats m 0 c).arrAt_eq_of_covers 11 _ (by decide +kernel) fun t _ y => ?_
  blk_simp
  rw [after0_11]; frame_out
  pointwise [k0_pay10, k0_pay11, k0_pay8, k0_pay7, k0_pay6, k0_pay5, k0_pay4, k0_pay3, k0_pay2,
    val_main_v4, val_main_v5, val_main_v6, val_main_v7, val_main_v8, val_main_v9, val_main_v2, val_main_v3, val_main_v13, val_main_v14,
    val_main_v15, val_main_v16, val_main_v17, val_main_v18, val_main_v19, val_main_v26, val_main_v27, val_main_v30, val_main_v33, val_main_v34,
    val_main_v38, val_main_v39, val_main_v40, val_main_v41, val_main_cst, val_main_cst_0, val_main_cst_2, val_main_cst_3]
  simp only [Cert.Sigmoid.half_tanh_bits]
  blk_point [iblk, V, idx t]

/-- The gradient of the second branch's input. -/
theorem final12 (c : Dev nD) : (dats m 0 c).arrAt 12 (cfgs 0).N
    = val_main_v41 (F := Ideal) (m ((c : Thread nD τ).loc main_arg2)) (m ((c : Thread nD τ).loc main_arg4)) (m ((c : Thread nD τ).loc main_arg5)) (m ((c : Thread nD τ).loc main_arg6)) := by
  refine (dats m 0 c).arrAt_eq_of_covers 12 _ (by decide +kernel) fun t _ y => ?_
  blk_simp
  rw [after0_12]; frame_out
  pointwise [k0_pay10, k0_pay11, k0_pay8, k0_pay7, k0_pay6, k0_pay5, k0_pay4, k0_pay3, k0_pay2,
    val_main_v4, val_main_v5, val_main_v6, val_main_v7, val_main_v8, val_main_v9, val_main_v2, val_main_v3, val_main_v13, val_main_v14,
    val_main_v15, val_main_v16, val_main_v17, val_main_v18, val_main_v19, val_main_v26, val_main_v27, val_main_v30, val_main_v33, val_main_v34,
    val_main_v38, val_main_v39, val_main_v40, val_main_v41, val_main_cst, val_main_cst_0, val_main_cst_2, val_main_cst_3]
  simp only [Cert.Sigmoid.half_tanh_bits]
  blk_point [iblk, V, idx t]

end Cert.MergeValue

end
-- ==== Proof.MergeGate.lean ====
module

public import proofs.«01_k».proof.Proof.MergeValue

@[expose] public section

set_option maxRecDepth 16384

noncomputable section

namespace Cert.MergeValue

open Idealize.ShloMosaic Idealize.ShloMosaic.TcCoe Idealize.SL.Sem
open Idealize.ShloMosaic.Pipeline (Dat)
open Cert.KernelIdeal Cert.KernelIdeal.Gen
open Cert.ReferenceIdeal.Read

variable (m : (ℓ : Loc nD τ sig) → Buf (Elt Ideal) ℓ)

/-- The gradient with respect to the gates, over the argument arrays. -/
abbrev REF8 (c : Dev nD) : FVec Ideal S8192x6144 .bf16 :=
  val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The first branch as the kernel finds it: computed by the host before the launch. -/
theorem branch_first (c : Dev nD) (t : Fin cfg0.N) (x : S512x1024.Idx) (j : Cert.ReferenceIdeal.S8192x1024.Idx)
    (hj0 : (j 0 : ℕ) = t.val * 512 + x 0) (hj1 : (j 1 : ℕ) = x 1) :
    iblk m c 1 t x = val_main_v0 (F := Ideal) (m ((c : Thread nD τ).loc main_arg0)) (m ((c : Thread nD τ).loc main_arg3)) j := by
  blk_simp [iblk, idx t]
  entry_read
  pointwise [val_main_v0]
  blk_point [idx t]

/-- The second branch as the kernel finds it: computed by the host before the launch. -/
theorem branch_second (c : Dev nD) (t : Fin cfg0.N) (x : S512x1024.Idx) (j : Cert.ReferenceIdeal.S8192x1024.Idx)
    (hj0 : (j 0 : ℕ) = t.val * 512 + x 0) (hj1 : (j 1 : ℕ) = x 1) :
    iblk m c 2 t x = val_main_v1 (F := Ideal) (m ((c : Thread nD τ).loc main_arg1)) (m ((c : Thread nD τ).loc main_arg4)) j := by
  blk_simp [iblk, idx t]
  entry_read
  pointwise [val_main_v1]
  blk_point [idx t]

/-- One element of the gradient of the second gate. -/
theorem core_second (c : Dev nD) (t : Fin cfg0.N) (x : S512x1024.Idx) (j : S8192x6144.Idx)
    (hj0 : (j 0 : ℕ) = t.val * 512 + x 0) (hj1 : (j 1 : ℕ) = 5120 + x 1) (hx : (x 1 : ℕ) < 1024) :
    k0_pay1 (F := Ideal) (k0_pay4 (iblk m c 0 t) (iblk m c 5 t)) (k0_pay6 (iblk m c 4 t)) (iblk m c 2 t) x = REF8 m c j := by
  pointwise [k0_pay1, k0_pay9, k0_pay4, k0_pay5, k0_pay6, REF8, val_main_v37, val_main_v36, val_main_v29, val_main_v28, val_main_v22, val_main_v21, val_main_v20,
    val_main_v19, val_main_v18, val_main_v17, val_main_v16, val_main_v15, val_main_v14, val_main_v13, val_main_v3,
    val_main_v26, val_main_cst, val_main_cst_0, val_main_cst_1, val_main_cst_2, val_main_cst_3, val_main_cst_4]
  rw [dif_neg (by omega), dif_neg (by omega)]
  simp only [Cert.Sigmoid.half_tanh_bits, mul_assoc]
  rw [branch_second m c t x (ix2 (j 0) ⟨(j 1 : ℕ) - 4096 - 1024, by omega⟩) hj0 (by show (j 1 : ℕ) - 4096 - 1024 = _; omega)]
  blk_point [iblk, V, idx t]

/-- One element of the gradient of the first gate. -/
theorem core_first (c : Dev nD) (t : Fin cfg0.N) (x : S512x1024.Idx) (j : S8192x6144.Idx)
    (hj0 : (j 0 : ℕ) = t.val * 512 + x 0) (hj1 : (j 1 : ℕ) = 4096 + x 1) (hx : (x 1 : ℕ) < 1024) :
    k0_pay9 (F := Ideal) (iblk m c 0 t) (iblk m c 5 t) (iblk m c 3 t) (iblk m c 1 t) x = REF8 m c j := by
  pointwise [k0_pay1, k0_pay9, k0_pay4, k0_pay5, k0_pay6, REF8, val_main_v37, val_main_v36, val_main_v32, val_main_v31, val_main_v12, val_main_v11, val_main_v10,
    val_main_v9, val_main_v8, val_main_v7, val_main_v6, val_main_v5, val_main_v4, val_main_v2,
    val_main_v26, val_main_cst, val_main_cst_0, val_main_cst_1, val_main_cst_2, val_main_cst_3, val_main_cst_4]
  rw [dif_neg (by omega), dif_pos (by omega)]
  simp only [Cert.Sigmoid.half_tanh_bits, mul_assoc]
  rw [branch_first m c t x (ix2 (j 0) ⟨(j 1 : ℕ) - 4096, by omega⟩) hj0 (by show (j 1 : ℕ) - 4096 = _; omega)]
  blk_point [iblk, V, idx t]

/-- One block of `dz`'s gate columns. -/
theorem block8 (c : Dev nD) (t : Fin cfg0.N) (y : S512x2048.Idx) (j : S8192x6144.Idx)
    (hj0 : (j 0 : ℕ) = t.val * 512 + y 0) (hj1 : (j 1 : ℕ) = 4096 + y 1) :
    out0_8 (F := Ideal) (iblk m c 0 t) (iblk m c 1 t) (iblk m c 2 t) (iblk m c 3 t) (iblk m c 4 t) (iblk m c 5 t) (iblk m c 6 t) (iblk m c 7 t) y
      = REF8 m c j := by
  canon_tiles x h
  · frame_out
    exact core_second m c t x j (by omega) (by omega) x1_lt
  · frame_out
    exact core_first m c t x j (by omega) (by omega) x1_lt

/-- The gradient of the gates: the part of `dz` from column 4096 on. -/
theorem final8 (c : Dev nD) (i : S8192x6144.Idx) (hi : 4096 ≤ (i 1 : ℕ)) :
    (dats m 0 c).arrAt 8 (cfgs 0).N i = REF8 m c i := by
  have h := congrFun ((dats m 0 c).arrAt_eq_of_coversWhere 8 (P := fun i : S8192x6144.Idx => 4096 ≤ (i 1 : ℕ)) (REF8 m c)
    (fun β => 2 ≤ β (1 : Fin _)) (by decide +kernel)
    (fun t hf y => by
      blk_simp
      rw [after0_8]
      refine block8 m c t y _ ?_ ?_ <;> blk_simp [idx t] <;> omega)
    (fun j => by blk_simp [Pipeline.Window.cell_apply]; omega)) i
  rw [if_pos hi] at h
  exact h

end Cert.MergeValue

end
-- ==== Proof.Merge.lean ====
module

public import proofs.«01_k».proof.Defs
public import proofs.«01_k».proof.Proof.Gen.KernelIdeal.Value
public import proofs.«01_k».proof.Proof.Gen.ReferenceIdeal.Run
public import proofs.«01_k».proof.Proof.MergeGate

@[expose] public section

set_option maxRecDepth 16384

noncomputable section

namespace Cert.Merge

open Idealize.ShloMosaic Idealize.ShloMosaic.TcCoe Idealize.SL.Sem
open Cert.ReferenceIdeal.Read

/-- The mask's side conditions. -/
instance gate_facts : Cert.On_gate_columns.Facts := by
  constructor <;> decide

/-- On `dz` the mask is set only from column 4096 on. -/
theorem mask_dz (a0 a1 : FVec Ideal ⟨2, ![8192, 1024]⟩ .f32) (a2 : FVec Ideal ⟨2, ![8192, 6144]⟩ .f32)
    (a3 a4 a5 : FVec Ideal ⟨2, ![1024, 1024]⟩ .f32) (a6 : FVec Ideal ⟨2, ![8192, 1024]⟩ .f32) (i : (⟨2, ![8192, 6144]⟩ : Shape).Idx)
    (h : (Cert.On_gate_columns.fn (F := Ideal) a0 a1 a2 a3 a4 a5 a6).1 i = 1#1) : 4096 ≤ (i 1 : ℕ) := by
  have h1 : (i 1 : ℕ) < 6144 := (i 1).isLt
  by_contra hlt
  have e : (Cert.On_gate_columns.fn (F := Ideal) a0 a1 a2 a3 a4 a5 a6).1 i
      = BitVec.ofBool ((4096#32).sle (BitVec.ofNat 32 (i 1 : ℕ))) := rfl
  rw [e] at h
  have : (4096#32).sle (BitVec.ofNat 32 (i 1 : ℕ)) = false := by
    rw [BitVec.sle_eq_decide, decide_eq_false_iff_not]
    have e2 : (BitVec.ofNat 32 (i 1 : ℕ)).toInt = ((i 1 : ℕ) : ℤ) := by
      rw [BitVec.toInt_eq_toNat_of_lt (by rw [BitVec.toNat_ofNat]; omega), BitVec.toNat_ofNat]; omega
    have e3 : (4096#32).toInt = 4096 := by decide
    rw [e2, e3]; omega
  rw [this] at h
  exact absurd h (by decide)

/-- Kernel and reference end with the same five arrays, `dz` on the gates' columns. -/
theorem algebraic : Cert.algebraic_KernelIdeal_ReferenceIdeal_on_gate_columns
    (hKernelIdeal := Cert.KernelIdeal.Gen.facts) (hReferenceIdeal := Cert.ReferenceIdeal.Gen.facts) := by
  intro m g m' g' hpre hagree
  refine ⟨fun c => Cert.MergeValue.REF8 m c, fun c => (Cert.KernelIdeal.Gen.dats m 0 c).arrAt 9 Cert.KernelIdeal.cfg0.N,
    fun c => (Cert.KernelIdeal.Gen.dats m 0 c).arrAt 10 Cert.KernelIdeal.cfg0.N, fun c => (Cert.KernelIdeal.Gen.dats m 0 c).arrAt 11 Cert.KernelIdeal.cfg0.N,
    fun c => (Cert.KernelIdeal.Gen.dats m 0 c).arrAt 12 Cert.KernelIdeal.cfg0.N, ?_, ?_⟩
  · refine (θ_run _ _ _).mono (fun r h c => ?_) (Cert.KernelIdeal.Value.run_blocks m g)
    obtain ⟨h8, h9, h10, h11, h12, hk⟩ := h c
    refine ⟨fun i hi => ?_, fun i _ => congrFun h9 i, fun i _ => congrFun h10 i, fun i _ => congrFun h11 i,
      fun i _ => congrFun h12 i, hk⟩
    exact (congrFun h8 i).trans (Cert.MergeValue.final8 m c i (mask_dz _ _ _ _ _ _ _ i hi))
  · refine (θ_run _ _ _).mono (fun r h c => ?_) (Cert.ReferenceIdeal.Value.run m' g')
    obtain ⟨h8, h9, h10, h11, h12, hk⟩ := h c
    obtain ⟨e0, e1, e2, e3, e4, e5, e6⟩ := hagree c
    refine ⟨fun i _ => ?_, fun i _ => ?_, fun i _ => ?_, fun i _ => ?_, fun i _ => ?_, hk⟩
    · refine (congrFun (h8.trans (val_main_v37_eq _ _ _ _ _ _ _)) i).trans ?_
      rw [e0, e1, e2, e3, e4, e5, e6]
    · refine (congrFun (h9.trans (val_main_v38_eq _ _ _)) i).trans ?_
      rw [e2, e5, e6]
      exact (congrFun (Cert.MergeValue.final9 m c) i).symm
    · refine (congrFun (h10.trans (val_main_v39_eq _ _ _)) i).trans ?_
      rw [e2, e5, e6]
      exact (congrFun (Cert.MergeValue.final10 m c) i).symm
    · refine (congrFun (h11.trans (val_main_v40_eq _ _ _ _)) i).trans ?_
      rw [e2, e3, e5, e6]
      exact (congrFun (Cert.MergeValue.final11 m c) i).symm
    · refine (congrFun (h12.trans (val_main_v41_eq _ _ _ _)) i).trans ?_
      rw [e2, e4, e5, e6]
      exact (congrFun (Cert.MergeValue.final12 m c) i).symm

/-- The reference ends, with its arguments unchanged. -/
theorem frame_reference : Cert.quiescent_ReferenceIdeal (hReferenceIdeal := Cert.ReferenceIdeal.Gen.facts) := by
  intro m g _
  refine (θ_run _ _ _).mono (fun r h => ⟨fun c => ?_, sem_eq_zero_of_no_sems (by decide) r.2⟩) (Cert.ReferenceIdeal.Value.run m g)
  exact (h c).2.2.2.2.2

end Cert.Merge

end
-- ==== Proof.ProductUp.lean ====
module

public import proofs.«01_k».proof.Proof.Gen.KernelUpIdeal.Value
public import proofs.«01_k».proof.Proof.Gen.ReferenceUpIdeal.Read
public import Idealize.ShloMosaic.Lib.Pipeline.ValueKit
public import Idealize.ShloMosaic.Lib.Claim

@[expose] public section

set_option maxRecDepth 16384

noncomputable section

namespace Cert.ProductUp

open Idealize.ShloMosaic Idealize.ShloMosaic.TcCoe Idealize.SL.Sem
open Idealize.ShloMosaic.Pipeline (Dat)
open Cert.KernelUpIdeal Cert.KernelUpIdeal.Gen
open Cert.ReferenceUpIdeal.Read

variable (m : (ℓ : Loc nD τ sig) → Buf (Elt Ideal) ℓ)

/-- Where every window's block sits at each grid point. -/
theorem idx : ∀ t : Fin cfg0.N, win0_0.index t = ![t.val % 4, 0] ∧ win0_1.index t = ![t.val % 4, t.val / 4] ∧ win0_2.index t = ![t.val / 4, 0, 0]
    ∧ win0_3.index t = ![t.val / 4, 0, 0] :=
  (by decide +kernel : ∀ t : Fin grid0.N, _)

/-- The accumulator is cleared to zero. -/
theorem hzero (j : S1x1024x1536.Idx) : k0_pay1 (F := Ideal) j = 0 := by pointwise [k0_pay1]

/-- One point adds the product of its two row blocks, contracted over their rows. -/
theorem hpay (acc : Vec Ideal S1x1024x1536 .f32) (a : Vec Ideal S2048x1024 .bf16) (b : Vec Ideal S2048x1536 .bf16) (j : S1x1024x1536.Idx) :
    k0_pay2 (F := Ideal) acc a b j = acc j + ∑ k : Fin 2048, b (ix2 k (j 2)) * a (ix2 k (j 1)) := by
  pointwise [k0_pay2]
  exact congrArg (acc j + ·) (Finset.sum_congr rfl fun k _ => mul_comm (G := EReal) _ _)

/-- The accumulator at a point that writes it back: the reference's product on that block. -/
theorem run2 (c : Dev nD) (t : Fin cfg0.N) (hf : (cfg0.win 2).flush t = true) (y : S1x1024x1536.Idx) (j : S4x1024x1536.Idx)
    (h0 : (j 0 : ℕ) = t.val / 4) (h1 : (j 1 : ℕ) = (y 1 : ℕ)) (h2 : (j 2 : ℕ) = (y 2 : ℕ)) :
    (outsAt0 m c t.val t.isLt).1 y
      = val_main_v5 (F := Ideal) (m ((c : Thread nD τ).loc main_arg0)) (m ((c : Thread nD τ).loc main_arg1)) j := by
  rw [Pipeline.eq_sum_fin_of_reset_step_apply_of_flush (fun n h => (outsAt0 m c n h).1) 4 (fun _ => 0) _
    (fun t h j => by rw [outsAt0_A m c t h (by omega)]; frame_out; rw [hpay, hzero])
    (fun t h j => by
      by_cases h3 : t.val % 4 = 3
      · rw [outsAt0_C m c t h h3]; frame_out; rw [hpay]
      · rw [outsAt0_B m c t h h3]; frame_out; rw [hpay])
    t ((flush0_2 t).mp hf) _, zero_add]
  pointwise [val_main_v5, val_main_v4, val_main_v3, val_main_v2]
  refine Fin.sum_mul_add_congr fun s k hl => ?_
  blk_point [iblk, V, idx t, idx ⟨_, Pipeline.run_point_lt_of_flush t ((flush0_2 t).mp hf) s⟩]

/-- The weight's gradient. -/
theorem final2 (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine run2 m c t hf y _ ?_ ?_ ?_ <;> (blk_simp [idx t] <;> try omega)

/-- At the last point of a run the second output is the accumulator's cast. -/
theorem cast3 (c : Dev nD) (t : Fin cfg0.N) (hf : (cfg0.win 3).flush t = true) (y : S1x1024x1536.Idx) :
    (outsAt0 m c t.val t.isLt).2 y = (outsAt0 m c t.val t.isLt).1 y := by
  have h := (flush0_3 t).mp hf
  rw [outsAt0_C m c t (by omega) h]
  frame_out
  pointwise [k0_pay3]

/-- Over the reals the rounded gradient is the gradient. -/
theorem rounded (x0 x1) (j : S4x1024x1536.Idx) : val_main_v6 (F := Ideal) x0 x1 j = val_main_v5 (F := Ideal) x0 x1 j := rfl

/-- The weight's gradient, rounded for its transfer (over the reals: itself). -/
theorem final3 (c : Dev nD) : (dats m 0 c).arrAt 3 (cfgs 0).N
    = val_main_v6 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  refine (cast3 m c t hf y).trans (Eq.trans ?_ (rounded _ _ _).symm)
  refine run2 m c t ((flush0_2 t).mpr ((flush0_3 t).mp hf)) y _ ?_ ?_ ?_ <;> (blk_simp [idx t] <;> try omega)

end Cert.ProductUp

end
-- ==== Proof.ProductUpClaim.lean ====
module

public import proofs.«01_k».proof.Defs
public import proofs.«01_k».proof.Proof.Gen.ReferenceUpIdeal.Run
public import proofs.«01_k».proof.Proof.ProductUp

@[expose] public section

set_option maxRecDepth 16384

noncomputable section

namespace Cert.ProductUp

open Idealize.ShloMosaic Idealize.ShloMosaic.TcCoe Idealize.SL.Sem
open Cert.ReferenceUpIdeal.Read

/-- Kernel and reference end with the same gradient, and the same rounded copy of it. -/
theorem algebraic : Cert.algebraic_KernelUpIdeal_ReferenceUpIdeal
    (hKernelUpIdeal := Cert.KernelUpIdeal.Gen.facts) (hReferenceUpIdeal := Cert.ReferenceUpIdeal.Gen.facts) := by
  intro m g m' g' hpre hagree
  refine ⟨fun c => (Cert.KernelUpIdeal.Gen.dats m 0 c).arrAt 2 Cert.KernelUpIdeal.cfg0.N,
    fun c => (Cert.KernelUpIdeal.Gen.dats m 0 c).arrAt 3 Cert.KernelUpIdeal.cfg0.N, Cert.KernelUpIdeal.Value.run_blocks m g, ?_⟩
  refine (θ_run _ _ _).mono (fun r h c => ?_) (Cert.ReferenceUpIdeal.Value.run m' g')
  obtain ⟨h0, h1, hk⟩ := h c
  obtain ⟨e0, e1⟩ := hagree c
  refine ⟨?_, ?_, hk⟩
  · refine (h0.trans (val_main_v5_eq _ _)).trans ?_
    rw [e0, e1]
    exact (final2 m c).symm
  · refine (h1.trans (val_main_v6_eq _ _)).trans ?_
    rw [e0, e1]
    exact (final3 m c).symm

/-- The reference program runs, keeps its arguments and leaves no semaphore raised. -/
theorem frame_reference : Cert.quiescent_ReferenceUpIdeal (hReferenceUpIdeal := Cert.ReferenceUpIdeal.Gen.facts) := by
  intro m g hpre
  refine (θ_run _ _ _).mono (fun r h => ⟨fun c => ?_, sem_eq_zero_of_no_sems (by decide) r.2⟩) (Cert.ReferenceUpIdeal.Value.run m g)
  exact (h c).2.2

end Cert.ProductUp

end
-- ==== Proof.ProductOut.lean ====
module

public import proofs.«01_k».proof.Proof.Gen.KernelOutIdeal.Value
public import proofs.«01_k».proof.Proof.Gen.ReferenceOutIdeal.Read
public import Idealize.ShloMosaic.Lib.Pipeline.ValueKit
public import Idealize.ShloMosaic.Lib.Claim

@[expose] public section

set_option maxRecDepth 16384

noncomputable section

namespace Cert.ProductOut

open Idealize.ShloMosaic Idealize.ShloMosaic.TcCoe Idealize.SL.Sem
open Idealize.ShloMosaic.Pipeline (Dat)
open Cert.KernelOutIdeal Cert.KernelOutIdeal.Gen
open Cert.ReferenceOutIdeal.Read

variable (m : (ℓ : Loc nD τ sig) → Buf (Elt Ideal) ℓ)

/-- Where every window's block sits at each grid point. -/
theorem idx : ∀ t : Fin cfg0.N, win0_0.index t = ![t.val, 0] ∧ win0_1.index t = ![t.val, 0] ∧ win0_2.index t = ![0, 0, 0]
    ∧ win0_3.index t = ![0, 0, 0] :=
  (by decide +kernel : ∀ t : Fin grid0.N, _)

/-- The accumulator is cleared to zero. -/
theorem hzero (j : S1x1024x1024.Idx) : k0_pay1 (F := Ideal) j = 0 := by pointwise [k0_pay1]

/-- One point adds the product of its two row blocks, contracted over their rows. -/
theorem hpay (acc : Vec Ideal S1x1024x1024 .f32) (a : Vec Ideal S2048x1024 .bf16) (b : Vec Ideal S2048x1024 .bf16) (j : S1x1024x1024.Idx) :
    k0_pay2 (F := Ideal) acc a b j = acc j + ∑ k : Fin 2048, b (ix2 k (j 2)) * a (ix2 k (j 1)) := by
  pointwise [k0_pay2]
  exact congrArg (acc j + ·) (Finset.sum_congr rfl fun k _ => mul_comm (G := EReal) _ _)

/-- The accumulator at a point that writes it back: the reference's product on that block. -/
theorem run2 (c : Dev nD) (t : Fin cfg0.N) (hf : (cfg0.win 2).flush t = true) (y : S1x1024x1024.Idx) (j : S1x1024x1024.Idx)
    (h0 : (j 0 : ℕ) = 0) (h1 : (j 1 : ℕ) = (y 1 : ℕ)) (h2 : (j 2 : ℕ) = (y 2 : ℕ)) :
    (outsAt0 m c t.val t.isLt).1 y
      = val_main_v5 (F := Ideal) (m ((c : Thread nD τ).loc main_arg0)) (m ((c : Thread nD τ).loc main_arg1)) j := by
  rw [Pipeline.eq_sum_fin_of_reset_step_apply_of_flush (fun n h => (outsAt0 m c n h).1) 4 (fun _ => 0) _
    (fun t h j => by rw [outsAt0_A m c t h (by omega)]; frame_out; rw [hpay, hzero])
    (fun t h j => by
      by_cases h3 : t.val % 4 = 3
      · rw [outsAt0_C m c t h h3]; frame_out; rw [hpay]
      · rw [outsAt0_B m c t h h3]; frame_out; rw [hpay])
    t ((flush0_2 t).mp hf) _, zero_add]
  pointwise [val_main_v5, val_main_v4, val_main_v3, val_main_v2]
  refine Fin.sum_mul_add_congr fun s k hl => ?_
  blk_point [iblk, V, idx t, idx ⟨_, Pipeline.run_point_lt_of_flush t ((flush0_2 t).mp hf) s⟩]

/-- The weight's gradient. -/
theorem final2 (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine run2 m c t hf y _ ?_ ?_ ?_ <;> (blk_simp [idx t] <;> try omega)

/-- At the last point of a run the second output is the accumulator's cast. -/
theorem cast3 (c : Dev nD) (t : Fin cfg0.N) (hf : (cfg0.win 3).flush t = true) (y : S1x1024x1024.Idx) :
    (outsAt0 m c t.val t.isLt).2 y = (outsAt0 m c t.val t.isLt).1 y := by
  have h := (flush0_3 t).mp hf
  rw [outsAt0_C m c t (by omega) h]
  frame_out
  pointwise [k0_pay3]

/-- Over the reals the rounded gradient is the gradient. -/
theorem rounded (x0 x1) (j : S1x1024x1024.Idx) : val_main_v6 (F := Ideal) x0 x1 j = val_main_v5 (F := Ideal) x0 x1 j := rfl

/-- The weight's gradient, rounded for its transfer (over the reals: itself). -/
theorem final3 (c : Dev nD) : (dats m 0 c).arrAt 3 (cfgs 0).N
    = val_main_v6 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  refine (cast3 m c t hf y).trans (Eq.trans ?_ (rounded _ _ _).symm)
  refine run2 m c t ((flush0_2 t).mpr ((flush0_3 t).mp hf)) y _ ?_ ?_ ?_ <;> (blk_simp [idx t] <;> try omega)

end Cert.ProductOut

end
-- ==== Proof.ProductOutClaim.lean ====
module

public import proofs.«01_k».proof.Defs
public import proofs.«01_k».proof.Proof.Gen.ReferenceOutIdeal.Run
public import proofs.«01_k».proof.Proof.ProductOut

@[expose] public section

set_option maxRecDepth 16384

noncomputable section

namespace Cert.ProductOut

open Idealize.ShloMosaic Idealize.ShloMosaic.TcCoe Idealize.SL.Sem
open Cert.ReferenceOutIdeal.Read

/-- Kernel and reference end with the same gradient, and the same rounded copy of it. -/
theorem algebraic : Cert.algebraic_KernelOutIdeal_ReferenceOutIdeal
    (hKernelOutIdeal := Cert.KernelOutIdeal.Gen.facts) (hReferenceOutIdeal := Cert.ReferenceOutIdeal.Gen.facts) := by
  intro m g m' g' hpre hagree
  refine ⟨fun c => (Cert.KernelOutIdeal.Gen.dats m 0 c).arrAt 2 Cert.KernelOutIdeal.cfg0.N,
    fun c => (Cert.KernelOutIdeal.Gen.dats m 0 c).arrAt 3 Cert.KernelOutIdeal.cfg0.N, Cert.KernelOutIdeal.Value.run_blocks m g, ?_⟩
  refine (θ_run _ _ _).mono (fun r h c => ?_) (Cert.ReferenceOutIdeal.Value.run m' g')
  obtain ⟨h0, h1, hk⟩ := h c
  obtain ⟨e0, e1⟩ := hagree c
  refine ⟨?_, ?_, hk⟩
  · refine (h0.trans (val_main_v5_eq _ _)).trans ?_
    rw [e0, e1]
    exact (final2 m c).symm
  · refine (h1.trans (val_main_v6_eq _ _)).trans ?_
    rw [e0, e1]
    exact (final3 m c).symm

/-- The reference program runs, keeps its arguments and leaves no semaphore raised. -/
theorem frame_reference : Cert.quiescent_ReferenceOutIdeal (hReferenceOutIdeal := Cert.ReferenceOutIdeal.Gen.facts) := by
  intro m g hpre
  refine (θ_run _ _ _).mono (fun r h => ⟨fun c => ?_, sem_eq_zero_of_no_sems (by decide) r.2⟩) (Cert.ReferenceOutIdeal.Value.run m g)
  exact (h c).2.2

end Cert.ProductOut

end
-- ==== Proof.ProductDown.lean ====
module

public import proofs.«01_k».proof.Proof.Gen.KernelDownIdeal.Value
public import proofs.«01_k».proof.Proof.Gen.ReferenceDownIdeal.Read
public import Idealize.ShloMosaic.Lib.Pipeline.ValueKit
public import Idealize.ShloMosaic.Lib.Claim

@[expose] public section

set_option maxRecDepth 16384

noncomputable section

namespace Cert.ProductDown

open Idealize.ShloMosaic Idealize.ShloMosaic.TcCoe Idealize.SL.Sem
open Idealize.ShloMosaic.Pipeline (Dat)
open Cert.KernelDownIdeal Cert.KernelDownIdeal.Gen
open Cert.ReferenceDownIdeal.Read

variable (m : (ℓ : Loc nD τ sig) → Buf (Elt Ideal) ℓ)

/-- Where every window's block sits at each grid point. -/
theorem idx : ∀ t : Fin cfg0.N, win0_0.index t = ![t.val % 2, t.val / 2] ∧ win0_1.index t = ![t.val % 2, 0] ∧ win0_2.index t = ![0, t.val / 2, 0]
    ∧ win0_3.index t = ![0, t.val / 2, 0] :=
  (by decide +kernel : ∀ t : Fin grid0.N, _)

/-- The accumulator is cleared to zero. -/
theorem hzero (j : S1x1024x1024.Idx) : k0_pay1 (F := Ideal) j = 0 := by pointwise [k0_pay1]

/-- One point adds the product of its two row blocks, contracted over their rows. -/
theorem hpay (acc : Vec Ideal S1x1024x1024 .f32) (a : Vec Ideal S4096x1024 .bf16) (b : Vec Ideal S4096x1024 .bf16) (j : S1x1024x1024.Idx) :
    k0_pay2 (F := Ideal) acc a b j = acc j + ∑ k : Fin 4096, b (ix2 k (j 2)) * a (ix2 k (j 1)) := by
  pointwise [k0_pay2]
  exact congrArg (acc j + ·) (Finset.sum_congr rfl fun k _ => mul_comm (G := EReal) _ _)

/-- The accumulator at a point that writes it back: the reference's product on that block. -/
theorem run2 (c : Dev nD) (t : Fin cfg0.N) (hf : (cfg0.win 2).flush t = true) (y : S1x1024x1024.Idx) (j : S1x3072x1024.Idx)
    (h0 : (j 0 : ℕ) = 0) (h1 : (j 1 : ℕ) = t.val / 2 * 1024 + (y 1 : ℕ)) (h2 : (j 2 : ℕ) = (y 2 : ℕ)) :
    (outsAt0 m c t.val t.isLt).1 y
      = val_main_v5 (F := Ideal) (m ((c : Thread nD τ).loc main_arg0)) (m ((c : Thread nD τ).loc main_arg1)) j := by
  rw [Pipeline.eq_sum_fin_of_reset_step_apply_of_flush (fun n h => (outsAt0 m c n h).1) 2 (fun _ => 0) _
    (fun t h j => by rw [outsAt0_A m c t h (by omega)]; frame_out; rw [hpay, hzero])
    (fun t h j => by
      rw [outsAt0_B m c t h (by omega)]; frame_out; rw [hpay])
    t ((flush0_2 t).mp hf) _, zero_add]
  pointwise [val_main_v5, val_main_v4, val_main_v3, val_main_v2]
  refine Fin.sum_mul_add_congr fun s k hl => ?_
  blk_point [iblk, V, idx t, idx ⟨_, Pipeline.run_point_lt_of_flush t ((flush0_2 t).mp hf) s⟩]

/-- The weight's gradient. -/
theorem final2 (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  refine run2 m c t hf y _ ?_ ?_ ?_ <;> (blk_simp [idx t] <;> try omega)

/-- At the last point of a run the second output is the accumulator's cast. -/
theorem cast3 (c : Dev nD) (t : Fin cfg0.N) (hf : (cfg0.win 3).flush t = true) (y : S1x1024x1024.Idx) :
    (outsAt0 m c t.val t.isLt).2 y = (outsAt0 m c t.val t.isLt).1 y := by
  have h := (flush0_3 t).mp hf
  rw [outsAt0_B m c t (by omega) h]
  frame_out
  pointwise [k0_pay3]

/-- Over the reals the rounded gradient is the gradient. -/
theorem rounded (x0 x1) (j : S1x3072x1024.Idx) : val_main_v6 (F := Ideal) x0 x1 j = val_main_v5 (F := Ideal) x0 x1 j := rfl

/-- The weight's gradient, rounded for its transfer (over the reals: itself). -/
theorem final3 (c : Dev nD) : (dats m 0 c).arrAt 3 (cfgs 0).N
    = val_main_v6 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  refine (cast3 m c t hf y).trans (Eq.trans ?_ (rounded _ _ _).symm)
  refine run2 m c t ((flush0_2 t).mpr ((flush0_3 t).mp hf)) y _ ?_ ?_ ?_ <;> (blk_simp [idx t] <;> try omega)

end Cert.ProductDown

end
-- ==== Proof.ProductDownClaim.lean ====
module

public import proofs.«01_k».proof.Defs
public import proofs.«01_k».proof.Proof.Gen.ReferenceDownIdeal.Run
public import proofs.«01_k».proof.Proof.ProductDown

@[expose] public section

set_option maxRecDepth 16384

noncomputable section

namespace Cert.ProductDown

open Idealize.ShloMosaic Idealize.ShloMosaic.TcCoe Idealize.SL.Sem
open Cert.ReferenceDownIdeal.Read

/-- Kernel and reference end with the same gradient, and the same rounded copy of it. -/
theorem algebraic : Cert.algebraic_KernelDownIdeal_ReferenceDownIdeal
    (hKernelDownIdeal := Cert.KernelDownIdeal.Gen.facts) (hReferenceDownIdeal := Cert.ReferenceDownIdeal.Gen.facts) := by
  intro m g m' g' hpre hagree
  refine ⟨fun c => (Cert.KernelDownIdeal.Gen.dats m 0 c).arrAt 2 Cert.KernelDownIdeal.cfg0.N,
    fun c => (Cert.KernelDownIdeal.Gen.dats m 0 c).arrAt 3 Cert.KernelDownIdeal.cfg0.N, Cert.KernelDownIdeal.Value.run_blocks m g, ?_⟩
  refine (θ_run _ _ _).mono (fun r h c => ?_) (Cert.ReferenceDownIdeal.Value.run m' g')
  obtain ⟨h0, h1, hk⟩ := h c
  obtain ⟨e0, e1⟩ := hagree c
  refine ⟨?_, ?_, hk⟩
  · refine (h0.trans (val_main_v5_eq _ _)).trans ?_
    rw [e0, e1]
    exact (final2 m c).symm
  · refine (h1.trans (val_main_v6_eq _ _)).trans ?_
    rw [e0, e1]
    exact (final3 m c).symm

/-- The reference program runs, keeps its arguments and leaves no semaphore raised. -/
theorem frame_reference : Cert.quiescent_ReferenceDownIdeal (hReferenceDownIdeal := Cert.ReferenceDownIdeal.Gen.facts) := by
  intro m g hpre
  refine (θ_run _ _ _).mono (fun r h => ⟨fun c => ?_, sem_eq_zero_of_no_sems (by decide) r.2⟩) (Cert.ReferenceDownIdeal.Value.run m g)
  exact (h c).2.2

end Cert.ProductDown

end
-- ==== Proof.NormIn.lean ====
module

public import proofs.«01_k».proof.Proof.Gen.KernelInIdeal.Value
public import proofs.«01_k».proof.Proof.Gen.ReferenceInIdeal.Read
public import Idealize.ShloMosaic.Lib.Pipeline.ValueKit
public import Idealize.ShloMosaic.Lib.Claim

@[expose] public section

set_option maxRecDepth 16384

noncomputable section

namespace Cert.NormIn

open Idealize.ShloMosaic Idealize.ShloMosaic.TcCoe Idealize.SL.Sem
open Idealize.ShloMosaic.Pipeline (Dat)
open Cert.KernelInIdeal Cert.KernelInIdeal.Gen
open Cert.ReferenceInIdeal.Read

variable (m : (ℓ : Loc nD τ sig) → Buf (Elt Ideal) ℓ)

/-- Where every window's block sits at each grid point. -/
theorem idx : ∀ t : Fin cfg0.N, win0_0.index t = ![t.val, 0] ∧ win0_1.index t = ![0, 0, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![0, 0] :=
  (by decide +kernel : ∀ t : Fin grid0.N, _)

/-- The gradient of the modulated norm at one row block, as the kernel computes it. -/
def dhB (c : Dev nD) (t : Fin cfg0.N) : FVec Ideal S512x1024 .f32 :=
  k0_pay5 (View.ld (iblk m c 0 t) (Rect.unit ![0, 0] ![512, 1536] inb_S512x6144_S512x1536_0_0))
    (View.ld (iblk m c 1 t) (Rect.unit ![0, 0, 0] ![1, 1024, 1536] inb_S4x1024x1536_S1x1024x1536_0_0_0))
    (View.ld (iblk m c 0 t) (Rect.unit ![0, 1536] ![512, 1536] inb_S512x6144_S512x1536_0_1536))
    (View.ld (iblk m c 1 t) (Rect.unit ![1, 0, 0] ![1, 1024, 1536] inb_S4x1024x1536_S1x1024x1536_1_0_0))
    (View.ld (iblk m c 0 t) (Rect.unit ![0, 3072] ![512, 1536] inb_S512x6144_S512x1536_0_3072))
    (View.ld (iblk m c 1 t) (Rect.unit ![2, 0, 0] ![1, 1024, 1536] inb_S4x1024x1536_S1x1024x1536_2_0_0))
    (View.ld (iblk m c 0 t) (Rect.unit ![0, 4608] ![512, 1536] inb_S512x6144_S512x1536_0_4608))
    (View.ld (iblk m c 1 t) (Rect.unit ![3, 0, 0] ![1, 1024, 1536] inb_S4x1024x1536_S1x1024x1536_3_0_0))

/-- A sum over 6144 columns, taken in four chunks of 1536. -/
theorem sum_chunks (f : Fin 6144 → EReal) :
    ∑ k, f k = (∑ k : Fin 1536, f ⟨k.val, by omega⟩) + (∑ k : Fin 1536, f ⟨1536 + k.val, by omega⟩)
      + (∑ k : Fin 1536, f ⟨3072 + k.val, by omega⟩) + ∑ k : Fin 1536, f ⟨4608 + k.val, by omega⟩ := by
  rw [← Fin.sum_mul_add_fin (S := 4) (n := 1536) (f := f), Fin.sum_univ_four]
  refine congrArg₂ (· + ·) (congrArg₂ (· + ·) (congrArg₂ (· + ·) ?_ ?_) ?_) ?_ <;>
    refine Finset.sum_congr rfl fun k _ => congrArg f (Fin.ext ?_)
  · show 0 * 1536 + k.val = k.val; omega
  · show 1 * 1536 + k.val = 1536 + k.val; omega
  · show 2 * 1536 + k.val = 3072 + k.val; omega
  · show 3 * 1536 + k.val = 4608 + k.val; omega

/-- It is the reference's on those rows. -/
theorem dh_at (c : Dev nD) (t : Fin cfg0.N) (i : S512x1024.Idx) (j : S8192x1024.Idx)
    (h0 : (j 0 : ℕ) = t.val * 512 + (i 0 : ℕ)) (h1 : (j 1 : ℕ) = (i 1 : ℕ)) :
    dhB m c t i = val_main_v26 (F := Ideal) (m ((c : Thread nD τ).loc main_arg3)) (m ((c : Thread nD τ).loc main_arg5)) j := by
  unfold dhB
  pointwise [k0_pay5, val_main_v26]
  rw [sum_chunks]
  blk_point [iblk, V, idx t]

/-- The normalised rows are the reference's. -/
theorem xh_at (c : Dev nD) (t : Fin cfg0.N) (i : S512x1024.Idx) (j : S8192x1024.Idx)
    (h0 : (j 0 : ℕ) = t.val * 512 + (i 0 : ℕ)) (h1 : (j 1 : ℕ) = (i 1 : ℕ)) :
    k0_pay8 (F := Ideal) (iblk m c 2 t) (k0_pay6 (iblk m c 2 t)) i = val_main_v13 (F := Ideal) (m ((c : Thread nD τ).loc main_arg0)) j := by
  pointwise [k0_pay8, k0_pay7, k0_pay6, val_main_v13, val_main_v12, val_main_v8, val_main_v7, val_main_v6, val_main_v5, val_main_v4, val_main_v3,
    val_main_v2, val_main_v1, val_main_cst_0, val_main_cst_1, val_main_cst_2]
  blk_point [iblk, V, idx t]

theorem hpay9 (dh : FVec Ideal S512x1024 .f32) (acc : Vec Ideal S1x1024 .f32) (j : S1x1024.Idx) :
    k0_pay9 (F := Ideal) dh acc j = acc j + ∑ k : Fin 512, dh (ix2 k (j 1)) := by
  pointwise [k0_pay9]

theorem hpay10 (dh x : FVec Ideal S512x1024 .f32) (s) (acc g : Vec Ideal S1x1024 .f32) (j : S1x1024.Idx) :
    k0_pay10 (F := Ideal) dh x s acc g j
      = acc j + ∑ k : Fin 512, dh (ix2 k (j 1)) * (k0_pay8 x s (ix2 k (j 1)) * g (ix2 0 (j 1))) := by
  pointwise [k0_pay10]

theorem hpay11 (dh : FVec Ideal S512x1024 .f32) (sc : Vec Ideal S1x1024 .f32) (i : S512x1024.Idx) :
    k0_pay11 (F := Ideal) dh sc i = dh i * (1 + sc (ix2 0 (i 1))) := by
  pointwise [k0_pay11]

theorem hpay12 (dh x : FVec Ideal S512x1024 .f32) (s) (sc acc : Vec Ideal S1x1024 .f32) (j : S1x1024.Idx) :
    k0_pay12 (F := Ideal) dh x s sc acc j
      = acc j + ∑ k : Fin 512, k0_pay11 dh sc (ix2 k (j 1)) * k0_pay8 x s (ix2 k (j 1)) := by
  pointwise [k0_pay12]

theorem hpay1 (r : FVec Ideal S512x1 .f32) (xh dn : FVec Ideal S512x1024 .f32) (g : Vec Ideal S1x1024 .f32) (res : Vec Ideal S512x1024 .f32) (i : S512x1024.Idx) :
    k0_pay1 (F := Ideal) r xh dn g res i
      = res i + r (ix2 (i 0) 0) * (dn i * g (ix2 0 (i 1))
        - xh i * Ideal.div (∑ k : Fin 1024, dn (ix2 (i 0) k) * g (ix2 0 k) * xh (ix2 (i 0) k)) (Ideal.ofBits .f32 0x44800000#32)) := by
  pointwise [k0_pay1]

theorem hzero2 (j : S1x1024.Idx) : k0_pay2 (F := Ideal) j = 0 := by pointwise [k0_pay2]
theorem hzero3 (j : S1x1024.Idx) : k0_pay3 (F := Ideal) j = 0 := by pointwise [k0_pay3]
theorem hzero4 (j : S1x1024.Idx) : k0_pay4 (F := Ideal) j = 0 := by pointwise [k0_pay4]

theorem href7 (X3 X5) (j : S1x1024.Idx) : val_main_v57 (F := Ideal) X3 X5 j = ∑ k : Fin 8192, val_main_v26 (F := Ideal) X3 X5 (ix2 k (j 1)) := by
  pointwise [val_main_v57, val_main_v29, val_main_v28, val_main_v27, val_main_cst_5, val_main_cst_6]
  rw [Fin.sum_univ_one]

theorem href8 (X0 X1 X3 X5) (j : S1x1024.Idx) : val_main_v58 (F := Ideal) X0 X1 X3 X5 j
    = ∑ k : Fin 8192, val_main_v26 (F := Ideal) X3 X5 (ix2 k (j 1)) * (val_main_v13 (F := Ideal) X0 (ix2 k (j 1)) * X1 (ix1 (j 1))) := by
  pointwise [val_main_v58, val_main_v35, val_main_v32, val_main_v31, val_main_v30, val_main_v16, val_main_v15, val_main_v14, val_main_cst_7, val_main_cst_8]
  rw [Fin.sum_univ_one]
  exact Finset.sum_congr rfl fun k _ => mul_comm (G := EReal) _ _

theorem href9 (X0 X2 X3 X5) (j : S1x1024.Idx) : val_main_v59 (F := Ideal) X0 X2 X3 X5 j
    = ∑ k : Fin 8192, val_main_v26 (F := Ideal) X3 X5 (ix2 k (j 1)) * (1 + X2 (ix1 (j 1))) * val_main_v13 (F := Ideal) X0 (ix2 k (j 1)) := by
  pointwise [val_main_v59, val_main_v41, val_main_v38, val_main_v37, val_main_v36, val_main_v34, val_main_v33, val_main_v19, val_main_v18, val_main_v17, val_main_cst_4, val_main_cst_9, val_main_cst_10]
  rw [Fin.sum_univ_one]
  exact Finset.sum_congr rfl fun k _ => mul_comm (G := EReal) _ _

theorem row_at (t : Fin cfg0.grid.N) (s k : ℕ) : s * 512 + k = (16 * (t.val / 16) + s) * 512 + k := by
  have ht : t.val < 16 := lt_of_lt_of_eq t.isLt (by decide)
  omega

/-- The gradient of the shift. -/
theorem final7 (c : Dev nD) : (dats m 0 c).arrAt 7 (cfgs 0).N
    = val_main_v57 (F := Ideal) (m ((c : Thread nD τ).loc main_arg3)) (m ((c : Thread nD τ).loc main_arg5)) := by
  refine (dats m 0 c).arrAt_eq_of_covers 7 _ (by decide +kernel) fun t hf y => ?_
  blk_simp
  rw [after0_7, Pipeline.eq_sum_fin_of_reset_step_apply_of_flush (fun n h => (outsAt0 m c n h).2.1) 16 (fun _ => 0)
    (fun p j => ∑ k : Fin 512, dhB m c p (ix2 k (j 1)))
    (fun t h j => by rw [outsAt0_A m c t h]; frame_out; rw [hpay9, hzero2]; rfl)
    (fun t h j => by rw [outsAt0_B m c t h]; frame_out; rw [hpay9]; rfl)
    t ((flush0_7 t).mp hf) _, zero_add, href7]
  refine Fin.sum_mul_add_congr fun s k hl => ?_
  refine dh_at m c _ _ _ ?_ ?_ <;> (blk_simp [idx t] <;> first | omega | exact row_at t _ _)

/-- The gradient of the scale. -/
theorem final8 (c : Dev nD) : (dats m 0 c).arrAt 8 (cfgs 0).N
    = val_main_v58 (F := Ideal) (m ((c : Thread nD τ).loc main_arg0)) (m ((c : Thread nD τ).loc main_arg1)) (m ((c : Thread nD τ).loc main_arg3)) (m ((c : Thread nD τ).loc main_arg5)) := by
  refine (dats m 0 c).arrAt_eq_of_covers 8 _ (by decide +kernel) fun t hf y => ?_
  blk_simp
  rw [after0_8, Pipeline.eq_sum_fin_of_reset_step_apply_of_flush (fun n h => (outsAt0 m c n h).2.2.1) 16 (fun _ => 0)
    (fun p j => ∑ k : Fin 512, dhB m c p (ix2 k (j 1)) * (k0_pay8 (F := Ideal) (iblk m c 2 p) (k0_pay6 (iblk m c 2 p)) (ix2 k (j 1)) * (show FVec Ideal S1x1024 .f32 from iblk m c 4 p) (ix2 0 (j 1))))
    (fun t h j => by rw [outsAt0_A m c t h]; frame_out; rw [hpay10, hzero3]; rfl)
    (fun t h j => by rw [outsAt0_B m c t h]; frame_out; rw [hpay10]; rfl)
    t ((flush0_8 t).mp hf) _, zero_add, href8]
  refine Fin.sum_mul_add_congr fun s k hl => ?_
  refine congrArg₂ (· * ·) (dh_at m c _ _ _ ?_ ?_) (congrArg₂ (· * ·) (xh_at m c _ _ _ ?_ ?_) ?_)
  · (blk_simp [idx t] <;> first | omega | exact row_at t _ _)
  · (blk_simp [idx t] <;> first | omega | exact row_at t _ _)
  · (blk_simp [idx t] <;> first | omega | exact row_at t _ _)
  · (blk_simp [idx t] <;> first | omega | exact row_at t _ _)
  · blk_point [iblk, V, idx t, idx ⟨_, Pipeline.run_point_lt_of_flush t ((flush0_8 t).mp hf) s⟩]

/-- The gradient of the gain. -/
theorem final9 (c : Dev nD) : (dats m 0 c).arrAt 9 (cfgs 0).N
    = val_main_v59 (F := Ideal) (m ((c : Thread nD τ).loc main_arg0)) (m ((c : Thread nD τ).loc main_arg2)) (m ((c : Thread nD τ).loc main_arg3)) (m ((c : Thread nD τ).loc main_arg5)) := by
  refine (dats m 0 c).arrAt_eq_of_covers 9 _ (by decide +kernel) fun t hf y => ?_
  blk_simp
  rw [after0_9, Pipeline.eq_sum_fin_of_reset_step_apply_of_flush (fun n h => (outsAt0 m c n h).2.2.2) 16 (fun _ => 0)
    (fun p j => ∑ k : Fin 512, k0_pay11 (F := Ideal) (dhB m c p) (iblk m c 5 p) (ix2 k (j 1)) * k0_pay8 (F := Ideal) (iblk m c 2 p) (k0_pay6 (iblk m c 2 p)) (ix2 k (j 1)))
    (fun t h j => by rw [outsAt0_A m c t h]; frame_out; rw [hpay12, hzero4]; rfl)
    (fun t h j => by rw [outsAt0_B m c t h]; frame_out; rw [hpay12]; rfl)
    t ((flush0_9 t).mp hf) _, zero_add, href9]
  refine Fin.sum_mul_add_congr fun s k hl => ?_
  rw [hpay11]
  refine congrArg₂ (· * ·) (congrArg₂ (· * ·) (dh_at m c _ _ _ ?_ ?_) (congrArg₂ (· + ·) rfl ?_)) (xh_at m c _ _ _ ?_ ?_)
  · (blk_simp [idx t] <;> first | omega | exact row_at t _ _)
  · (blk_simp [idx t] <;> first | omega | exact row_at t _ _)
  · blk_point [iblk, V, idx t, idx ⟨_, Pipeline.run_point_lt_of_flush t ((flush0_9 t).mp hf) s⟩]
  · (blk_simp [idx t] <;> first | omega | exact row_at t _ _)
  · (blk_simp [idx t] <;> first | omega | exact row_at t _ _)

end Cert.NormIn
end
-- ==== Proof.Reals.lean ====
module

public import Mathlib.Tactic.FieldSimp
public import Mathlib.Tactic.Ring
public import Idealize.ShloMosaic.PureOps.Ideal
public import Idealize.ShloMosaic.Lib.StableHlo
public import Idealize.ShloMosaic.Lib.ReduceAll

/-! Extended reals that are real numbers: the sums, products and quotients of such are again real, so that an equation of
    reals gives the equation of extended reals. -/

@[expose] public section

noncomputable section

namespace Cert.Reals

open Idealize.ShloMosaic

/-- The extended real is a real number. -/
def IsReal (x : EReal) : Prop := ∃ r : ℝ, x = r

theorem IsReal.coe (r : ℝ) : IsReal r := ⟨r, rfl⟩
theorem IsReal.one : IsReal 1 := ⟨1, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The sum of reals, as an extended real. -/
theorem coe_sum {ι : Type*} (s : Finset ι) (f : ι → ℝ) : ((∑ i ∈ s, f i : ℝ) : EReal) = ∑ i ∈ s, (f i : EReal) :=
  map_sum (⟨⟨Real.toEReal, rfl⟩, EReal.coe_add⟩ : ℝ →+ EReal) f s

theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- The constant that the finiteness test compares with is the infinity. -/
theorem ofBits_top : Ideal.ofBits .f32 0x7F800000#32 = ⊤ := by
  simp [Ideal.ofBits, Ideal.ieee]

theorem ofBits_1024 : Ideal.ofBits .f32 0x44800000#32 = ((1024 : ℝ) : EReal) := by
  simp [Ideal.ofBits, Ideal.ieee, -EReal.coe_mul]; norm_num

theorem ofBits_neg_half : Ideal.ofBits .f32 3204448256#32 = ((-(1 / 2) : ℝ) : EReal) := by
  simp [Ideal.ofBits, Ideal.ieee, -EReal.coe_mul]; norm_num

/-- A printed `jnp.all(jnp.abs(x) < inf)` that holds says that every element is a real number. -/
theorem real_of_all {s t u : Shape} {axes : List (Fin s.rank)} [Subsingleton t.Idx] (x : FVec Ideal s .f32)
    (dims : Fin t.rank → Fin s.rank) (hb : t.BroadcastsInDim s dims) (init : IVec u 1)
    (h : s.ReducesTo axes t) (hu : 0 < u.numel) (j : t.Idx)
    (e : Host.reduce IntOp.andi (cmpf .olt (Host.absf x) (broadcastInDim s dims hb (constant (F := Ideal) t .f32 0x7F800000#32))) init h hu j = 1#1)
    (i : s.Idx) : IsReal (x i) := by
  have hi := Host.reduce_andi_all _ _ _ _ j e i
  have h2 : Ideal.cmp .olt (max (x i) (-(x i))) (Ideal.ofBits .f32 0x7F800000#32) = 1#1 := hi
  rw [ofBits_top] at h2
  generalize x i = y at h2
  induction y using EReal.rec with
  | bot => simp [Ideal.cmp] at h2
  | top => simp [Ideal.cmp] at h2
  | coe r => exact ⟨r, rfl⟩

/-- The gradient of a row divided by its root mean square: the form that subtracts the projection on the normalised row
    is the derivative of the reciprocal square root taken factor by factor. -/
theorem rms_backward (res : EReal) (x d : Fin 1024 → EReal) (hx : ∀ k, IsReal (x k)) (hd : ∀ k, IsReal (d k))
    (xj dj : EReal) (hxj : IsReal xj) (hdj : IsReal dj)
    (y : EReal) (hy : ∃ r : ℝ, 0 < r ∧ y = r) :
    res + Ideal.rsqrt y * (dj - xj * Ideal.rsqrt y
        * Ideal.div (∑ k, d k * (x k * Ideal.rsqrt y)) (Ideal.ofBits .f32 0x44800000#32))
      = res + dj * Ideal.rsqrt y
        + xj * Ideal.div ((∑ k, x k * d k) * (Ideal.ofBits .f32 3204448256#32 * Ideal.div (Ideal.rsqrt y) y)) (Ideal.ofBits .f32 0x44800000#32)
        + Ideal.div ((∑ k, x k * d k) * (Ideal.ofBits .f32 3204448256#32 * Ideal.div (Ideal.rsqrt y) y)) (Ideal.ofBits .f32 0x44800000#32) * xj := by
  choose x' hx using hx
  choose d' hd using hd
  obtain ⟨xj, rfl⟩ := hxj
  obtain ⟨dj, rfl⟩ := hdj
  obtain ⟨v, hv, rfl⟩ := hy
  have hr : Ideal.rsqrt (v : EReal) = (((Real.sqrt v)⁻¹ : ℝ) : EReal) := by
    rw [Ideal.rsqrt_coe, if_neg hv.le.not_gt, if_neg hv.ne']
  have hq : (Real.sqrt v)⁻¹ * (1 / v) = (Real.sqrt v)⁻¹ ^ 3 := by
    have h2 : Real.sqrt v ^ 2 = v := Real.sq_sqrt hv.le
    have h0 : Real.sqrt v ≠ 0 := (Real.sqrt_pos.mpr hv).ne'
    field_simp
    exact h2
  have hs : ∑ k, d' k * (x' k * (Real.sqrt v)⁻¹) = (∑ k, x' k * d' k) * (Real.sqrt v)⁻¹ := by
    rw [Finset.sum_mul]
    exact Finset.sum_congr rfl fun k _ => by ring
  rw [hr, ofBits_1024, ofBits_neg_half, Ideal.div_coe (by norm_num), Ideal.div_coe (by norm_num), Ideal.div_coe hv.ne']
  simp only [hx, hd, ← EReal.coe_mul, ← coe_sum, ← EReal.coe_sub, hq, hs]
  rw [add_assoc, add_assoc, ← EReal.coe_add, ← EReal.coe_add]
  congr 2
  ring

theorem ofBits_eps : ∃ r : ℝ, 0 < r ∧ Ideal.ofBits .f32 0x358637BD#32 = r := by
  refine ⟨8796093 / 2 ^ 43, by norm_num, ?_⟩
  simp [Ideal.ofBits, Ideal.ieee, -EReal.coe_mul]; norm_num

/-- The mean square of a row of reals plus the small constant is a positive real. -/
theorem mean_square_pos (x : Fin 1024 → EReal) (hx : ∀ k, IsReal (x k)) :
    ∃ r : ℝ, 0 < r ∧ Ideal.div (∑ k, x k * x k) (Ideal.ofBits .f32 0x44800000#32) + Ideal.ofBits .f32 0x358637BD#32 = r := by
  choose x' hx using hx
  obtain ⟨e, he, h⟩ := ofBits_eps
  refine ⟨(∑ k, x' k * x' k) * (1 / 1024) + e, ?_, ?_⟩
  · have : 0 ≤ ∑ k, x' k * x' k := Finset.sum_nonneg fun k _ => mul_self_nonneg _
    positivity
  · rw [ofBits_1024, Ideal.div_coe (by norm_num), h]
    simp only [hx, ← EReal.coe_mul, ← coe_sum, ← EReal.coe_add]

end Cert.Reals

end
-- ==== Proof.NormInRow.lean ====
module

public import proofs.«01_k».proof.Proof.NormIn
public import proofs.«01_k».proof.Proof.Reals

@[expose] public section

set_option maxRecDepth 16384

noncomputable section

namespace Cert.NormIn

open Idealize.ShloMosaic Idealize.ShloMosaic.TcCoe Idealize.SL.Sem
open Idealize.ShloMosaic.Pipeline (Dat)
open Cert.KernelInIdeal Cert.KernelInIdeal.Gen
open Cert.ReferenceInIdeal.Read
open Cert.Reals (IsReal)

variable (m : (ℓ : Loc nD τ sig) → Buf (Elt Ideal) ℓ)

theorem href7v (X0) (j : ReferenceInIdeal.S8192x1.Idx) : val_main_v7 (F := Ideal) X0 j
    = Ideal.div (∑ k, X0 (ix2 (j 0) k) * X0 (ix2 (j 0) k)) (Ideal.ofBits .f32 0x44800000#32) + Ideal.ofBits .f32 0x358637BD#32 := by
  pointwise [val_main_v7, val_main_v6, val_main_v5, val_main_v4, val_main_v3, val_main_v2, val_main_v1, val_main_cst_0, val_main_cst_1, val_main_cst_2]

theorem href13 (X0) (j : S8192x1024.Idx) : val_main_v13 (F := Ideal) X0 j = X0 j * Ideal.rsqrt (val_main_v7 (F := Ideal) X0 (ix2 (j 0) 0)) := by
  pointwise [val_main_v13, val_main_v12, val_main_v8]

theorem href40 (X1 X2 X3 X5) (j : S8192x1024.Idx) : val_main_v40 (F := Ideal) X1 X2 X3 X5 j
    = val_main_v26 (F := Ideal) X3 X5 j * (1 + X2 (ix1 (j 1))) * X1 (ix1 (j 1)) := by
  pointwise [val_main_v40, val_main_v39, val_main_v14, val_main_v34, val_main_v33, val_main_v19, val_main_v18, val_main_v17, val_main_cst_4]

theorem href26 (X3 X5) (j : S8192x1024.Idx) : val_main_v26 (F := Ideal) X3 X5 j
    = ∑ k : Fin 6144, X5 (ix2 (j 0) k) * X3 (ix2 (j 1) k) := by
  pointwise [val_main_v26]

theorem href6 (X0 X1 X2 X3 X4 X5) (j : S8192x1024.Idx) : val_main_v56 (F := Ideal) X0 X1 X2 X3 X4 X5 j
    = X4 j + val_main_v40 (F := Ideal) X1 X2 X3 X5 j * Ideal.rsqrt (val_main_v7 (F := Ideal) X0 (ix2 (j 0) 0))
      + X0 j * Ideal.div ((∑ k : Fin 1024, X0 (ix2 (j 0) k) * val_main_v40 (F := Ideal) X1 X2 X3 X5 (ix2 (j 0) k))
          * (Ideal.ofBits .f32 3204448256#32 * Ideal.div (Ideal.rsqrt (val_main_v7 (F := Ideal) X0 (ix2 (j 0) 0))) (val_main_v7 (F := Ideal) X0 (ix2 (j 0) 0)))) (Ideal.ofBits .f32 0x44800000#32)
      + Ideal.div ((∑ k : Fin 1024, X0 (ix2 (j 0) k) * val_main_v40 (F := Ideal) X1 X2 X3 X5 (ix2 (j 0) k))
          * (Ideal.ofBits .f32 3204448256#32 * Ideal.div (Ideal.rsqrt (val_main_v7 (F := Ideal) X0 (ix2 (j 0) 0))) (val_main_v7 (F := Ideal) X0 (ix2 (j 0) 0)))) (Ideal.ofBits .f32 0x44800000#32) * X0 j := by
  pointwise [val_main_v56, val_main_v55, val_main_v54, val_main_v53, val_main_v52, val_main_v51, val_main_v50, val_main_v49, val_main_v48, val_main_v47, val_main_v46, val_main_v45, val_main_v44, val_main_v43, val_main_v42, val_main_v11, val_main_v10, val_main_v9, val_main_v8, val_main_cst_3, val_main_cst_11, val_main_cst_12, val_main_cst_13]
  rw [Fin.sum_univ_one]

/-- The row statistic of the kernel is the reference's. -/
theorem rs_at (c : Dev nD) (t : Fin cfg0.N) (i : S512x1.Idx) (j : ReferenceInIdeal.S8192x1.Idx)
    (h0 : (j 0 : ℕ) = t.val * 512 + (i 0 : ℕ)) :
    k0_pay7 (F := Ideal) (k0_pay6 (iblk m c 2 t)) i = Ideal.rsqrt (val_main_v7 (F := Ideal) (m ((c : Thread nD τ).loc main_arg0)) j) := by
  pointwise [k0_pay7, k0_pay6, val_main_v8, val_main_v7, val_main_v6, val_main_v5, val_main_v4, val_main_v3,
    val_main_v2, val_main_v1, val_main_cst_0, val_main_cst_1, val_main_cst_2]
  blk_point [iblk, V, idx t]

/-- The gradient behind the gain and the scale at one row block is the reference's. -/
theorem dn_at (c : Dev nD) (t : Fin cfg0.N) (i : S512x1024.Idx) (j : S8192x1024.Idx)
    (h0 : (j 0 : ℕ) = t.val * 512 + (i 0 : ℕ)) (h1 : (j 1 : ℕ) = (i 1 : ℕ)) :
    k0_pay11 (F := Ideal) (dhB m c t) (iblk m c 5 t) i * (show FVec Ideal S1x1024 .f32 from iblk m c 4 t) (ix2 0 (i 1))
      = val_main_v40 (F := Ideal) (m ((c : Thread nD τ).loc main_arg1)) (m ((c : Thread nD τ).loc main_arg2))
          (m ((c : Thread nD τ).loc main_arg3)) (m ((c : Thread nD τ).loc main_arg5)) j := by
  rw [hpay11, href40, dh_at m c t i j h0 h1]
  refine congrArg₂ (· * ·) (congrArg₂ (· * ·) rfl (congrArg₂ (· + ·) rfl ?_)) ?_
  · blk_point [iblk, V, idx t]
  · blk_point [iblk, V, idx t]

/-- The mean square of a row of reals, with the small constant added, is a positive real. -/
theorem mean_pos (X0 : FVec Ideal S8192x1024 .f32) (hx : ∀ i, IsReal (X0 i)) (j : ReferenceInIdeal.S8192x1.Idx) :
    ∃ r : ℝ, 0 < r ∧ val_main_v7 (F := Ideal) X0 j = r := by
  rw [href7v]
  exact Cert.Reals.mean_square_pos _ fun k => hx _

/-- The gradient of one row block, where the arguments are real numbers. -/
theorem row6 (c : Dev nD)
    (hx : ∀ i : S8192x1024.Idx, IsReal ((m ((c : Thread nD τ).loc main_arg0) : FVec Ideal S8192x1024 .f32) i))
    (hd : ∀ j, IsReal (val_main_v40 (F := Ideal) (m ((c : Thread nD τ).loc main_arg1)) (m ((c : Thread nD τ).loc main_arg2))
          (m ((c : Thread nD τ).loc main_arg3)) (m ((c : Thread nD τ).loc main_arg5)) j))
    (t : Fin cfg0.N) (i : S512x1024.Idx) (j : S8192x1024.Idx)
    (h0 : (j 0 : ℕ) = t.val * 512 + (i 0 : ℕ)) (h1 : (j 1 : ℕ) = (i 1 : ℕ)) :
    k0_pay1 (F := Ideal) (k0_pay7 (k0_pay6 (iblk m c 2 t))) (k0_pay8 (iblk m c 2 t) (k0_pay6 (iblk m c 2 t)))
        (k0_pay11 (dhB m c t) (iblk m c 5 t)) (iblk m c 4 t) (iblk m c 3 t) i
      = val_main_v56 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) j := by
  rw [hpay1, href6]
  have key := Cert.Reals.rms_backward ((m ((c : Thread nD τ).loc main_arg4) : FVec Ideal S8192x1024 .f32) j)
    (fun k => (m ((c : Thread nD τ).loc main_arg0) : FVec Ideal S8192x1024 .f32) (ix2 (j 0) k))
    (fun k => val_main_v40 (F := Ideal) (m ((c : Thread nD τ).loc main_arg1)) (m ((c : Thread nD τ).loc main_arg2))
          (m ((c : Thread nD τ).loc main_arg3)) (m ((c : Thread nD τ).loc main_arg5)) (ix2 (j 0) k))
    (fun k => hx _) (fun k => hd _) _ _ (hx j) (hd j) _ (mean_pos _ hx (ix2 (j 0) 0))
  refine Eq.trans ?_ key
  refine congrArg₂ (· + ·) ?_ (congrArg₂ (· * ·) (rs_at m c t _ _ h0) (congrArg₂ (· - ·) (dn_at m c t _ _ h0 h1)
    (congrArg₂ (· * ·) ((xh_at m c t _ _ h0 h1).trans (href13 _ _))
      (congrArg (Ideal.div · _) (Finset.sum_congr rfl fun k _ =>
        congrArg₂ (· * ·) (dn_at m c t (ix2 (i 0) k) (ix2 (j 0) k) h0 rfl) ((xh_at m c t (ix2 (i 0) k) (ix2 (j 0) k) h0 rfl).trans (href13 _ _)))))))
  blk_point [iblk, V, idx t]

/-- The gradient of the rows, where the arguments are real numbers. -/
theorem final6 (c : Dev nD)
    (hx : ∀ i : S8192x1024.Idx, IsReal ((m ((c : Thread nD τ).loc main_arg0) : FVec Ideal S8192x1024 .f32) i))
    (hd : ∀ j, IsReal (val_main_v40 (F := Ideal) (m ((c : Thread nD τ).loc main_arg1)) (m ((c : Thread nD τ).loc main_arg2))
          (m ((c : Thread nD τ).loc main_arg3)) (m ((c : Thread nD τ).loc main_arg5)) j)) :
    (dats m 0 c).arrAt 6 (cfgs 0).N
      = val_main_v56 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  by_cases h : t.val % 16 = 0
  · rw [outsAt0_A m c t h]
    frame_out
    refine row6 m c hx hd t y _ ?_ ?_ <;> (blk_simp [idx t] <;> try omega)
  · rw [outsAt0_B m c t h]
    frame_out
    refine row6 m c hx hd t y _ ?_ ?_ <;> (blk_simp [idx t] <;> try omega)

end Cert.NormIn
end
-- ==== Proof.NormInClaim.lean ====
module

public import proofs.«01_k».proof.Defs
public import proofs.«01_k».proof.Proof.Gen.ReferenceInIdeal.Run
public import proofs.«01_k».proof.Proof.NormInRow

@[expose] public section

set_option maxRecDepth 16384

noncomputable section

namespace Cert.NormIn

open Idealize.ShloMosaic Idealize.ShloMosaic.TcCoe Idealize.SL.Sem
open Cert.ReferenceInIdeal.Read
open Cert.Reals (IsReal)

/-- The side conditions of the finiteness predicate. -/
theorem finite_facts : Cert.Pre_all_finite.Facts := by constructor <;> decide

theorem one_of_and {a b : BitVec 1} (h : IntOp.andi a b = 1#1) : a = 1#1 ∧ b = 1#1 := by
  revert a b; decide

/-- The precondition, read: every element of every argument but the residual is a real number. -/
theorem finite_args [Cert.Pre_all_finite.Facts] (x0 x1 x2 x3 x4 x5)
    (h : Cert.Pre_all_finite.fn (F := Ideal) x0 x1 x2 x3 x4 x5 = fun _ => 1#1) :
    (∀ i, IsReal (x0 i)) ∧ (∀ i, IsReal (x1 i)) ∧ (∀ i, IsReal (x2 i)) ∧ (∀ i, IsReal (x3 i)) ∧ ∀ i, IsReal (x5 i) := by
  have hj := congrFun h ix0
  dsimp only [Cert.Pre_all_finite.fn, Cert.Pre_all_finite.fn_part1] at hj
  obtain ⟨hj, h5⟩ := one_of_and hj
  obtain ⟨hj, h3⟩ := one_of_and hj
  obtain ⟨hj, h2⟩ := one_of_and hj
  obtain ⟨h0, h1⟩ := one_of_and hj
  exact ⟨Cert.Reals.real_of_all x0 _ _ _ _ _ _ h0, Cert.Reals.real_of_all x1 _ _ _ _ _ _ h1, Cert.Reals.real_of_all x2 _ _ _ _ _ _ h2,
    Cert.Reals.real_of_all x3 _ _ _ _ _ _ h3, Cert.Reals.real_of_all x5 _ _ _ _ _ _ h5⟩

/-- Kernel and reference end with the same four gradients, where the arguments are finite. -/
theorem algebraic : Cert.algebraic_KernelInIdeal_ReferenceInIdeal_pre_all_finite
    (hKernelInIdeal := Cert.KernelInIdeal.Gen.facts) (hReferenceInIdeal := Cert.ReferenceInIdeal.Gen.facts) (hPre_all_finite := finite_facts) := by
  intro m g m' g' hpre hagree
  refine ⟨fun c => (Cert.KernelInIdeal.Gen.dats m 0 c).arrAt 6 Cert.KernelInIdeal.cfg0.N,
    fun c => (Cert.KernelInIdeal.Gen.dats m 0 c).arrAt 7 Cert.KernelInIdeal.cfg0.N,
    fun c => (Cert.KernelInIdeal.Gen.dats m 0 c).arrAt 8 Cert.KernelInIdeal.cfg0.N,
    fun c => (Cert.KernelInIdeal.Gen.dats m 0 c).arrAt 9 Cert.KernelInIdeal.cfg0.N, Cert.KernelInIdeal.Value.run_blocks m g, ?_⟩
  refine (θ_run _ _ _).mono (fun r h c => ?_) (Cert.ReferenceInIdeal.Value.run m' g')
  obtain ⟨h0, h1, h2, h3, hk⟩ := h c
  obtain ⟨e0, e1, e2, e3, e4, e5⟩ := hagree c
  obtain ⟨f0, f1, f2, f3, f5⟩ := @finite_args finite_facts _ _ _ _ _ _ (hpre c)
  refine ⟨?_, ?_, ?_, ?_, hk⟩
  · refine (h0.trans (val_main_v56_eq _ _)).trans ?_
    rw [e0, e1, e2, e3, e4, e5]
    refine (final6 m c f0 fun j => ?_).symm
    rw [href40, href26]
    exact ((IsReal.sum _ _ fun k => (f5 _).mul (f3 _)).mul (IsReal.one.add (f2 _))).mul (f1 _)
  · refine (h1.trans (val_main_v57_eq _ _)).trans ?_
    rw [e3, e5]
    exact (final7 m c).symm
  · refine (h2.trans (val_main_v58_eq _ _ _ _)).trans ?_
    rw [e0, e1, e3, e5]
    exact (final8 m c).symm
  · refine (h3.trans (val_main_v59_eq _ _ _ _)).trans ?_
    rw [e0, e2, e3, e5]
    exact (final9 m c).symm

/-- The reference program runs, keeps its arguments and leaves no semaphore raised. -/
theorem frame_reference : Cert.quiescent_ReferenceInIdeal (hReferenceInIdeal := Cert.ReferenceInIdeal.Gen.facts) := by
  intro m g hpre
  refine (θ_run _ _ _).mono (fun r h => ⟨fun c => ?_, sem_eq_zero_of_no_sems (by decide) r.2⟩) (Cert.ReferenceInIdeal.Value.run m g)
  exact (h c).2.2.2.2

end Cert.NormIn

end
-- ==== Proof.FfnRef.lean ====
module

public import proofs.«01_k».proof.Proof.Gen.ReferenceFfnIdeal.Read
public import Idealize.ShloMosaic.Lib.Pipeline.ValueKit
public import Idealize.ShloMosaic.Lib.Claim

@[expose] public section

set_option maxRecDepth 16384

noncomputable section

namespace Cert.Ffn

open Idealize.ShloMosaic Idealize.ShloMosaic.TcCoe Idealize.SL.Sem
open Cert.ReferenceFfnIdeal
open Cert.ReferenceFfnIdeal.Read

variable (X0 X1 X2 X3 : FVec Ideal S8192x1024 .f32) (X4 X5 X6 X7 : FVec Ideal S1024 .f32) (X8 : FVec Ideal S1024x6144 .f32)
  (X9 : FVec Ideal S3x6144 .f32) (X10 : FVec Ideal S6144 .f32) (X11 : FVec Ideal S3072x1024 .f32)

theorem href91_act (j : S8192x6144.Idx) (h : (j 1).val < 3072) : val_main_v91 (F := Ideal) X0 X3 X4 X5 X6 X8 X9 X10 X11 j
    = val_main_v90 (F := Ideal) X0 X3 X4 X5 X6 X8 X9 X10 X11 (ix2 (j 0) ⟨(j 1).val, h⟩) := by
  pointwise [val_main_v91]
  rw [dif_pos h]

theorem href91_val (j : S8192x6144.Idx) (h : ¬ (j 1).val < 3072) (h' : (j 1).val - 3072 < 3072) : val_main_v91 (F := Ideal) X0 X3 X4 X5 X6 X8 X9 X10 X11 j
    = val_main_v77 (F := Ideal) X0 X3 X4 X5 X6 X8 X9 X10 X11 (ix2 (j 0) ⟨(j 1).val - 3072, h'⟩) := by
  pointwise [val_main_v91]
  rw [dif_neg h]

/-- The array's element `s` rows further down, and zero past its last row. -/
def below (A : FVec Ideal S8192x6144 .f32) (s : ℕ) (i : S8192x6144.Idx) : EReal :=
  if h : (i 0).val + s < 8192 then A (ix2 ⟨(i 0).val + s, h⟩ (i 1)) else 0

theorem below_at (A : FVec Ideal S8192x6144 .f32) (s : ℕ) (i j : S8192x6144.Idx) (h0 : (j 0 : ℕ) = (i 0 : ℕ) + s) (h1 : (j 1 : ℕ) = (i 1 : ℕ)) :
    below A s i = A j := by
  have hj : (j 0).val < 8192 := (j 0).isLt
  unfold below
  rw [dif_pos (by omega)]
  refine congrArg A (funext fun a => ?_)
  match a with
  | 0 => exact Fin.ext h0.symm
  | 1 => exact Fin.ext h1.symm

theorem below_past (A : FVec Ideal S8192x6144 .f32) (s : ℕ) (i : S8192x6144.Idx) (h : ¬ (i 0 : ℕ) + s < 8192) : below A s i = 0 := by
  unfold below
  rw [dif_neg h]

theorem below_past_mul (A : FVec Ideal S8192x6144 .f32) (s : ℕ) (i : S8192x6144.Idx) (h : ¬ (i 0 : ℕ) + s < 8192) (u : EReal) : below A s i * u = 0 := by
  rw [below_past A s i h, zero_mul]

/-- The gradient of the convolution's input. -/
theorem href127 (j : S8192x6144.Idx) : val_main_v127 (F := Ideal) X0 X3 X4 X5 X6 X8 X9 X10 X11 j
    = X9 (ix2 2 (j 1)) * val_main_v91 (F := Ideal) X0 X3 X4 X5 X6 X8 X9 X10 X11 j
      + X9 (ix2 1 (j 1)) * below (val_main_v91 (F := Ideal) X0 X3 X4 X5 X6 X8 X9 X10 X11) 1 j
      + X9 (ix2 0 (j 1)) * below (val_main_v91 (F := Ideal) X0 X3 X4 X5 X6 X8 X9 X10 X11) 2 j := by
  have h0 : (j 0).val < 8192 := (j 0).isLt
  pointwise [val_main_v127, val_main_v125, val_main_v124, val_main_v119, val_main_v118, val_main_v31, val_main_v30, val_main_v29,
    val_main_v111, val_main_v110, val_main_v105, val_main_v104, val_main_v40, val_main_v39, val_main_v38,
    val_main_v100, val_main_v96, val_main_v95, val_main_v47, val_main_v46, val_main_v45, val_main_cst_29, val_main_cst_23, val_main_cst_19]
  generalize val_main_v91 (F := Ideal) X0 X3 X4 X5 X6 X8 X9 X10 X11 = A
  refine congrArg₂ (· + ·) (congrArg₂ (· + ·) (mul_comm (G := EReal) _ _) ?_) ?_
  · unfold below
    by_cases h : (j 0).val + 1 < 8192
    · rw [dif_pos (by omega), dif_pos h, mul_comm (G := EReal)]
      exact congrArg (fun r => X9 (ix2 1 (j 1)) * A (ix2 r (j 1))) (Fin.ext (by simp only []; omega))
    · rw [dif_neg (by omega), dif_neg h, mul_zero]
  · unfold below
    by_cases h : (j 0).val + 2 < 8192
    · rw [dif_pos (by omega), dif_pos h, mul_comm (G := EReal)]
      exact congrArg (fun r => X9 (ix2 0 (j 1)) * A (ix2 r (j 1))) (Fin.ext (by simp only []; omega))
    · rw [dif_neg (by omega), dif_neg h, mul_zero]

/-- Two sums that agree after a step by one. -/
theorem sum_shift {n : ℕ} (f g : Fin (n + 1) → EReal) (hf : f 0 = 0) (hg : g (Fin.last n) = 0) (h : ∀ i : Fin n, f i.succ = g i.castSucc) :
    ∑ i, f i = ∑ i, g i := by
  rw [Fin.sum_univ_succ, Fin.sum_univ_castSucc, hf, hg, zero_add, add_zero]
  exact Finset.sum_congr rfl fun i _ => h i

/-- A sum whose last two terms are zero. -/
theorem sum_drop_two {n : ℕ} (g : Fin (n + 1 + 1) → EReal) (h1 : g (Fin.last (n + 1)) = 0) (h2 : g (Fin.last n).castSucc = 0) :
    ∑ i, g i = ∑ i : Fin n, g i.castSucc.castSucc := by
  rw [Fin.sum_univ_castSucc, Fin.sum_univ_castSucc, h1, h2, add_zero, add_zero]

/-- The gradient of the convolution's taps. -/
theorem href123 (j : S3x6144.Idx) : val_main_v123 (F := Ideal) X0 X3 X4 X5 X6 X8 X9 X10 X11 j
    = ∑ r : Fin 8192, below (val_main_v91 (F := Ideal) X0 X3 X4 X5 X6 X8 X9 X10 X11) (2 - (j 0).val) (ix2 r (j 1))
        * val_main_v24 (F := Ideal) X0 X4 X5 X6 X8 (ix2 r (j 1)) := by
  have h0 : (j 0).val < 3 := (j 0).isLt
  pointwise [val_main_v123, val_main_v122, val_main_v121, val_main_v120, val_main_v117, val_main_v116, val_main_v115,
   val_main_v109, val_main_v108, val_main_v107, val_main_v106, val_main_v103, val_main_v102, val_main_v101,
   val_main_v99, val_main_v98, val_main_v97, val_main_v94, val_main_v93, val_main_v92, val_main_v28, val_main_v37, val_main_v44, val_main_v26, val_main_v25,
    val_main_cst_4, val_main_cst_16, val_main_cst_17, val_main_cst_18, val_main_cst_20, val_main_cst_21, val_main_cst_22, val_main_cst_26, val_main_cst_27, val_main_cst_28]
  generalize val_main_v91 (F := Ideal) X0 X3 X4 X5 X6 X8 X9 X10 X11 = A
  generalize val_main_v24 (F := Ideal) X0 X4 X5 X6 X8 = U
  rcases (by omega : (j 0).val = 0 ∨ (j 0).val = 1 ∨ (j 0).val = 2) with e | e | e
  · rw [dif_neg (by omega), dif_neg (by omega), dif_pos (by omega), Fin.sum_univ_one, zero_add, zero_add, e]
    simp only [zero_mul, Finset.sum_const_zero, zero_add]
    refine Eq.trans ?_ (sum_drop_two (n := 8190) (fun r : Fin 8192 => below A 2 (ix2 r (j 1)) * U (ix2 r (j 1))) ?_ ?_).symm
    · refine Finset.sum_congr rfl fun r _ => ?_
      have hr : r.val < 8190 := r.isLt
      refine (mul_comm (G := EReal) _ _).trans (congrArg₂ (· * ·) (below_at A 2 (ix2 ⟨r.val, by omega⟩ (j 1)) (ix2 ⟨2 + r.val, by omega⟩ (j 1)) ?_ rfl).symm rfl)
      show 2 + r.val = r.val + 2
      omega
    · exact below_past_mul A 2 _ (show ¬ (8191 + 2 < 8192) by omega) _
    · exact below_past_mul A 2 _ (show ¬ (8190 + 2 < 8192) by omega) _
  · rw [dif_neg (by omega), dif_pos (by omega), dif_neg (by omega), Fin.sum_univ_one, zero_add, add_zero, e]
    refine sum_shift (n := 8191) _ (fun r : Fin 8192 => below A 1 (ix2 r (j 1)) * U (ix2 r (j 1))) ?_ ?_ fun r => ?_
    · rw [dif_pos (by show 1 + 0 < 2; omega), zero_mul]
    · exact below_past_mul A 1 _ (show ¬ (8191 + 1 < 8192) by omega) _
    · have hr : r.val < 8191 := r.isLt
      rw [dif_neg (by show ¬ (1 + (r.val + 1) < 2); omega)]
      refine (mul_comm (G := EReal) _ _).trans (congrArg₂ (· * ·) (below_at A 1 (ix2 ⟨r.val, by omega⟩ (j 1)) (ix2 ⟨r.val + 1, by omega⟩ (j 1)) rfl rfl).symm ?_)
      exact congrArg (fun r : Fin 8192 => U (ix2 r (j 1))) (Fin.ext (by show 1 + (r.val + 1) - 2 = r.val; omega))
  · rw [dif_pos (by omega), dif_neg (by omega), dif_neg (by omega), Fin.sum_univ_one, add_zero, add_zero, e]
    refine Finset.sum_congr rfl fun r _ => ?_
    exact (mul_comm (G := EReal) _ _).trans (congrArg₂ (· * ·) (below_at A 0 (ix2 r (j 1)) (ix2 r (j 1)) rfl rfl).symm rfl)

/-- The gradient of the convolution's bias. -/
theorem href169 (j : S1x6144.Idx) : val_main_v169 (F := Ideal) X0 X3 X4 X5 X6 X8 X9 X10 X11 j
    = ∑ r : Fin 8192, val_main_v91 (F := Ideal) X0 X3 X4 X5 X6 X8 X9 X10 X11 (ix2 r (j 1)) := by
  pointwise [val_main_v169, val_main_v114, val_main_v113, val_main_v112, val_main_cst_24, val_main_cst_25]
  rw [Fin.sum_univ_one]

/-- The gradient of the modulated norm. -/
theorem href128 (j : S8192x1024.Idx) : val_main_v128 (F := Ideal) X0 X3 X4 X5 X6 X8 X9 X10 X11 j
    = ∑ k : Fin 6144, val_main_v127 (F := Ideal) X0 X3 X4 X5 X6 X8 X9 X10 X11 (ix2 (j 0) k) * X8 (ix2 (j 1) k) := by
  pointwise [val_main_v128]

/-- The gradient of the shift. -/
theorem href170 (j : S1x1024.Idx) : val_main_v170 (F := Ideal) X0 X3 X4 X5 X6 X8 X9 X10 X11 j
    = ∑ r : Fin 8192, val_main_v128 (F := Ideal) X0 X3 X4 X5 X6 X8 X9 X10 X11 (ix2 r (j 1)) := by
  pointwise [val_main_v170, val_main_v131, val_main_v130, val_main_v129, val_main_cst_30, val_main_cst_31]
  rw [Fin.sum_univ_one]

/-- The gradient of the scale. -/
theorem href171 (j : S1x1024.Idx) : val_main_v171 (F := Ideal) X0 X3 X4 X5 X6 X8 X9 X10 X11 j
    = ∑ r : Fin 8192, val_main_v128 (F := Ideal) X0 X3 X4 X5 X6 X8 X9 X10 X11 (ix2 r (j 1)) * (val_main_v12 (F := Ideal) X0 (ix2 r (j 1)) * X4 (ix1 (j 1))) := by
  pointwise [val_main_v171, val_main_v137, val_main_v134, val_main_v133, val_main_v132, val_main_v15, val_main_v14, val_main_v13, val_main_cst_32, val_main_cst_33]
  rw [Fin.sum_univ_one]
  exact Finset.sum_congr rfl fun k _ => mul_comm (G := EReal) _ _

/-- The gradient of the gain. -/
theorem href172 (j : S1x1024.Idx) : val_main_v172 (F := Ideal) X0 X3 X4 X5 X6 X8 X9 X10 X11 j
    = ∑ r : Fin 8192, val_main_v128 (F := Ideal) X0 X3 X4 X5 X6 X8 X9 X10 X11 (ix2 r (j 1)) * (1 + X6 (ix1 (j 1))) * val_main_v12 (F := Ideal) X0 (ix2 r (j 1)) := by
  pointwise [val_main_v172, val_main_v143, val_main_v140, val_main_v139, val_main_v138, val_main_v136, val_main_v135, val_main_v18, val_main_v17, val_main_v16, val_main_cst_3, val_main_cst_34, val_main_cst_35]
  rw [Fin.sum_univ_one]
  exact Finset.sum_congr rfl fun k _ => mul_comm (G := EReal) _ _

theorem href142 (j : S8192x1024.Idx) : val_main_v142 (F := Ideal) X0 X3 X4 X5 X6 X8 X9 X10 X11 j
    = val_main_v128 (F := Ideal) X0 X3 X4 X5 X6 X8 X9 X10 X11 j * (1 + X6 (ix1 (j 1))) * X4 (ix1 (j 1)) := by
  pointwise [val_main_v142, val_main_v141, val_main_v13, val_main_v136, val_main_v135, val_main_v18, val_main_v17, val_main_v16, val_main_cst_3]

/-- The mean square of a row, with the small constant. -/
theorem href6 (j : S8192x1.Idx) : val_main_v6 (F := Ideal) X0 j
    = Ideal.div (∑ k, X0 (ix2 (j 0) k) * X0 (ix2 (j 0) k)) (Ideal.ofBits .f32 0x44800000#32) + Ideal.ofBits .f32 0x358637BD#32 := by
  pointwise [val_main_v6, val_main_v5, val_main_v4, val_main_v3, val_main_v2, val_main_v1, val_main_v0, val_main_cst, val_main_cst_0, val_main_cst_1]

theorem href12 (j : S8192x1024.Idx) : val_main_v12 (F := Ideal) X0 j = X0 j * Ideal.rsqrt (val_main_v6 (F := Ideal) X0 (ix2 (j 0) 0)) := by
  pointwise [val_main_v12, val_main_v11, val_main_v7]

theorem href158 (j : S8192x1024.Idx) : val_main_v158 (F := Ideal) X0 X2 X3 X4 X5 X6 X8 X9 X10 X11 j
    = X2 j + val_main_v142 (F := Ideal) X0 X3 X4 X5 X6 X8 X9 X10 X11 j * Ideal.rsqrt (val_main_v6 (F := Ideal) X0 (ix2 (j 0) 0))
      + X0 j * Ideal.div ((∑ k : Fin 1024, X0 (ix2 (j 0) k) * val_main_v142 (F := Ideal) X0 X3 X4 X5 X6 X8 X9 X10 X11 (ix2 (j 0) k))
          * (Ideal.ofBits .f32 3204448256#32 * Ideal.div (Ideal.rsqrt (val_main_v6 (F := Ideal) X0 (ix2 (j 0) 0))) (val_main_v6 (F := Ideal) X0 (ix2 (j 0) 0)))) (Ideal.ofBits .f32 0x44800000#32)
      + Ideal.div ((∑ k : Fin 1024, X0 (ix2 (j 0) k) * val_main_v142 (F := Ideal) X0 X3 X4 X5 X6 X8 X9 X10 X11 (ix2 (j 0) k))
          * (Ideal.ofBits .f32 3204448256#32 * Ideal.div (Ideal.rsqrt (val_main_v6 (F := Ideal) X0 (ix2 (j 0) 0))) (val_main_v6 (F := Ideal) X0 (ix2 (j 0) 0)))) (Ideal.ofBits .f32 0x44800000#32) * X0 j := by
  pointwise [val_main_v158, val_main_v157, val_main_v156, val_main_v155, val_main_v154, val_main_v153, val_main_v152, val_main_v151, val_main_v150, val_main_v149, val_main_v148, val_main_v147, val_main_v146, val_main_v145, val_main_v144, val_main_v10, val_main_v9, val_main_v8, val_main_v7, val_main_cst_2, val_main_cst_36, val_main_cst_37, val_main_cst_38]
  rw [Fin.sum_univ_one]

/-- The gradient of the gated output. -/
theorem href173 (j : S8192x1024.Idx) : val_main_v173 (F := Ideal) X0 X2 X3 X4 X5 X6 X7 X8 X9 X10 X11 j
    = X7 (ix1 (j 1)) * val_main_v158 (F := Ideal) X0 X2 X3 X4 X5 X6 X8 X9 X10 X11 j := by
  pointwise [val_main_v173, val_main_v163, val_main_v162, val_main_v159]

/-- The gradient of the gate. -/
theorem href174 (j : S1x1024.Idx) : val_main_v174 (F := Ideal) X0 X1 X2 X3 X4 X5 X6 X8 X9 X10 X11 j
    = ∑ r : Fin 8192, val_main_v158 (F := Ideal) X0 X2 X3 X4 X5 X6 X8 X9 X10 X11 (ix2 r (j 1)) * X1 (ix2 r (j 1)) := by
  pointwise [val_main_v174, val_main_v167, val_main_v166, val_main_v165, val_main_v164, val_main_cst_39, val_main_cst_40]
  rw [Fin.sum_univ_one]

/-- The gradient of the activation's product with the weights. -/
theorem href76 (j : S8192x3072.Idx) : val_main_v76 (F := Ideal) X3 X11 j = ∑ k : Fin 1024, X3 (ix2 (j 0) k) * X11 (ix2 (j 1) k) := by
  pointwise [val_main_v76]

theorem href77 (j : S8192x3072.Idx) : val_main_v77 (F := Ideal) X0 X3 X4 X5 X6 X8 X9 X10 X11 j
    = val_main_v73 (F := Ideal) X0 X4 X5 X6 X8 X9 X10 j * val_main_v76 (F := Ideal) X3 X11 j := by
  pointwise [val_main_v77]

end Cert.Ffn
end
-- ==== Proof.FfnHost.lean ====
module

public import proofs.«01_k».proof.Proof.Gen.KernelFfnIdeal.Frame.Runs
public import proofs.«01_k».proof.Proof.Gen.ReferenceFfnIdeal.Read
public import Idealize.ShloMosaic.Lib.Pipeline.ValueKit
public import Idealize.ShloMosaic.Lib.Claim

/-!
# What the kernel is given

The arrays that the forward pass saved, as the kernel's host lines compute them, are stages of the reference: the
up-projection, the gated activation, and the value half times the slope of the activation.
-/

@[expose] public section

set_option maxRecDepth 16384

noncomputable section

namespace Cert.Ffn

open Idealize.ShloMosaic Idealize.ShloMosaic.TcCoe Idealize.SL.Sem
open Cert.KernelFfnIdeal Cert.KernelFfnIdeal.Gen
open Cert.ReferenceFfnIdeal.Read

variable (m : (ℓ : Loc nD τ sig) → Buf (Elt Ideal) ℓ) (c : Dev nD)

abbrev a0 : FVec Ideal S8192x1024 .f32 := m ((c : Thread nD τ).loc main_arg0)
abbrev a1 : FVec Ideal S8192x1024 .f32 := m ((c : Thread nD τ).loc main_arg1)
abbrev a2 : FVec Ideal S8192x1024 .f32 := m ((c : Thread nD τ).loc main_arg2)
abbrev a3 : FVec Ideal S8192x1024 .f32 := m ((c : Thread nD τ).loc main_arg3)
abbrev a4 : FVec Ideal S1024 .f32 := m ((c : Thread nD τ).loc main_arg4)
abbrev a5 : FVec Ideal S1024 .f32 := m ((c : Thread nD τ).loc main_arg5)
abbrev a6 : FVec Ideal S1024 .f32 := m ((c : Thread nD τ).loc main_arg6)
abbrev a7 : FVec Ideal S1024 .f32 := m ((c : Thread nD τ).loc main_arg7)
abbrev a8 : FVec Ideal S1024x6144 .f32 := m ((c : Thread nD τ).loc main_arg8)
abbrev a9 : FVec Ideal S3x6144 .f32 := m ((c : Thread nD τ).loc main_arg9)
abbrev a10 : FVec Ideal S6144 .f32 := m ((c : Thread nD τ).loc main_arg10)
abbrev a11 : FVec Ideal S3072x1024 .f32 := m ((c : Thread nD τ).loc main_arg11)

/-- The up-projection. -/
abbrev rU : FVec Ideal S8192x6144 .f32 := val_main_v24 (F := Ideal) (a0 m c) (a4 m c) (a5 m c) (a6 m c) (a8 m c)
/-- The activation's argument. -/
abbrev rAct : FVec Ideal S8192x3072 .f32 := val_main_v51 (F := Ideal) (a0 m c) (a4 m c) (a5 m c) (a6 m c) (a8 m c) (a9 m c) (a10 m c)
/-- The value half. -/
abbrev rVal : FVec Ideal S8192x3072 .f32 := val_main_v52 (F := Ideal) (a0 m c) (a4 m c) (a5 m c) (a6 m c) (a8 m c) (a9 m c) (a10 m c)
/-- The activation. -/
abbrev rGa : FVec Ideal S8192x3072 .f32 := val_main_v73 (F := Ideal) (a0 m c) (a4 m c) (a5 m c) (a6 m c) (a8 m c) (a9 m c) (a10 m c)
/-- Half of one plus the hyperbolic tangent. -/
abbrev rHalf : FVec Ideal S8192x3072 .f32 := val_main_v72 (F := Ideal) (a0 m c) (a4 m c) (a5 m c) (a6 m c) (a8 m c) (a9 m c) (a10 m c)
/-- The derivative of the hyperbolic tangent. -/
abbrev rTan : FVec Ideal S8192x3072 .f32 := val_main_v68 (F := Ideal) (a0 m c) (a4 m c) (a5 m c) (a6 m c) (a8 m c) (a9 m c) (a10 m c)
/-- Three squares of the activation's argument. -/
abbrev rSq : FVec Ideal S8192x3072 .f32 := val_main_v57 (F := Ideal) (a0 m c) (a4 m c) (a5 m c) (a6 m c) (a8 m c) (a9 m c) (a10 m c)

/-- The slope of the activation. -/
def slope : FVec Ideal S8192x3072 .f32 :=
  addf (addf (mulf (val_main_v64 (F := Ideal)) (rHalf m c))
      (mulf (val_main_v84 (F := Ideal)) (mulf (mulf (val_main_v81 (F := Ideal)) (mulf (rAct m c) (val_main_v64 (F := Ideal)))) (rTan m c))))
    (mulf (mulf (val_main_v87 (F := Ideal))
        (mulf (val_main_v84 (F := Ideal)) (mulf (mulf (val_main_v81 (F := Ideal)) (mulf (rAct m c) (val_main_v64 (F := Ideal)))) (rTan m c))))
      (rSq m c))

theorem vU : (V m c main_v89 : FVec Ideal S8192x6144 .bf16) = rU m c := by
  entry_read
  rfl

theorem vGa : (V m c main_v90 : FVec Ideal S8192x3072 .bf16) = rGa m c := by
  entry_read
  rfl

theorem vVd : (V m c main_v91 : FVec Ideal S8192x3072 .bf16) = mulf (rVal m c) (slope m c) := by
  entry_read
  rfl

end Cert.Ffn
end
-- ==== Proof.FfnReal.lean ====
module

public import proofs.«01_k».proof.Proof.FfnRef
public import proofs.«01_k».proof.Proof.FfnHost
public import proofs.«01_k».proof.Proof.Reals
public import proofs.«01_k».proof.Proof.Sigmoid

/-!
# Where the arguments are finite

Every stage that the gradient of the activation is taken from is then a real number, and the gradient is the incoming one
times the value half times the slope of the activation.
-/

@[expose] public section

set_option maxRecDepth 16384

noncomputable section

namespace Cert.Ffn

open Idealize.ShloMosaic Idealize.ShloMosaic.TcCoe Idealize.SL.Sem
open Cert.KernelFfnIdeal Cert.KernelFfnIdeal.Gen
open Cert.ReferenceFfnIdeal.Read
open Cert.Reals (IsReal)

variable (X0 X1 X2 X3 : FVec Ideal S8192x1024 .f32) (X4 X5 X6 X7 : FVec Ideal S1024 .f32) (X8 : FVec Ideal S1024x6144 .f32)
  (X9 : FVec Ideal S3x6144 .f32) (X10 : FVec Ideal S6144 .f32) (X11 : FVec Ideal S3072x1024 .f32)

theorem real_three : IsReal (Ideal.ofBits .f32 0x40400000#32) :=
  ⟨3, by simp [Ideal.ofBits, Ideal.ieee, -EReal.coe_mul]; norm_num⟩
theorem real_cubic : IsReal (Ideal.ofBits .f32 0x3D372713#32) :=
  ⟨12003091 / 2 ^ 28, by simp [Ideal.ofBits, Ideal.ieee, -EReal.coe_mul]; norm_num⟩
theorem real_scale : IsReal (Ideal.ofBits .f32 0x3F4C422A#32) :=
  ⟨13386282 / 2 ^ 24, by simp [Ideal.ofBits, Ideal.ieee, -EReal.coe_mul]; norm_num⟩
theorem real_half : IsReal (Ideal.ofBits .f32 0x3F000000#32) := ⟨2⁻¹, Cert.Sigmoid.ofBits_half⟩

theorem real_tanh {x : EReal} (h : IsReal x) : IsReal (Ideal.tanh x) := by
  obtain ⟨r, rfl⟩ := h
  exact ⟨Real.tanh r, Ideal.tanh_coe r⟩

theorem real_rsqrt {x : EReal} (h : ∃ r : ℝ, 0 < r ∧ x = r) : IsReal (Ideal.rsqrt x) := by
  obtain ⟨r, hr, rfl⟩ := h
  exact ⟨(Real.sqrt r)⁻¹, by rw [Ideal.rsqrt_coe, if_neg hr.le.not_gt, if_neg hr.ne']⟩

/-- The derivative is linear in what comes in. -/
theorem slope_linear {a w d h t q c1 c2 c3 : EReal} (ha : IsReal a) (hw : IsReal w) (hd : IsReal d) (hh : IsReal h) (ht : IsReal t)
    (hq : IsReal q) (h1 : IsReal c1) (h2 : IsReal c2) (h3 : IsReal c3) :
    d * w * h + c1 * (c2 * (a * (d * w)) * t) + c3 * (c1 * (c2 * (a * (d * w)) * t)) * q
      = d * (w * (1 * h + c1 * (c2 * (a * 1) * t) + c3 * (c1 * (c2 * (a * 1) * t)) * q)) := by
  obtain ⟨a, rfl⟩ := ha; obtain ⟨w, rfl⟩ := hw; obtain ⟨d, rfl⟩ := hd; obtain ⟨h, rfl⟩ := hh; obtain ⟨t, rfl⟩ := ht
  obtain ⟨q, rfl⟩ := hq; obtain ⟨c1, rfl⟩ := h1; obtain ⟨c2, rfl⟩ := h2; obtain ⟨c3, rfl⟩ := h3
  rw [← EReal.coe_one]
  simp only [← EReal.coe_mul, ← EReal.coe_add]
  exact congrArg _ (by ring)

section
variable (f0 : ∀ i, IsReal (X0 i)) (f3 : ∀ i, IsReal (X3 i)) (f4 : ∀ i, IsReal (X4 i)) (f5 : ∀ i, IsReal (X5 i)) (f6 : ∀ i, IsReal (X6 i))
  (f8 : ∀ i, IsReal (X8 i)) (f9 : ∀ i, IsReal (X9 i)) (f10 : ∀ i, IsReal (X10 i)) (f11 : ∀ i, IsReal (X11 i))
include f0 f4 f5 f6 f8

theorem mean_pos (j : ReferenceFfnIdeal.S8192x1.Idx) : ∃ r : ℝ, 0 < r ∧ val_main_v6 (F := Ideal) X0 j = r := by
  rw [href6]
  exact Cert.Reals.mean_square_pos _ fun k => f0 _

theorem real24 (j : ReferenceFfnIdeal.S8192x6144.Idx) : IsReal (val_main_v24 (F := Ideal) X0 X4 X5 X6 X8 j) := by
  have e : val_main_v24 (F := Ideal) X0 X4 X5 X6 X8 j = ∑ k : Fin 1024,
      (val_main_v12 (F := Ideal) X0 (ix2 (j 0) k) * X4 (ix1 k) * (1 + X6 (ix1 k)) + X5 (ix1 k)) * X8 (ix2 k (j 1)) := by
    pointwise [val_main_v24, val_main_v23, val_main_v22, val_main_v21, val_main_v20, val_main_v19, val_main_v18, val_main_v17, val_main_v16, val_main_v15, val_main_v14, val_main_v13, val_main_cst_3]
  rw [e]
  refine IsReal.sum _ _ fun k => ((((?_ : IsReal _).mul (f4 _)).mul (IsReal.one.add (f6 _))).add (f5 _)).mul (f8 _)
  rw [href12]
  exact (f0 _).mul (real_rsqrt (mean_pos X0 X4 X5 X6 X8 f0 f4 f5 f6 f8 _))

include f9 f10

theorem real50 (j : ReferenceFfnIdeal.S8192x6144.Idx) : IsReal (val_main_v50 (F := Ideal) X0 X4 X5 X6 X8 X9 X10 j) := by
  have r24 := real24 X0 X4 X5 X6 X8 f0 f4 f5 f6 f8
  pointwise [val_main_v50, val_main_v49, val_main_v48, val_main_v47, val_main_v46, val_main_v45, val_main_v44, val_main_v43, val_main_v42, val_main_v41, val_main_v40, val_main_v39, val_main_v38, val_main_v37,
    val_main_v36, val_main_v35, val_main_v34, val_main_v33, val_main_v32, val_main_v31, val_main_v30, val_main_v29, val_main_v28, val_main_v26, val_main_v25, val_main_cst_4]
  refine (((f10 _).add (IsReal.mul ?_ (f9 _))).add (IsReal.mul ?_ (f9 _))).add (IsReal.mul ?_ (f9 _))
  · split
    · exact IsReal.zero
    · exact r24 _
  · split
    · exact IsReal.zero
    · exact r24 _
  · exact r24 _

theorem real51 (j : ReferenceFfnIdeal.S8192x3072.Idx) : IsReal (val_main_v51 (F := Ideal) X0 X4 X5 X6 X8 X9 X10 j) := by
  pointwise [val_main_v51]
  exact real50 X0 X4 X5 X6 X8 X9 X10 f0 f4 f5 f6 f8 f9 f10 _

theorem real52 (j : ReferenceFfnIdeal.S8192x3072.Idx) : IsReal (val_main_v52 (F := Ideal) X0 X4 X5 X6 X8 X9 X10 j) := by
  pointwise [val_main_v52]
  exact real50 X0 X4 X5 X6 X8 X9 X10 f0 f4 f5 f6 f8 f9 f10 _

theorem real57 (j : ReferenceFfnIdeal.S8192x3072.Idx) : IsReal (val_main_v57 (F := Ideal) X0 X4 X5 X6 X8 X9 X10 j) := by
  have r := real51 X0 X4 X5 X6 X8 X9 X10 f0 f4 f5 f6 f8 f9 f10 j
  pointwise [val_main_v57, val_main_v56, val_main_v55, val_main_cst_6]
  exact real_three.mul (r.mul r)

theorem real63 (j : ReferenceFfnIdeal.S8192x3072.Idx) : IsReal (val_main_v63 (F := Ideal) X0 X4 X5 X6 X8 X9 X10 j) := by
  have r := real51 X0 X4 X5 X6 X8 X9 X10 f0 f4 f5 f6 f8 f9 f10 j
  pointwise [val_main_v63, val_main_v62, val_main_v61, val_main_v60, val_main_v59, val_main_v58, val_main_v54, val_main_v53, val_main_cst_7, val_main_cst_8]
  exact real_tanh (real_scale.mul (r.add (real_cubic.mul ((r.mul r).mul r))))

theorem real68 (j : ReferenceFfnIdeal.S8192x3072.Idx) : IsReal (val_main_v68 (F := Ideal) X0 X4 X5 X6 X8 X9 X10 j) := by
  have r := real63 X0 X4 X5 X6 X8 X9 X10 f0 f4 f5 f6 f8 f9 f10 j
  pointwise [val_main_v68, val_main_v67, val_main_v66, val_main_v65, val_main_v64, val_main_cst_9, val_main_cst_10]
  exact (IsReal.one.add r).mul (IsReal.one.sub r)

theorem real72 (j : ReferenceFfnIdeal.S8192x3072.Idx) : IsReal (val_main_v72 (F := Ideal) X0 X4 X5 X6 X8 X9 X10 j) := by
  have r := real63 X0 X4 X5 X6 X8 X9 X10 f0 f4 f5 f6 f8 f9 f10 j
  pointwise [val_main_v72, val_main_v71, val_main_v70, val_main_v69, val_main_cst_11, val_main_cst_12]
  exact real_half.mul (IsReal.one.add r)

theorem real73 (j : ReferenceFfnIdeal.S8192x3072.Idx) : IsReal (val_main_v73 (F := Ideal) X0 X4 X5 X6 X8 X9 X10 j) := by
  have r := real51 X0 X4 X5 X6 X8 X9 X10 f0 f4 f5 f6 f8 f9 f10 j
  have r' := real72 X0 X4 X5 X6 X8 X9 X10 f0 f4 f5 f6 f8 f9 f10 j
  pointwise [val_main_v73]
  exact r.mul r'

end

theorem real76 (f3 : ∀ i, IsReal (X3 i)) (f11 : ∀ i, IsReal (X11 i)) (j : ReferenceFfnIdeal.S8192x3072.Idx) : IsReal (val_main_v76 (F := Ideal) X3 X11 j) := by
  rw [href76]
  exact IsReal.sum _ _ fun k => (f3 _).mul (f11 _)

theorem href90 (j : ReferenceFfnIdeal.S8192x3072.Idx) : val_main_v90 (F := Ideal) X0 X3 X4 X5 X6 X8 X9 X10 X11 j
    = val_main_v76 (F := Ideal) X3 X11 j * val_main_v52 (F := Ideal) X0 X4 X5 X6 X8 X9 X10 j * val_main_v72 (F := Ideal) X0 X4 X5 X6 X8 X9 X10 j
      + Ideal.ofBits .f32 0x3F4C422A#32 * (Ideal.ofBits .f32 0x3F000000#32 * (val_main_v51 (F := Ideal) X0 X4 X5 X6 X8 X9 X10 j
          * (val_main_v76 (F := Ideal) X3 X11 j * val_main_v52 (F := Ideal) X0 X4 X5 X6 X8 X9 X10 j)) * val_main_v68 (F := Ideal) X0 X4 X5 X6 X8 X9 X10 j)
      + Ideal.ofBits .f32 0x3D372713#32 * (Ideal.ofBits .f32 0x3F4C422A#32 * (Ideal.ofBits .f32 0x3F000000#32 * (val_main_v51 (F := Ideal) X0 X4 X5 X6 X8 X9 X10 j
          * (val_main_v76 (F := Ideal) X3 X11 j * val_main_v52 (F := Ideal) X0 X4 X5 X6 X8 X9 X10 j)) * val_main_v68 (F := Ideal) X0 X4 X5 X6 X8 X9 X10 j))
        * val_main_v57 (F := Ideal) X0 X4 X5 X6 X8 X9 X10 j := by
  pointwise [val_main_v90, val_main_v89, val_main_v88, val_main_v87, val_main_v86, val_main_v85, val_main_v84, val_main_v83, val_main_v82, val_main_v81,
    val_main_v80, val_main_v79, val_main_v78, val_main_cst_13, val_main_cst_14, val_main_cst_15]

variable (m : (ℓ : Loc nD τ sig) → Buf (Elt Ideal) ℓ) (c : Dev nD)

theorem slope_at (j : S8192x3072.Idx) : slope m c j
    = 1 * rHalf m c j + Ideal.ofBits .f32 0x3F4C422A#32 * (Ideal.ofBits .f32 0x3F000000#32 * (rAct m c j * 1) * rTan m c j)
      + Ideal.ofBits .f32 0x3D372713#32 * (Ideal.ofBits .f32 0x3F4C422A#32 * (Ideal.ofBits .f32 0x3F000000#32 * (rAct m c j * 1) * rTan m c j)) * rSq m c j := by
  pointwise [slope, val_main_v64, val_main_v84, val_main_v81, val_main_v87, val_main_cst_9, val_main_cst_13, val_main_cst_14, val_main_cst_15]

/-- What the certificate assumes of the arguments: every element of those that the gradient of the activation is taken from
    is a real number. -/
structure Finite : Prop where
  f0 : ∀ i, IsReal (a0 m c i)
  f3 : ∀ i, IsReal (a3 m c i)
  f4 : ∀ i, IsReal (a4 m c i)
  f5 : ∀ i, IsReal (a5 m c i)
  f6 : ∀ i, IsReal (a6 m c i)
  f8 : ∀ i, IsReal (a8 m c i)
  f9 : ∀ i, IsReal (a9 m c i)
  f10 : ∀ i, IsReal (a10 m c i)
  f11 : ∀ i, IsReal (a11 m c i)

/-- The gradient of the activation's product. -/
abbrev rDf : FVec Ideal S8192x3072 .f32 := val_main_v76 (F := Ideal) (a3 m c) (a11 m c)
/-- The gradient of the convolution's output. -/
abbrev rA : FVec Ideal S8192x6144 .f32 :=
  val_main_v91 (F := Ideal) (a0 m c) (a3 m c) (a4 m c) (a5 m c) (a6 m c) (a8 m c) (a9 m c) (a10 m c) (a11 m c)
/-- The gradient of the convolution's input. -/
abbrev rDu : FVec Ideal S8192x6144 .f32 :=
  val_main_v127 (F := Ideal) (a0 m c) (a3 m c) (a4 m c) (a5 m c) (a6 m c) (a8 m c) (a9 m c) (a10 m c) (a11 m c)
/-- The gradient of the modulated norm. -/
abbrev rH : FVec Ideal S8192x1024 .f32 :=
  val_main_v128 (F := Ideal) (a0 m c) (a3 m c) (a4 m c) (a5 m c) (a6 m c) (a8 m c) (a9 m c) (a10 m c) (a11 m c)

variable {m c}

/-- The activation's half of the gradient. -/
theorem rA_act (hf : Finite m c) (j : S8192x6144.Idx) (k : S8192x3072.Idx) (h0 : (k 0 : ℕ) = (j 0 : ℕ)) (h1 : (k 1 : ℕ) = (j 1 : ℕ)) :
    rDf m c k * (rVal m c k * slope m c k) = rA m c j := by
  have hk : (k 1).val < 3072 := (k 1).isLt
  have e : (ix2 (j 0) ⟨(j 1).val, by omega⟩ : S8192x3072.Idx) = k := funext fun a => match a with
    | 0 => Fin.ext h0.symm
    | 1 => Fin.ext h1.symm
  refine Eq.trans ?_ ((href91_act _ _ _ _ _ _ _ _ _ j (by omega)).trans (congrArg _ e)).symm
  rw [href90, slope_at]
  exact (slope_linear (real51 _ _ _ _ _ _ _ hf.f0 hf.f4 hf.f5 hf.f6 hf.f8 hf.f9 hf.f10 k)
    (real52 _ _ _ _ _ _ _ hf.f0 hf.f4 hf.f5 hf.f6 hf.f8 hf.f9 hf.f10 k) (real76 _ _ hf.f3 hf.f11 k)
    (real72 _ _ _ _ _ _ _ hf.f0 hf.f4 hf.f5 hf.f6 hf.f8 hf.f9 hf.f10 k) (real68 _ _ _ _ _ _ _ hf.f0 hf.f4 hf.f5 hf.f6 hf.f8 hf.f9 hf.f10 k)
    (real57 _ _ _ _ _ _ _ hf.f0 hf.f4 hf.f5 hf.f6 hf.f8 hf.f9 hf.f10 k) real_scale real_half real_cubic).symm

/-- The value half of the gradient. -/
theorem rA_val (j : S8192x6144.Idx) (k : S8192x3072.Idx) (h0 : (k 0 : ℕ) = (j 0 : ℕ)) (h1 : 3072 + (k 1 : ℕ) = (j 1 : ℕ)) :
    rDf m c k * rGa m c k = rA m c j := by
  have hk : (k 1).val < 3072 := (k 1).isLt
  have e : (ix2 (j 0) ⟨(j 1).val - 3072, by omega⟩ : S8192x3072.Idx) = k := funext fun a => match a with
    | 0 => Fin.ext h0.symm
    | 1 => Fin.ext (by show (j 1).val - 3072 = (k 1).val; omega)
  refine Eq.trans ?_ ((href91_val _ _ _ _ _ _ _ _ _ j (by omega) (by omega)).trans (congrArg _ e)).symm
  rw [href77]
  exact mul_comm (G := EReal) _ _

/-- Every element of the gradient is a real number. -/
theorem rA_real (hf : Finite m c) (j : S8192x6144.Idx) : IsReal (rA m c j) := by
  have hj : (j 1).val < 6144 := (j 1).isLt
  by_cases h : (j 1).val < 3072
  · rw [← rA_act hf j (ix2 (j 0) ⟨(j 1).val, h⟩) rfl rfl, slope_at]
    have r := real51 _ _ _ _ _ _ _ hf.f0 hf.f4 hf.f5 hf.f6 hf.f8 hf.f9 hf.f10 (ix2 (j 0) ⟨(j 1).val, h⟩)
    have r' := real_scale.mul ((real_half.mul (r.mul IsReal.one)).mul (real68 _ _ _ _ _ _ _ hf.f0 hf.f4 hf.f5 hf.f6 hf.f8 hf.f9 hf.f10 (ix2 (j 0) ⟨(j 1).val, h⟩)))
    exact (real76 _ _ hf.f3 hf.f11 _).mul ((real52 _ _ _ _ _ _ _ hf.f0 hf.f4 hf.f5 hf.f6 hf.f8 hf.f9 hf.f10 _).mul
      (((IsReal.one.mul (real72 _ _ _ _ _ _ _ hf.f0 hf.f4 hf.f5 hf.f6 hf.f8 hf.f9 hf.f10 _)).add r').add
        ((real_cubic.mul r').mul (real57 _ _ _ _ _ _ _ hf.f0 hf.f4 hf.f5 hf.f6 hf.f8 hf.f9 hf.f10 _))))
  · rw [← rA_val j (ix2 (j 0) ⟨(j 1).val - 3072, by omega⟩) rfl (by show 3072 + ((j 1).val - 3072) = _; omega)]
    exact (real76 _ _ hf.f3 hf.f11 _).mul (real73 _ _ _ _ _ _ _ hf.f0 hf.f4 hf.f5 hf.f6 hf.f8 hf.f9 hf.f10 _)

theorem below_real (hf : Finite m c) (s : ℕ) (j : S8192x6144.Idx) : IsReal (below (rA m c) s j) := by
  unfold below
  split
  · exact rA_real hf _
  · exact IsReal.zero

theorem rH_real (hf : Finite m c) (j : S8192x1024.Idx) : IsReal (rH m c j) := by
  rw [show rH m c j = _ from href128 _ _ _ _ _ _ _ _ _ j]
  refine IsReal.sum _ _ fun k => IsReal.mul ?_ (hf.f8 _)
  rw [show val_main_v127 (F := Ideal) (a0 m c) (a3 m c) (a4 m c) (a5 m c) (a6 m c) (a8 m c) (a9 m c) (a10 m c) (a11 m c) _ = _ from href127 _ _ _ _ _ _ _ _ _ _]
  exact (((hf.f9 _).mul (rA_real hf _)).add ((hf.f9 _).mul (below_real hf _ _))).add ((hf.f9 _).mul (below_real hf _ _))

end Cert.Ffn
end
-- ==== Proof.FfnShift.lean ====
module

public import proofs.«01_k».proof.Proof.Gen.KernelFfnIdeal.Skeleton
public import Idealize.ShloMosaic.Lib.Pipeline.ValueKit
public import Idealize.ShloMosaic.Lib.Claim
public import Idealize.ShloMosaic.Lib.WordCmp

/-!
# A block moved up by one or by two rows

The kernel takes the rows after a block from the first eight rows of the block that follows: a rotation of
the block whose last rows are replaced by the first rows of the one after it.
-/

@[expose] public section

set_option maxRecDepth 16384

noncomputable section

namespace Cert.Ffn

open Idealize.ShloMosaic Idealize.ShloMosaic.TcCoe Idealize.SL.Sem
open Cert.KernelFfnIdeal Cert.KernelFfnIdeal.Gen

variable [Facts]

/-- The block moved up by one row, its last row from the eight rows that follow. -/
def up1 (x : FVec Ideal S256x1536 .f32) (n : FVec Ideal S8x1536 .f32) : FVec Ideal S256x1536 .f32 :=
  have r : FVec Ideal S256x1536 .f32 := dynamicRotate 0 255#32 none x rotates_S256x1536_d0
  concatenate S256x1536 0
    [⟨S248x1536, extractStridedSlice S248x1536 ![0, 0] r slices_S256x1536_o0_0_S248x1536⟩,
     ⟨S8x1536, select (cmpi .sge (iota .tc S8x1536 32 [0] iota_S8x1536_d0_w32) (broadcast S8x1536 7#32))
        (dynamicRotate 0 7#32 none n rotates_S8x1536_d0)
        (extractStridedSlice S8x1536 ![248, 0] r slices_S256x1536_o248_0_S8x1536)⟩]
    concatenates_S248x1536_S8x1536_S256x1536_d0

/-- The block moved up by two rows, its last two rows from the eight rows that follow. -/
def up2 (x : FVec Ideal S256x1536 .f32) (n : FVec Ideal S8x1536 .f32) : FVec Ideal S256x1536 .f32 :=
  have r : FVec Ideal S256x1536 .f32 := dynamicRotate 0 254#32 none x rotates_S256x1536_d0
  concatenate S256x1536 0
    [⟨S248x1536, extractStridedSlice S248x1536 ![0, 0] r slices_S256x1536_o0_0_S248x1536⟩,
     ⟨S8x1536, select (cmpi .sge (iota .tc S8x1536 32 [0] iota_S8x1536_d0_w32) (broadcast S8x1536 6#32))
        (dynamicRotate 0 6#32 none n rotates_S8x1536_d0)
        (extractStridedSlice S8x1536 ![248, 0] r slices_S256x1536_o248_0_S8x1536)⟩]
    concatenates_S248x1536_S8x1536_S256x1536_d0

theorem up1_inner (x : FVec Ideal S256x1536 .f32) (n : FVec Ideal S8x1536 .f32) (j : S256x1536.Idx) (h : (j 0).val < 255) :
    up1 x n j = x (ix2 ⟨(j 0).val + 1, by omega⟩ (j 1)) := by
  unfold up1
  pointwise
  split
  · exact congrArg (fun r => x (ix2 r (j 1))) (Fin.ext (by simp only []; omega))
  · rw [WordCmp.select_of_eq_zero ((WordCmp.cmpi_sge_ofNat_eq_zero_iff (a := (j 0).val - 248) (b := 7) (by omega) (by omega)).2 (by omega))]
    exact congrArg (fun r => x (ix2 r (j 1))) (Fin.ext (by simp only []; omega))

theorem up1_last (x : FVec Ideal S256x1536 .f32) (n : FVec Ideal S8x1536 .f32) (j : S256x1536.Idx) (h : (j 0).val = 255) :
    up1 x n j = n (ix2 0 (j 1)) := by
  unfold up1
  pointwise
  rw [dif_neg (by omega), WordCmp.select_of_eq_one ((WordCmp.cmpi_sge_ofNat_eq_one_iff (a := (j 0).val - 248) (b := 7) (by omega) (by omega)).2 (by omega))]
  exact congrArg (fun r => n (ix2 r (j 1))) (Fin.ext (by simp only []; omega))

theorem up2_inner (x : FVec Ideal S256x1536 .f32) (n : FVec Ideal S8x1536 .f32) (j : S256x1536.Idx) (h : (j 0).val < 254) :
    up2 x n j = x (ix2 ⟨(j 0).val + 2, by omega⟩ (j 1)) := by
  unfold up2
  pointwise
  split
  · exact congrArg (fun r => x (ix2 r (j 1))) (Fin.ext (by simp only []; omega))
  · rw [WordCmp.select_of_eq_zero ((WordCmp.cmpi_sge_ofNat_eq_zero_iff (a := (j 0).val - 248) (b := 6) (by omega) (by omega)).2 (by omega))]
    exact congrArg (fun r => x (ix2 r (j 1))) (Fin.ext (by simp only []; omega))

theorem up2_last (x : FVec Ideal S256x1536 .f32) (n : FVec Ideal S8x1536 .f32) (j : S256x1536.Idx) (h : 254 ≤ (j 0).val) (h' : (j 0).val < 256) :
    up2 x n j = n (ix2 ⟨(j 0).val - 254, by omega⟩ (j 1)) := by
  unfold up2
  pointwise
  rw [dif_neg (by omega), WordCmp.select_of_eq_one ((WordCmp.cmpi_sge_ofNat_eq_one_iff (a := (j 0).val - 248) (b := 6) (by omega) (by omega)).2 (by omega))]
  exact congrArg (fun r => n (ix2 r (j 1))) (Fin.ext (by simp only []; omega))

theorem pay24 (a b c) : k0_pay24 (F := Ideal) a b c = up1 (k0_pay23 a b) c := rfl
theorem pay25 (a b c) : k0_pay25 (F := Ideal) a b c = up2 (k0_pay23 a b) c := rfl
theorem pay37 (a b c) : k0_pay37 (F := Ideal) a b c = up1 (k0_pay36 a b) c := rfl
theorem pay51 (a b c) : k0_pay51 (F := Ideal) a b c = up1 (k0_pay50 a b) c := rfl
theorem pay40 (a b c) : k0_pay40 (F := Ideal) c (k0_pay38 a b) (iota .tc S8x1536 32 [0] iota_S8x1536_d0_w32) k0_pay39 = up2 (k0_pay36 a b) c := rfl
theorem pay54 (a b c) : k0_pay54 (F := Ideal) c (k0_pay52 a b) k0_pay53 6#32 = up2 (k0_pay50 a b) c := rfl
theorem pay12 (a b c d) : k0_pay12 (F := Ideal) a b c d = up1 (k0_pay11 a b c) d := rfl
theorem pay13 (a b c d) : k0_pay13 (F := Ideal) a b c d = up2 (k0_pay11 a b c) d := rfl

end Cert.Ffn
end
-- ==== Proof.FfnPay.lean ====
module

public import proofs.«01_k».proof.Proof.FfnShift

/-!
# The values of a grid point, read at an index
-/

@[expose] public section

set_option maxRecDepth 16384

noncomputable section

namespace Cert.Ffn

open Idealize.ShloMosaic Idealize.ShloMosaic.TcCoe Idealize.SL.Sem
open Idealize.ShloMosaic.Pipeline (Dat)
open Cert.KernelFfnIdeal Cert.KernelFfnIdeal.Gen

/-- Stores that cover the buffer leave what they leave, whatever was stored before. -/
theorem canon_cover {S : Shape} {e : EltTy} (L L' : List (View.Piece (Elt Ideal) S e)) (hc : ∀ y : S.Idx, ∃ p ∈ L, y ∈ p.1.set) :
    View.canon (L ++ L') = View.canon L := by
  funext y
  have key : ∀ L : List (View.Piece (Elt Ideal) S e), (∃ p ∈ L, y ∈ p.1.set) → View.canon (L ++ L') y = View.canon L y := by
    intro L
    induction L with
    | nil => intro h; obtain ⟨p, hp, _⟩ := h; exact absurd hp List.not_mem_nil
    | cons p L ih =>
      intro h
      by_cases hm : y ∈ p.1.set
      · obtain ⟨r, w⟩ := p
        obtain ⟨x, rfl⟩ := r.exists_idx_of_mem hm
        exact (View.canon_cons_emb r w (L ++ L') x).trans (View.canon_cons_emb r w L x).symm
      · rw [List.cons_append, View.canon_cons_of_not_mem _ _ hm, View.canon_cons_of_not_mem _ _ hm]
        refine ih ?_
        obtain ⟨q, hq, hyq⟩ := h
        rcases List.mem_cons.mp hq with rfl | hq'
        · exact absurd hyq hm
        · exact ⟨q, hq', hyq⟩
  exact key L (hc y)

theorem pay11_at (a b : _) (x : FVec Ideal S256x1536 .bf16) (i : S256x1536.Idx) : (k0_pay11 (F := Ideal) a b x i : EReal) = (k0_pay9 (F := Ideal) a b i : EReal) * (x i : EReal) := by
  pointwise [k0_pay11, k0_pay23, k0_pay36, k0_pay50]
theorem pay23_at (a : _) (x : FVec Ideal S256x1536 .bf16) (i : S256x1536.Idx) : (k0_pay23 (F := Ideal) a x i : EReal) = (a i : EReal) * (x i : EReal) := by
  pointwise [k0_pay11, k0_pay23, k0_pay36, k0_pay50]
theorem pay36_at (a : _) (x : FVec Ideal S256x1536 .bf16) (i : S256x1536.Idx) : (k0_pay36 (F := Ideal) a x i : EReal) = (a i : EReal) * (x i : EReal) := by
  pointwise [k0_pay11, k0_pay23, k0_pay36, k0_pay50]
theorem pay50_at (a : _) (x : FVec Ideal S256x1536 .bf16) (i : S256x1536.Idx) : (k0_pay50 (F := Ideal) a x i : EReal) = (a i : EReal) * (x i : EReal) := by
  pointwise [k0_pay11, k0_pay23, k0_pay36, k0_pay50]

/-- A load of a rectangle reads the array at the rectangle's offset. -/
theorem ld2 {R C r q o p : ℕ} {e : EltTy} (X : Vec Ideal (⟨2, ![R, C]⟩ : Shape) e) (inb : ∀ a, (![o, p] : Fin 2 → ℕ) a + (![r, q] : Fin 2 → ℕ) a ≤ (![R, C] : Fin 2 → ℕ) a)
    (i : (⟨2, ![r, q]⟩ : Shape).Idx) (k : (⟨2, ![R, C]⟩ : Shape).Idx) (h0 : (k 0 : ℕ) = o + (i 0 : ℕ)) (h1 : (k 1 : ℕ) = p + (i 1 : ℕ)) :
    View.ld X (Rect.unit (s := (⟨2, ![R, C]⟩ : Shape)) ![o, p] ![r, q] inb) i = X k := by
  refine congrArg X (funext fun a => Fin.ext ?_)
  fin_cases a
  · show o + 1 * (i 0 : ℕ) = (k 0 : ℕ)
    omega
  · show p + 1 * (i 1 : ℕ) = (k 1 : ℕ)
    omega

theorem ld_lo (X : Vec Ideal S256x3072 .bf16) (i : S256x1536.Idx) (k : S256x3072.Idx) (h0 : (k 0 : ℕ) = (i 0 : ℕ)) (h1 : (k 1 : ℕ) = (i 1 : ℕ)) :
    (View.ld X (Rect.unit ![0, 0] ![256, 1536] inb_S256x3072_S256x1536_0_0) : FVec Ideal S256x1536 .bf16) i = X k :=
  ld2 X _ i k (by omega) (by omega)

theorem ld_hi (X : Vec Ideal S256x3072 .bf16) (i : S256x1536.Idx) (k : S256x3072.Idx) (h0 : (k 0 : ℕ) = (i 0 : ℕ)) (h1 : (k 1 : ℕ) = 1536 + (i 1 : ℕ)) :
    (View.ld X (Rect.unit ![0, 1536] ![256, 1536] inb_S256x3072_S256x1536_0_1536) : FVec Ideal S256x1536 .bf16) i = X k :=
  ld2 X _ i k (by omega) (by omega)

theorem zero8 (i : S8x6144.Idx) : k0_pay1 (F := Ideal) i = 0 := by
  pointwise [k0_pay1]

theorem zero3 (i : S3x6144.Idx) : k0_pay2 (F := Ideal) i = 0 := by
  pointwise [k0_pay2]

theorem zero1 (i : S1x6144.Idx) : k0_pay3 (F := Ideal) i = 0 := by
  pointwise [k0_pay3]

theorem pay15_at (a : FVec Ideal S8x1536 .f32) : k0_pay15 (F := Ideal) a = a := by
  funext i
  pointwise [k0_pay15]

theorem pay14_at (a : Vec Ideal S256x1024 .bf16) (b : Vec Ideal S1536x1024 .bf16) (x : FVec Ideal S256x1536 .bf16) (i : S8x1536.Idx) (k : S256x1536.Idx) (h0 : (k 0 : ℕ) = (i 0 : ℕ)) (h1 : (k 1 : ℕ) = (i 1 : ℕ)) :
    k0_pay14 (F := Ideal) a b x i = k0_pay11 (F := Ideal) a b x k := by
  unfold k0_pay14
  generalize k0_pay11 (F := Ideal) a b x = X
  pointwise
  blk_point []

theorem pay26_at (a : FVec Ideal S256x1536 .f32) (x : FVec Ideal S256x1536 .bf16) (i : S8x1536.Idx) (k : S256x1536.Idx) (h0 : (k 0 : ℕ) = (i 0 : ℕ)) (h1 : (k 1 : ℕ) = (i 1 : ℕ)) :
    k0_pay26 (F := Ideal) a x i = k0_pay23 (F := Ideal) a x k := by
  unfold k0_pay26
  generalize k0_pay23 (F := Ideal) a x = X
  pointwise
  blk_point []

theorem pay41_at (a : FVec Ideal S256x1536 .f32) (i : S8x1536.Idx) (k : S256x1536.Idx) (h0 : (k 0 : ℕ) = (i 0 : ℕ)) (h1 : (k 1 : ℕ) = (i 1 : ℕ)) :
    k0_pay41 (F := Ideal) a i = a k := by
  pointwise [k0_pay41]
  blk_point []

theorem pay55_at (a : FVec Ideal S256x1536 .f32) (i : S8x1536.Idx) (k : S256x1536.Idx) (h0 : (k 0 : ℕ) = (i 0 : ℕ)) (h1 : (k 1 : ℕ) = (i 1 : ℕ)) :
    k0_pay55 (F := Ideal) a i = a k := by
  pointwise [k0_pay55]
  blk_point []

/-! ## The convolution's transpose -/

theorem pay_du_A (a b d : FVec Ideal S256x1536 .f32) (u v w : FVec Ideal S1x1536 .f32) (i : S256x1536.Idx) :
    (k0_pay16 (F := Ideal) a b d u v w i : EReal) = (u (ix2 0 (i 1)) : EReal) * (a i : EReal) + (v (ix2 0 (i 1)) : EReal) * (b i : EReal) + (w (ix2 0 (i 1)) : EReal) * (d i : EReal) := by
  pointwise [k0_pay16]

theorem pay27_eq (a b d : FVec Ideal S256x1536 .f32) (u v w : FVec Ideal S1x1536 .f32) : k0_pay27 (F := Ideal) a b d u v w = k0_pay16 a b d u v w := rfl
theorem pay42_eq (a b : FVec Ideal S256x1536 .f32) (n : FVec Ideal S8x1536 .f32) (d : FVec Ideal S256x1536 .f32) (e f : IVec S8x1536 32) (u v w : FVec Ideal S1x1536 .f32) :
    k0_pay42 (F := Ideal) a n b d e f u v w = k0_pay16 a b (k0_pay40 n d e f) u v w := rfl
theorem pay56_eq (a b : FVec Ideal S256x1536 .f32) (n : FVec Ideal S8x1536 .f32) (d : FVec Ideal S256x1536 .f32) (e : IVec S8x1536 1) (f : BitVec 32) (u v w : FVec Ideal S1x1536 .f32) :
    k0_pay56 (F := Ideal) a n b d e f u v w = k0_pay16 a b (k0_pay54 n d e f) u v w := rfl

/-! ## The sums over a block's rows -/

theorem pay_dw2_A (a : FVec Ideal S256x1536 .f32) (u : FVec Ideal S256x1536 .bf16) (acc : FVec Ideal S1x1536 .f32) (i : S1x1536.Idx) :
    (k0_pay18 (F := Ideal) a u acc i : EReal) = (acc i : EReal) + ∑ r : Fin 256, (a (ix2 r (i 1)) : EReal) * (u (ix2 r (i 1)) : EReal) := by
  pointwise [k0_pay17, k0_pay18]

theorem pay_dw1_A (a : FVec Ideal S256x1536 .f32) (u : FVec Ideal S256x1536 .bf16) (acc : FVec Ideal S1x1536 .f32) (i : S1x1536.Idx) :
    (k0_pay19 (F := Ideal) a u acc i : EReal) = (acc i : EReal) + ∑ r : Fin 256, (a (ix2 r (i 1)) : EReal) * (u (ix2 r (i 1)) : EReal) := by
  pointwise [k0_pay17, k0_pay19]

theorem pay_dw0_A (a : FVec Ideal S256x1536 .f32) (u : FVec Ideal S256x1536 .bf16) (acc : FVec Ideal S1x1536 .f32) (i : S1x1536.Idx) :
    (k0_pay21 (F := Ideal) a (k0_pay17 u) (k0_pay20 acc) i : EReal) = (acc i : EReal) + ∑ r : Fin 256, (a (ix2 r (i 1)) : EReal) * (u (ix2 r (i 1)) : EReal) := by
  pointwise [k0_pay17, k0_pay20, k0_pay21]

theorem pay_db_A (a : FVec Ideal S256x1536 .f32) (acc : FVec Ideal S1x1536 .f32) (i : S1x1536.Idx) :
    (k0_pay22 (F := Ideal) a acc i : EReal) = (acc i : EReal) + ∑ r : Fin 256, (a (ix2 r (i 1)) : EReal) := by
  pointwise [k0_pay22]

theorem pay_dw2_B (a : FVec Ideal S256x1536 .f32) (u : FVec Ideal S256x1536 .bf16) (acc : FVec Ideal S1x1536 .f32) (i : S1x1536.Idx) :
    (k0_pay29 (F := Ideal) a u acc i : EReal) = (acc i : EReal) + ∑ r : Fin 256, (a (ix2 r (i 1)) : EReal) * (u (ix2 r (i 1)) : EReal) := by
  pointwise [k0_pay28, k0_pay29]

theorem pay_dw1_B (a : FVec Ideal S256x1536 .f32) (u : FVec Ideal S256x1536 .bf16) (acc : FVec Ideal S1x1536 .f32) (i : S1x1536.Idx) :
    (k0_pay30 (F := Ideal) a u acc i : EReal) = (acc i : EReal) + ∑ r : Fin 256, (a (ix2 r (i 1)) : EReal) * (u (ix2 r (i 1)) : EReal) := by
  pointwise [k0_pay28, k0_pay30]

theorem pay_dw0_B (a : FVec Ideal S256x1536 .f32) (u : FVec Ideal S256x1536 .bf16) (acc : FVec Ideal S1x1536 .f32) (i : S1x1536.Idx) :
    (k0_pay33 (F := Ideal) (k0_pay31 acc) (k0_pay32 a u) i : EReal) = (acc i : EReal) + ∑ r : Fin 256, (a (ix2 r (i 1)) : EReal) * (u (ix2 r (i 1)) : EReal) := by
  pointwise [k0_pay28, k0_pay31, k0_pay32, k0_pay33]

theorem pay_db_B (a : FVec Ideal S256x1536 .f32) (acc : FVec Ideal S1x1536 .f32) (i : S1x1536.Idx) :
    (k0_pay34 (F := Ideal) a acc i : EReal) = (acc i : EReal) + ∑ r : Fin 256, (a (ix2 r (i 1)) : EReal) := by
  pointwise [k0_pay34]

theorem pay_dw2_C (a : FVec Ideal S256x1536 .f32) (u : FVec Ideal S256x1536 .bf16) (acc : FVec Ideal S1x1536 .f32) (i : S1x1536.Idx) :
    (k0_pay44 (F := Ideal) a u acc i : EReal) = (acc i : EReal) + ∑ r : Fin 256, (a (ix2 r (i 1)) : EReal) * (u (ix2 r (i 1)) : EReal) := by
  pointwise [k0_pay43, k0_pay44]

theorem pay_dw1_C (a : FVec Ideal S256x1536 .f32) (u : FVec Ideal S256x1536 .bf16) (acc : FVec Ideal S1x1536 .f32) (i : S1x1536.Idx) :
    (k0_pay47 (F := Ideal) (k0_pay45 acc) (k0_pay46 a u) i : EReal) = (acc i : EReal) + ∑ r : Fin 256, (a (ix2 r (i 1)) : EReal) * (u (ix2 r (i 1)) : EReal) := by
  pointwise [k0_pay43, k0_pay45, k0_pay46, k0_pay47]

theorem pay_dw0_C (a : FVec Ideal S256x1536 .f32) (u : FVec Ideal S256x1536 .bf16) (acc : FVec Ideal S1x1536 .f32) (i : S1x1536.Idx) :
    (k0_pay48 (F := Ideal) a (k0_pay43 u) acc i : EReal) = (acc i : EReal) + ∑ r : Fin 256, (a (ix2 r (i 1)) : EReal) * (u (ix2 r (i 1)) : EReal) := by
  pointwise [k0_pay43, k0_pay48]

theorem pay_db_C (a : FVec Ideal S256x1536 .f32) (acc : FVec Ideal S1x1536 .f32) (i : S1x1536.Idx) :
    (k0_pay49 (F := Ideal) a acc i : EReal) = (acc i : EReal) + ∑ r : Fin 256, (a (ix2 r (i 1)) : EReal) := by
  pointwise [k0_pay49]

theorem pay_dw2_D (a : FVec Ideal S256x1536 .f32) (u : FVec Ideal S256x1536 .bf16) (acc : FVec Ideal S1x1536 .f32) (i : S1x1536.Idx) :
    (k0_pay58 (F := Ideal) a u acc i : EReal) = (acc i : EReal) + ∑ r : Fin 256, (a (ix2 r (i 1)) : EReal) * (u (ix2 r (i 1)) : EReal) := by
  pointwise [k0_pay57, k0_pay58]

theorem pay_dw1_D (a : FVec Ideal S256x1536 .f32) (u : FVec Ideal S256x1536 .bf16) (acc : FVec Ideal S1x1536 .f32) (i : S1x1536.Idx) :
    (k0_pay61 (F := Ideal) (k0_pay59 acc) (k0_pay60 a u) i : EReal) = (acc i : EReal) + ∑ r : Fin 256, (a (ix2 r (i 1)) : EReal) * (u (ix2 r (i 1)) : EReal) := by
  pointwise [k0_pay57, k0_pay59, k0_pay60, k0_pay61]

theorem pay_dw0_D (a : FVec Ideal S256x1536 .f32) (u : FVec Ideal S256x1536 .bf16) (acc : FVec Ideal S1x1536 .f32) (i : S1x1536.Idx) :
    (k0_pay62 (F := Ideal) a (k0_pay57 u) acc i : EReal) = (acc i : EReal) + ∑ r : Fin 256, (a (ix2 r (i 1)) : EReal) * (u (ix2 r (i 1)) : EReal) := by
  pointwise [k0_pay57, k0_pay62]

theorem pay_db_D (a : FVec Ideal S256x1536 .f32) (acc : FVec Ideal S1x1536 .f32) (i : S1x1536.Idx) :
    (k0_pay63 (F := Ideal) a acc i : EReal) = (acc i : EReal) + ∑ r : Fin 256, (a (ix2 r (i 1)) : EReal) := by
  pointwise [k0_pay63]

end Cert.Ffn
end
-- ==== Proof.FfnBlock.lean ====
module

public import proofs.«01_k».proof.Proof.FfnReal
public import proofs.«01_k».proof.Proof.FfnPay

/-!
# One block of the gradient of the convolution's output

The grid runs from the last row block to the first. A block's gradient is taken in four column pieces, two of the
activation's half and two of the value half; each is the reference's gradient on the block's rows.
-/

@[expose] public section

set_option maxRecDepth 16384

noncomputable section

namespace Cert.Ffn

open Idealize.ShloMosaic Idealize.ShloMosaic.TcCoe Idealize.SL.Sem
open Idealize.ShloMosaic.Pipeline (Dat)
open Cert.KernelFfnIdeal Cert.KernelFfnIdeal.Gen
open Cert.ReferenceFfnIdeal.Read

variable (m : (ℓ : Loc nD τ sig) → Buf (Elt Ideal) ℓ)

/-- Where every window's block sits at each grid point. -/
theorem idx : ∀ t : Fin cfg0.N, win0_0.index t = ![31 - t.val, 0] ∧ win0_1.index t = ![0, 0] ∧ win0_2.index t = ![31 - t.val, 0]
    ∧ win0_3.index t = ![31 - t.val, 0] ∧ win0_4.index t = ![31 - t.val, 0] ∧ win0_5.index t = ![0, 0] ∧ win0_6.index t = ![0, 0, 0]
    ∧ win0_7.index t = ![31 - t.val, 0] ∧ win0_8.index t = ![31 - t.val, 0] ∧ win0_9.index t = ![0, 0] ∧ win0_10.index t = ![0, 0] ∧ win0_11.index t = ![0, 0]
    ∧ win0_12.index t = ![31 - t.val, 0] ∧ win0_13.index t = ![31 - t.val, 0] ∧ win0_14.index t = ![0, 0] ∧ win0_15.index t = ![0, 0]
    ∧ win0_16.index t = ![31 - t.val, 0] ∧ win0_17.index t = ![0, 0] ∧ win0_18.index t = ![0, 0] ∧ win0_19.index t = ![0, 0]
    ∧ win0_20.index t = ![31 - t.val, 0] ∧ win0_21.index t = ![0, 0] :=
  (by decide +kernel : ∀ t : Fin grid0.N, _)

theorem up_at (c : Dev nD) (t : Fin cfg0.N) (x : S256x6144.Idx) (j : S8192x6144.Idx)
    (h0 : (j 0 : ℕ) = (31 - t.val) * 256 + (x 0 : ℕ)) (h1 : (j 1 : ℕ) = (x 1 : ℕ)) :
    (iblk m c 2 t : FVec Ideal S256x6144 .bf16) x = rU m c j := by
  rw [← vU]
  blk_point [iblk, idx t]

theorem ga_at (c : Dev nD) (t : Fin cfg0.N) (x : S256x3072.Idx) (j : S8192x3072.Idx)
    (h0 : (j 0 : ℕ) = (31 - t.val) * 256 + (x 0 : ℕ)) (h1 : (j 1 : ℕ) = (x 1 : ℕ)) :
    (iblk m c 3 t : FVec Ideal S256x3072 .bf16) x = rGa m c j := by
  rw [← vGa]
  blk_point [iblk, idx t]

theorem vd_at (c : Dev nD) (t : Fin cfg0.N) (x : S256x3072.Idx) (j : S8192x3072.Idx)
    (h0 : (j 0 : ℕ) = (31 - t.val) * 256 + (x 0 : ℕ)) (h1 : (j 1 : ℕ) = (x 1 : ℕ)) :
    (iblk m c 4 t : FVec Ideal S256x3072 .bf16) x = rVal m c j * slope m c j := by
  refine Eq.trans ?_ (congrFun (vVd m c) j)
  blk_point [iblk, idx t]

/-- The gradient of the activation's product at the first column half. -/
def df0 (c : Dev nD) (t : Fin cfg0.N) : FVec Ideal S256x1536 .f32 :=
  k0_pay9 (iblk m c 0 t) (View.ld (iblk m c 1 t) (Rect.unit ![0, 0] ![1536, 1024] inb_S3072x1024_S1536x1024_0_0))

/-- The gradient of the activation's product at the second column half. -/
def df1 (c : Dev nD) (t : Fin cfg0.N) : FVec Ideal S256x1536 .f32 :=
  k0_pay10 (iblk m c 0 t) (View.ld (iblk m c 1 t) (Rect.unit ![1536, 0] ![1536, 1024] inb_S3072x1024_S1536x1024_1536_0))

theorem df0_at (c : Dev nD) (t : Fin cfg0.N) (i : S256x1536.Idx) (j : S8192x3072.Idx)
    (h0 : (j 0 : ℕ) = (31 - t.val) * 256 + (i 0 : ℕ)) (h1 : (j 1 : ℕ) = (i 1 : ℕ)) : df0 m c t i = rDf m c j := by
  unfold df0
  pointwise [k0_pay9, k0_pay8, rDf, val_main_v76]
  blk_simp [iblk]
  entry_read
  pointwise
  blk_point [idx t]

theorem df1_at (c : Dev nD) (t : Fin cfg0.N) (i : S256x1536.Idx) (j : S8192x3072.Idx)
    (h0 : (j 0 : ℕ) = (31 - t.val) * 256 + (i 0 : ℕ)) (h1 : (j 1 : ℕ) = 1536 + (i 1 : ℕ)) : df1 m c t i = rDf m c j := by
  unfold df1
  pointwise [k0_pay10, k0_pay8, rDf, val_main_v76]
  blk_simp [iblk]
  entry_read
  pointwise
  blk_point [idx t]

/-- The first piece: the activation's first columns. -/
def dhA (c : Dev nD) (t : Fin cfg0.N) : FVec Ideal S256x1536 .f32 :=
  k0_pay11 (iblk m c 0 t) (View.ld (iblk m c 1 t) (Rect.unit ![0, 0] ![1536, 1024] inb_S3072x1024_S1536x1024_0_0))
    (View.ld (iblk m c 4 t) (Rect.unit ![0, 0] ![256, 1536] inb_S256x3072_S256x1536_0_0))

/-- The second piece: the value's first columns. -/
def dhB (c : Dev nD) (t : Fin cfg0.N) : FVec Ideal S256x1536 .f32 :=
  k0_pay23 (df0 m c t) (View.ld (iblk m c 3 t) (Rect.unit ![0, 0] ![256, 1536] inb_S256x3072_S256x1536_0_0))

/-- The third piece: the activation's last columns. -/
def dhC (c : Dev nD) (t : Fin cfg0.N) : FVec Ideal S256x1536 .f32 :=
  k0_pay36 (df1 m c t) (View.ld (iblk m c 4 t) (Rect.unit ![0, 1536] ![256, 1536] inb_S256x3072_S256x1536_0_1536))

/-- The fourth piece: the value's last columns. -/
def dhD (c : Dev nD) (t : Fin cfg0.N) : FVec Ideal S256x1536 .f32 :=
  k0_pay50 (df1 m c t) (View.ld (iblk m c 3 t) (Rect.unit ![0, 1536] ![256, 1536] inb_S256x3072_S256x1536_0_1536))

variable {m}

theorem dhA_at {c : Dev nD} (hf : Finite m c) (t : Fin cfg0.N) (i : S256x1536.Idx) (j : S8192x6144.Idx)
    (h0 : (j 0 : ℕ) = (31 - t.val) * 256 + (i 0 : ℕ)) (h1 : (j 1 : ℕ) = (i 1 : ℕ)) : dhA m c t i = rA m c j := by
  have hi : (i 1).val < 1536 := (i 1).isLt
  refine Eq.trans ?_ (rA_act hf j (ix2 (j 0) ⟨(i 1).val, by omega⟩) rfl h1.symm)
  refine (pay11_at _ _ _ _).trans ?_
  refine congrArg₂ (· * ·) (df0_at m c t i _ h0 rfl) (Eq.trans (ld_lo _ i _ rfl rfl) (vd_at m c t (ix2 (i 0) ⟨(i 1).val, by omega⟩) _ h0 rfl))

theorem dhB_at {c : Dev nD} (hf : Finite m c) (t : Fin cfg0.N) (i : S256x1536.Idx) (j : S8192x6144.Idx)
    (h0 : (j 0 : ℕ) = (31 - t.val) * 256 + (i 0 : ℕ)) (h1 : (j 1 : ℕ) = 3072 + (i 1 : ℕ)) : dhB m c t i = rA m c j := by
  have hi : (i 1).val < 1536 := (i 1).isLt
  refine Eq.trans ?_ (rA_val j (ix2 (j 0) ⟨(i 1).val, by omega⟩) rfl h1.symm)
  refine (pay23_at _ _ _).trans ?_
  refine congrArg₂ (· * ·) (df0_at m c t i _ h0 rfl) (Eq.trans (ld_lo _ i _ rfl rfl) (ga_at m c t (ix2 (i 0) ⟨(i 1).val, by omega⟩) _ h0 rfl))

theorem dhC_at {c : Dev nD} (hf : Finite m c) (t : Fin cfg0.N) (i : S256x1536.Idx) (j : S8192x6144.Idx)
    (h0 : (j 0 : ℕ) = (31 - t.val) * 256 + (i 0 : ℕ)) (h1 : (j 1 : ℕ) = 1536 + (i 1 : ℕ)) : dhC m c t i = rA m c j := by
  have hi : (i 1).val < 1536 := (i 1).isLt
  refine Eq.trans ?_ (rA_act hf j (ix2 (j 0) ⟨1536 + (i 1).val, by omega⟩) rfl h1.symm)
  refine (pay36_at _ _ _).trans ?_
  refine congrArg₂ (· * ·) (df1_at m c t i _ h0 rfl) (Eq.trans (ld_hi _ i _ rfl rfl) (vd_at m c t (ix2 (i 0) ⟨1536 + (i 1).val, by omega⟩) _ h0 rfl))

theorem dhD_at {c : Dev nD} (hf : Finite m c) (t : Fin cfg0.N) (i : S256x1536.Idx) (j : S8192x6144.Idx)
    (h0 : (j 0 : ℕ) = (31 - t.val) * 256 + (i 0 : ℕ)) (h1 : (j 1 : ℕ) = 4608 + (i 1 : ℕ)) : dhD m c t i = rA m c j := by
  have hi : (i 1).val < 1536 := (i 1).isLt
  refine Eq.trans ?_ (rA_val j (ix2 (j 0) ⟨1536 + (i 1).val, by omega⟩) rfl (by show 3072 + (1536 + (i 1).val) = _; omega))
  refine (pay50_at _ _ _).trans ?_
  refine congrArg₂ (· * ·) (df1_at m c t i _ h0 rfl) (Eq.trans (ld_hi _ i _ rfl rfl) (ga_at m c t (ix2 (i 0) ⟨1536 + (i 1).val, by omega⟩) _ h0 rfl))

end Cert.Ffn
end
-- ==== Proof.FfnNext.lean ====
module

public import proofs.«01_k».proof.Proof.FfnBlock
public import proofs.«01_k».proof.Proof.Gen.KernelFfnIdeal.Value
public import Idealize.ShloMosaic.Lib.Pipeline.ReadBack

/-!
# The first rows of the block that follows

A grid point leaves the first eight rows of its gradient in a scratch buffer, and the next point, which is the row
block before it, reads them there. The first point finds zeros.
-/

@[expose] public section

set_option maxRecDepth 16384

noncomputable section

namespace Cert.Ffn

open Idealize.ShloMosaic Idealize.ShloMosaic.TcCoe Idealize.SL.Sem
open Idealize.ShloMosaic.Pipeline (Dat)
open Cert.KernelFfnIdeal Cert.KernelFfnIdeal.Gen
open Cert.ReferenceFfnIdeal.Read

variable (m : (ℓ : Loc nD τ sig) → Buf (Elt Ideal) ℓ)

/-- What a point leaves for the next one. -/
abbrev scr (c : Dev nD) (n : ℕ) (h : n < cfg0.N) : Vec Ideal S8x6144 .f32 := (outsAt0 m c n h).2.2.2.2.2.2.2.2.2

/-- What a point finds: zeros at the first, and what the point before it left at the others. -/
def nx (c : Dev nD) (t : Fin cfg0.N) : Vec Ideal S8x6144 .f32 :=
  if t.val % 32 = 0 then k0_pay1 (F := Ideal) else scr m c (t.val - 1) (lt_of_le_of_lt (Nat.sub_le _ _) t.isLt)

theorem nx_A (c : Dev nD) (t : Fin cfg0.N) (h : t.val % 32 = 0) : nx m c t = k0_pay1 (F := Ideal) := if_pos h
theorem nx_B (c : Dev nD) (t : Fin cfg0.N) (h : ¬ t.val % 32 = 0) :
    nx m c t = (outsAt0 m c (t.val - 1) (lt_of_le_of_lt (Nat.sub_le _ _) t.isLt)).2.2.2.2.2.2.2.2.2 := if_neg h

/-- The columns from 0 on of what a point finds. -/
def nxA (c : Dev nD) (t : Fin cfg0.N) : FVec Ideal S8x1536 .f32 :=
  View.ld (nx m c t) (Rect.unit ![0, 0] ![8, 1536] inb_S8x6144_S8x1536_0_0)

/-- The columns from 3072 on of what a point finds. -/
def nxB (c : Dev nD) (t : Fin cfg0.N) : FVec Ideal S8x1536 .f32 :=
  View.ld (nx m c t) (Rect.unit ![0, 3072] ![8, 1536] inb_S8x6144_S8x1536_0_3072)

/-- The columns from 1536 on of what a point finds. -/
def nxC (c : Dev nD) (t : Fin cfg0.N) : FVec Ideal S8x1536 .f32 :=
  View.ld (nx m c t) (Rect.unit ![0, 1536] ![8, 1536] inb_S8x6144_S8x1536_0_1536)

/-- The columns from 4608 on of what a point finds. -/
def nxD (c : Dev nD) (t : Fin cfg0.N) : FVec Ideal S8x1536 .f32 :=
  View.ld (nx m c t) (Rect.unit ![0, 4608] ![8, 1536] inb_S8x6144_S8x1536_0_4608)

variable {m}

/-- The first eight rows of a block's gradient are what its point leaves. -/
theorem scr_at {c : Dev nD} (hf : Finite m c) (t : Fin cfg0.N) (y : S8x6144.Idx) (j : S8192x6144.Idx)
    (hj0 : (j 0 : ℕ) = (31 - t.val) * 256 + (y 0 : ℕ)) (hj1 : (j 1 : ℕ) = (y 1 : ℕ)) : scr m c t.val t.isLt y = rA m c j := by
  unfold scr
  by_cases h' : t.val % 32 = 0
  · rw [outsAt0_A m c t h']
    frame_out
    clear h'
    refine (congrFun (canon_cover [⟨_, _⟩, ⟨_, _⟩, ⟨_, _⟩, ⟨_, _⟩] [⟨_, _⟩] (fun y => View.cover_of_tiled_head _ _ _ rfl y)) y).trans ?_
    canon_tiles x h
    · exact (pay55_at _ x (ix2 ⟨(x 0).val, by omega⟩ (x 1)) rfl rfl).trans (dhD_at hf t _ j (hj0.trans (by rw [h0]; rfl)) (hj1.trans h1))
    · exact (pay41_at _ x (ix2 ⟨(x 0).val, by omega⟩ (x 1)) rfl rfl).trans (dhC_at hf t _ j (hj0.trans (by rw [h0]; rfl)) (hj1.trans h1))
    · exact (pay26_at _ _ x (ix2 ⟨(x 0).val, by omega⟩ (x 1)) rfl rfl).trans (dhB_at hf t _ j (hj0.trans (by rw [h0]; rfl)) (hj1.trans h1))
    · rw [pay15_at]
      exact (pay14_at _ _ _ x (ix2 ⟨(x 0).val, by omega⟩ (x 1)) rfl rfl).trans (dhA_at hf t _ j (hj0.trans (by rw [h0]; rfl)) (hj1.trans h1))
  · rw [outsAt0_B m c t h']
    frame_out
    clear h'
    canon_tiles x h
    · exact (pay55_at _ x (ix2 ⟨(x 0).val, by omega⟩ (x 1)) rfl rfl).trans (dhD_at hf t _ j (hj0.trans (by rw [h0]; rfl)) (hj1.trans h1))
    · exact (pay41_at _ x (ix2 ⟨(x 0).val, by omega⟩ (x 1)) rfl rfl).trans (dhC_at hf t _ j (hj0.trans (by rw [h0]; rfl)) (hj1.trans h1))
    · exact (pay26_at _ _ x (ix2 ⟨(x 0).val, by omega⟩ (x 1)) rfl rfl).trans (dhB_at hf t _ j (hj0.trans (by rw [h0]; rfl)) (hj1.trans h1))
    · rw [pay15_at]
      exact (pay14_at _ _ _ x (ix2 ⟨(x 0).val, by omega⟩ (x 1)) rfl rfl).trans (dhA_at hf t _ j (hj0.trans (by rw [h0]; rfl)) (hj1.trans h1))

theorem lt32 (t : Fin cfg0.N) : t.val < 32 := lt_of_lt_of_eq t.isLt (by decide)

theorem nx_zero {c : Dev nD} (t : Fin cfg0.N) (h : t.val % 32 = 0) (y : S8x6144.Idx) : nx m c t y = 0 := by
  rw [nx_A m c t h]
  exact zero8 y

theorem nx_at {c : Dev nD} (hf : Finite m c) (t : Fin cfg0.N) (h : ¬ t.val % 32 = 0) (y : S8x6144.Idx) (j : S8192x6144.Idx)
    (hj0 : (j 0 : ℕ) = (32 - t.val) * 256 + (y 0 : ℕ)) (hj1 : (j 1 : ℕ) = (y 1 : ℕ)) : nx m c t y = rA m c j := by
  have ht := lt32 t
  rw [nx_B m c t h]
  refine scr_at hf ⟨t.val - 1, lt_of_le_of_lt (Nat.sub_le _ _) t.isLt⟩ y j ?_ hj1
  show (j 0 : ℕ) = (31 - (t.val - 1)) * 256 + (y 0 : ℕ)
  omega

/-- A piece moved up one row, its last row from the block that follows, is the gradient one row further down. -/
theorem shift1 {c : Dev nD} (t : Fin cfg0.N) (off : ℕ) (D : FVec Ideal S256x1536 .f32) (n : FVec Ideal S8x1536 .f32)
    (hD : ∀ (i : S256x1536.Idx) (j : S8192x6144.Idx), (j 0 : ℕ) = (31 - t.val) * 256 + (i 0 : ℕ) → (j 1 : ℕ) = off + (i 1 : ℕ) → D i = rA m c j)
    (hz : t.val % 32 = 0 → ∀ y, n y = 0)
    (hn : ¬ t.val % 32 = 0 → ∀ (y : S8x1536.Idx) (j : S8192x6144.Idx), (j 0 : ℕ) = (32 - t.val) * 256 + (y 0 : ℕ) → (j 1 : ℕ) = off + (y 1 : ℕ) → n y = rA m c j)
    (i : S256x1536.Idx) (j : S8192x6144.Idx) (h0 : (j 0 : ℕ) = (31 - t.val) * 256 + (i 0 : ℕ)) (h1 : (j 1 : ℕ) = off + (i 1 : ℕ)) :
    up1 D n i = below (rA m c) 1 j := by
  have ht := lt32 t
  have hi : (i 0).val < 256 := (i 0).isLt
  by_cases h : (i 0).val < 255
  · rw [up1_inner _ _ _ h]
    exact (hD (ix2 ⟨(i 0).val + 1, by omega⟩ (i 1)) (ix2 ⟨(j 0).val + 1, by omega⟩ (j 1)) (by show (j 0 : ℕ) + 1 = (31 - t.val) * 256 + ((i 0 : ℕ) + 1); omega) h1).trans (below_at (rA m c) 1 j (ix2 ⟨(j 0).val + 1, by omega⟩ (j 1)) rfl rfl).symm
  · rw [up1_last _ _ _ (by omega)]
    by_cases hc : t.val % 32 = 0
    · rw [below_past _ _ _ (by omega)]
      exact hz hc _
    · exact (hn hc (ix2 0 (i 1)) (ix2 ⟨(j 0).val + 1, by omega⟩ (j 1)) (by show (j 0 : ℕ) + 1 = (32 - t.val) * 256 + 0; omega) h1).trans (below_at (rA m c) 1 j (ix2 ⟨(j 0).val + 1, by omega⟩ (j 1)) rfl rfl).symm

/-- A piece moved up two rows, its last rows from the block that follows, is the gradient two rows further down. -/
theorem shift2 {c : Dev nD} (t : Fin cfg0.N) (off : ℕ) (D : FVec Ideal S256x1536 .f32) (n : FVec Ideal S8x1536 .f32)
    (hD : ∀ (i : S256x1536.Idx) (j : S8192x6144.Idx), (j 0 : ℕ) = (31 - t.val) * 256 + (i 0 : ℕ) → (j 1 : ℕ) = off + (i 1 : ℕ) → D i = rA m c j)
    (hz : t.val % 32 = 0 → ∀ y, n y = 0)
    (hn : ¬ t.val % 32 = 0 → ∀ (y : S8x1536.Idx) (j : S8192x6144.Idx), (j 0 : ℕ) = (32 - t.val) * 256 + (y 0 : ℕ) → (j 1 : ℕ) = off + (y 1 : ℕ) → n y = rA m c j)
    (i : S256x1536.Idx) (j : S8192x6144.Idx) (h0 : (j 0 : ℕ) = (31 - t.val) * 256 + (i 0 : ℕ)) (h1 : (j 1 : ℕ) = off + (i 1 : ℕ)) :
    up2 D n i = below (rA m c) 2 j := by
  have ht := lt32 t
  have hi : (i 0).val < 256 := (i 0).isLt
  by_cases h : (i 0).val < 254
  · rw [up2_inner _ _ _ h]
    exact (hD (ix2 ⟨(i 0).val + 2, by omega⟩ (i 1)) (ix2 ⟨(j 0).val + 2, by omega⟩ (j 1)) (by show (j 0 : ℕ) + 2 = (31 - t.val) * 256 + ((i 0 : ℕ) + 2); omega) h1).trans (below_at (rA m c) 2 j (ix2 ⟨(j 0).val + 2, by omega⟩ (j 1)) rfl rfl).symm
  · rw [up2_last _ _ _ (by omega) hi]
    by_cases hc : t.val % 32 = 0
    · rw [below_past _ _ _ (by omega)]
      exact hz hc _
    · exact (hn hc (ix2 ⟨(i 0).val - 254, by omega⟩ (i 1)) (ix2 ⟨(j 0).val + 2, by omega⟩ (j 1)) (by show (j 0 : ℕ) + 2 = (32 - t.val) * 256 + ((i 0 : ℕ) - 254); omega) h1).trans (below_at (rA m c) 2 j (ix2 ⟨(j 0).val + 2, by omega⟩ (j 1)) rfl rfl).symm

theorem nxA_zero {c : Dev nD} (t : Fin cfg0.N) (h : t.val % 32 = 0) (y : S8x1536.Idx) : nxA m c t y = 0 :=
  nx_zero t h _

theorem nxA_at {c : Dev nD} (hf : Finite m c) (t : Fin cfg0.N) (h : ¬ t.val % 32 = 0) (y : S8x1536.Idx) (j : S8192x6144.Idx)
    (h0 : (j 0 : ℕ) = (32 - t.val) * 256 + (y 0 : ℕ)) (h1 : (j 1 : ℕ) = 0 + (y 1 : ℕ)) : nxA m c t y = rA m c j := by
  have hy : (y 1).val < 1536 := (y 1).isLt
  exact (ld2 (nx m c t) _ y (ix2 ⟨(y 0).val, (y 0).isLt⟩ ⟨0 + (y 1).val, by omega⟩) (by show (y 0 : ℕ) = 0 + (y 0 : ℕ); omega) rfl).trans (nx_at hf t h _ j h0 h1)

theorem up1_A {c : Dev nD} (hf : Finite m c) (t : Fin cfg0.N) (i : S256x1536.Idx) (j : S8192x6144.Idx)
    (h0 : (j 0 : ℕ) = (31 - t.val) * 256 + (i 0 : ℕ)) (h1 : (j 1 : ℕ) = 0 + (i 1 : ℕ)) : up1 (dhA m c t) (nxA m c t) i = below (rA m c) 1 j :=
  shift1 t 0 _ _ (fun i j h0 h => dhA_at hf t i j h0 (h.trans (Nat.zero_add _))) (nxA_zero t) (nxA_at hf t) i j h0 h1

theorem up2_A {c : Dev nD} (hf : Finite m c) (t : Fin cfg0.N) (i : S256x1536.Idx) (j : S8192x6144.Idx)
    (h0 : (j 0 : ℕ) = (31 - t.val) * 256 + (i 0 : ℕ)) (h1 : (j 1 : ℕ) = 0 + (i 1 : ℕ)) : up2 (dhA m c t) (nxA m c t) i = below (rA m c) 2 j :=
  shift2 t 0 _ _ (fun i j h0 h => dhA_at hf t i j h0 (h.trans (Nat.zero_add _))) (nxA_zero t) (nxA_at hf t) i j h0 h1

theorem nxB_zero {c : Dev nD} (t : Fin cfg0.N) (h : t.val % 32 = 0) (y : S8x1536.Idx) : nxB m c t y = 0 :=
  nx_zero t h _

theorem nxB_at {c : Dev nD} (hf : Finite m c) (t : Fin cfg0.N) (h : ¬ t.val % 32 = 0) (y : S8x1536.Idx) (j : S8192x6144.Idx)
    (h0 : (j 0 : ℕ) = (32 - t.val) * 256 + (y 0 : ℕ)) (h1 : (j 1 : ℕ) = 3072 + (y 1 : ℕ)) : nxB m c t y = rA m c j := by
  have hy : (y 1).val < 1536 := (y 1).isLt
  exact (ld2 (nx m c t) _ y (ix2 ⟨(y 0).val, (y 0).isLt⟩ ⟨3072 + (y 1).val, by omega⟩) (by show (y 0 : ℕ) = 0 + (y 0 : ℕ); omega) rfl).trans (nx_at hf t h _ j h0 h1)

theorem up1_B {c : Dev nD} (hf : Finite m c) (t : Fin cfg0.N) (i : S256x1536.Idx) (j : S8192x6144.Idx)
    (h0 : (j 0 : ℕ) = (31 - t.val) * 256 + (i 0 : ℕ)) (h1 : (j 1 : ℕ) = 3072 + (i 1 : ℕ)) : up1 (dhB m c t) (nxB m c t) i = below (rA m c) 1 j :=
  shift1 t 3072 _ _ (fun i j h0 h => dhB_at hf t i j h0 h) (nxB_zero t) (nxB_at hf t) i j h0 h1

theorem up2_B {c : Dev nD} (hf : Finite m c) (t : Fin cfg0.N) (i : S256x1536.Idx) (j : S8192x6144.Idx)
    (h0 : (j 0 : ℕ) = (31 - t.val) * 256 + (i 0 : ℕ)) (h1 : (j 1 : ℕ) = 3072 + (i 1 : ℕ)) : up2 (dhB m c t) (nxB m c t) i = below (rA m c) 2 j :=
  shift2 t 3072 _ _ (fun i j h0 h => dhB_at hf t i j h0 h) (nxB_zero t) (nxB_at hf t) i j h0 h1

theorem nxC_zero {c : Dev nD} (t : Fin cfg0.N) (h : t.val % 32 = 0) (y : S8x1536.Idx) : nxC m c t y = 0 :=
  nx_zero t h _

theorem nxC_at {c : Dev nD} (hf : Finite m c) (t : Fin cfg0.N) (h : ¬ t.val % 32 = 0) (y : S8x1536.Idx) (j : S8192x6144.Idx)
    (h0 : (j 0 : ℕ) = (32 - t.val) * 256 + (y 0 : ℕ)) (h1 : (j 1 : ℕ) = 1536 + (y 1 : ℕ)) : nxC m c t y = rA m c j := by
  have hy : (y 1).val < 1536 := (y 1).isLt
  exact (ld2 (nx m c t) _ y (ix2 ⟨(y 0).val, (y 0).isLt⟩ ⟨1536 + (y 1).val, by omega⟩) (by show (y 0 : ℕ) = 0 + (y 0 : ℕ); omega) rfl).trans (nx_at hf t h _ j h0 h1)

theorem up1_C {c : Dev nD} (hf : Finite m c) (t : Fin cfg0.N) (i : S256x1536.Idx) (j : S8192x6144.Idx)
    (h0 : (j 0 : ℕ) = (31 - t.val) * 256 + (i 0 : ℕ)) (h1 : (j 1 : ℕ) = 1536 + (i 1 : ℕ)) : up1 (dhC m c t) (nxC m c t) i = below (rA m c) 1 j :=
  shift1 t 1536 _ _ (fun i j h0 h => dhC_at hf t i j h0 h) (nxC_zero t) (nxC_at hf t) i j h0 h1

theorem up2_C {c : Dev nD} (hf : Finite m c) (t : Fin cfg0.N) (i : S256x1536.Idx) (j : S8192x6144.Idx)
    (h0 : (j 0 : ℕ) = (31 - t.val) * 256 + (i 0 : ℕ)) (h1 : (j 1 : ℕ) = 1536 + (i 1 : ℕ)) : up2 (dhC m c t) (nxC m c t) i = below (rA m c) 2 j :=
  shift2 t 1536 _ _ (fun i j h0 h => dhC_at hf t i j h0 h) (nxC_zero t) (nxC_at hf t) i j h0 h1

theorem nxD_zero {c : Dev nD} (t : Fin cfg0.N) (h : t.val % 32 = 0) (y : S8x1536.Idx) : nxD m c t y = 0 :=
  nx_zero t h _

theorem nxD_at {c : Dev nD} (hf : Finite m c) (t : Fin cfg0.N) (h : ¬ t.val % 32 = 0) (y : S8x1536.Idx) (j : S8192x6144.Idx)
    (h0 : (j 0 : ℕ) = (32 - t.val) * 256 + (y 0 : ℕ)) (h1 : (j 1 : ℕ) = 4608 + (y 1 : ℕ)) : nxD m c t y = rA m c j := by
  have hy : (y 1).val < 1536 := (y 1).isLt
  exact (ld2 (nx m c t) _ y (ix2 ⟨(y 0).val, (y 0).isLt⟩ ⟨4608 + (y 1).val, by omega⟩) (by show (y 0 : ℕ) = 0 + (y 0 : ℕ); omega) rfl).trans (nx_at hf t h _ j h0 h1)

theorem up1_D {c : Dev nD} (hf : Finite m c) (t : Fin cfg0.N) (i : S256x1536.Idx) (j : S8192x6144.Idx)
    (h0 : (j 0 : ℕ) = (31 - t.val) * 256 + (i 0 : ℕ)) (h1 : (j 1 : ℕ) = 4608 + (i 1 : ℕ)) : up1 (dhD m c t) (nxD m c t) i = below (rA m c) 1 j :=
  shift1 t 4608 _ _ (fun i j h0 h => dhD_at hf t i j h0 h) (nxD_zero t) (nxD_at hf t) i j h0 h1

theorem up2_D {c : Dev nD} (hf : Finite m c) (t : Fin cfg0.N) (i : S256x1536.Idx) (j : S8192x6144.Idx)
    (h0 : (j 0 : ℕ) = (31 - t.val) * 256 + (i 0 : ℕ)) (h1 : (j 1 : ℕ) = 4608 + (i 1 : ℕ)) : up2 (dhD m c t) (nxD m c t) i = below (rA m c) 2 j :=
  shift2 t 4608 _ _ (fun i j h0 h => dhD_at hf t i j h0 h) (nxD_zero t) (nxD_at hf t) i j h0 h1

/-! ## What a point's loads of the scratch read -/

variable (m)

theorem found_B (c : Dev nD) (t : Fin cfg0.N) (h : ¬ t.val % 32 = 0) (hw : (Memref.whole cc0_scratch0).IsWhole) :
    View.read (Elt Ideal) (View.whole cc0_scratch0)
      (hw.unread (outsAt0 m c (t.val - 1) (lt_of_le_of_lt (Nat.sub_le _ _) t.isLt)).2.2.2.2.2.2.2.2.2) = nx m c t :=
  (read_unread_whole _ hw _).trans (nx_B m c t h).symm

theorem foundA_A (c : Dev nD) (t : Fin cfg0.N) (h : t.val % 32 = 0) :
    (View.whole cc0_scratch0).readCov (Val := Elt Ideal) [⟨Rect.unit ![0, 0] ![8, 6144] inb_S8x6144_S8x6144_0_0, k0_pay1 (F := Ideal)⟩]
      (Rect.unit ![0, 0] ![8, 1536] inb_S8x6144_S8x1536_0_0).toLoadRect = nxA m c t := by
  refine (View.readCov_fill (Val := Elt Ideal) (s := S8x6144) (e := .f32) (off := ![0, 0]) (View.whole cc0_scratch0) inb_S8x6144_S8x6144_0_0 (k0_pay1 (F := Ideal)) [] _ (fun a => by fin_cases a <;> rfl)).trans ?_
  unfold nxA
  rw [nx_A m c t h]

theorem foundA_eq (c : Dev nD) (t : Fin cfg0.N) : View.ld (nx m c t) (Rect.unit ![0, 0] ![8, 1536] inb_S8x6144_S8x1536_0_0) = nxA m c t := rfl

theorem foundB_A (c : Dev nD) (t : Fin cfg0.N) (h : t.val % 32 = 0) (wA : FVec Ideal S8x1536 .f32) :
    (View.whole cc0_scratch0).readCov (Val := Elt Ideal) [⟨Rect.unit ![0, 0] ![8, 1536] inb_S8x6144_S8x1536_0_0, wA⟩, ⟨Rect.unit ![0, 0] ![8, 6144] inb_S8x6144_S8x6144_0_0, k0_pay1 (F := Ideal)⟩]
      (Rect.unit ![0, 3072] ![8, 1536] inb_S8x6144_S8x1536_0_3072).toLoadRect = nxB m c t := by
  refine (View.readCov_skip _ _ _ _ _ (by decide)).trans (?_)
  refine (View.readCov_fill (Val := Elt Ideal) (s := S8x6144) (e := .f32) (off := ![0, 0]) (View.whole cc0_scratch0) inb_S8x6144_S8x6144_0_0 (k0_pay1 (F := Ideal)) [] _ (fun a => by fin_cases a <;> rfl)).trans ?_
  unfold nxB
  rw [nx_A m c t h]

theorem foundB_eq (c : Dev nD) (t : Fin cfg0.N) : View.ld (nx m c t) (Rect.unit ![0, 3072] ![8, 1536] inb_S8x6144_S8x1536_0_3072) = nxB m c t := rfl

theorem foundC_A (c : Dev nD) (t : Fin cfg0.N) (h : t.val % 32 = 0) (wB wA : FVec Ideal S8x1536 .f32) :
    (View.whole cc0_scratch0).readCov (Val := Elt Ideal) [⟨Rect.unit ![0, 3072] ![8, 1536] inb_S8x6144_S8x1536_0_3072, wB⟩, ⟨Rect.unit ![0, 0] ![8, 1536] inb_S8x6144_S8x1536_0_0, wA⟩, ⟨Rect.unit ![0, 0] ![8, 6144] inb_S8x6144_S8x6144_0_0, k0_pay1 (F := Ideal)⟩]
      (Rect.unit ![0, 1536] ![8, 1536] inb_S8x6144_S8x1536_0_1536).toLoadRect = nxC m c t := by
  refine (View.readCov_skip _ _ _ _ _ (by decide)).trans ((View.readCov_skip _ _ _ _ _ (by decide)).trans (?_))
  refine (View.readCov_fill (Val := Elt Ideal) (s := S8x6144) (e := .f32) (off := ![0, 0]) (View.whole cc0_scratch0) inb_S8x6144_S8x6144_0_0 (k0_pay1 (F := Ideal)) [] _ (fun a => by fin_cases a <;> rfl)).trans ?_
  unfold nxC
  rw [nx_A m c t h]

theorem foundC_eq (c : Dev nD) (t : Fin cfg0.N) : View.ld (nx m c t) (Rect.unit ![0, 1536] ![8, 1536] inb_S8x6144_S8x1536_0_1536) = nxC m c t := rfl

theorem foundD_A (c : Dev nD) (t : Fin cfg0.N) (h : t.val % 32 = 0) (wC wB wA : FVec Ideal S8x1536 .f32) :
    (View.whole cc0_scratch0).readCov (Val := Elt Ideal) [⟨Rect.unit ![0, 1536] ![8, 1536] inb_S8x6144_S8x1536_0_1536, wC⟩, ⟨Rect.unit ![0, 3072] ![8, 1536] inb_S8x6144_S8x1536_0_3072, wB⟩, ⟨Rect.unit ![0, 0] ![8, 1536] inb_S8x6144_S8x1536_0_0, wA⟩, ⟨Rect.unit ![0, 0] ![8, 6144] inb_S8x6144_S8x6144_0_0, k0_pay1 (F := Ideal)⟩]
      (Rect.unit ![0, 4608] ![8, 1536] inb_S8x6144_S8x1536_0_4608).toLoadRect = nxD m c t := by
  refine (View.readCov_skip _ _ _ _ _ (by decide)).trans ((View.readCov_skip _ _ _ _ _ (by decide)).trans ((View.readCov_skip _ _ _ _ _ (by decide)).trans (?_)))
  refine (View.readCov_fill (Val := Elt Ideal) (s := S8x6144) (e := .f32) (off := ![0, 0]) (View.whole cc0_scratch0) inb_S8x6144_S8x6144_0_0 (k0_pay1 (F := Ideal)) [] _ (fun a => by fin_cases a <;> rfl)).trans ?_
  unfold nxD
  rw [nx_A m c t h]

theorem foundD_eq (c : Dev nD) (t : Fin cfg0.N) : View.ld (nx m c t) (Rect.unit ![0, 4608] ![8, 1536] inb_S8x6144_S8x1536_0_4608) = nxD m c t := rfl

end Cert.Ffn
end
-- ==== Proof.FfnDu.lean ====
module

public import proofs.«01_k».proof.Proof.FfnNext

/-!
# The gradient of the convolution's input

At one row block each of the four column pieces is the sum of three taps: the block's rows, the rows one further down and
the rows two further down. The pieces together are the block of the reference's gradient.
-/

@[expose] public section

set_option maxRecDepth 16384

noncomputable section

namespace Cert.Ffn

open Idealize.ShloMosaic Idealize.ShloMosaic.TcCoe Idealize.SL.Sem
open Idealize.ShloMosaic.Pipeline (Dat)
open Cert.KernelFfnIdeal Cert.KernelFfnIdeal.Gen
open Cert.ReferenceFfnIdeal.Read

variable (m : (ℓ : Loc nD τ sig) → Buf (Elt Ideal) ℓ)

/-- The taps the kernel is given are the argument. -/
theorem tap_at (c : Dev nD) (t : Fin cfg0.N) (x : S3x6144.Idx) : (iblk m c 5 t : FVec Ideal S3x6144 .f32) x = a9 m c x := by
  blk_point [iblk, V, idx t]

/-- A load of one row of an array of taps. -/
theorem ld_tap (X : FVec Ideal S3x6144 .f32) (k off : ℕ) (inb) (i : S1x1536.Idx) (q : S3x6144.Idx) (h0 : (q 0 : ℕ) = k) (h1 : (q 1 : ℕ) = off + (i 1 : ℕ)) :
    View.ld (S := S3x6144) (Val := Elt Ideal) (e' := .f32) X (Rect.unit (s := S3x6144) ![k, off] ![1, 1536] inb) i = X q := by
  refine congrArg X (funext fun a => Fin.ext ?_)
  have hi : (i 0).val < 1 := (i 0).isLt
  match a with
  | 0 => show k + 1 * (i 0 : ℕ) = q 0; omega
  | 1 => show off + 1 * (i 1 : ℕ) = q 1; omega

variable {m}

/-- Three taps of pieces that are the gradient's are the gradient of the convolution's input. -/
theorem du_step (c : Dev nD) (D U V : FVec Ideal S256x1536 .f32) (w2 w1 w0 : FVec Ideal S1x1536 .f32) (i : S256x1536.Idx) (j : S8192x6144.Idx)
    (hD : D i = rA m c j) (hU : U i = below (rA m c) 1 j) (hV : V i = below (rA m c) 2 j)
    (h2 : w2 (ix2 0 (i 1)) = a9 m c (ix2 2 (j 1))) (h1 : w1 (ix2 0 (i 1)) = a9 m c (ix2 1 (j 1))) (h0 : w0 (ix2 0 (i 1)) = a9 m c (ix2 0 (j 1))) :
    (k0_pay16 (F := Ideal) D U V w2 w1 w0 i : EReal) = rDu m c j := by
  rw [pay_du_A, hD, hU, hV, h2, h1, h0]
  exact (href127 _ _ _ _ _ _ _ _ _ j).symm

theorem tap_ld (c : Dev nD) (t : Fin cfg0.N) (k off : ℕ) (inb) (i : S1x1536.Idx) (q : S3x6144.Idx) (h0 : (q 0 : ℕ) = k) (h1 : (q 1 : ℕ) = off + (i 1 : ℕ)) :
    View.ld (S := S3x6144) (Val := Elt Ideal) (e' := .f32) (iblk m c 5 t) (Rect.unit (s := S3x6144) ![k, off] ![1, 1536] inb) i = a9 m c q :=
  (ld_tap (iblk m c 5 t) k off inb i q h0 h1).trans (tap_at m c t q)

set_option maxHeartbeats 1000000 in
theorem du_A {c : Dev nD} (hf : Finite m c) (t : Fin cfg0.N) (h' : t.val % 32 = 0) (y : S256x6144.Idx) (j : S8192x6144.Idx)
    (hj0 : (j 0 : ℕ) = (31 - t.val) * 256 + (y 0 : ℕ)) (hj1 : (j 1 : ℕ) = (y 1 : ℕ)) : (outsAt0 m c t.val t.isLt).1 y = rDu m c j := by
  rw [outsAt0_A m c t h']
  frame_out
  rw [foundA_A m c t h', foundB_A m c t h', foundC_A m c t h', foundD_A m c t h']
  rw [pay12, pay13, pay24, pay25, pay37, pay51, pay27_eq, pay42_eq, pay56_eq, pay40, pay54]
  clear h'
  canon_tiles x h
  · refine du_step c _ _ _ _ _ _ x j (dhD_at hf t x j (hj0.trans (by rw [h0])) (hj1.trans h1)) (up1_D hf t x j (hj0.trans (by rw [h0])) (hj1.trans h1))
      (up2_D hf t x j (hj0.trans (by rw [h0])) (hj1.trans h1)) ?_ ?_ ?_
    · exact tap_ld c t 2 4608 _ _ _ rfl (hj1.trans h1)
    · exact tap_ld c t 1 4608 _ _ _ rfl (hj1.trans h1)
    · exact tap_ld c t 0 4608 _ _ _ rfl (hj1.trans h1)
  · refine du_step c _ _ _ _ _ _ x j (dhC_at hf t x j (hj0.trans (by rw [h0])) (hj1.trans h1)) (up1_C hf t x j (hj0.trans (by rw [h0])) (hj1.trans h1))
      (up2_C hf t x j (hj0.trans (by rw [h0])) (hj1.trans h1)) ?_ ?_ ?_
    · exact tap_ld c t 2 1536 _ _ _ rfl (hj1.trans h1)
    · exact tap_ld c t 1 1536 _ _ _ rfl (hj1.trans h1)
    · exact tap_ld c t 0 1536 _ _ _ rfl (hj1.trans h1)
  · refine du_step c _ _ _ _ _ _ x j (dhB_at hf t x j (hj0.trans (by rw [h0])) (hj1.trans h1)) (up1_B hf t x j (hj0.trans (by rw [h0])) (hj1.trans h1))
      (up2_B hf t x j (hj0.trans (by rw [h0])) (hj1.trans h1)) ?_ ?_ ?_
    · exact tap_ld c t 2 3072 _ _ _ rfl (hj1.trans h1)
    · exact tap_ld c t 1 3072 _ _ _ rfl (hj1.trans h1)
    · exact tap_ld c t 0 3072 _ _ _ rfl (hj1.trans h1)
  · refine du_step c _ _ _ _ _ _ x j (dhA_at hf t x j (hj0.trans (by rw [h0])) (hj1.trans h1)) (up1_A hf t x j (hj0.trans (by rw [h0])) (hj1.trans (h1.trans (Nat.zero_add _).symm)))
      (up2_A hf t x j (hj0.trans (by rw [h0])) (hj1.trans (h1.trans (Nat.zero_add _).symm))) ?_ ?_ ?_
    · exact tap_ld c t 2 0 _ _ _ rfl (hj1.trans (h1.trans (Nat.zero_add _).symm))
    · exact tap_ld c t 1 0 _ _ _ rfl (hj1.trans (h1.trans (Nat.zero_add _).symm))
    · exact tap_ld c t 0 0 _ _ _ rfl (hj1.trans (h1.trans (Nat.zero_add _).symm))

set_option maxHeartbeats 1000000 in
theorem du_B {c : Dev nD} (hf : Finite m c) (t : Fin cfg0.N) (h' : ¬ t.val % 32 = 0) (y : S256x6144.Idx) (j : S8192x6144.Idx)
    (hj0 : (j 0 : ℕ) = (31 - t.val) * 256 + (y 0 : ℕ)) (hj1 : (j 1 : ℕ) = (y 1 : ℕ)) : (outsAt0 m c t.val t.isLt).1 y = rDu m c j := by
  rw [outsAt0_B m c t h']
  frame_out
  rw [found_B m c t h', foundA_eq, foundB_eq, foundC_eq, foundD_eq]
  rw [pay12, pay13, pay24, pay25, pay37, pay51, pay27_eq, pay42_eq, pay56_eq, pay40, pay54]
  clear h'
  canon_tiles x h
  · refine du_step c _ _ _ _ _ _ x j (dhD_at hf t x j (hj0.trans (by rw [h0])) (hj1.trans h1)) (up1_D hf t x j (hj0.trans (by rw [h0])) (hj1.trans h1))
      (up2_D hf t x j (hj0.trans (by rw [h0])) (hj1.trans h1)) ?_ ?_ ?_
    · exact tap_ld c t 2 4608 _ _ _ rfl (hj1.trans h1)
    · exact tap_ld c t 1 4608 _ _ _ rfl (hj1.trans h1)
    · exact tap_ld c t 0 4608 _ _ _ rfl (hj1.trans h1)
  · refine du_step c _ _ _ _ _ _ x j (dhC_at hf t x j (hj0.trans (by rw [h0])) (hj1.trans h1)) (up1_C hf t x j (hj0.trans (by rw [h0])) (hj1.trans h1))
      (up2_C hf t x j (hj0.trans (by rw [h0])) (hj1.trans h1)) ?_ ?_ ?_
    · exact tap_ld c t 2 1536 _ _ _ rfl (hj1.trans h1)
    · exact tap_ld c t 1 1536 _ _ _ rfl (hj1.trans h1)
    · exact tap_ld c t 0 1536 _ _ _ rfl (hj1.trans h1)
  · refine du_step c _ _ _ _ _ _ x j (dhB_at hf t x j (hj0.trans (by rw [h0])) (hj1.trans h1)) (up1_B hf t x j (hj0.trans (by rw [h0])) (hj1.trans h1))
      (up2_B hf t x j (hj0.trans (by rw [h0])) (hj1.trans h1)) ?_ ?_ ?_
    · exact tap_ld c t 2 3072 _ _ _ rfl (hj1.trans h1)
    · exact tap_ld c t 1 3072 _ _ _ rfl (hj1.trans h1)
    · exact tap_ld c t 0 3072 _ _ _ rfl (hj1.trans h1)
  · refine du_step c _ _ _ _ _ _ x j (dhA_at hf t x j (hj0.trans (by rw [h0])) (hj1.trans h1)) (up1_A hf t x j (hj0.trans (by rw [h0])) (hj1.trans (h1.trans (Nat.zero_add _).symm)))
      (up2_A hf t x j (hj0.trans (by rw [h0])) (hj1.trans (h1.trans (Nat.zero_add _).symm))) ?_ ?_ ?_
    · exact tap_ld c t 2 0 _ _ _ rfl (hj1.trans (h1.trans (Nat.zero_add _).symm))
    · exact tap_ld c t 1 0 _ _ _ rfl (hj1.trans (h1.trans (Nat.zero_add _).symm))
    · exact tap_ld c t 0 0 _ _ _ rfl (hj1.trans (h1.trans (Nat.zero_add _).symm))

/-- The gradient of the convolution's input. -/
theorem final13 {c : Dev nD} (hf : Finite m c) : (dats m 0 c).arrAt 13 (cfgs 0).N
    = val_main_v168 (F := Ideal) (a0 m c) (a3 m c) (a4 m c) (a5 m c) (a6 m c) (a8 m c) (a9 m c) (a10 m c) (a11 m c) := by
  refine ((dats m 0 c).arrAt_eq_of_covers 13 (rDu m c) (by decide +kernel) fun t hf' y => ?_).trans ?_
  · blk_simp
    rw [after0_13]
    by_cases h' : t.val % 32 = 0
    · refine du_A hf t h' y _ ?_ ?_ <;> (blk_simp [idx t] <;> try omega)
    · refine du_B hf t h' y _ ?_ ?_ <;> (blk_simp [idx t] <;> try omega)
  · funext j
    pointwise [val_main_v168]

end Cert.Ffn
end
-- ==== Proof.FfnHid.lean ====
module

public import proofs.«01_k».proof.Proof.FfnDu

/-!
# The gradient of the modulated norm

At one row block the kernel multiplies each of the four column pieces of the gradient by the columns of the up-projection
it belongs to, and adds the four products. Together they are the block of the reference's gradient; the launch's further
outputs at the point are taken from it.
-/

@[expose] public section

set_option maxRecDepth 16384

noncomputable section

namespace Cert.Ffn

open Idealize.ShloMosaic Idealize.ShloMosaic.TcCoe Idealize.SL.Sem
open Idealize.ShloMosaic.Pipeline (Dat)
open Cert.KernelFfnIdeal Cert.KernelFfnIdeal.Gen
open Cert.ReferenceFfnIdeal.Read

variable (m : (ℓ : Loc nD τ sig) → Buf (Elt Ideal) ℓ)

/-- The weights the kernel is given are the argument's, cut into four blocks of columns. -/
theorem w4_at (c : Dev nD) (t : Fin cfg0.N) (x : S4x1024x1536.Idx) (q : S1024x6144.Idx) (h0 : (q 0 : ℕ) = (x 1 : ℕ)) (h1 : (q 1 : ℕ) = (x 0 : ℕ) * 1536 + (x 2 : ℕ)) :
    (iblk m c 6 t : FVec Ideal S4x1024x1536 .bf16) x = a8 m c q := by
  blk_simp [iblk]
  entry_read
  pointwise
  blk_point [idx t]

/-- The four products of one block. -/
theorem pay64_at (dA dB dC dD : FVec Ideal S256x1536 .bf16) (w0 w1 w2 w3 : FVec Ideal S1x1024x1536 .bf16) (i : S256x1024.Idx) :
    (k0_pay64 (F := Ideal) (k0_pay35 dA dB w0 w2) dC dD w1 w3 i : EReal)
      = ((∑ k : Fin 1536, (dA (ix2 (i 0) k) : EReal) * (w0 (ix3 0 (i 1) k) : EReal)) + ∑ k : Fin 1536, (dB (ix2 (i 0) k) : EReal) * (w2 (ix3 0 (i 1) k) : EReal))
        + ((∑ k : Fin 1536, (dC (ix2 (i 0) k) : EReal) * (w1 (ix3 0 (i 1) k) : EReal)) + ∑ k : Fin 1536, (dD (ix2 (i 0) k) : EReal) * (w3 (ix3 0 (i 1) k) : EReal)) := by
  pointwise [k0_pay64, k0_pay35]

/-- A sum over the hidden columns, block by block. -/
theorem sum_blocks (f : Fin 6144 → EReal) :
    ∑ k, f k = ((∑ k : Fin 1536, f ⟨k.val, by omega⟩) + ∑ k : Fin 1536, f ⟨3072 + k.val, by omega⟩)
      + ((∑ k : Fin 1536, f ⟨1536 + k.val, by omega⟩) + ∑ k : Fin 1536, f ⟨4608 + k.val, by omega⟩) := by
  rw [← Fin.sum_mul_add_fin (S := 4) (n := 1536) (f := f), Fin.sum_univ_four, add_add_add_comm, ← add_assoc]
  refine congrArg₂ (· + ·) (congrArg₂ (· + ·) (congrArg₂ (· + ·) ?_ ?_) ?_) ?_ <;>
    refine Finset.sum_congr rfl fun k _ => congrArg f (Fin.ext ?_)
  · show 0 * 1536 + k.val = k.val; omega
  · show 1 * 1536 + k.val = 1536 + k.val; omega
  · show 2 * 1536 + k.val = 3072 + k.val; omega
  · show 3 * 1536 + k.val = 4608 + k.val; omega

variable {m}

/-- A load of one block of the weights. -/
theorem w_ld (c : Dev nD) (t : Fin cfg0.N) (k : ℕ) (inb) (i : S1x1024x1536.Idx) (q : S1024x6144.Idx) (h0 : (q 0 : ℕ) = (i 1 : ℕ)) (h1 : (q 1 : ℕ) = k * 1536 + (i 2 : ℕ)) (hk : k < 4) :
    View.ld (S := S4x1024x1536) (Val := Elt Ideal) (e' := .bf16) (iblk m c 6 t) (Rect.unit (s := S4x1024x1536) ![k, 0, 0] ![1, 1024, 1536] inb) i = a8 m c q := by
  have hi : (i 0).val < 1 := (i 0).isLt
  refine w4_at m c t _ q ?_ ?_
  · show (q 0 : ℕ) = 0 + 1 * (i 1 : ℕ); omega
  · show (q 1 : ℕ) = (k + 1 * (i 0 : ℕ)) * 1536 + (0 + 1 * (i 2 : ℕ))
    rw [show (i 0 : ℕ) = 0 by omega]; omega

/-- Four products of pieces that are the gradient's with blocks of the weights are the gradient of the modulated norm. -/
theorem hid_step (c : Dev nD) (dA dB dC dD : FVec Ideal S256x1536 .bf16) (w0 w1 w2 w3 : FVec Ideal S1x1024x1536 .bf16) (i : S256x1024.Idx) (j : S8192x1024.Idx)
    (hA : ∀ k : Fin 1536, dA (ix2 (i 0) k) = rDu m c (ix2 (j 0) ⟨k.val, by omega⟩))
    (hB : ∀ k : Fin 1536, dB (ix2 (i 0) k) = rDu m c (ix2 (j 0) ⟨3072 + k.val, by omega⟩))
    (hC : ∀ k : Fin 1536, dC (ix2 (i 0) k) = rDu m c (ix2 (j 0) ⟨1536 + k.val, by omega⟩))
    (hD : ∀ k : Fin 1536, dD (ix2 (i 0) k) = rDu m c (ix2 (j 0) ⟨4608 + k.val, by omega⟩))
    (e0 : ∀ k : Fin 1536, w0 (ix3 0 (i 1) k) = a8 m c (ix2 (j 1) ⟨k.val, by omega⟩))
    (e2 : ∀ k : Fin 1536, w2 (ix3 0 (i 1) k) = a8 m c (ix2 (j 1) ⟨3072 + k.val, by omega⟩))
    (e1 : ∀ k : Fin 1536, w1 (ix3 0 (i 1) k) = a8 m c (ix2 (j 1) ⟨1536 + k.val, by omega⟩))
    (e3 : ∀ k : Fin 1536, w3 (ix3 0 (i 1) k) = a8 m c (ix2 (j 1) ⟨4608 + k.val, by omega⟩)) :
    (k0_pay64 (F := Ideal) (k0_pay35 dA dB w0 w2) dC dD w1 w3 i : EReal) = rH m c j := by
  rw [pay64_at]
  refine Eq.trans ?_ (href128 _ _ _ _ _ _ _ _ _ j).symm
  rw [sum_blocks]
  exact congrArg₂ (· + ·)
    (congrArg₂ (· + ·) (Finset.sum_congr rfl fun k _ => congrArg₂ (· * ·) (hA k) (e0 k)) (Finset.sum_congr rfl fun k _ => congrArg₂ (· * ·) (hB k) (e2 k)))
    (congrArg₂ (· + ·) (Finset.sum_congr rfl fun k _ => congrArg₂ (· * ·) (hC k) (e1 k)) (Finset.sum_congr rfl fun k _ => congrArg₂ (· * ·) (hD k) (e3 k)))

end Cert.Ffn
end
-- ==== Proof.FfnOut.lean ====
module

public import proofs.«01_k».proof.Proof.FfnHid

/-!
# What one point leaves in the outputs behind the gradient of the modulated norm

The six outputs are functions of the block's gradient of the modulated norm, of the block's arguments, and, for the sums
over the rows, of what the point before left.
-/

@[expose] public section

set_option maxRecDepth 16384

noncomputable section

namespace Cert.Ffn

open Idealize.ShloMosaic Idealize.ShloMosaic.TcCoe Idealize.SL.Sem
open Idealize.ShloMosaic.Pipeline (Dat)
open Cert.KernelFfnIdeal Cert.KernelFfnIdeal.Gen
open Cert.ReferenceFfnIdeal.Read

variable {m : (ℓ : Loc nD τ sig) → Buf (Elt Ideal) ℓ}

set_option maxHeartbeats 2000000 in
theorem outs_A {c : Dev nD} (hf : Finite m c) (t : Fin cfg0.N) (h' : t.val % 32 = 0) : ∃ H : FVec Ideal S256x1024 .f32,
    (∀ (i : S256x1024.Idx) (j : S8192x1024.Idx), (j 0 : ℕ) = (31 - t.val) * 256 + (i 0 : ℕ) → (j 1 : ℕ) = (i 1 : ℕ) → H i = rH m c j)
    ∧ (outsAt0 m c t.val t.isLt).2.2.2.1 = k0_pay72 (F := Ideal) (k0_pay65 (iblk m c 7 t)) (k0_pay66 (iblk m c 7 t) (k0_pay65 (iblk m c 7 t))) (k0_pay69 H (iblk m c 10 t)) (k0_pay71 (iblk m c 9 t)) (iblk m c 8 t)
    ∧ (outsAt0 m c t.val t.isLt).2.2.2.2.1 = k0_pay67 (F := Ideal) H (k0_pay4 (F := Ideal))
    ∧ (outsAt0 m c t.val t.isLt).2.2.2.2.2.1 = k0_pay68 (F := Ideal) H (iblk m c 7 t) (k0_pay65 (iblk m c 7 t)) (k0_pay5 (F := Ideal)) (iblk m c 9 t)
    ∧ (outsAt0 m c t.val t.isLt).2.2.2.2.2.2.1 = k0_pay70 (F := Ideal) H (iblk m c 7 t) (k0_pay65 (iblk m c 7 t)) (iblk m c 10 t) (k0_pay6 (F := Ideal))
    ∧ (outsAt0 m c t.val t.isLt).2.2.2.2.2.2.2.1 = k0_pay73 (F := Ideal) (k0_pay65 (iblk m c 7 t)) (k0_pay66 (iblk m c 7 t) (k0_pay65 (iblk m c 7 t))) (k0_pay69 H (iblk m c 10 t)) (k0_pay71 (iblk m c 9 t)) (iblk m c 8 t) (iblk m c 11 t)
    ∧ (outsAt0 m c t.val t.isLt).2.2.2.2.2.2.2.2.1 = k0_pay74 (F := Ideal) (k0_pay65 (iblk m c 7 t)) (k0_pay66 (iblk m c 7 t) (k0_pay65 (iblk m c 7 t))) (k0_pay69 H (iblk m c 10 t)) (k0_pay71 (iblk m c 9 t)) (iblk m c 8 t) (k0_pay7 (F := Ideal)) (iblk m c 12 t) := by
  rw [outsAt0_A m c t h']
  frame_out
  rw [foundA_A m c t h', foundB_A m c t h', foundC_A m c t h', foundD_A m c t h']
  rw [pay12, pay13, pay24, pay25, pay37, pay51, pay27_eq, pay42_eq, pay56_eq, pay40, pay54]
  refine ⟨_, ?_, rfl, rfl, rfl, rfl, rfl, rfl⟩
  clear h'
  intro i j h0 h1
  refine hid_step c _ _ _ _ _ _ _ _ i j (fun k => ?_) (fun k => ?_) (fun k => ?_) (fun k => ?_)
    (fun k => w_ld c t 0 _ _ _ h1 (by show k.val = 0 * 1536 + k.val; omega) (by decide)) (fun k => w_ld c t 2 _ _ _ h1 rfl (by decide))
    (fun k => w_ld c t 1 _ _ _ h1 rfl (by decide)) (fun k => w_ld c t 3 _ _ _ h1 rfl (by decide))
  · refine du_step c _ _ _ _ _ _ (ix2 (i 0) k : S256x1536.Idx) (ix2 (j 0) ⟨k.val, by omega⟩ : S8192x6144.Idx) (dhA_at hf t (ix2 (i 0) k : S256x1536.Idx) (ix2 (j 0) ⟨k.val, by omega⟩ : S8192x6144.Idx) h0 rfl) (up1_A hf t (ix2 (i 0) k : S256x1536.Idx) (ix2 (j 0) ⟨k.val, by omega⟩ : S8192x6144.Idx) h0 (Nat.zero_add _).symm)
      (up2_A hf t (ix2 (i 0) k : S256x1536.Idx) (ix2 (j 0) ⟨k.val, by omega⟩ : S8192x6144.Idx) h0 (Nat.zero_add _).symm) ?_ ?_ ?_
    · exact tap_ld c t 2 0 _ _ _ rfl (Nat.zero_add _).symm
    · exact tap_ld c t 1 0 _ _ _ rfl (Nat.zero_add _).symm
    · exact tap_ld c t 0 0 _ _ _ rfl (Nat.zero_add _).symm
  · refine du_step c _ _ _ _ _ _ (ix2 (i 0) k : S256x1536.Idx) (ix2 (j 0) ⟨3072 + k.val, by omega⟩ : S8192x6144.Idx) (dhB_at hf t (ix2 (i 0) k : S256x1536.Idx) (ix2 (j 0) ⟨3072 + k.val, by omega⟩ : S8192x6144.Idx) h0 rfl) (up1_B hf t (ix2 (i 0) k : S256x1536.Idx) (ix2 (j 0) ⟨3072 + k.val, by omega⟩ : S8192x6144.Idx) h0 rfl)
      (up2_B hf t (ix2 (i 0) k : S256x1536.Idx) (ix2 (j 0) ⟨3072 + k.val, by omega⟩ : S8192x6144.Idx) h0 rfl) ?_ ?_ ?_
    · exact tap_ld c t 2 3072 _ _ _ rfl rfl
    · exact tap_ld c t 1 3072 _ _ _ rfl rfl
    · exact tap_ld c t 0 3072 _ _ _ rfl rfl
  · refine du_step c _ _ _ _ _ _ (ix2 (i 0) k : S256x1536.Idx) (ix2 (j 0) ⟨1536 + k.val, by omega⟩ : S8192x6144.Idx) (dhC_at hf t (ix2 (i 0) k : S256x1536.Idx) (ix2 (j 0) ⟨1536 + k.val, by omega⟩ : S8192x6144.Idx) h0 rfl) (up1_C hf t (ix2 (i 0) k : S256x1536.Idx) (ix2 (j 0) ⟨1536 + k.val, by omega⟩ : S8192x6144.Idx) h0 rfl)
      (up2_C hf t (ix2 (i 0) k : S256x1536.Idx) (ix2 (j 0) ⟨1536 + k.val, by omega⟩ : S8192x6144.Idx) h0 rfl) ?_ ?_ ?_
    · exact tap_ld c t 2 1536 _ _ _ rfl rfl
    · exact tap_ld c t 1 1536 _ _ _ rfl rfl
    · exact tap_ld c t 0 1536 _ _ _ rfl rfl
  · refine du_step c _ _ _ _ _ _ (ix2 (i 0) k : S256x1536.Idx) (ix2 (j 0) ⟨4608 + k.val, by omega⟩ : S8192x6144.Idx) (dhD_at hf t (ix2 (i 0) k : S256x1536.Idx) (ix2 (j 0) ⟨4608 + k.val, by omega⟩ : S8192x6144.Idx) h0 rfl) (up1_D hf t (ix2 (i 0) k : S256x1536.Idx) (ix2 (j 0) ⟨4608 + k.val, by omega⟩ : S8192x6144.Idx) h0 rfl)
      (up2_D hf t (ix2 (i 0) k : S256x1536.Idx) (ix2 (j 0) ⟨4608 + k.val, by omega⟩ : S8192x6144.Idx) h0 rfl) ?_ ?_ ?_
    · exact tap_ld c t 2 4608 _ _ _ rfl rfl
    · exact tap_ld c t 1 4608 _ _ _ rfl rfl
    · exact tap_ld c t 0 4608 _ _ _ rfl rfl

set_option maxHeartbeats 2000000 in
theorem outs_B {c : Dev nD} (hf : Finite m c) (t : Fin cfg0.N) (h' : ¬ t.val % 32 = 0) : ∃ H : FVec Ideal S256x1024 .f32,
    (∀ (i : S256x1024.Idx) (j : S8192x1024.Idx), (j 0 : ℕ) = (31 - t.val) * 256 + (i 0 : ℕ) → (j 1 : ℕ) = (i 1 : ℕ) → H i = rH m c j)
    ∧ (outsAt0 m c t.val t.isLt).2.2.2.1 = k0_pay72 (F := Ideal) (k0_pay65 (iblk m c 7 t)) (k0_pay66 (iblk m c 7 t) (k0_pay65 (iblk m c 7 t))) (k0_pay69 H (iblk m c 10 t)) (k0_pay71 (iblk m c 9 t)) (iblk m c 8 t)
    ∧ (outsAt0 m c t.val t.isLt).2.2.2.2.1 = k0_pay67 (F := Ideal) H (outsAt0 m c (t.val - 1) (Nat.lt_of_le_of_lt (Nat.sub_le _ _) t.isLt)).2.2.2.2.1
    ∧ (outsAt0 m c t.val t.isLt).2.2.2.2.2.1 = k0_pay68 (F := Ideal) H (iblk m c 7 t) (k0_pay65 (iblk m c 7 t)) (outsAt0 m c (t.val - 1) (Nat.lt_of_le_of_lt (Nat.sub_le _ _) t.isLt)).2.2.2.2.2.1 (iblk m c 9 t)
    ∧ (outsAt0 m c t.val t.isLt).2.2.2.2.2.2.1 = k0_pay70 (F := Ideal) H (iblk m c 7 t) (k0_pay65 (iblk m c 7 t)) (iblk m c 10 t) (outsAt0 m c (t.val - 1) (Nat.lt_of_le_of_lt (Nat.sub_le _ _) t.isLt)).2.2.2.2.2.2.1
    ∧ (outsAt0 m c t.val t.isLt).2.2.2.2.2.2.2.1 = k0_pay73 (F := Ideal) (k0_pay65 (iblk m c 7 t)) (k0_pay66 (iblk m c 7 t) (k0_pay65 (iblk m c 7 t))) (k0_pay69 H (iblk m c 10 t)) (k0_pay71 (iblk m c 9 t)) (iblk m c 8 t) (iblk m c 11 t)
    ∧ (outsAt0 m c t.val t.isLt).2.2.2.2.2.2.2.2.1 = k0_pay74 (F := Ideal) (k0_pay65 (iblk m c 7 t)) (k0_pay66 (iblk m c 7 t) (k0_pay65 (iblk m c 7 t))) (k0_pay69 H (iblk m c 10 t)) (k0_pay71 (iblk m c 9 t)) (iblk m c 8 t) (outsAt0 m c (t.val - 1) (Nat.lt_of_le_of_lt (Nat.sub_le _ _) t.isLt)).2.2.2.2.2.2.2.2.1 (iblk m c 12 t) := by
  rw [outsAt0_B m c t h']
  frame_out
  rw [found_B m c t h', foundA_eq, foundB_eq, foundC_eq, foundD_eq]
  rw [pay12, pay13, pay24, pay25, pay37, pay51, pay27_eq, pay42_eq, pay56_eq, pay40, pay54]
  refine ⟨_, ?_, rfl, rfl, rfl, rfl, rfl, rfl⟩
  clear h'
  intro i j h0 h1
  refine hid_step c _ _ _ _ _ _ _ _ i j (fun k => ?_) (fun k => ?_) (fun k => ?_) (fun k => ?_)
    (fun k => w_ld c t 0 _ _ _ h1 (by show k.val = 0 * 1536 + k.val; omega) (by decide)) (fun k => w_ld c t 2 _ _ _ h1 rfl (by decide))
    (fun k => w_ld c t 1 _ _ _ h1 rfl (by decide)) (fun k => w_ld c t 3 _ _ _ h1 rfl (by decide))
  · refine du_step c _ _ _ _ _ _ (ix2 (i 0) k : S256x1536.Idx) (ix2 (j 0) ⟨k.val, by omega⟩ : S8192x6144.Idx) (dhA_at hf t (ix2 (i 0) k : S256x1536.Idx) (ix2 (j 0) ⟨k.val, by omega⟩ : S8192x6144.Idx) h0 rfl) (up1_A hf t (ix2 (i 0) k : S256x1536.Idx) (ix2 (j 0) ⟨k.val, by omega⟩ : S8192x6144.Idx) h0 (Nat.zero_add _).symm)
      (up2_A hf t (ix2 (i 0) k : S256x1536.Idx) (ix2 (j 0) ⟨k.val, by omega⟩ : S8192x6144.Idx) h0 (Nat.zero_add _).symm) ?_ ?_ ?_
    · exact tap_ld c t 2 0 _ _ _ rfl (Nat.zero_add _).symm
    · exact tap_ld c t 1 0 _ _ _ rfl (Nat.zero_add _).symm
    · exact tap_ld c t 0 0 _ _ _ rfl (Nat.zero_add _).symm
  · refine du_step c _ _ _ _ _ _ (ix2 (i 0) k : S256x1536.Idx) (ix2 (j 0) ⟨3072 + k.val, by omega⟩ : S8192x6144.Idx) (dhB_at hf t (ix2 (i 0) k : S256x1536.Idx) (ix2 (j 0) ⟨3072 + k.val, by omega⟩ : S8192x6144.Idx) h0 rfl) (up1_B hf t (ix2 (i 0) k : S256x1536.Idx) (ix2 (j 0) ⟨3072 + k.val, by omega⟩ : S8192x6144.Idx) h0 rfl)
      (up2_B hf t (ix2 (i 0) k : S256x1536.Idx) (ix2 (j 0) ⟨3072 + k.val, by omega⟩ : S8192x6144.Idx) h0 rfl) ?_ ?_ ?_
    · exact tap_ld c t 2 3072 _ _ _ rfl rfl
    · exact tap_ld c t 1 3072 _ _ _ rfl rfl
    · exact tap_ld c t 0 3072 _ _ _ rfl rfl
  · refine du_step c _ _ _ _ _ _ (ix2 (i 0) k : S256x1536.Idx) (ix2 (j 0) ⟨1536 + k.val, by omega⟩ : S8192x6144.Idx) (dhC_at hf t (ix2 (i 0) k : S256x1536.Idx) (ix2 (j 0) ⟨1536 + k.val, by omega⟩ : S8192x6144.Idx) h0 rfl) (up1_C hf t (ix2 (i 0) k : S256x1536.Idx) (ix2 (j 0) ⟨1536 + k.val, by omega⟩ : S8192x6144.Idx) h0 rfl)
      (up2_C hf t (ix2 (i 0) k : S256x1536.Idx) (ix2 (j 0) ⟨1536 + k.val, by omega⟩ : S8192x6144.Idx) h0 rfl) ?_ ?_ ?_
    · exact tap_ld c t 2 1536 _ _ _ rfl rfl
    · exact tap_ld c t 1 1536 _ _ _ rfl rfl
    · exact tap_ld c t 0 1536 _ _ _ rfl rfl
  · refine du_step c _ _ _ _ _ _ (ix2 (i 0) k : S256x1536.Idx) (ix2 (j 0) ⟨4608 + k.val, by omega⟩ : S8192x6144.Idx) (dhD_at hf t (ix2 (i 0) k : S256x1536.Idx) (ix2 (j 0) ⟨4608 + k.val, by omega⟩ : S8192x6144.Idx) h0 rfl) (up1_D hf t (ix2 (i 0) k : S256x1536.Idx) (ix2 (j 0) ⟨4608 + k.val, by omega⟩ : S8192x6144.Idx) h0 rfl)
      (up2_D hf t (ix2 (i 0) k : S256x1536.Idx) (ix2 (j 0) ⟨4608 + k.val, by omega⟩ : S8192x6144.Idx) h0 rfl) ?_ ?_ ?_
    · exact tap_ld c t 2 4608 _ _ _ rfl rfl
    · exact tap_ld c t 1 4608 _ _ _ rfl rfl
    · exact tap_ld c t 0 4608 _ _ _ rfl rfl

end Cert.Ffn
end
-- ==== Proof.FfnTerm.lean ====
module

public import proofs.«01_k».proof.Proof.FfnOut

/-!
# The gradients behind the norm

The gradient of the rows, of the gated output, and the sums over the rows that are the gradients of the shift, the scale,
the gain and the gate. The grid runs backwards over the row blocks; a sum over the points is a sum over the rows.
-/

@[expose] public section

set_option maxRecDepth 16384

noncomputable section

namespace Cert.Ffn

open Idealize.ShloMosaic Idealize.ShloMosaic.TcCoe Idealize.SL.Sem
open Idealize.ShloMosaic.Pipeline (Dat)
open Cert.KernelFfnIdeal Cert.KernelFfnIdeal.Gen
open Cert.ReferenceFfnIdeal.Read
open Cert.Reals (IsReal)

variable (m : (ℓ : Loc nD τ sig) → Buf (Elt Ideal) ℓ)

/-! ## The launch's terms, element by element -/

theorem pay66_at (x : FVec Ideal S256x1024 .f32) (s : FVec Ideal S256x1 .f32) (i : S256x1024.Idx) :
    (k0_pay66 (F := Ideal) x s i : EReal) = (x i : EReal) * (s (ix2 (i 0) 0) : EReal) := by
  pointwise [k0_pay66]

theorem pay67_at (H : FVec Ideal S256x1024 .f32) (acc : FVec Ideal S1x1024 .f32) (j : S1x1024.Idx) :
    (k0_pay67 (F := Ideal) H acc j : EReal) = (acc j : EReal) + ∑ r : Fin 256, (H (ix2 r (j 1)) : EReal) := by
  pointwise [k0_pay67]

theorem pay68_at (H x : FVec Ideal S256x1024 .f32) (s : FVec Ideal S256x1 .f32) (acc g : FVec Ideal S1x1024 .f32) (j : S1x1024.Idx) :
    (k0_pay68 (F := Ideal) H x s acc g j : EReal)
      = (acc j : EReal) + ∑ r : Fin 256, (H (ix2 r (j 1)) : EReal) * ((k0_pay66 (F := Ideal) x s (ix2 r (j 1)) : EReal) * (g (ix2 0 (j 1)) : EReal)) := by
  pointwise [k0_pay68]

theorem pay69_at (H : FVec Ideal S256x1024 .f32) (sc : FVec Ideal S1x1024 .f32) (i : S256x1024.Idx) :
    (k0_pay69 (F := Ideal) H sc i : EReal) = (H i : EReal) * (1 + (sc (ix2 0 (i 1)) : EReal)) := by
  pointwise [k0_pay69]

theorem pay70_at (H x : FVec Ideal S256x1024 .f32) (s : FVec Ideal S256x1 .f32) (sc acc : FVec Ideal S1x1024 .f32) (j : S1x1024.Idx) :
    (k0_pay70 (F := Ideal) H x s sc acc j : EReal)
      = (acc j : EReal) + ∑ r : Fin 256, (k0_pay69 (F := Ideal) H sc (ix2 r (j 1)) : EReal) * (k0_pay66 (F := Ideal) x s (ix2 r (j 1)) : EReal) := by
  pointwise [k0_pay70]

theorem pay71_at (g : FVec Ideal S1x1024 .f32) (i : S256x1024.Idx) : (k0_pay71 (F := Ideal) g i : EReal) = (g (ix2 0 (i 1)) : EReal) := by
  pointwise [k0_pay71]

theorem pay72_at (s : FVec Ideal S256x1 .f32) (xh dn g res : FVec Ideal S256x1024 .f32) (i : S256x1024.Idx) :
    (k0_pay72 (F := Ideal) s xh dn g res i : EReal)
      = (res i : EReal) + (s (ix2 (i 0) 0) : EReal) * ((dn i : EReal) * (g i : EReal)
        - (xh i : EReal) * Ideal.div (∑ k : Fin 1024, (dn (ix2 (i 0) k) : EReal) * (g (ix2 (i 0) k) : EReal) * (xh (ix2 (i 0) k) : EReal)) (Ideal.ofBits .f32 0x44800000#32)) := by
  pointwise [k0_pay72]

theorem pay73_at (s : FVec Ideal S256x1 .f32) (xh dn g res : FVec Ideal S256x1024 .f32) (gt : FVec Ideal S1x1024 .f32) (i : S256x1024.Idx) :
    (k0_pay73 (F := Ideal) s xh dn g res gt i : EReal) = (gt (ix2 0 (i 1)) : EReal) * (k0_pay72 (F := Ideal) s xh dn g res i : EReal) := by
  pointwise [k0_pay73]

theorem pay74_at (s : FVec Ideal S256x1 .f32) (xh dn g res : FVec Ideal S256x1024 .f32) (acc : FVec Ideal S1x1024 .f32) (o : FVec Ideal S256x1024 .bf16) (j : S1x1024.Idx) :
    (k0_pay74 (F := Ideal) s xh dn g res acc o j : EReal)
      = (acc j : EReal) + ∑ r : Fin 256, (k0_pay72 (F := Ideal) s xh dn g res (ix2 r (j 1)) : EReal) * (o (ix2 r (j 1)) : EReal) := by
  pointwise [k0_pay74]

theorem zero4 (j : S1x1024.Idx) : (k0_pay4 (F := Ideal) j : EReal) = 0 := by pointwise [k0_pay4]
theorem zero5 (j : S1x1024.Idx) : (k0_pay5 (F := Ideal) j : EReal) = 0 := by pointwise [k0_pay5]
theorem zero6 (j : S1x1024.Idx) : (k0_pay6 (F := Ideal) j : EReal) = 0 := by pointwise [k0_pay6]
theorem zero7 (j : S1x1024.Idx) : (k0_pay7 (F := Ideal) j : EReal) = 0 := by pointwise [k0_pay7]

/-! ## The launch's blocks -/

theorem x_at (c : Dev nD) (t : Fin cfg0.N) (i : S256x1024.Idx) (j : S8192x1024.Idx)
    (h0 : (j 0 : ℕ) = (31 - t.val) * 256 + (i 0 : ℕ)) (h1 : (j 1 : ℕ) = (i 1 : ℕ)) : (iblk m c 7 t : FVec Ideal S256x1024 .f32) i = a0 m c j := by
  blk_point [iblk, V, idx t]

theorem res_at (c : Dev nD) (t : Fin cfg0.N) (i : S256x1024.Idx) (j : S8192x1024.Idx)
    (h0 : (j 0 : ℕ) = (31 - t.val) * 256 + (i 0 : ℕ)) (h1 : (j 1 : ℕ) = (i 1 : ℕ)) : (iblk m c 8 t : FVec Ideal S256x1024 .f32) i = a2 m c j := by
  blk_point [iblk, V, idx t]

theorem o_at (c : Dev nD) (t : Fin cfg0.N) (i : S256x1024.Idx) (j : S8192x1024.Idx)
    (h0 : (j 0 : ℕ) = (31 - t.val) * 256 + (i 0 : ℕ)) (h1 : (j 1 : ℕ) = (i 1 : ℕ)) : (iblk m c 12 t : FVec Ideal S256x1024 .bf16) i = a1 m c j := by
  blk_simp [iblk]
  entry_read
  pointwise
  blk_point [idx t]

theorem g_at (c : Dev nD) (t : Fin cfg0.N) (i : S1x1024.Idx) : (iblk m c 9 t : FVec Ideal S1x1024 .f32) i = a4 m c (ix1 (i 1)) := by
  blk_simp [iblk]
  entry_read
  pointwise
  blk_point [idx t]

theorem sc_at (c : Dev nD) (t : Fin cfg0.N) (i : S1x1024.Idx) : (iblk m c 10 t : FVec Ideal S1x1024 .f32) i = a6 m c (ix1 (i 1)) := by
  blk_simp [iblk]
  entry_read
  pointwise
  blk_point [idx t]

theorem gt_at (c : Dev nD) (t : Fin cfg0.N) (i : S1x1024.Idx) : (iblk m c 11 t : FVec Ideal S1x1024 .f32) i = a7 m c (ix1 (i 1)) := by
  blk_simp [iblk]
  entry_read
  pointwise
  blk_point [idx t]

/-- The row statistic of one block is the reference's. -/
theorem rs_at (c : Dev nD) (t : Fin cfg0.N) (i : S256x1.Idx) (j : S8192x1.Idx) (h0 : (j 0 : ℕ) = (31 - t.val) * 256 + (i 0 : ℕ)) :
    (k0_pay65 (F := Ideal) (iblk m c 7 t) i : EReal) = Ideal.rsqrt (val_main_v6 (F := Ideal) (a0 m c) j) := by
  rw [href6]
  pointwise [k0_pay65]
  refine congrArg Ideal.rsqrt (congrArg (· + _) (congrArg (Ideal.div · _) (Finset.sum_congr rfl fun k _ => ?_)))
  exact congrArg₂ (· * ·) (x_at m c t _ _ h0 rfl) (x_at m c t _ _ h0 rfl)

/-- The normalised rows of one block are the reference's. -/
theorem xh_at (c : Dev nD) (t : Fin cfg0.N) (i : S256x1024.Idx) (j : S8192x1024.Idx)
    (h0 : (j 0 : ℕ) = (31 - t.val) * 256 + (i 0 : ℕ)) (h1 : (j 1 : ℕ) = (i 1 : ℕ)) :
    (k0_pay66 (F := Ideal) (iblk m c 7 t) (k0_pay65 (iblk m c 7 t)) i : EReal) = val_main_v12 (F := Ideal) (a0 m c) j := by
  refine (pay66_at _ _ i).trans ?_
  rw [href12]
  exact congrArg₂ (· * ·) (x_at m c t i j h0 h1) (rs_at m c t _ _ h0)

end Cert.Ffn
end
-- ==== Proof.FfnNorm.lean ====
module

public import proofs.«01_k».proof.Proof.FfnTerm

/-!
# The gradients behind the norm, assembled

The gradient of the rows is the row statistic's times what is left of the gradient of the normalised rows after its mean
against them; over the real numbers that is the derivative of the norm. A sum over the grid's points, which run backwards
over the row blocks, is a sum over all rows.
-/

@[expose] public section

set_option maxRecDepth 16384

noncomputable section

namespace Cert.Ffn

open Idealize.ShloMosaic Idealize.ShloMosaic.TcCoe Idealize.SL.Sem
open Idealize.ShloMosaic.Pipeline (Dat)
open Cert.KernelFfnIdeal Cert.KernelFfnIdeal.Gen
open Cert.ReferenceFfnIdeal.Read
open Cert.Reals (IsReal)

variable (m : (ℓ : Loc nD τ sig) → Buf (Elt Ideal) ℓ)

/-- The gradient of the normalised rows. -/
abbrev rD (c : Dev nD) : FVec Ideal S8192x1024 .f32 := val_main_v142 (F := Ideal) (a0 m c) (a3 m c) (a4 m c) (a5 m c) (a6 m c) (a8 m c) (a9 m c) (a10 m c) (a11 m c)
/-- The gradient of the rows. -/
abbrev rX (c : Dev nD) : FVec Ideal S8192x1024 .f32 := val_main_v158 (F := Ideal) (a0 m c) (a2 m c) (a3 m c) (a4 m c) (a5 m c) (a6 m c) (a8 m c) (a9 m c) (a10 m c) (a11 m c)

variable {m}

theorem rD_real {c : Dev nD} (hf : Finite m c) (j : S8192x1024.Idx) : IsReal (rD m c j) := by
  rw [show rD m c j = _ from href142 _ _ _ _ _ _ _ _ _ j]
  exact ((rH_real hf j).mul (IsReal.one.add (hf.f6 _))).mul (hf.f4 _)

/-- The mean square of a row, with the small constant, is a positive real number. -/
theorem mean_pos_row {c : Dev nD} (hf : Finite m c) (j : S8192x1.Idx) : ∃ r : ℝ, 0 < r ∧ val_main_v6 (F := Ideal) (a0 m c) j = r := by
  rw [href6]
  exact Cert.Reals.mean_square_pos _ fun k => hf.f0 _

/-- A sum over points that run backwards over the row blocks is a sum over the rows. -/
theorem acc_sum (pt : Fin 32 → ℕ) (h : ∀ s, pt s = s.val) (f : Fin 8192 → EReal) :
    ∑ s : Fin 32, ∑ r : Fin 256, f ⟨(31 - pt s) * 256 + r.val, by omega⟩ = ∑ k : Fin 8192, f k := by
  rw [← Fin.sum_mul_add_fin (S := 32) (n := 256) (f := f)]
  refine Eq.trans ?_ (Equiv.sum_comp Fin.revPerm (fun s : Fin 32 => ∑ r : Fin 256, f ⟨s.val * 256 + r.val, by omega⟩))
  refine Finset.sum_congr rfl fun s _ => Finset.sum_congr rfl fun r _ => congrArg f (Fin.ext ?_)
  have hs := h s
  have e : (Fin.revPerm s : Fin 32).val = 31 - s.val := by rw [Fin.revPerm_apply, Fin.val_rev]; omega
  show (31 - pt s) * 256 + r.val = (Fin.revPerm s : Fin 32).val * 256 + r.val
  rw [e, hs]

section
variable {c : Dev nD} (hf : Finite m c) (t : Fin cfg0.N) (H : FVec Ideal S256x1024 .f32)
  (hH : ∀ (i : S256x1024.Idx) (j : S8192x1024.Idx), (j 0 : ℕ) = (31 - t.val) * 256 + (i 0 : ℕ) → (j 1 : ℕ) = (i 1 : ℕ) → H i = rH m c j)
include hH

/-- The gradient behind the gain. -/
theorem dg_at (i : S256x1024.Idx) (j : S8192x1024.Idx) (h0 : (j 0 : ℕ) = (31 - t.val) * 256 + (i 0 : ℕ)) (h1 : (j 1 : ℕ) = (i 1 : ℕ)) :
    (k0_pay69 (F := Ideal) H (iblk m c 10 t) i : EReal) = rH m c j * (1 + a6 m c (ix1 (j 1))) := by
  refine (pay69_at _ _ i).trans ?_
  refine congrArg₂ (· * ·) (hH i j h0 h1) (congrArg (1 + ·) ((sc_at m c t _).trans (congrArg (fun k => a6 m c (ix1 k)) (Fin.ext h1.symm))))

theorem dn_at (i : S256x1024.Idx) (j : S8192x1024.Idx) (h0 : (j 0 : ℕ) = (31 - t.val) * 256 + (i 0 : ℕ)) (h1 : (j 1 : ℕ) = (i 1 : ℕ)) :
    (k0_pay69 (F := Ideal) H (iblk m c 10 t) i : EReal) * (k0_pay71 (F := Ideal) (iblk m c 9 t) i : EReal) = rD m c j := by
  rw [show rD m c j = _ from href142 _ _ _ _ _ _ _ _ _ j]
  exact congrArg₂ (· * ·) (dg_at t H hH i j h0 h1) ((pay71_at _ i).trans ((g_at m c t _).trans (congrArg (fun k => a4 m c (ix1 k)) (Fin.ext h1.symm))))

include hf

/-- One block of the gradient of the rows. -/
theorem row_at (i : S256x1024.Idx) (j : S8192x1024.Idx) (h0 : (j 0 : ℕ) = (31 - t.val) * 256 + (i 0 : ℕ)) (h1 : (j 1 : ℕ) = (i 1 : ℕ)) :
    (k0_pay72 (F := Ideal) (k0_pay65 (iblk m c 7 t)) (k0_pay66 (iblk m c 7 t) (k0_pay65 (iblk m c 7 t))) (k0_pay69 H (iblk m c 10 t)) (k0_pay71 (iblk m c 9 t)) (iblk m c 8 t) i : EReal) = rX m c j := by
  refine (pay72_at _ _ _ _ _ i).trans ?_
  rw [show rX m c j = _ from href158 _ _ _ _ _ _ _ _ _ _ j]
  have key := Cert.Reals.rms_backward (a2 m c j) (fun k => a0 m c (ix2 (j 0) k)) (fun k => rD m c (ix2 (j 0) k))
    (fun k => hf.f0 _) (fun k => rD_real hf _) _ _ (hf.f0 j) (rD_real hf j) _ (mean_pos_row hf (ix2 (j 0) 0))
  refine Eq.trans ?_ key
  exact congrArg₂ (· + ·) (res_at m c t i j h0 h1) (congrArg₂ (· * ·) (rs_at m c t _ _ h0) (congrArg₂ (· - ·) (dn_at t H hH i j h0 h1)
    (congrArg₂ (· * ·) ((xh_at m c t i j h0 h1).trans (href12 _ _))
      (congrArg (Ideal.div · _) (Finset.sum_congr rfl fun k _ =>
        congrArg₂ (· * ·) (dn_at t H hH (ix2 (i 0) k) (ix2 (j 0) k) h0 rfl) ((xh_at m c t (ix2 (i 0) k) (ix2 (j 0) k) h0 rfl).trans (href12 _ _)))))))

end

/-- The gradient of the rows. -/
theorem final16 {c : Dev nD} (hf : Finite m c) : (dats m 0 c).arrAt 16 (cfgs 0).N = val_main_v158 (F := Ideal) (a0 m c) (a2 m c) (a3 m c) (a4 m c) (a5 m c) (a6 m c) (a8 m c) (a9 m c) (a10 m c) (a11 m c) := by
  refine (dats m 0 c).arrAt_eq_of_covers 16 _ (by decide +kernel) fun t hf' y => ?_
  blk_simp
  rw [after0_16]
  by_cases h : t.val % 32 = 0
  · obtain ⟨H, hH, e16, -, -, -, -, -⟩ := outs_A hf t h
    rw [e16]
    refine row_at hf t H hH y _ ?_ ?_ <;> (blk_simp [idx t] <;> try omega)
  · obtain ⟨H, hH, e16, -, -, -, -, -⟩ := outs_B hf t h
    rw [e16]
    refine row_at hf t H hH y _ ?_ ?_ <;> (blk_simp [idx t] <;> try omega)

/-- The gradient of the gated output. -/
theorem final20 {c : Dev nD} (hf : Finite m c) : (dats m 0 c).arrAt 20 (cfgs 0).N = val_main_v173 (F := Ideal) (a0 m c) (a2 m c) (a3 m c) (a4 m c) (a5 m c) (a6 m c) (a7 m c) (a8 m c) (a9 m c) (a10 m c) (a11 m c) := by
  refine (dats m 0 c).arrAt_eq_of_covers 20 _ (by decide +kernel) fun t hf' y => ?_
  blk_simp
  rw [after0_20]
  by_cases h : t.val % 32 = 0
  · obtain ⟨H, hH, -, -, -, -, e20, -⟩ := outs_A hf t h
    rw [e20]
    rw [href173]
    refine (pay73_at _ _ _ _ _ _ y).trans (congrArg₂ (· * ·) ((gt_at m c t _).trans (congrArg (fun k => a7 m c (ix1 k)) (Fin.ext ?_))) (row_at hf t H hH y _ ?_ ?_)) <;> (blk_simp [idx t] <;> try omega)
  · obtain ⟨H, hH, -, -, -, -, e20, -⟩ := outs_B hf t h
    rw [e20]
    rw [href173]
    refine (pay73_at _ _ _ _ _ _ y).trans (congrArg₂ (· * ·) ((gt_at m c t _).trans (congrArg (fun k => a7 m c (ix1 k)) (Fin.ext ?_))) (row_at hf t H hH y _ ?_ ?_)) <;> (blk_simp [idx t] <;> try omega)

/-- A row's term of the gradient of the shift. -/
def term17 (m : (ℓ : Loc nD τ sig) → Buf (Elt Ideal) ℓ) (c : Dev nD) (q : Fin 1024) (k : Fin 8192) : EReal := rH m c (ix2 k q)

/-- The gradient of the shift. -/
theorem final17 {c : Dev nD} (hf : Finite m c) : (dats m 0 c).arrAt 17 (cfgs 0).N = val_main_v170 (F := Ideal) (a0 m c) (a3 m c) (a4 m c) (a5 m c) (a6 m c) (a8 m c) (a9 m c) (a10 m c) (a11 m c) := by
  refine (dats m 0 c).arrAt_eq_of_covers 17 _ (by decide +kernel) fun t hf' y => ?_
  blk_simp
  have ht := lt32 t
  rw [after0_17, Pipeline.eq_sum_fin_of_reset_step_apply_of_flush (fun n h => (outsAt0 m c n h).2.2.2.2.1) 32 (fun _ => 0)
    (fun p j => ∑ r : Fin 256, term17 m c (j 1) ⟨(31 - p.val) * 256 + r.val, by omega⟩)
    (fun t h j => by
      obtain ⟨H, hH, -, e, -, -, -, -⟩ := outs_A hf t h
      refine (congrFun e j).trans ((pay67_at _ _ j).trans (congrArg₂ (· + ·) (zero4 j) (Finset.sum_congr rfl fun r _ => ?_)))
      have ht := lt32 t
      exact hH (ix2 r (j 1)) (ix2 ⟨(31 - t.val) * 256 + r.val, by omega⟩ (j 1)) rfl rfl)
    (fun t h j => by
      obtain ⟨H, hH, -, e, -, -, -, -⟩ := outs_B hf t h
      refine (congrFun e j).trans ((pay67_at _ _ j).trans (congrArg₂ (· + ·) rfl (Finset.sum_congr rfl fun r _ => ?_)))
      have ht := lt32 t
      exact hH (ix2 r (j 1)) (ix2 ⟨(31 - t.val) * 256 + r.val, by omega⟩ (j 1)) rfl rfl)
    t ((flush0_17 t).mp hf') _, zero_add, href170]
  refine (acc_sum (fun s => _) (fun s => ?_) _).trans ?_
  · show 32 * (t.val / 32) + s.val = s.val
    omega
  · refine Finset.sum_congr rfl fun k _ => ?_
    refine congrArg (fun q => term17 m c q k) (Fin.ext ?_)
    blk_simp [idx t] <;> try omega

/-- A row's term of the gradient of the scale. -/
def term18 (m : (ℓ : Loc nD τ sig) → Buf (Elt Ideal) ℓ) (c : Dev nD) (q : Fin 1024) (k : Fin 8192) : EReal := rH m c (ix2 k q) * (val_main_v12 (F := Ideal) (a0 m c) (ix2 k q) * a4 m c (ix1 q))

/-- The gradient of the scale. -/
theorem final18 {c : Dev nD} (hf : Finite m c) : (dats m 0 c).arrAt 18 (cfgs 0).N = val_main_v171 (F := Ideal) (a0 m c) (a3 m c) (a4 m c) (a5 m c) (a6 m c) (a8 m c) (a9 m c) (a10 m c) (a11 m c) := by
  refine (dats m 0 c).arrAt_eq_of_covers 18 _ (by decide +kernel) fun t hf' y => ?_
  blk_simp
  have ht := lt32 t
  rw [after0_18, Pipeline.eq_sum_fin_of_reset_step_apply_of_flush (fun n h => (outsAt0 m c n h).2.2.2.2.2.1) 32 (fun _ => 0)
    (fun p j => ∑ r : Fin 256, term18 m c (j 1) ⟨(31 - p.val) * 256 + r.val, by omega⟩)
    (fun t h j => by
      obtain ⟨H, hH, -, -, e, -, -, -⟩ := outs_A hf t h
      refine (congrFun e j).trans ((pay68_at _ _ _ _ _ j).trans (congrArg₂ (· + ·) (zero5 j) (Finset.sum_congr rfl fun r _ => ?_)))
      have ht := lt32 t
      exact congrArg₂ (· * ·) (hH (ix2 r (j 1)) (ix2 ⟨(31 - t.val) * 256 + r.val, by omega⟩ (j 1)) rfl rfl) (congrArg₂ (· * ·) (xh_at m c t (ix2 r (j 1)) (ix2 ⟨(31 - t.val) * 256 + r.val, by omega⟩ (j 1)) rfl rfl) (g_at m c t _)))
    (fun t h j => by
      obtain ⟨H, hH, -, -, e, -, -, -⟩ := outs_B hf t h
      refine (congrFun e j).trans ((pay68_at _ _ _ _ _ j).trans (congrArg₂ (· + ·) rfl (Finset.sum_congr rfl fun r _ => ?_)))
      have ht := lt32 t
      exact congrArg₂ (· * ·) (hH (ix2 r (j 1)) (ix2 ⟨(31 - t.val) * 256 + r.val, by omega⟩ (j 1)) rfl rfl) (congrArg₂ (· * ·) (xh_at m c t (ix2 r (j 1)) (ix2 ⟨(31 - t.val) * 256 + r.val, by omega⟩ (j 1)) rfl rfl) (g_at m c t _)))
    t ((flush0_18 t).mp hf') _, zero_add, href171]
  refine (acc_sum (fun s => _) (fun s => ?_) _).trans ?_
  · show 32 * (t.val / 32) + s.val = s.val
    omega
  · refine Finset.sum_congr rfl fun k _ => ?_
    refine congrArg (fun q => term18 m c q k) (Fin.ext ?_)
    blk_simp [idx t] <;> try omega

/-- A row's term of the gradient of the gain. -/
def term19 (m : (ℓ : Loc nD τ sig) → Buf (Elt Ideal) ℓ) (c : Dev nD) (q : Fin 1024) (k : Fin 8192) : EReal := rH m c (ix2 k q) * (1 + a6 m c (ix1 q)) * val_main_v12 (F := Ideal) (a0 m c) (ix2 k q)

/-- The gradient of the gain. -/
theorem final19 {c : Dev nD} (hf : Finite m c) : (dats m 0 c).arrAt 19 (cfgs 0).N = val_main_v172 (F := Ideal) (a0 m c) (a3 m c) (a4 m c) (a5 m c) (a6 m c) (a8 m c) (a9 m c) (a10 m c) (a11 m c) := by
  refine (dats m 0 c).arrAt_eq_of_covers 19 _ (by decide +kernel) fun t hf' y => ?_
  blk_simp
  have ht := lt32 t
  rw [after0_19, Pipeline.eq_sum_fin_of_reset_step_apply_of_flush (fun n h => (outsAt0 m c n h).2.2.2.2.2.2.1) 32 (fun _ => 0)
    (fun p j => ∑ r : Fin 256, term19 m c (j 1) ⟨(31 - p.val) * 256 + r.val, by omega⟩)
    (fun t h j => by
      obtain ⟨H, hH, -, -, -, e, -, -⟩ := outs_A hf t h
      refine (congrFun e j).trans ((pay70_at _ _ _ _ _ j).trans (congrArg₂ (· + ·) (zero6 j) (Finset.sum_congr rfl fun r _ => ?_)))
      have ht := lt32 t
      exact congrArg₂ (· * ·) (dg_at t H hH (ix2 r (j 1)) (ix2 ⟨(31 - t.val) * 256 + r.val, by omega⟩ (j 1)) rfl rfl) (xh_at m c t (ix2 r (j 1)) (ix2 ⟨(31 - t.val) * 256 + r.val, by omega⟩ (j 1)) rfl rfl))
    (fun t h j => by
      obtain ⟨H, hH, -, -, -, e, -, -⟩ := outs_B hf t h
      refine (congrFun e j).trans ((pay70_at _ _ _ _ _ j).trans (congrArg₂ (· + ·) rfl (Finset.sum_congr rfl fun r _ => ?_)))
      have ht := lt32 t
      exact congrArg₂ (· * ·) (dg_at t H hH (ix2 r (j 1)) (ix2 ⟨(31 - t.val) * 256 + r.val, by omega⟩ (j 1)) rfl rfl) (xh_at m c t (ix2 r (j 1)) (ix2 ⟨(31 - t.val) * 256 + r.val, by omega⟩ (j 1)) rfl rfl))
    t ((flush0_19 t).mp hf') _, zero_add, href172]
  refine (acc_sum (fun s => _) (fun s => ?_) _).trans ?_
  · show 32 * (t.val / 32) + s.val = s.val
    omega
  · refine Finset.sum_congr rfl fun k _ => ?_
    refine congrArg (fun q => term19 m c q k) (Fin.ext ?_)
    blk_simp [idx t] <;> try omega

/-- A row's term of the gradient of the gate. -/
def term21 (m : (ℓ : Loc nD τ sig) → Buf (Elt Ideal) ℓ) (c : Dev nD) (q : Fin 1024) (k : Fin 8192) : EReal := rX m c (ix2 k q) * a1 m c (ix2 k q)

/-- The gradient of the gate. -/
theorem final21 {c : Dev nD} (hf : Finite m c) : (dats m 0 c).arrAt 21 (cfgs 0).N = val_main_v174 (F := Ideal) (a0 m c) (a1 m c) (a2 m c) (a3 m c) (a4 m c) (a5 m c) (a6 m c) (a8 m c) (a9 m c) (a10 m c) (a11 m c) := by
  refine (dats m 0 c).arrAt_eq_of_covers 21 _ (by decide +kernel) fun t hf' y => ?_
  blk_simp
  have ht := lt32 t
  rw [after0_21, Pipeline.eq_sum_fin_of_reset_step_apply_of_flush (fun n h => (outsAt0 m c n h).2.2.2.2.2.2.2.2.1) 32 (fun _ => 0)
    (fun p j => ∑ r : Fin 256, term21 m c (j 1) ⟨(31 - p.val) * 256 + r.val, by omega⟩)
    (fun t h j => by
      obtain ⟨H, hH, -, -, -, -, -, e⟩ := outs_A hf t h
      refine (congrFun e j).trans ((pay74_at _ _ _ _ _ _ _ j).trans (congrArg₂ (· + ·) (zero7 j) (Finset.sum_congr rfl fun r _ => ?_)))
      have ht := lt32 t
      exact congrArg₂ (· * ·) (row_at hf t H hH (ix2 r (j 1)) (ix2 ⟨(31 - t.val) * 256 + r.val, by omega⟩ (j 1)) rfl rfl) (o_at m c t (ix2 r (j 1)) (ix2 ⟨(31 - t.val) * 256 + r.val, by omega⟩ (j 1)) rfl rfl))
    (fun t h j => by
      obtain ⟨H, hH, -, -, -, -, -, e⟩ := outs_B hf t h
      refine (congrFun e j).trans ((pay74_at _ _ _ _ _ _ _ j).trans (congrArg₂ (· + ·) rfl (Finset.sum_congr rfl fun r _ => ?_)))
      have ht := lt32 t
      exact congrArg₂ (· * ·) (row_at hf t H hH (ix2 r (j 1)) (ix2 ⟨(31 - t.val) * 256 + r.val, by omega⟩ (j 1)) rfl rfl) (o_at m c t (ix2 r (j 1)) (ix2 ⟨(31 - t.val) * 256 + r.val, by omega⟩ (j 1)) rfl rfl))
    t ((flush0_21 t).mp hf') _, zero_add, href174]
  refine (acc_sum (fun s => _) (fun s => ?_) _).trans ?_
  · show 32 * (t.val / 32) + s.val = s.val
    omega
  · refine Finset.sum_congr rfl fun k _ => ?_
    refine congrArg (fun q => term21 m c q k) (Fin.ext ?_)
    blk_simp [idx t] <;> try omega

end Cert.Ffn
end
-- ==== Proof.FfnConv.lean ====
module

public import proofs.«01_k».proof.Proof.FfnNorm

/-!
# The gradients of the convolution's taps and bias

Each is a sum over the rows; the kernel adds one row block's share at a point, in four column pieces and, for the taps, row
by row of the taps.
-/

@[expose] public section

set_option maxRecDepth 16384

noncomputable section

namespace Cert.Ffn

open Idealize.ShloMosaic Idealize.ShloMosaic.TcCoe Idealize.SL.Sem
open Idealize.ShloMosaic.Pipeline (Dat)
open Cert.KernelFfnIdeal Cert.KernelFfnIdeal.Gen
open Cert.ReferenceFfnIdeal.Read

variable (m : (ℓ : Loc nD τ sig) → Buf (Elt Ideal) ℓ)

/-- A load of a part of the bias' sums. -/
theorem ld_bias (X : FVec Ideal S1x6144 .f32) (off : ℕ) (inb) (i : S1x1536.Idx) (q : S1x6144.Idx) (h1 : (q 1 : ℕ) = off + (i 1 : ℕ)) :
    View.ld (S := S1x6144) (Val := Elt Ideal) (e' := .f32) X (Rect.unit (s := S1x6144) ![0, off] ![1, 1536] inb) i = X q := by
  refine congrArg X (funext fun a => Fin.ext ?_)
  have hi : (i 0).val < 1 := (i 0).isLt
  have hq : (q 0).val < 1 := (q 0).isLt
  match a with
  | 0 => show 0 + 1 * (i 0 : ℕ) = q 0; omega
  | 1 => show off + 1 * (i 1 : ℕ) = q 1; omega

/-- A load of a part of the up-projection's block. -/
theorem u_ld (c : Dev nD) (t : Fin cfg0.N) (off : ℕ) (inb) (i : S256x1536.Idx) (j : S8192x6144.Idx)
    (h0 : (j 0 : ℕ) = (31 - t.val) * 256 + (i 0 : ℕ)) (h1 : (j 1 : ℕ) = off + (i 1 : ℕ)) :
    View.ld (S := S256x6144) (Val := Elt Ideal) (e' := .bf16) (iblk m c 2 t) (Rect.unit (s := S256x6144) ![0, off] ![256, 1536] inb) i = rU m c j := by
  refine up_at m c t _ j ?_ ?_
  · show (j 0 : ℕ) = (31 - t.val) * 256 + (0 + 1 * (i 0 : ℕ)); omega
  · show (j 1 : ℕ) = off + 1 * (i 1 : ℕ); omega

/-- The rows of a block. -/
abbrev row (t : Fin cfg0.N) (r : Fin 256) : Fin 8192 := ⟨(31 - t.val) * 256 + r.val, by omega⟩

variable {m}

/-- No row of sums. -/
abbrev noSum : FVec Ideal S1x1536 .f32 := fun _ => (0 : EReal)

theorem fresh15_0 (t : Fin cfg0.N) :
    (ms0_15 t).view.readCov (Val := Elt Ideal) [⟨Rect.unit ![0, 0] ![1, 6144] inb_S1x6144_S1x6144_0_0, k0_pay3 (F := Ideal)⟩] (Rect.unit ![0, 0] ![1, 1536] inb_S1x6144_S1x1536_0_0).toLoadRect = noSum := by
  refine (View.readCov_fill (Val := Elt Ideal) (s := S1x6144) (e := .f32) (off := ![0, 0]) _ inb_S1x6144_S1x6144_0_0 (k0_pay3 (F := Ideal)) [] _ (fun a => by fin_cases a <;> rfl)).trans ?_
  exact funext fun i => zero1 _

theorem fresh15_1 (t : Fin cfg0.N) (w0 : FVec Ideal S1x1536 .f32) :
    (ms0_15 t).view.readCov (Val := Elt Ideal) [⟨Rect.unit ![0, 0] ![1, 1536] inb_S1x6144_S1x1536_0_0, w0⟩, ⟨Rect.unit ![0, 0] ![1, 6144] inb_S1x6144_S1x6144_0_0, k0_pay3 (F := Ideal)⟩] (Rect.unit ![0, 3072] ![1, 1536] inb_S1x6144_S1x1536_0_3072).toLoadRect = noSum := by
  refine (View.readCov_skip _ _ _ _ _ (by decide)).trans ?_
  refine (View.readCov_fill (Val := Elt Ideal) (s := S1x6144) (e := .f32) (off := ![0, 0]) _ inb_S1x6144_S1x6144_0_0 (k0_pay3 (F := Ideal)) [] _ (fun a => by fin_cases a <;> rfl)).trans ?_
  exact funext fun i => zero1 _

theorem fresh15_2 (t : Fin cfg0.N) (w0 w1 : FVec Ideal S1x1536 .f32) :
    (ms0_15 t).view.readCov (Val := Elt Ideal) [⟨Rect.unit ![0, 3072] ![1, 1536] inb_S1x6144_S1x1536_0_3072, w1⟩, ⟨Rect.unit ![0, 0] ![1, 1536] inb_S1x6144_S1x1536_0_0, w0⟩, ⟨Rect.unit ![0, 0] ![1, 6144] inb_S1x6144_S1x6144_0_0, k0_pay3 (F := Ideal)⟩] (Rect.unit ![0, 1536] ![1, 1536] inb_S1x6144_S1x1536_0_1536).toLoadRect = noSum := by
  refine (View.readCov_skip _ _ _ _ _ (by decide)).trans ?_
  refine (View.readCov_skip _ _ _ _ _ (by decide)).trans ?_
  refine (View.readCov_fill (Val := Elt Ideal) (s := S1x6144) (e := .f32) (off := ![0, 0]) _ inb_S1x6144_S1x6144_0_0 (k0_pay3 (F := Ideal)) [] _ (fun a => by fin_cases a <;> rfl)).trans ?_
  exact funext fun i => zero1 _

theorem fresh15_3 (t : Fin cfg0.N) (w0 w1 w2 : FVec Ideal S1x1536 .f32) :
    (ms0_15 t).view.readCov (Val := Elt Ideal) [⟨Rect.unit ![0, 1536] ![1, 1536] inb_S1x6144_S1x1536_0_1536, w2⟩, ⟨Rect.unit ![0, 3072] ![1, 1536] inb_S1x6144_S1x1536_0_3072, w1⟩, ⟨Rect.unit ![0, 0] ![1, 1536] inb_S1x6144_S1x1536_0_0, w0⟩, ⟨Rect.unit ![0, 0] ![1, 6144] inb_S1x6144_S1x6144_0_0, k0_pay3 (F := Ideal)⟩] (Rect.unit ![0, 4608] ![1, 1536] inb_S1x6144_S1x1536_0_4608).toLoadRect = noSum := by
  refine (View.readCov_skip _ _ _ _ _ (by decide)).trans ?_
  refine (View.readCov_skip _ _ _ _ _ (by decide)).trans ?_
  refine (View.readCov_skip _ _ _ _ _ (by decide)).trans ?_
  refine (View.readCov_fill (Val := Elt Ideal) (s := S1x6144) (e := .f32) (off := ![0, 0]) _ inb_S1x6144_S1x6144_0_0 (k0_pay3 (F := Ideal)) [] _ (fun a => by fin_cases a <;> rfl)).trans ?_
  exact funext fun i => zero1 _

theorem fresh14_0 (t : Fin cfg0.N) :
    (ms0_14 t).view.readCov (Val := Elt Ideal) [⟨Rect.unit ![0, 0] ![3, 6144] inb_S3x6144_S3x6144_0_0, k0_pay2 (F := Ideal)⟩] (Rect.unit ![2, 0] ![1, 1536] inb_S3x6144_S1x1536_2_0).toLoadRect = noSum := by
  refine (View.readCov_fill (Val := Elt Ideal) (s := S3x6144) (e := .f32) (off := ![0, 0]) _ inb_S3x6144_S3x6144_0_0 (k0_pay2 (F := Ideal)) [] _ (fun a => by fin_cases a <;> rfl)).trans ?_
  exact funext fun i => zero3 _

theorem fresh14_1 (t : Fin cfg0.N) (w0 : FVec Ideal S1x1536 .f32) :
    (ms0_14 t).view.readCov (Val := Elt Ideal) [⟨Rect.unit ![2, 0] ![1, 1536] inb_S3x6144_S1x1536_2_0, w0⟩, ⟨Rect.unit ![0, 0] ![3, 6144] inb_S3x6144_S3x6144_0_0, k0_pay2 (F := Ideal)⟩] (Rect.unit ![1, 0] ![1, 1536] inb_S3x6144_S1x1536_1_0).toLoadRect = noSum := by
  refine (View.readCov_skip _ _ _ _ _ (by decide)).trans ?_
  refine (View.readCov_fill (Val := Elt Ideal) (s := S3x6144) (e := .f32) (off := ![0, 0]) _ inb_S3x6144_S3x6144_0_0 (k0_pay2 (F := Ideal)) [] _ (fun a => by fin_cases a <;> rfl)).trans ?_
  exact funext fun i => zero3 _

theorem fresh14_2 (t : Fin cfg0.N) (w0 w1 : FVec Ideal S1x1536 .f32) :
    (ms0_14 t).view.readCov (Val := Elt Ideal) [⟨Rect.unit ![1, 0] ![1, 1536] inb_S3x6144_S1x1536_1_0, w1⟩, ⟨Rect.unit ![2, 0] ![1, 1536] inb_S3x6144_S1x1536_2_0, w0⟩, ⟨Rect.unit ![0, 0] ![3, 6144] inb_S3x6144_S3x6144_0_0, k0_pay2 (F := Ideal)⟩] (Rect.unit ![0, 0] ![1, 1536] inb_S3x6144_S1x1536_0_0).toLoadRect = noSum := by
  refine (View.readCov_skip _ _ _ _ _ (by decide)).trans ?_
  refine (View.readCov_skip _ _ _ _ _ (by decide)).trans ?_
  refine (View.readCov_fill (Val := Elt Ideal) (s := S3x6144) (e := .f32) (off := ![0, 0]) _ inb_S3x6144_S3x6144_0_0 (k0_pay2 (F := Ideal)) [] _ (fun a => by fin_cases a <;> rfl)).trans ?_
  exact funext fun i => zero3 _

theorem fresh14_3 (t : Fin cfg0.N) (w0 w1 w2 : FVec Ideal S1x1536 .f32) :
    (ms0_14 t).view.readCov (Val := Elt Ideal) [⟨Rect.unit ![0, 0] ![1, 1536] inb_S3x6144_S1x1536_0_0, w2⟩, ⟨Rect.unit ![1, 0] ![1, 1536] inb_S3x6144_S1x1536_1_0, w1⟩, ⟨Rect.unit ![2, 0] ![1, 1536] inb_S3x6144_S1x1536_2_0, w0⟩, ⟨Rect.unit ![0, 0] ![3, 6144] inb_S3x6144_S3x6144_0_0, k0_pay2 (F := Ideal)⟩] (Rect.unit ![2, 3072] ![1, 1536] inb_S3x6144_S1x1536_2_3072).toLoadRect = noSum := by
  refine (View.readCov_skip _ _ _ _ _ (by decide)).trans ?_
  refine (View.readCov_skip _ _ _ _ _ (by decide)).trans ?_
  refine (View.readCov_skip _ _ _ _ _ (by decide)).trans ?_
  refine (View.readCov_fill (Val := Elt Ideal) (s := S3x6144) (e := .f32) (off := ![0, 0]) _ inb_S3x6144_S3x6144_0_0 (k0_pay2 (F := Ideal)) [] _ (fun a => by fin_cases a <;> rfl)).trans ?_
  exact funext fun i => zero3 _

theorem fresh14_4 (t : Fin cfg0.N) (w0 w1 w2 w3 : FVec Ideal S1x1536 .f32) :
    (ms0_14 t).view.readCov (Val := Elt Ideal) [⟨Rect.unit ![2, 3072] ![1, 1536] inb_S3x6144_S1x1536_2_3072, w3⟩, ⟨Rect.unit ![0, 0] ![1, 1536] inb_S3x6144_S1x1536_0_0, w2⟩, ⟨Rect.unit ![1, 0] ![1, 1536] inb_S3x6144_S1x1536_1_0, w1⟩, ⟨Rect.unit ![2, 0] ![1, 1536] inb_S3x6144_S1x1536_2_0, w0⟩, ⟨Rect.unit ![0, 0] ![3, 6144] inb_S3x6144_S3x6144_0_0, k0_pay2 (F := Ideal)⟩] (Rect.unit ![1, 3072] ![1, 1536] inb_S3x6144_S1x1536_1_3072).toLoadRect = noSum := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_fill (Val := Elt Ideal) (s := S3x6144) (e := .f32) (off := ![0, 0]) _ inb_S3x6144_S3x6144_0_0 (k0_pay2 (F := Ideal)) [] _ (fun a => by fin_cases a <;> rfl)).trans ?_
  exact funext fun i => zero3 _

theorem fresh14_5 (t : Fin cfg0.N) (w0 w1 w2 w3 w4 : FVec Ideal S1x1536 .f32) :
    (ms0_14 t).view.readCov (Val := Elt Ideal) [⟨Rect.unit ![1, 3072] ![1, 1536] inb_S3x6144_S1x1536_1_3072, w4⟩, ⟨Rect.unit ![2, 3072] ![1, 1536] inb_S3x6144_S1x1536_2_3072, w3⟩, ⟨Rect.unit ![0, 0] ![1, 1536] inb_S3x6144_S1x1536_0_0, w2⟩, ⟨Rect.unit ![1, 0] ![1, 1536] inb_S3x6144_S1x1536_1_0, w1⟩, ⟨Rect.unit ![2, 0] ![1, 1536] inb_S3x6144_S1x1536_2_0, w0⟩, ⟨Rect.unit ![0, 0] ![3, 6144] inb_S3x6144_S3x6144_0_0, k0_pay2 (F := Ideal)⟩] (Rect.unit ![0, 3072] ![1, 1536] inb_S3x6144_S1x1536_0_3072).toLoadRect = noSum := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_fill (Val := Elt Ideal) (s := S3x6144) (e := .f32) (off := ![0, 0]) _ inb_S3x6144_S3x6144_0_0 (k0_pay2 (F := Ideal)) [] _ (fun a => by fin_cases a <;> rfl)).trans ?_
  exact funext fun i => zero3 _

theorem fresh14_6 (t : Fin cfg0.N) (w0 w1 w2 w3 w4 w5 : FVec Ideal S1x1536 .f32) :
    (ms0_14 t).view.readCov (Val := Elt Ideal) [⟨Rect.unit ![0, 3072] ![1, 1536] inb_S3x6144_S1x1536_0_3072, w5⟩, ⟨Rect.unit ![1, 3072] ![1, 1536] inb_S3x6144_S1x1536_1_3072, w4⟩, ⟨Rect.unit ![2, 3072] ![1, 1536] inb_S3x6144_S1x1536_2_3072, w3⟩, ⟨Rect.unit ![0, 0] ![1, 1536] inb_S3x6144_S1x1536_0_0, w2⟩, ⟨Rect.unit ![1, 0] ![1, 1536] inb_S3x6144_S1x1536_1_0, w1⟩, ⟨Rect.unit ![2, 0] ![1, 1536] inb_S3x6144_S1x1536_2_0, w0⟩, ⟨Rect.unit ![0, 0] ![3, 6144] inb_S3x6144_S3x6144_0_0, k0_pay2 (F := Ideal)⟩] (Rect.unit ![2, 1536] ![1, 1536] inb_S3x6144_S1x1536_2_1536).toLoadRect = noSum := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_fill (Val := Elt Ideal) (s := S3x6144) (e := .f32) (off := ![0, 0]) _ inb_S3x6144_S3x6144_0_0 (k0_pay2 (F := Ideal)) [] _ (fun a => by fin_cases a <;> rfl)).trans ?_
  exact funext fun i => zero3 _

theorem fresh14_7 (t : Fin cfg0.N) (w0 w1 w2 w3 w4 w5 w6 : FVec Ideal S1x1536 .f32) :
    (ms0_14 t).view.readCov (Val := Elt Ideal) [⟨Rect.unit ![2, 1536] ![1, 1536] inb_S3x6144_S1x1536_2_1536, w6⟩, ⟨Rect.unit ![0, 3072] ![1, 1536] inb_S3x6144_S1x1536_0_3072, w5⟩, ⟨Rect.unit ![1, 3072] ![1, 1536] inb_S3x6144_S1x1536_1_3072, w4⟩, ⟨Rect.unit ![2, 3072] ![1, 1536] inb_S3x6144_S1x1536_2_3072, w3⟩, ⟨Rect.unit ![0, 0] ![1, 1536] inb_S3x6144_S1x1536_0_0, w2⟩, ⟨Rect.unit ![1, 0] ![1, 1536] inb_S3x6144_S1x1536_1_0, w1⟩, ⟨Rect.unit ![2, 0] ![1, 1536] inb_S3x6144_S1x1536_2_0, w0⟩, ⟨Rect.unit ![0, 0] ![3, 6144] inb_S3x6144_S3x6144_0_0, k0_pay2 (F := Ideal)⟩] (Rect.unit ![1, 1536] ![1, 1536] inb_S3x6144_S1x1536_1_1536).toLoadRect = noSum := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_fill (Val := Elt Ideal) (s := S3x6144) (e := .f32) (off := ![0, 0]) _ inb_S3x6144_S3x6144_0_0 (k0_pay2 (F := Ideal)) [] _ (fun a => by fin_cases a <;> rfl)).trans ?_
  exact funext fun i => zero3 _

theorem fresh14_8 (t : Fin cfg0.N) (w0 w1 w2 w3 w4 w5 w6 w7 : FVec Ideal S1x1536 .f32) :
    (ms0_14 t).view.readCov (Val := Elt Ideal) [⟨Rect.unit ![1, 1536] ![1, 1536] inb_S3x6144_S1x1536_1_1536, w7⟩, ⟨Rect.unit ![2, 1536] ![1, 1536] inb_S3x6144_S1x1536_2_1536, w6⟩, ⟨Rect.unit ![0, 3072] ![1, 1536] inb_S3x6144_S1x1536_0_3072, w5⟩, ⟨Rect.unit ![1, 3072] ![1, 1536] inb_S3x6144_S1x1536_1_3072, w4⟩, ⟨Rect.unit ![2, 3072] ![1, 1536] inb_S3x6144_S1x1536_2_3072, w3⟩, ⟨Rect.unit ![0, 0] ![1, 1536] inb_S3x6144_S1x1536_0_0, w2⟩, ⟨Rect.unit ![1, 0] ![1, 1536] inb_S3x6144_S1x1536_1_0, w1⟩, ⟨Rect.unit ![2, 0] ![1, 1536] inb_S3x6144_S1x1536_2_0, w0⟩, ⟨Rect.unit ![0, 0] ![3, 6144] inb_S3x6144_S3x6144_0_0, k0_pay2 (F := Ideal)⟩] (Rect.unit ![0, 1536] ![1, 1536] inb_S3x6144_S1x1536_0_1536).toLoadRect = noSum := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_fill (Val := Elt Ideal) (s := S3x6144) (e := .f32) (off := ![0, 0]) _ inb_S3x6144_S3x6144_0_0 (k0_pay2 (F := Ideal)) [] _ (fun a => by fin_cases a <;> rfl)).trans ?_
  exact funext fun i => zero3 _

theorem fresh14_9 (t : Fin cfg0.N) (w0 w1 w2 w3 w4 w5 w6 w7 w8 : FVec Ideal S1x1536 .f32) :
    (ms0_14 t).view.readCov (Val := Elt Ideal) [⟨Rect.unit ![0, 1536] ![1, 1536] inb_S3x6144_S1x1536_0_1536, w8⟩, ⟨Rect.unit ![1, 1536] ![1, 1536] inb_S3x6144_S1x1536_1_1536, w7⟩, ⟨Rect.unit ![2, 1536] ![1, 1536] inb_S3x6144_S1x1536_2_1536, w6⟩, ⟨Rect.unit ![0, 3072] ![1, 1536] inb_S3x6144_S1x1536_0_3072, w5⟩, ⟨Rect.unit ![1, 3072] ![1, 1536] inb_S3x6144_S1x1536_1_3072, w4⟩, ⟨Rect.unit ![2, 3072] ![1, 1536] inb_S3x6144_S1x1536_2_3072, w3⟩, ⟨Rect.unit ![0, 0] ![1, 1536] inb_S3x6144_S1x1536_0_0, w2⟩, ⟨Rect.unit ![1, 0] ![1, 1536] inb_S3x6144_S1x1536_1_0, w1⟩, ⟨Rect.unit ![2, 0] ![1, 1536] inb_S3x6144_S1x1536_2_0, w0⟩, ⟨Rect.unit ![0, 0] ![3, 6144] inb_S3x6144_S3x6144_0_0, k0_pay2 (F := Ideal)⟩] (Rect.unit ![2, 4608] ![1, 1536] inb_S3x6144_S1x1536_2_4608).toLoadRect = noSum := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_fill (Val := Elt Ideal) (s := S3x6144) (e := .f32) (off := ![0, 0]) _ inb_S3x6144_S3x6144_0_0 (k0_pay2 (F := Ideal)) [] _ (fun a => by fin_cases a <;> rfl)).trans ?_
  exact funext fun i => zero3 _

theorem fresh14_10 (t : Fin cfg0.N) (w0 w1 w2 w3 w4 w5 w6 w7 w8 w9 : FVec Ideal S1x1536 .f32) :
    (ms0_14 t).view.readCov (Val := Elt Ideal) [⟨Rect.unit ![2, 4608] ![1, 1536] inb_S3x6144_S1x1536_2_4608, w9⟩, ⟨Rect.unit ![0, 1536] ![1, 1536] inb_S3x6144_S1x1536_0_1536, w8⟩, ⟨Rect.unit ![1, 1536] ![1, 1536] inb_S3x6144_S1x1536_1_1536, w7⟩, ⟨Rect.unit ![2, 1536] ![1, 1536] inb_S3x6144_S1x1536_2_1536, w6⟩, ⟨Rect.unit ![0, 3072] ![1, 1536] inb_S3x6144_S1x1536_0_3072, w5⟩, ⟨Rect.unit ![1, 3072] ![1, 1536] inb_S3x6144_S1x1536_1_3072, w4⟩, ⟨Rect.unit ![2, 3072] ![1, 1536] inb_S3x6144_S1x1536_2_3072, w3⟩, ⟨Rect.unit ![0, 0] ![1, 1536] inb_S3x6144_S1x1536_0_0, w2⟩, ⟨Rect.unit ![1, 0] ![1, 1536] inb_S3x6144_S1x1536_1_0, w1⟩, ⟨Rect.unit ![2, 0] ![1, 1536] inb_S3x6144_S1x1536_2_0, w0⟩, ⟨Rect.unit ![0, 0] ![3, 6144] inb_S3x6144_S3x6144_0_0, k0_pay2 (F := Ideal)⟩] (Rect.unit ![1, 4608] ![1, 1536] inb_S3x6144_S1x1536_1_4608).toLoadRect = noSum := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_fill (Val := Elt Ideal) (s := S3x6144) (e := .f32) (off := ![0, 0]) _ inb_S3x6144_S3x6144_0_0 (k0_pay2 (F := Ideal)) [] _ (fun a => by fin_cases a <;> rfl)).trans ?_
  exact funext fun i => zero3 _

theorem fresh14_11 (t : Fin cfg0.N) (w0 w1 w2 w3 w4 w5 w6 w7 w8 w9 w10 : FVec Ideal S1x1536 .f32) :
    (ms0_14 t).view.readCov (Val := Elt Ideal) [⟨Rect.unit ![1, 4608] ![1, 1536] inb_S3x6144_S1x1536_1_4608, w10⟩, ⟨Rect.unit ![2, 4608] ![1, 1536] inb_S3x6144_S1x1536_2_4608, w9⟩, ⟨Rect.unit ![0, 1536] ![1, 1536] inb_S3x6144_S1x1536_0_1536, w8⟩, ⟨Rect.unit ![1, 1536] ![1, 1536] inb_S3x6144_S1x1536_1_1536, w7⟩, ⟨Rect.unit ![2, 1536] ![1, 1536] inb_S3x6144_S1x1536_2_1536, w6⟩, ⟨Rect.unit ![0, 3072] ![1, 1536] inb_S3x6144_S1x1536_0_3072, w5⟩, ⟨Rect.unit ![1, 3072] ![1, 1536] inb_S3x6144_S1x1536_1_3072, w4⟩, ⟨Rect.unit ![2, 3072] ![1, 1536] inb_S3x6144_S1x1536_2_3072, w3⟩, ⟨Rect.unit ![0, 0] ![1, 1536] inb_S3x6144_S1x1536_0_0, w2⟩, ⟨Rect.unit ![1, 0] ![1, 1536] inb_S3x6144_S1x1536_1_0, w1⟩, ⟨Rect.unit ![2, 0] ![1, 1536] inb_S3x6144_S1x1536_2_0, w0⟩, ⟨Rect.unit ![0, 0] ![3, 6144] inb_S3x6144_S3x6144_0_0, k0_pay2 (F := Ideal)⟩] (Rect.unit ![0, 4608] ![1, 1536] inb_S3x6144_S1x1536_0_4608).toLoadRect = noSum := by
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_fill (Val := Elt Ideal) (s := S3x6144) (e := .f32) (off := ![0, 0]) _ inb_S3x6144_S3x6144_0_0 (k0_pay2 (F := Ideal)) [] _ (fun a => by fin_cases a <;> rfl)).trans ?_
  exact funext fun i => zero3 _

set_option maxHeartbeats 1000000 in
theorem bias_A {c : Dev nD} (hf : Finite m c) (t : Fin cfg0.N) (h' : t.val % 32 = 0) (y : S1x6144.Idx) :
    ((outsAt0 m c t.val t.isLt).2.2.1 y : EReal) = 0 + ∑ r : Fin 256, rA m c (ix2 (row t r) (y 1)) := by
  rw [outsAt0_A m c t h']
  frame_out
  rw [fresh15_0, fresh15_1, fresh15_2, fresh15_3]
  clear h'
  refine (congrFun (canon_cover [⟨_, _⟩, ⟨_, _⟩, ⟨_, _⟩, ⟨_, _⟩] [⟨_, _⟩] (fun y => View.cover_of_tiled_head _ _ _ rfl y)) y).trans ?_
  canon_tiles x h
  · refine (pay_db_D _ _ x).trans (congrArg₂ (· + ·) ?_ (Finset.sum_congr rfl fun r _ => dhD_at hf t (ix2 r (x 1)) (ix2 (row t r) (y 1)) rfl h1))
    exact rfl
  · refine (pay_db_C _ _ x).trans (congrArg₂ (· + ·) ?_ (Finset.sum_congr rfl fun r _ => dhC_at hf t (ix2 r (x 1)) (ix2 (row t r) (y 1)) rfl h1))
    exact rfl
  · refine (pay_db_B _ _ x).trans (congrArg₂ (· + ·) ?_ (Finset.sum_congr rfl fun r _ => dhB_at hf t (ix2 r (x 1)) (ix2 (row t r) (y 1)) rfl h1))
    exact rfl
  · refine (pay_db_A _ _ x).trans (congrArg₂ (· + ·) ?_ (Finset.sum_congr rfl fun r _ => dhA_at hf t (ix2 r (x 1)) (ix2 (row t r) (y 1)) rfl h1))
    exact rfl

set_option maxHeartbeats 1000000 in
theorem bias_B {c : Dev nD} (hf : Finite m c) (t : Fin cfg0.N) (h' : ¬ t.val % 32 = 0) (y : S1x6144.Idx) :
    ((outsAt0 m c t.val t.isLt).2.2.1 y : EReal) = (outsAt0 m c (t.val - 1) (Nat.lt_of_le_of_lt (Nat.sub_le _ _) t.isLt)).2.2.1 y + ∑ r : Fin 256, rA m c (ix2 (row t r) (y 1)) := by
  rw [outsAt0_B m c t h']
  frame_out
  clear h'
  canon_tiles x h
  · refine (pay_db_D _ _ x).trans (congrArg₂ (· + ·) ?_ (Finset.sum_congr rfl fun r _ => dhD_at hf t (ix2 r (x 1)) (ix2 (row t r) (y 1)) rfl h1))
    exact (ld_bias _ 4608 _ x y h1)
  · refine (pay_db_C _ _ x).trans (congrArg₂ (· + ·) ?_ (Finset.sum_congr rfl fun r _ => dhC_at hf t (ix2 r (x 1)) (ix2 (row t r) (y 1)) rfl h1))
    exact (ld_bias _ 1536 _ x y h1)
  · refine (pay_db_B _ _ x).trans (congrArg₂ (· + ·) ?_ (Finset.sum_congr rfl fun r _ => dhB_at hf t (ix2 r (x 1)) (ix2 (row t r) (y 1)) rfl h1))
    exact (ld_bias _ 3072 _ x y h1)
  · refine (pay_db_A _ _ x).trans (congrArg₂ (· + ·) ?_ (Finset.sum_congr rfl fun r _ => dhA_at hf t (ix2 r (x 1)) (ix2 (row t r) (y 1)) rfl h1))
    exact (ld_bias _ 0 _ x y (h1.trans (Nat.zero_add _).symm))

set_option maxHeartbeats 2000000 in
theorem taps_A {c : Dev nD} (hf : Finite m c) (t : Fin cfg0.N) (h' : t.val % 32 = 0) (y : S3x6144.Idx) :
    ((outsAt0 m c t.val t.isLt).2.1 y : EReal) = 0 + ∑ r : Fin 256, below (rA m c) (2 - (y 0).val) (ix2 (row t r) (y 1)) * rU m c (ix2 (row t r) (y 1)) := by
  rw [outsAt0_A m c t h']
  frame_out
  rw [foundA_A m c t h', foundB_A m c t h', foundC_A m c t h', foundD_A m c t h']
  rw [fresh14_0, fresh14_1, fresh14_2, fresh14_3, fresh14_4, fresh14_5, fresh14_6, fresh14_7, fresh14_8, fresh14_9, fresh14_10, fresh14_11]
  rw [pay12, pay13, pay24, pay25, pay37, pay51, pay40, pay54]
  clear h'
  refine (congrFun (canon_cover [⟨_, _⟩, ⟨_, _⟩, ⟨_, _⟩, ⟨_, _⟩, ⟨_, _⟩, ⟨_, _⟩, ⟨_, _⟩, ⟨_, _⟩, ⟨_, _⟩, ⟨_, _⟩, ⟨_, _⟩, ⟨_, _⟩] [⟨_, _⟩] (fun y => View.cover_of_tiled_head _ _ _ rfl y)) y).trans ?_
  canon_tiles x h
  · refine (pay_dw0_D _ _ _ x).trans (congrArg₂ (· + ·) ?_ (Finset.sum_congr rfl fun r _ => congrArg₂ (· * ·)
      (Eq.trans (up2_D hf t (ix2 r (x 1)) (ix2 (row t r) (y 1)) rfl h1) (congrArg (fun s => below (rA m c) s (ix2 (row t r) (y 1))) ?_)) (u_ld m c t 4608 _ (ix2 r (x 1)) (ix2 (row t r) (y 1)) rfl h1)))
    · exact rfl
    · omega
  · refine (pay_dw1_D _ _ _ x).trans (congrArg₂ (· + ·) ?_ (Finset.sum_congr rfl fun r _ => congrArg₂ (· * ·)
      (Eq.trans (up1_D hf t (ix2 r (x 1)) (ix2 (row t r) (y 1)) rfl h1) (congrArg (fun s => below (rA m c) s (ix2 (row t r) (y 1))) ?_)) (u_ld m c t 4608 _ (ix2 r (x 1)) (ix2 (row t r) (y 1)) rfl h1)))
    · exact rfl
    · omega
  · refine (pay_dw2_D _ _ _ x).trans (congrArg₂ (· + ·) ?_ (Finset.sum_congr rfl fun r _ => congrArg₂ (· * ·)
      (Eq.trans ((dhD_at hf t (ix2 r (x 1)) (ix2 (row t r) (y 1)) rfl h1).trans (below_at (rA m c) 0 (ix2 (row t r) (y 1)) (ix2 (row t r) (y 1)) rfl rfl).symm) (congrArg (fun s => below (rA m c) s (ix2 (row t r) (y 1))) ?_)) (u_ld m c t 4608 _ (ix2 r (x 1)) (ix2 (row t r) (y 1)) rfl h1)))
    · exact rfl
    · omega
  · refine (pay_dw0_C _ _ _ x).trans (congrArg₂ (· + ·) ?_ (Finset.sum_congr rfl fun r _ => congrArg₂ (· * ·)
      (Eq.trans (up2_C hf t (ix2 r (x 1)) (ix2 (row t r) (y 1)) rfl h1) (congrArg (fun s => below (rA m c) s (ix2 (row t r) (y 1))) ?_)) (u_ld m c t 1536 _ (ix2 r (x 1)) (ix2 (row t r) (y 1)) rfl h1)))
    · exact rfl
    · omega
  · refine (pay_dw1_C _ _ _ x).trans (congrArg₂ (· + ·) ?_ (Finset.sum_congr rfl fun r _ => congrArg₂ (· * ·)
      (Eq.trans (up1_C hf t (ix2 r (x 1)) (ix2 (row t r) (y 1)) rfl h1) (congrArg (fun s => below (rA m c) s (ix2 (row t r) (y 1))) ?_)) (u_ld m c t 1536 _ (ix2 r (x 1)) (ix2 (row t r) (y 1)) rfl h1)))
    · exact rfl
    · omega
  · refine (pay_dw2_C _ _ _ x).trans (congrArg₂ (· + ·) ?_ (Finset.sum_congr rfl fun r _ => congrArg₂ (· * ·)
      (Eq.trans ((dhC_at hf t (ix2 r (x 1)) (ix2 (row t r) (y 1)) rfl h1).trans (below_at (rA m c) 0 (ix2 (row t r) (y 1)) (ix2 (row t r) (y 1)) rfl rfl).symm) (congrArg (fun s => below (rA m c) s (ix2 (row t r) (y 1))) ?_)) (u_ld m c t 1536 _ (ix2 r (x 1)) (ix2 (row t r) (y 1)) rfl h1)))
    · exact rfl
    · omega
  · refine (pay_dw0_B _ _ _ x).trans (congrArg₂ (· + ·) ?_ (Finset.sum_congr rfl fun r _ => congrArg₂ (· * ·)
      (Eq.trans (up2_B hf t (ix2 r (x 1)) (ix2 (row t r) (y 1)) rfl h1) (congrArg (fun s => below (rA m c) s (ix2 (row t r) (y 1))) ?_)) (u_ld m c t 3072 _ (ix2 r (x 1)) (ix2 (row t r) (y 1)) rfl h1)))
    · exact rfl
    · omega
  · refine (pay_dw1_B _ _ _ x).trans (congrArg₂ (· + ·) ?_ (Finset.sum_congr rfl fun r _ => congrArg₂ (· * ·)
      (Eq.trans (up1_B hf t (ix2 r (x 1)) (ix2 (row t r) (y 1)) rfl h1) (congrArg (fun s => below (rA m c) s (ix2 (row t r) (y 1))) ?_)) (u_ld m c t 3072 _ (ix2 r (x 1)) (ix2 (row t r) (y 1)) rfl h1)))
    · exact rfl
    · omega
  · refine (pay_dw2_B _ _ _ x).trans (congrArg₂ (· + ·) ?_ (Finset.sum_congr rfl fun r _ => congrArg₂ (· * ·)
      (Eq.trans ((dhB_at hf t (ix2 r (x 1)) (ix2 (row t r) (y 1)) rfl h1).trans (below_at (rA m c) 0 (ix2 (row t r) (y 1)) (ix2 (row t r) (y 1)) rfl rfl).symm) (congrArg (fun s => below (rA m c) s (ix2 (row t r) (y 1))) ?_)) (u_ld m c t 3072 _ (ix2 r (x 1)) (ix2 (row t r) (y 1)) rfl h1)))
    · exact rfl
    · omega
  · refine (pay_dw0_A _ _ _ x).trans (congrArg₂ (· + ·) ?_ (Finset.sum_congr rfl fun r _ => congrArg₂ (· * ·)
      (Eq.trans (up2_A hf t (ix2 r (x 1)) (ix2 (row t r) (y 1)) rfl (h1.trans (Nat.zero_add _).symm)) (congrArg (fun s => below (rA m c) s (ix2 (row t r) (y 1))) ?_)) (u_ld m c t 0 _ (ix2 r (x 1)) (ix2 (row t r) (y 1)) rfl (h1.trans (Nat.zero_add _).symm))))
    · exact rfl
    · omega
  · refine (pay_dw1_A _ _ _ x).trans (congrArg₂ (· + ·) ?_ (Finset.sum_congr rfl fun r _ => congrArg₂ (· * ·)
      (Eq.trans (up1_A hf t (ix2 r (x 1)) (ix2 (row t r) (y 1)) rfl (h1.trans (Nat.zero_add _).symm)) (congrArg (fun s => below (rA m c) s (ix2 (row t r) (y 1))) ?_)) (u_ld m c t 0 _ (ix2 r (x 1)) (ix2 (row t r) (y 1)) rfl (h1.trans (Nat.zero_add _).symm))))
    · exact rfl
    · omega
  · refine (pay_dw2_A _ _ _ x).trans (congrArg₂ (· + ·) ?_ (Finset.sum_congr rfl fun r _ => congrArg₂ (· * ·)
      (Eq.trans ((dhA_at hf t (ix2 r (x 1)) (ix2 (row t r) (y 1)) rfl h1).trans (below_at (rA m c) 0 (ix2 (row t r) (y 1)) (ix2 (row t r) (y 1)) rfl rfl).symm) (congrArg (fun s => below (rA m c) s (ix2 (row t r) (y 1))) ?_)) (u_ld m c t 0 _ (ix2 r (x 1)) (ix2 (row t r) (y 1)) rfl (h1.trans (Nat.zero_add _).symm))))
    · exact rfl
    · omega

set_option maxHeartbeats 2000000 in
theorem taps_B {c : Dev nD} (hf : Finite m c) (t : Fin cfg0.N) (h' : ¬ t.val % 32 = 0) (y : S3x6144.Idx) :
    ((outsAt0 m c t.val t.isLt).2.1 y : EReal) = (outsAt0 m c (t.val - 1) (Nat.lt_of_le_of_lt (Nat.sub_le _ _) t.isLt)).2.1 y + ∑ r : Fin 256, below (rA m c) (2 - (y 0).val) (ix2 (row t r) (y 1)) * rU m c (ix2 (row t r) (y 1)) := by
  rw [outsAt0_B m c t h']
  frame_out
  rw [found_B m c t h', foundA_eq, foundB_eq, foundC_eq, foundD_eq]
  rw [pay12, pay13, pay24, pay25, pay37, pay51, pay40, pay54]
  clear h'
  canon_tiles x h
  · refine (pay_dw0_D _ _ _ x).trans (congrArg₂ (· + ·) ?_ (Finset.sum_congr rfl fun r _ => congrArg₂ (· * ·)
      (Eq.trans (up2_D hf t (ix2 r (x 1)) (ix2 (row t r) (y 1)) rfl h1) (congrArg (fun s => below (rA m c) s (ix2 (row t r) (y 1))) ?_)) (u_ld m c t 4608 _ (ix2 r (x 1)) (ix2 (row t r) (y 1)) rfl h1)))
    · exact (ld_tap _ 0 4608 _ x y (by omega) h1)
    · omega
  · refine (pay_dw1_D _ _ _ x).trans (congrArg₂ (· + ·) ?_ (Finset.sum_congr rfl fun r _ => congrArg₂ (· * ·)
      (Eq.trans (up1_D hf t (ix2 r (x 1)) (ix2 (row t r) (y 1)) rfl h1) (congrArg (fun s => below (rA m c) s (ix2 (row t r) (y 1))) ?_)) (u_ld m c t 4608 _ (ix2 r (x 1)) (ix2 (row t r) (y 1)) rfl h1)))
    · exact (ld_tap _ 1 4608 _ x y (by omega) h1)
    · omega
  · refine (pay_dw2_D _ _ _ x).trans (congrArg₂ (· + ·) ?_ (Finset.sum_congr rfl fun r _ => congrArg₂ (· * ·)
      (Eq.trans ((dhD_at hf t (ix2 r (x 1)) (ix2 (row t r) (y 1)) rfl h1).trans (below_at (rA m c) 0 (ix2 (row t r) (y 1)) (ix2 (row t r) (y 1)) rfl rfl).symm) (congrArg (fun s => below (rA m c) s (ix2 (row t r) (y 1))) ?_)) (u_ld m c t 4608 _ (ix2 r (x 1)) (ix2 (row t r) (y 1)) rfl h1)))
    · exact (ld_tap _ 2 4608 _ x y (by omega) h1)
    · omega
  · refine (pay_dw0_C _ _ _ x).trans (congrArg₂ (· + ·) ?_ (Finset.sum_congr rfl fun r _ => congrArg₂ (· * ·)
      (Eq.trans (up2_C hf t (ix2 r (x 1)) (ix2 (row t r) (y 1)) rfl h1) (congrArg (fun s => below (rA m c) s (ix2 (row t r) (y 1))) ?_)) (u_ld m c t 1536 _ (ix2 r (x 1)) (ix2 (row t r) (y 1)) rfl h1)))
    · exact (ld_tap _ 0 1536 _ x y (by omega) h1)
    · omega
  · refine (pay_dw1_C _ _ _ x).trans (congrArg₂ (· + ·) ?_ (Finset.sum_congr rfl fun r _ => congrArg₂ (· * ·)
      (Eq.trans (up1_C hf t (ix2 r (x 1)) (ix2 (row t r) (y 1)) rfl h1) (congrArg (fun s => below (rA m c) s (ix2 (row t r) (y 1))) ?_)) (u_ld m c t 1536 _ (ix2 r (x 1)) (ix2 (row t r) (y 1)) rfl h1)))
    · exact (ld_tap _ 1 1536 _ x y (by omega) h1)
    · omega
  · refine (pay_dw2_C _ _ _ x).trans (congrArg₂ (· + ·) ?_ (Finset.sum_congr rfl fun r _ => congrArg₂ (· * ·)
      (Eq.trans ((dhC_at hf t (ix2 r (x 1)) (ix2 (row t r) (y 1)) rfl h1).trans (below_at (rA m c) 0 (ix2 (row t r) (y 1)) (ix2 (row t r) (y 1)) rfl rfl).symm) (congrArg (fun s => below (rA m c) s (ix2 (row t r) (y 1))) ?_)) (u_ld m c t 1536 _ (ix2 r (x 1)) (ix2 (row t r) (y 1)) rfl h1)))
    · exact (ld_tap _ 2 1536 _ x y (by omega) h1)
    · omega
  · refine (pay_dw0_B _ _ _ x).trans (congrArg₂ (· + ·) ?_ (Finset.sum_congr rfl fun r _ => congrArg₂ (· * ·)
      (Eq.trans (up2_B hf t (ix2 r (x 1)) (ix2 (row t r) (y 1)) rfl h1) (congrArg (fun s => below (rA m c) s (ix2 (row t r) (y 1))) ?_)) (u_ld m c t 3072 _ (ix2 r (x 1)) (ix2 (row t r) (y 1)) rfl h1)))
    · exact (ld_tap _ 0 3072 _ x y (by omega) h1)
    · omega
  · refine (pay_dw1_B _ _ _ x).trans (congrArg₂ (· + ·) ?_ (Finset.sum_congr rfl fun r _ => congrArg₂ (· * ·)
      (Eq.trans (up1_B hf t (ix2 r (x 1)) (ix2 (row t r) (y 1)) rfl h1) (congrArg (fun s => below (rA m c) s (ix2 (row t r) (y 1))) ?_)) (u_ld m c t 3072 _ (ix2 r (x 1)) (ix2 (row t r) (y 1)) rfl h1)))
    · exact (ld_tap _ 1 3072 _ x y (by omega) h1)
    · omega
  · refine (pay_dw2_B _ _ _ x).trans (congrArg₂ (· + ·) ?_ (Finset.sum_congr rfl fun r _ => congrArg₂ (· * ·)
      (Eq.trans ((dhB_at hf t (ix2 r (x 1)) (ix2 (row t r) (y 1)) rfl h1).trans (below_at (rA m c) 0 (ix2 (row t r) (y 1)) (ix2 (row t r) (y 1)) rfl rfl).symm) (congrArg (fun s => below (rA m c) s (ix2 (row t r) (y 1))) ?_)) (u_ld m c t 3072 _ (ix2 r (x 1)) (ix2 (row t r) (y 1)) rfl h1)))
    · exact (ld_tap _ 2 3072 _ x y (by omega) h1)
    · omega
  · refine (pay_dw0_A _ _ _ x).trans (congrArg₂ (· + ·) ?_ (Finset.sum_congr rfl fun r _ => congrArg₂ (· * ·)
      (Eq.trans (up2_A hf t (ix2 r (x 1)) (ix2 (row t r) (y 1)) rfl (h1.trans (Nat.zero_add _).symm)) (congrArg (fun s => below (rA m c) s (ix2 (row t r) (y 1))) ?_)) (u_ld m c t 0 _ (ix2 r (x 1)) (ix2 (row t r) (y 1)) rfl (h1.trans (Nat.zero_add _).symm))))
    · exact (ld_tap _ 0 0 _ x y (by omega) (h1.trans (Nat.zero_add _).symm))
    · omega
  · refine (pay_dw1_A _ _ _ x).trans (congrArg₂ (· + ·) ?_ (Finset.sum_congr rfl fun r _ => congrArg₂ (· * ·)
      (Eq.trans (up1_A hf t (ix2 r (x 1)) (ix2 (row t r) (y 1)) rfl (h1.trans (Nat.zero_add _).symm)) (congrArg (fun s => below (rA m c) s (ix2 (row t r) (y 1))) ?_)) (u_ld m c t 0 _ (ix2 r (x 1)) (ix2 (row t r) (y 1)) rfl (h1.trans (Nat.zero_add _).symm))))
    · exact (ld_tap _ 1 0 _ x y (by omega) (h1.trans (Nat.zero_add _).symm))
    · omega
  · refine (pay_dw2_A _ _ _ x).trans (congrArg₂ (· + ·) ?_ (Finset.sum_congr rfl fun r _ => congrArg₂ (· * ·)
      (Eq.trans ((dhA_at hf t (ix2 r (x 1)) (ix2 (row t r) (y 1)) rfl h1).trans (below_at (rA m c) 0 (ix2 (row t r) (y 1)) (ix2 (row t r) (y 1)) rfl rfl).symm) (congrArg (fun s => below (rA m c) s (ix2 (row t r) (y 1))) ?_)) (u_ld m c t 0 _ (ix2 r (x 1)) (ix2 (row t r) (y 1)) rfl (h1.trans (Nat.zero_add _).symm))))
    · exact (ld_tap _ 2 0 _ x y (by omega) (h1.trans (Nat.zero_add _).symm))
    · omega

/-- A row's term of the gradient of the bias. -/
def term15 (m : (ℓ : Loc nD τ sig) → Buf (Elt Ideal) ℓ) (c : Dev nD) (j : S1x6144.Idx) (k : Fin 8192) : EReal := rA m c (ix2 k (j 1))

/-- The gradient of the convolution's bias. -/
theorem final15 {c : Dev nD} (hf : Finite m c) : (dats m 0 c).arrAt 15 (cfgs 0).N = val_main_v169 (F := Ideal) (a0 m c) (a3 m c) (a4 m c) (a5 m c) (a6 m c) (a8 m c) (a9 m c) (a10 m c) (a11 m c) := by
  refine (dats m 0 c).arrAt_eq_of_covers 15 _ (by decide +kernel) fun t hf' y => ?_
  blk_simp
  have ht := lt32 t
  rw [after0_15, Pipeline.eq_sum_fin_of_reset_step_apply_of_flush (fun n h => (outsAt0 m c n h).2.2.1) 32 (fun _ => 0)
    (fun p j => ∑ r : Fin 256, term15 m c j ⟨(31 - p.val) * 256 + r.val, by omega⟩)
    (fun t h j => bias_A hf t h j) (fun t h j => bias_B hf t h j)
    t ((flush0_15 t).mp hf') _, zero_add, href169]
  refine (acc_sum (fun s => _) (fun s => ?_) _).trans ?_
  · show 32 * (t.val / 32) + s.val = s.val
    omega
  · refine Finset.sum_congr rfl fun k _ => ?_
    refine congrArg (fun q => term15 m c q k) (funext fun a => ?_)
    match a with
    | 0 => exact Fin.ext (by blk_simp [idx t] <;> try omega)
    | 1 => exact Fin.ext (by blk_simp [idx t] <;> try omega)

/-- A row's term of the gradient of the taps. -/
def term14 (m : (ℓ : Loc nD τ sig) → Buf (Elt Ideal) ℓ) (c : Dev nD) (j : S3x6144.Idx) (k : Fin 8192) : EReal := below (rA m c) (2 - (j 0).val) (ix2 k (j 1)) * rU m c (ix2 k (j 1))

/-- The gradient of the convolution's taps. -/
theorem final14 {c : Dev nD} (hf : Finite m c) : (dats m 0 c).arrAt 14 (cfgs 0).N = val_main_v123 (F := Ideal) (a0 m c) (a3 m c) (a4 m c) (a5 m c) (a6 m c) (a8 m c) (a9 m c) (a10 m c) (a11 m c) := by
  refine (dats m 0 c).arrAt_eq_of_covers 14 _ (by decide +kernel) fun t hf' y => ?_
  blk_simp
  have ht := lt32 t
  rw [after0_14, Pipeline.eq_sum_fin_of_reset_step_apply_of_flush (fun n h => (outsAt0 m c n h).2.1) 32 (fun _ => 0)
    (fun p j => ∑ r : Fin 256, term14 m c j ⟨(31 - p.val) * 256 + r.val, by omega⟩)
    (fun t h j => taps_A hf t h j) (fun t h j => taps_B hf t h j)
    t ((flush0_14 t).mp hf') _, zero_add, href123]
  refine (acc_sum (fun s => _) (fun s => ?_) _).trans ?_
  · show 32 * (t.val / 32) + s.val = s.val
    omega
  · refine Finset.sum_congr rfl fun k _ => ?_
    refine congrArg (fun q => term14 m c q k) (funext fun a => ?_)
    match a with
    | 0 => exact Fin.ext (by blk_simp [idx t] <;> try omega)
    | 1 => exact Fin.ext (by blk_simp [idx t] <;> try omega)

end Cert.Ffn
end
-- ==== Proof.FfnClaim.lean ====
module

public import proofs.«01_k».proof.Defs
public import proofs.«01_k».proof.Proof.Gen.ReferenceFfnIdeal.Run
public import proofs.«01_k».proof.Proof.Gen.KernelFfnIdeal.Value
public import proofs.«01_k».proof.Proof.FfnConv
public import proofs.«01_k».proof.Proof.FfnDu

@[expose] public section

set_option maxRecDepth 16384

/-!
# The gradient of the feed-forward block: kernel and reference end alike
-/

noncomputable section

namespace Cert.Ffn

open Idealize.ShloMosaic Idealize.ShloMosaic.TcCoe Idealize.SL.Sem
open Cert.ReferenceFfnIdeal.Read
open Cert.Reals (IsReal)

/-- The side conditions of the finiteness predicate. -/
theorem finite_facts : Cert.Pre_ffn_finite.Facts := by constructor <;> decide

theorem one_of_and {a b : BitVec 1} (h : IntOp.andi a b = 1#1) : a = 1#1 ∧ b = 1#1 := by
  revert a b; decide

/-- The precondition, read: every element of the arguments it names is a real number. -/
theorem finite_args [Cert.Pre_ffn_finite.Facts] (x0 x1 x2 x3 x4 x5 x6 x7 x8 x9 x10 x11)
    (h : Cert.Pre_ffn_finite.fn (F := Ideal) x0 x1 x2 x3 x4 x5 x6 x7 x8 x9 x10 x11 = fun _ => 1#1) :
    (∀ i, IsReal (x0 i)) ∧ (∀ i, IsReal (x3 i)) ∧ (∀ i, IsReal (x4 i)) ∧ (∀ i, IsReal (x5 i)) ∧ (∀ i, IsReal (x6 i)) ∧ (∀ i, IsReal (x8 i)) ∧ (∀ i, IsReal (x9 i)) ∧ (∀ i, IsReal (x10 i)) ∧ ∀ i, IsReal (x11 i) := by
  have hj := congrFun h ix0
  dsimp only [Cert.Pre_ffn_finite.fn, Cert.Pre_ffn_finite.fn_part1, Cert.Pre_ffn_finite.fn_part2] at hj
  obtain ⟨hj, h11⟩ := one_of_and hj
  obtain ⟨hj, h10⟩ := one_of_and hj
  obtain ⟨hj, h9⟩ := one_of_and hj
  obtain ⟨hj, h8⟩ := one_of_and hj
  obtain ⟨hj, h6⟩ := one_of_and hj
  obtain ⟨hj, h5⟩ := one_of_and hj
  obtain ⟨hj, h4⟩ := one_of_and hj
  obtain ⟨h0, h3⟩ := one_of_and hj
  exact ⟨Cert.Reals.real_of_all x0 _ _ _ _ _ _ h0,
    Cert.Reals.real_of_all x3 _ _ _ _ _ _ h3,
    Cert.Reals.real_of_all x4 _ _ _ _ _ _ h4,
    Cert.Reals.real_of_all x5 _ _ _ _ _ _ h5,
    Cert.Reals.real_of_all x6 _ _ _ _ _ _ h6,
    Cert.Reals.real_of_all x8 _ _ _ _ _ _ h8,
    Cert.Reals.real_of_all x9 _ _ _ _ _ _ h9,
    Cert.Reals.real_of_all x10 _ _ _ _ _ _ h10,
    Cert.Reals.real_of_all x11 _ _ _ _ _ _ h11⟩

set_option maxHeartbeats 4000000 in
/-- Kernel and reference end with the same nine gradients, where the arguments the precondition names are finite. -/
theorem algebraic : Cert.algebraic_KernelFfnIdeal_ReferenceFfnIdeal_pre_ffn_finite
    (hKernelFfnIdeal := Cert.KernelFfnIdeal.Gen.facts) (hReferenceFfnIdeal := Cert.ReferenceFfnIdeal.Gen.facts) (hPre_ffn_finite := finite_facts) := by
  intro m g m' g' hpre hagree
  refine ⟨fun c => (Cert.KernelFfnIdeal.Gen.dats m 0 c).arrAt 13 Cert.KernelFfnIdeal.cfg0.N,
    fun c => (Cert.KernelFfnIdeal.Gen.dats m 0 c).arrAt 14 Cert.KernelFfnIdeal.cfg0.N,
    fun c => (Cert.KernelFfnIdeal.Gen.dats m 0 c).arrAt 15 Cert.KernelFfnIdeal.cfg0.N,
    fun c => (Cert.KernelFfnIdeal.Gen.dats m 0 c).arrAt 16 Cert.KernelFfnIdeal.cfg0.N,
    fun c => (Cert.KernelFfnIdeal.Gen.dats m 0 c).arrAt 17 Cert.KernelFfnIdeal.cfg0.N,
    fun c => (Cert.KernelFfnIdeal.Gen.dats m 0 c).arrAt 18 Cert.KernelFfnIdeal.cfg0.N,
    fun c => (Cert.KernelFfnIdeal.Gen.dats m 0 c).arrAt 19 Cert.KernelFfnIdeal.cfg0.N,
    fun c => (Cert.KernelFfnIdeal.Gen.dats m 0 c).arrAt 20 Cert.KernelFfnIdeal.cfg0.N,
    fun c => (Cert.KernelFfnIdeal.Gen.dats m 0 c).arrAt 21 Cert.KernelFfnIdeal.cfg0.N,
    Cert.KernelFfnIdeal.Value.run_blocks m g, ?_⟩
  refine (θ_run _ _ _).mono (fun r h c => ?_) (Cert.ReferenceFfnIdeal.Value.run m' g')
  obtain ⟨h13, h14, h15, h16, h17, h18, h19, h20, h21, hk⟩ := h c
  obtain ⟨e0, e1, e2, e3, e4, e5, e6, e7, e8, e9, e10, e11⟩ := hagree c
  obtain ⟨f0, f3, f4, f5, f6, f8, f9, f10, f11⟩ := @finite_args finite_facts _ _ _ _ _ _ _ _ _ _ _ _ (hpre c)
  have hf : Finite m c := ⟨f0, f3, f4, f5, f6, f8, f9, f10, f11⟩
  refine ⟨?_, ?_, ?_, ?_, ?_, ?_, ?_, ?_, ?_, hk⟩
  · refine (h13.trans (val_main_v168_eq _)).trans ?_
    refine Eq.trans ?_ (final13 hf).symm
    show val_main_v168 (F := Ideal) (m' ((c : Thread Cert.ReferenceFfnIdeal.nD Cert.ReferenceFfnIdeal.τ).loc Cert.ReferenceFfnIdeal.main_arg0)) (m' ((c : Thread Cert.ReferenceFfnIdeal.nD Cert.ReferenceFfnIdeal.τ).loc Cert.ReferenceFfnIdeal.main_arg3)) (m' ((c : Thread Cert.ReferenceFfnIdeal.nD Cert.ReferenceFfnIdeal.τ).loc Cert.ReferenceFfnIdeal.main_arg4)) (m' ((c : Thread Cert.ReferenceFfnIdeal.nD Cert.ReferenceFfnIdeal.τ).loc Cert.ReferenceFfnIdeal.main_arg5)) (m' ((c : Thread Cert.ReferenceFfnIdeal.nD Cert.ReferenceFfnIdeal.τ).loc Cert.ReferenceFfnIdeal.main_arg6)) (m' ((c : Thread Cert.ReferenceFfnIdeal.nD Cert.ReferenceFfnIdeal.τ).loc Cert.ReferenceFfnIdeal.main_arg8)) (m' ((c : Thread Cert.ReferenceFfnIdeal.nD Cert.ReferenceFfnIdeal.τ).loc Cert.ReferenceFfnIdeal.main_arg9)) (m' ((c : Thread Cert.ReferenceFfnIdeal.nD Cert.ReferenceFfnIdeal.τ).loc Cert.ReferenceFfnIdeal.main_arg10)) (m' ((c : Thread Cert.ReferenceFfnIdeal.nD Cert.ReferenceFfnIdeal.τ).loc Cert.ReferenceFfnIdeal.main_arg11)) = _
    rw [e0, e3, e4, e5, e6, e8, e9, e10, e11]
  · refine (h14.trans (val_main_v123_eq _)).trans ?_
    refine Eq.trans ?_ (final14 hf).symm
    show val_main_v123 (F := Ideal) (m' ((c : Thread Cert.ReferenceFfnIdeal.nD Cert.ReferenceFfnIdeal.τ).loc Cert.ReferenceFfnIdeal.main_arg0)) (m' ((c : Thread Cert.ReferenceFfnIdeal.nD Cert.ReferenceFfnIdeal.τ).loc Cert.ReferenceFfnIdeal.main_arg3)) (m' ((c : Thread Cert.ReferenceFfnIdeal.nD Cert.ReferenceFfnIdeal.τ).loc Cert.ReferenceFfnIdeal.main_arg4)) (m' ((c : Thread Cert.ReferenceFfnIdeal.nD Cert.ReferenceFfnIdeal.τ).loc Cert.ReferenceFfnIdeal.main_arg5)) (m' ((c : Thread Cert.ReferenceFfnIdeal.nD Cert.ReferenceFfnIdeal.τ).loc Cert.ReferenceFfnIdeal.main_arg6)) (m' ((c : Thread Cert.ReferenceFfnIdeal.nD Cert.ReferenceFfnIdeal.τ).loc Cert.ReferenceFfnIdeal.main_arg8)) (m' ((c : Thread Cert.ReferenceFfnIdeal.nD Cert.ReferenceFfnIdeal.τ).loc Cert.ReferenceFfnIdeal.main_arg9)) (m' ((c : Thread Cert.ReferenceFfnIdeal.nD Cert.ReferenceFfnIdeal.τ).loc Cert.ReferenceFfnIdeal.main_arg10)) (m' ((c : Thread Cert.ReferenceFfnIdeal.nD Cert.ReferenceFfnIdeal.τ).loc Cert.ReferenceFfnIdeal.main_arg11)) = _
    rw [e0, e3, e4, e5, e6, e8, e9, e10, e11]
  · refine (h15.trans (val_main_v169_eq _)).trans ?_
    refine Eq.trans ?_ (final15 hf).symm
    show val_main_v169 (F := Ideal) (m' ((c : Thread Cert.ReferenceFfnIdeal.nD Cert.ReferenceFfnIdeal.τ).loc Cert.ReferenceFfnIdeal.main_arg0)) (m' ((c : Thread Cert.ReferenceFfnIdeal.nD Cert.ReferenceFfnIdeal.τ).loc Cert.ReferenceFfnIdeal.main_arg3)) (m' ((c : Thread Cert.ReferenceFfnIdeal.nD Cert.ReferenceFfnIdeal.τ).loc Cert.ReferenceFfnIdeal.main_arg4)) (m' ((c : Thread Cert.ReferenceFfnIdeal.nD Cert.ReferenceFfnIdeal.τ).loc Cert.ReferenceFfnIdeal.main_arg5)) (m' ((c : Thread Cert.ReferenceFfnIdeal.nD Cert.ReferenceFfnIdeal.τ).loc Cert.ReferenceFfnIdeal.main_arg6)) (m' ((c : Thread Cert.ReferenceFfnIdeal.nD Cert.ReferenceFfnIdeal.τ).loc Cert.ReferenceFfnIdeal.main_arg8)) (m' ((c : Thread Cert.ReferenceFfnIdeal.nD Cert.ReferenceFfnIdeal.τ).loc Cert.ReferenceFfnIdeal.main_arg9)) (m' ((c : Thread Cert.ReferenceFfnIdeal.nD Cert.ReferenceFfnIdeal.τ).loc Cert.ReferenceFfnIdeal.main_arg10)) (m' ((c : Thread Cert.ReferenceFfnIdeal.nD Cert.ReferenceFfnIdeal.τ).loc Cert.ReferenceFfnIdeal.main_arg11)) = _
    rw [e0, e3, e4, e5, e6, e8, e9, e10, e11]
  · refine (h16.trans (val_main_v158_eq _)).trans ?_
    refine Eq.trans ?_ (final16 hf).symm
    show val_main_v158 (F := Ideal) (m' ((c : Thread Cert.ReferenceFfnIdeal.nD Cert.ReferenceFfnIdeal.τ).loc Cert.ReferenceFfnIdeal.main_arg0)) (m' ((c : Thread Cert.ReferenceFfnIdeal.nD Cert.ReferenceFfnIdeal.τ).loc Cert.ReferenceFfnIdeal.main_arg2)) (m' ((c : Thread Cert.ReferenceFfnIdeal.nD Cert.ReferenceFfnIdeal.τ).loc Cert.ReferenceFfnIdeal.main_arg3)) (m' ((c : Thread Cert.ReferenceFfnIdeal.nD Cert.ReferenceFfnIdeal.τ).loc Cert.ReferenceFfnIdeal.main_arg4)) (m' ((c : Thread Cert.ReferenceFfnIdeal.nD Cert.ReferenceFfnIdeal.τ).loc Cert.ReferenceFfnIdeal.main_arg5)) (m' ((c : Thread Cert.ReferenceFfnIdeal.nD Cert.ReferenceFfnIdeal.τ).loc Cert.ReferenceFfnIdeal.main_arg6)) (m' ((c : Thread Cert.ReferenceFfnIdeal.nD Cert.ReferenceFfnIdeal.τ).loc Cert.ReferenceFfnIdeal.main_arg8)) (m' ((c : Thread Cert.ReferenceFfnIdeal.nD Cert.ReferenceFfnIdeal.τ).loc Cert.ReferenceFfnIdeal.main_arg9)) (m' ((c : Thread Cert.ReferenceFfnIdeal.nD Cert.ReferenceFfnIdeal.τ).loc Cert.ReferenceFfnIdeal.main_arg10)) (m' ((c : Thread Cert.ReferenceFfnIdeal.nD Cert.ReferenceFfnIdeal.τ).loc Cert.ReferenceFfnIdeal.main_arg11)) = _
    rw [e0, e2, e3, e4, e5, e6, e8, e9, e10, e11]
  · refine (h17.trans (val_main_v170_eq _)).trans ?_
    refine Eq.trans ?_ (final17 hf).symm
    show val_main_v170 (F := Ideal) (m' ((c : Thread Cert.ReferenceFfnIdeal.nD Cert.ReferenceFfnIdeal.τ).loc Cert.ReferenceFfnIdeal.main_arg0)) (m' ((c : Thread Cert.ReferenceFfnIdeal.nD Cert.ReferenceFfnIdeal.τ).loc Cert.ReferenceFfnIdeal.main_arg3)) (m' ((c : Thread Cert.ReferenceFfnIdeal.nD Cert.ReferenceFfnIdeal.τ).loc Cert.ReferenceFfnIdeal.main_arg4)) (m' ((c : Thread Cert.ReferenceFfnIdeal.nD Cert.ReferenceFfnIdeal.τ).loc Cert.ReferenceFfnIdeal.main_arg5)) (m' ((c : Thread Cert.ReferenceFfnIdeal.nD Cert.ReferenceFfnIdeal.τ).loc Cert.ReferenceFfnIdeal.main_arg6)) (m' ((c : Thread Cert.ReferenceFfnIdeal.nD Cert.ReferenceFfnIdeal.τ).loc Cert.ReferenceFfnIdeal.main_arg8)) (m' ((c : Thread Cert.ReferenceFfnIdeal.nD Cert.ReferenceFfnIdeal.τ).loc Cert.ReferenceFfnIdeal.main_arg9)) (m' ((c : Thread Cert.ReferenceFfnIdeal.nD Cert.ReferenceFfnIdeal.τ).loc Cert.ReferenceFfnIdeal.main_arg10)) (m' ((c : Thread Cert.ReferenceFfnIdeal.nD Cert.ReferenceFfnIdeal.τ).loc Cert.ReferenceFfnIdeal.main_arg11)) = _
    rw [e0, e3, e4, e5, e6, e8, e9, e10, e11]
  · refine (h18.trans (val_main_v171_eq _)).trans ?_
    refine Eq.trans ?_ (final18 hf).symm
    show val_main_v171 (F := Ideal) (m' ((c : Thread Cert.ReferenceFfnIdeal.nD Cert.ReferenceFfnIdeal.τ).loc Cert.ReferenceFfnIdeal.main_arg0)) (m' ((c : Thread Cert.ReferenceFfnIdeal.nD Cert.ReferenceFfnIdeal.τ).loc Cert.ReferenceFfnIdeal.main_arg3)) (m' ((c : Thread Cert.ReferenceFfnIdeal.nD Cert.ReferenceFfnIdeal.τ).loc Cert.ReferenceFfnIdeal.main_arg4)) (m' ((c : Thread Cert.ReferenceFfnIdeal.nD Cert.ReferenceFfnIdeal.τ).loc Cert.ReferenceFfnIdeal.main_arg5)) (m' ((c : Thread Cert.ReferenceFfnIdeal.nD Cert.ReferenceFfnIdeal.τ).loc Cert.ReferenceFfnIdeal.main_arg6)) (m' ((c : Thread Cert.ReferenceFfnIdeal.nD Cert.ReferenceFfnIdeal.τ).loc Cert.ReferenceFfnIdeal.main_arg8)) (m' ((c : Thread Cert.ReferenceFfnIdeal.nD Cert.ReferenceFfnIdeal.τ).loc Cert.ReferenceFfnIdeal.main_arg9)) (m' ((c : Thread Cert.ReferenceFfnIdeal.nD Cert.ReferenceFfnIdeal.τ).loc Cert.ReferenceFfnIdeal.main_arg10)) (m' ((c : Thread Cert.ReferenceFfnIdeal.nD Cert.ReferenceFfnIdeal.τ).loc Cert.ReferenceFfnIdeal.main_arg11)) = _
    rw [e0, e3, e4, e5, e6, e8, e9, e10, e11]
  · refine (h19.trans (val_main_v172_eq _)).trans ?_
    refine Eq.trans ?_ (final19 hf).symm
    show val_main_v172 (F := Ideal) (m' ((c : Thread Cert.ReferenceFfnIdeal.nD Cert.ReferenceFfnIdeal.τ).loc Cert.ReferenceFfnIdeal.main_arg0)) (m' ((c : Thread Cert.ReferenceFfnIdeal.nD Cert.ReferenceFfnIdeal.τ).loc Cert.ReferenceFfnIdeal.main_arg3)) (m' ((c : Thread Cert.ReferenceFfnIdeal.nD Cert.ReferenceFfnIdeal.τ).loc Cert.ReferenceFfnIdeal.main_arg4)) (m' ((c : Thread Cert.ReferenceFfnIdeal.nD Cert.ReferenceFfnIdeal.τ).loc Cert.ReferenceFfnIdeal.main_arg5)) (m' ((c : Thread Cert.ReferenceFfnIdeal.nD Cert.ReferenceFfnIdeal.τ).loc Cert.ReferenceFfnIdeal.main_arg6)) (m' ((c : Thread Cert.ReferenceFfnIdeal.nD Cert.ReferenceFfnIdeal.τ).loc Cert.ReferenceFfnIdeal.main_arg8)) (m' ((c : Thread Cert.ReferenceFfnIdeal.nD Cert.ReferenceFfnIdeal.τ).loc Cert.ReferenceFfnIdeal.main_arg9)) (m' ((c : Thread Cert.ReferenceFfnIdeal.nD Cert.ReferenceFfnIdeal.τ).loc Cert.ReferenceFfnIdeal.main_arg10)) (m' ((c : Thread Cert.ReferenceFfnIdeal.nD Cert.ReferenceFfnIdeal.τ).loc Cert.ReferenceFfnIdeal.main_arg11)) = _
    rw [e0, e3, e4, e5, e6, e8, e9, e10, e11]
  · refine (h20.trans (val_main_v173_eq _)).trans ?_
    refine Eq.trans ?_ (final20 hf).symm
    show val_main_v173 (F := Ideal) (m' ((c : Thread Cert.ReferenceFfnIdeal.nD Cert.ReferenceFfnIdeal.τ).loc Cert.ReferenceFfnIdeal.main_arg0)) (m' ((c : Thread Cert.ReferenceFfnIdeal.nD Cert.ReferenceFfnIdeal.τ).loc Cert.ReferenceFfnIdeal.main_arg2)) (m' ((c : Thread Cert.ReferenceFfnIdeal.nD Cert.ReferenceFfnIdeal.τ).loc Cert.ReferenceFfnIdeal.main_arg3)) (m' ((c : Thread Cert.ReferenceFfnIdeal.nD Cert.ReferenceFfnIdeal.τ).loc Cert.ReferenceFfnIdeal.main_arg4)) (m' ((c : Thread Cert.ReferenceFfnIdeal.nD Cert.ReferenceFfnIdeal.τ).loc Cert.ReferenceFfnIdeal.main_arg5)) (m' ((c : Thread Cert.ReferenceFfnIdeal.nD Cert.ReferenceFfnIdeal.τ).loc Cert.ReferenceFfnIdeal.main_arg6)) (m' ((c : Thread Cert.ReferenceFfnIdeal.nD Cert.ReferenceFfnIdeal.τ).loc Cert.ReferenceFfnIdeal.main_arg7)) (m' ((c : Thread Cert.ReferenceFfnIdeal.nD Cert.ReferenceFfnIdeal.τ).loc Cert.ReferenceFfnIdeal.main_arg8)) (m' ((c : Thread Cert.ReferenceFfnIdeal.nD Cert.ReferenceFfnIdeal.τ).loc Cert.ReferenceFfnIdeal.main_arg9)) (m' ((c : Thread Cert.ReferenceFfnIdeal.nD Cert.ReferenceFfnIdeal.τ).loc Cert.ReferenceFfnIdeal.main_arg10)) (m' ((c : Thread Cert.ReferenceFfnIdeal.nD Cert.ReferenceFfnIdeal.τ).loc Cert.ReferenceFfnIdeal.main_arg11)) = _
    rw [e0, e2, e3, e4, e5, e6, e7, e8, e9, e10, e11]
  · refine (h21.trans (val_main_v174_eq _)).trans ?_
    refine Eq.trans ?_ (final21 hf).symm
    show val_main_v174 (F := Ideal) (m' ((c : Thread Cert.ReferenceFfnIdeal.nD Cert.ReferenceFfnIdeal.τ).loc Cert.ReferenceFfnIdeal.main_arg0)) (m' ((c : Thread Cert.ReferenceFfnIdeal.nD Cert.ReferenceFfnIdeal.τ).loc Cert.ReferenceFfnIdeal.main_arg1)) (m' ((c : Thread Cert.ReferenceFfnIdeal.nD Cert.ReferenceFfnIdeal.τ).loc Cert.ReferenceFfnIdeal.main_arg2)) (m' ((c : Thread Cert.ReferenceFfnIdeal.nD Cert.ReferenceFfnIdeal.τ).loc Cert.ReferenceFfnIdeal.main_arg3)) (m' ((c : Thread Cert.ReferenceFfnIdeal.nD Cert.ReferenceFfnIdeal.τ).loc Cert.ReferenceFfnIdeal.main_arg4)) (m' ((c : Thread Cert.ReferenceFfnIdeal.nD Cert.ReferenceFfnIdeal.τ).loc Cert.ReferenceFfnIdeal.main_arg5)) (m' ((c : Thread Cert.ReferenceFfnIdeal.nD Cert.ReferenceFfnIdeal.τ).loc Cert.ReferenceFfnIdeal.main_arg6)) (m' ((c : Thread Cert.ReferenceFfnIdeal.nD Cert.ReferenceFfnIdeal.τ).loc Cert.ReferenceFfnIdeal.main_arg8)) (m' ((c : Thread Cert.ReferenceFfnIdeal.nD Cert.ReferenceFfnIdeal.τ).loc Cert.ReferenceFfnIdeal.main_arg9)) (m' ((c : Thread Cert.ReferenceFfnIdeal.nD Cert.ReferenceFfnIdeal.τ).loc Cert.ReferenceFfnIdeal.main_arg10)) (m' ((c : Thread Cert.ReferenceFfnIdeal.nD Cert.ReferenceFfnIdeal.τ).loc Cert.ReferenceFfnIdeal.main_arg11)) = _
    rw [e0, e1, e2, e3, e4, e5, e6, e8, e9, e10, e11]

/-- The reference program runs, keeps its arguments and leaves no semaphore raised. -/
theorem frame_reference : Cert.quiescent_ReferenceFfnIdeal (hReferenceFfnIdeal := Cert.ReferenceFfnIdeal.Gen.facts) := by
  intro m g hpre
  refine (θ_run _ _ _).mono (fun r h => ⟨fun c => ?_, sem_eq_zero_of_no_sems (by decide) r.2⟩) (Cert.ReferenceFfnIdeal.Value.run m g)
  exact (h c).2.2.2.2.2.2.2.2.2

end Cert.Ffn

end
-- ==== Proof.UpFwd.lean ====
module

public import proofs.«01_k».proof.Proof.Gen.KernelUpFwdIdeal.Frame
public import proofs.«01_k».proof.Proof.Gen.ReferenceUpFwdIdeal.Read
public import Idealize.ShloMosaic.Lib.Pipeline.ValueKit
public import Idealize.ShloMosaic.Lib.Claim

/-!
# The modulated norm and the up-projection, forward

The grid runs over blocks of 256 rows. A point writes its block of the modulated norm, and its block of the up-projection in eight
column pieces, each a product of the norm's block with a part of the weights.
-/

@[expose] public section

set_option maxRecDepth 16384

noncomputable section

namespace Cert.UpFwd

open Idealize.ShloMosaic Idealize.ShloMosaic.TcCoe Idealize.SL.Sem
open Idealize.ShloMosaic.Pipeline (Dat)
open Cert.KernelUpFwdIdeal Cert.KernelUpFwdIdeal.Gen
open Cert.ReferenceUpFwdIdeal.Read

variable (m : (ℓ : Loc nD τ sig) → Buf (Elt Ideal) ℓ) (c : Dev nD)

abbrev a0 : FVec Ideal S8192x1024 .f32 := m ((c : Thread nD τ).loc main_arg0)
abbrev a1 : FVec Ideal S1024 .f32 := m ((c : Thread nD τ).loc main_arg1)
abbrev a2 : FVec Ideal S1024 .f32 := m ((c : Thread nD τ).loc main_arg2)
abbrev a3 : FVec Ideal S1024 .f32 := m ((c : Thread nD τ).loc main_arg3)
abbrev aW : FVec Ideal S1024x6144 .f32 := m ((c : Thread nD τ).loc main_arg6)

/-- Where every window's block sits at each grid point. -/
theorem idx : ∀ t : Fin cfg0.N, win0_0.index t = ![t.val, 0] ∧ win0_1.index t = ![0, 0] ∧ win0_2.index t = ![0, 0] ∧ win0_3.index t = ![0, 0]
    ∧ win0_6.index t = ![0, 0, 0] ∧ win0_11.index t = ![t.val, 0] ∧ win0_12.index t = ![t.val, 0] :=
  (by decide +kernel : ∀ t : Fin grid0.N, _)

/-! ## The blocks of the arguments -/

theorem x_at (t : Fin cfg0.N) (i : S256x1024.Idx) (j : S8192x1024.Idx)
    (h0 : (j 0 : ℕ) = t.val * 256 + (i 0 : ℕ)) (h1 : (j 1 : ℕ) = (i 1 : ℕ)) : ((iblk m c 0 t : FVec Ideal S256x1024 .f32) i : EReal) = (a0 m c j : EReal) := by
  blk_point [iblk, V, idx t]

theorem g_at (t : Fin cfg0.N) (i : S1x1024.Idx) : ((iblk m c 1 t : FVec Ideal S1x1024 .f32) i : EReal) = (a1 m c (ix1 (i 1)) : EReal) := by
  blk_simp [iblk]
  entry_read
  pointwise
  blk_point [idx t]

theorem scale_at (t : Fin cfg0.N) (i : S1x1024.Idx) : ((iblk m c 2 t : FVec Ideal S1x1024 .f32) i : EReal) = (a3 m c (ix1 (i 1)) : EReal) := by
  blk_simp [iblk]
  entry_read
  pointwise
  blk_point [idx t]

theorem shift_at (t : Fin cfg0.N) (i : S1x1024.Idx) : ((iblk m c 3 t : FVec Ideal S1x1024 .f32) i : EReal) = (a2 m c (ix1 (i 1)) : EReal) := by
  blk_simp [iblk]
  entry_read
  pointwise
  blk_point [idx t]

theorem w4_at (t : Fin cfg0.N) (x : S4x1024x1536.Idx) (q : S1024x6144.Idx) (h0 : (q 0 : ℕ) = (x 1 : ℕ)) (h1 : (q 1 : ℕ) = (x 0 : ℕ) * 1536 + (x 2 : ℕ)) :
    (iblk m c 6 t : FVec Ideal S4x1024x1536 .bf16) x = aW m c q := by
  blk_simp [iblk]
  entry_read
  pointwise
  blk_point [idx t]

/-- A load of a part of one block of the weights. -/
theorem w_ld (t : Fin cfg0.N) (k off : ℕ) (inb) (i : S1x1024x768.Idx) (q : S1024x6144.Idx) (h0 : (q 0 : ℕ) = (i 1 : ℕ)) (h1 : (q 1 : ℕ) = k * 1536 + off + (i 2 : ℕ)) :
    View.ld (S := S4x1024x1536) (Val := Elt Ideal) (e' := .bf16) (iblk m c 6 t) (Rect.unit (s := S4x1024x1536) ![k, 0, off] ![1, 1024, 768] inb) i = aW m c q := by
  have hi : (i 0).val < 1 := (i 0).isLt
  refine w4_at m c t _ q ?_ ?_
  · show (q 0 : ℕ) = 0 + 1 * (i 1 : ℕ); omega
  · show (q 1 : ℕ) = (k + 1 * (i 0 : ℕ)) * 1536 + (off + 1 * (i 2 : ℕ))
    rw [show (i 0 : ℕ) = 0 by omega]; omega

/-! ## The modulated norm -/

/-- The modulated norm of one block of rows, written out. -/
theorem pay7_at (x : FVec Ideal S256x1024 .f32) (g sc sh : FVec Ideal S1x1024 .f32) (i : S256x1024.Idx) :
    (k0_pay7 (F := Ideal) x g sc sh i : EReal)
      = (x i : EReal) * Ideal.rsqrt (Ideal.div (∑ k : Fin 1024, (x (ix2 (i 0) k) : EReal) * (x (ix2 (i 0) k) : EReal)) (Ideal.ofBits .f32 0x44800000#32) + Ideal.ofBits .f32 0x358637BD#32)
        * (g (ix2 0 (i 1)) : EReal) * (1 + (sc (ix2 0 (i 1)) : EReal)) + (sh (ix2 0 (i 1)) : EReal) := by
  pointwise [k0_pay7]

/-- The reference's modulated norm, written out. -/
theorem href20 (X0 : FVec Ideal S8192x1024 .f32) (X1 X2 X3 : FVec Ideal S1024 .f32) (j : S8192x1024.Idx) : (val_main_v20 (F := Ideal) X0 X1 X2 X3 j : EReal)
      = (X0 j : EReal) * Ideal.rsqrt (Ideal.div (∑ k : Fin 1024, (X0 (ix2 (j 0) k) : EReal) * (X0 (ix2 (j 0) k) : EReal)) (Ideal.ofBits .f32 0x44800000#32) + Ideal.ofBits .f32 0x358637BD#32)
        * (X1 (ix1 (j 1)) : EReal) * (1 + (X3 (ix1 (j 1)) : EReal)) + (X2 (ix1 (j 1)) : EReal) := by
  pointwise [val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2]

/-- The reference's modulated norm. -/
abbrev rH : FVec Ideal S8192x1024 .f32 := val_main_v20 (F := Ideal) (a0 m c) (a1 m c) (a2 m c) (a3 m c)

/-- Blocks of arguments that agree give modulated norms that agree. -/
theorem norm_eq (x : FVec Ideal S256x1024 .f32) (g sc sh : FVec Ideal S1x1024 .f32) (X0 : FVec Ideal S8192x1024 .f32) (X1 X2 X3 : FVec Ideal S1024 .f32)
    (i : S256x1024.Idx) (j : S8192x1024.Idx) (hi : x i = X0 j) (hx : ∀ k : Fin 1024, x (ix2 (i 0) k) = X0 (ix2 (j 0) k))
    (hg : g (ix2 0 (i 1)) = X1 (ix1 (j 1))) (hsc : sc (ix2 0 (i 1)) = X3 (ix1 (j 1))) (hsh : sh (ix2 0 (i 1)) = X2 (ix1 (j 1))) :
    (k0_pay7 (F := Ideal) x g sc sh i : EReal) = (val_main_v20 (F := Ideal) X0 X1 X2 X3 j : EReal) := by
  rw [pay7_at, href20, hi, hg, hsc, hsh]
  simp only [hx]

/-- One block of the modulated norm is the reference's. -/
theorem h_at (t : Fin cfg0.N) (i : S256x1024.Idx) (j : S8192x1024.Idx)
    (h0 : (j 0 : ℕ) = t.val * 256 + (i 0 : ℕ)) (h1 : (j 1 : ℕ) = (i 1 : ℕ)) :
    (k0_pay7 (F := Ideal) (iblk m c 0 t) (iblk m c 1 t) (iblk m c 2 t) (iblk m c 3 t) i : EReal) = rH m c j := by
  have e : (i 1 : Fin 1024) = j 1 := Fin.ext h1.symm
  exact norm_eq _ _ _ _ _ _ _ _ i j (x_at m c t i j h0 h1) (fun k => x_at m c t (ix2 (i 0) k) (ix2 (j 0) k) h0 rfl)
    ((g_at m c t (ix2 0 (i 1))).trans (congrArg (fun q => a1 m c (ix1 q)) e))
    ((scale_at m c t (ix2 0 (i 1))).trans (congrArg (fun q => a3 m c (ix1 q)) e))
    ((shift_at m c t (ix2 0 (i 1))).trans (congrArg (fun q => a2 m c (ix1 q)) e))

/-! ## The product -/

/-- The reference's up-projection. -/
abbrev rU : FVec Ideal S8192x6144 .f32 := val_main_v22 (F := Ideal) (a0 m c) (a1 m c) (a2 m c) (a3 m c) (aW m c)

theorem href22 (X0 : FVec Ideal S8192x1024 .f32) (X1 X2 X3 : FVec Ideal S1024 .f32) (X6 : FVec Ideal S1024x6144 .f32) (j : S8192x6144.Idx) :
    (val_main_v22 (F := Ideal) X0 X1 X2 X3 X6 j : EReal)
      = ∑ k : Fin 1024, (val_main_v20 (F := Ideal) X0 X1 X2 X3 (ix2 (j 0) k) : EReal) * (X6 (ix2 k (j 1)) : EReal) := by
  pointwise [val_main_v22]

theorem prod_k0_pay8 (x : FVec Ideal S256x1024 .f32) (g sc sh : FVec Ideal S1x1024 .f32) (w : FVec Ideal S1x1024x768 .bf16) (i : S256x768.Idx) :
    (k0_pay18 (F := Ideal) (k0_pay8 x g sc sh w) i : EReal) = ∑ k : Fin 1024, (k0_pay7 (F := Ideal) x g sc sh (ix2 (i 0) k) : EReal) * (w (ix3 0 k (i 1)) : EReal) := by
  pointwise [k0_pay18, k0_pay8]

theorem prod_k0_pay9 (h : FVec Ideal S256x1024 .bf16) (w : FVec Ideal S1x1024x768 .bf16) (i : S256x768.Idx) :
    (k0_pay24 (F := Ideal) (k0_pay9 h w) i : EReal) = ∑ k : Fin 1024, (h (ix2 (i 0) k) : EReal) * (w (ix3 0 k (i 1)) : EReal) := by
  pointwise [k0_pay24, k0_pay9]

theorem prod_k0_pay10 (h : FVec Ideal S256x1024 .bf16) (w : FVec Ideal S1x1024x768 .bf16) (i : S256x768.Idx) :
    (k0_pay38 (F := Ideal) (k0_pay10 h w) i : EReal) = ∑ k : Fin 1024, (h (ix2 (i 0) k) : EReal) * (w (ix3 0 k (i 1)) : EReal) := by
  pointwise [k0_pay38, k0_pay10]

theorem prod_k0_pay11 (h : FVec Ideal S256x1024 .bf16) (w : FVec Ideal S1x1024x768 .bf16) (i : S256x768.Idx) :
    (k0_pay42 (F := Ideal) (k0_pay11 h w) i : EReal) = ∑ k : Fin 1024, (h (ix2 (i 0) k) : EReal) * (w (ix3 0 k (i 1)) : EReal) := by
  pointwise [k0_pay42, k0_pay11]

theorem prod_k0_pay33 (h : FVec Ideal S256x1024 .bf16) (w : FVec Ideal S1x1024x768 .bf16) (i : S256x768.Idx) :
    (k0_pay58 (F := Ideal) (k0_pay33 h w) i : EReal) = ∑ k : Fin 1024, (h (ix2 (i 0) k) : EReal) * (w (ix3 0 k (i 1)) : EReal) := by
  pointwise [k0_pay58, k0_pay33]

theorem prod_k0_pay34 (h : FVec Ideal S256x1024 .bf16) (w : FVec Ideal S1x1024x768 .bf16) (i : S256x768.Idx) :
    (k0_pay64 (F := Ideal) (k0_pay34 h w) i : EReal) = ∑ k : Fin 1024, (h (ix2 (i 0) k) : EReal) * (w (ix3 0 k (i 1)) : EReal) := by
  pointwise [k0_pay64, k0_pay34]

theorem prod_k0_pay51 (h : FVec Ideal S256x1024 .bf16) (w : FVec Ideal S1x1024x768 .bf16) (i : S256x768.Idx) :
    (k0_pay80 (F := Ideal) (k0_pay51 h w) i : EReal) = ∑ k : Fin 1024, (h (ix2 (i 0) k) : EReal) * (w (ix3 0 k (i 1)) : EReal) := by
  pointwise [k0_pay80, k0_pay51]

theorem prod_k0_pay52 (h : FVec Ideal S256x1024 .bf16) (w : FVec Ideal S1x1024x768 .bf16) (i : S256x768.Idx) :
    (k0_pay88 (F := Ideal) (k0_pay52 h w) i : EReal) = ∑ k : Fin 1024, (h (ix2 (i 0) k) : EReal) * (w (ix3 0 k (i 1)) : EReal) := by
  pointwise [k0_pay88, k0_pay52]

/-- The product of one block of the norm with a part of the weights is the reference's up-projection there. -/
theorem sum_at (t : Fin cfg0.N) (k off : ℕ) (inb) (i : S256x768.Idx) (j : S8192x6144.Idx)
    (h0 : (j 0 : ℕ) = t.val * 256 + (i 0 : ℕ)) (h1 : (j 1 : ℕ) = k * 1536 + off + (i 1 : ℕ)) :
    (∑ q : Fin 1024, (k0_pay7 (F := Ideal) (iblk m c 0 t) (iblk m c 1 t) (iblk m c 2 t) (iblk m c 3 t) (ix2 (i 0) q) : EReal)
      * ((View.ld (S := S4x1024x1536) (Val := Elt Ideal) (e' := .bf16) (iblk m c 6 t) (Rect.unit (s := S4x1024x1536) ![k, 0, off] ![1, 1024, 768] inb) (ix3 0 q (i 1)) : EReal))) = rU m c j := by
  refine Eq.trans ?_ (href22 _ _ _ _ _ j).symm
  exact Finset.sum_congr rfl fun q _ => congrArg₂ (· * ·) (h_at m c t (ix2 (i 0) q) (ix2 (j 0) q) h0 rfl)
    (w_ld m c t k off inb (ix3 0 q (i 1)) (ix2 q (j 1)) rfl h1)

/-! ## The launch's arrays -/

set_option maxHeartbeats 1000000 in
theorem norm_A (t : Fin cfg0.N) (h' : t.val % 32 = 0) (y : S256x1024.Idx) (j : S8192x1024.Idx)
    (h0 : (j 0 : ℕ) = t.val * 256 + (y 0 : ℕ)) (h1 : (j 1 : ℕ) = (y 1 : ℕ)) :
    ((outsAt0 m c t.val t.isLt).1 y : EReal) = rH m c j := by
  rw [outsAt0_A m c t h']
  frame_out
  exact h_at m c t y j h0 h1

set_option maxHeartbeats 1000000 in
theorem up_A (t : Fin cfg0.N) (h' : t.val % 32 = 0) (y : S256x6144.Idx) (j : S8192x6144.Idx)
    (hj0 : (j 0 : ℕ) = t.val * 256 + (y 0 : ℕ)) (hj1 : (j 1 : ℕ) = (y 1 : ℕ)) :
    ((outsAt0 m c t.val t.isLt).2.1 y : EReal) = rU m c j := by
  rw [outsAt0_A m c t h']
  frame_out
  clear h'
  canon_tiles x h
  · refine (prod_k0_pay52 _ _ x).trans (sum_at m c t 3 768 _ x j ?_ ?_) <;> omega
  · refine (prod_k0_pay51 _ _ x).trans (sum_at m c t 1 768 _ x j ?_ ?_) <;> omega
  · refine (prod_k0_pay34 _ _ x).trans (sum_at m c t 3 0 _ x j ?_ ?_) <;> omega
  · refine (prod_k0_pay33 _ _ x).trans (sum_at m c t 1 0 _ x j ?_ ?_) <;> omega
  · refine (prod_k0_pay11 _ _ x).trans (sum_at m c t 2 768 _ x j ?_ ?_) <;> omega
  · refine (prod_k0_pay10 _ _ x).trans (sum_at m c t 0 768 _ x j ?_ ?_) <;> omega
  · refine (prod_k0_pay9 _ _ x).trans (sum_at m c t 2 0 _ x j ?_ ?_) <;> omega
  · refine (prod_k0_pay8 _ _ _ _ _ x).trans (sum_at m c t 0 0 _ x j ?_ ?_) <;> omega

set_option maxHeartbeats 1000000 in
theorem norm_B (t : Fin cfg0.N) (h' : ¬ t.val % 32 = 0) (y : S256x1024.Idx) (j : S8192x1024.Idx)
    (h0 : (j 0 : ℕ) = t.val * 256 + (y 0 : ℕ)) (h1 : (j 1 : ℕ) = (y 1 : ℕ)) :
    ((outsAt0 m c t.val t.isLt).1 y : EReal) = rH m c j := by
  rw [outsAt0_B m c t h']
  frame_out
  exact h_at m c t y j h0 h1

set_option maxHeartbeats 1000000 in
theorem up_B (t : Fin cfg0.N) (h' : ¬ t.val % 32 = 0) (y : S256x6144.Idx) (j : S8192x6144.Idx)
    (hj0 : (j 0 : ℕ) = t.val * 256 + (y 0 : ℕ)) (hj1 : (j 1 : ℕ) = (y 1 : ℕ)) :
    ((outsAt0 m c t.val t.isLt).2.1 y : EReal) = rU m c j := by
  rw [outsAt0_B m c t h']
  frame_out
  clear h'
  canon_tiles x h
  · refine (prod_k0_pay52 _ _ x).trans (sum_at m c t 3 768 _ x j ?_ ?_) <;> omega
  · refine (prod_k0_pay51 _ _ x).trans (sum_at m c t 1 768 _ x j ?_ ?_) <;> omega
  · refine (prod_k0_pay34 _ _ x).trans (sum_at m c t 3 0 _ x j ?_ ?_) <;> omega
  · refine (prod_k0_pay33 _ _ x).trans (sum_at m c t 1 0 _ x j ?_ ?_) <;> omega
  · refine (prod_k0_pay11 _ _ x).trans (sum_at m c t 2 768 _ x j ?_ ?_) <;> omega
  · refine (prod_k0_pay10 _ _ x).trans (sum_at m c t 0 768 _ x j ?_ ?_) <;> omega
  · refine (prod_k0_pay9 _ _ x).trans (sum_at m c t 2 0 _ x j ?_ ?_) <;> omega
  · refine (prod_k0_pay8 _ _ _ _ _ x).trans (sum_at m c t 0 0 _ x j ?_ ?_) <;> omega

/-- The launch's modulated norm. -/
theorem final11 : (dats m 0 c).arrAt 11 (cfgs 0).N = val_main_v21 (F := Ideal) (a0 m c) (a1 m c) (a2 m c) (a3 m c) := by
  refine ((dats m 0 c).arrAt_eq_of_covers 11 (rH m c) (by decide +kernel) fun t hf' y => ?_).trans ?_
  · blk_simp
    rw [after0_11]
    by_cases h' : t.val % 32 = 0
    · refine norm_A m c t h' y _ ?_ ?_ <;> (blk_simp [idx t] <;> try omega)
    · refine norm_B m c t h' y _ ?_ ?_ <;> (blk_simp [idx t] <;> try omega)
  · funext j
    pointwise [val_main_v21]

/-- The launch's up-projection. -/
theorem final12 : (dats m 0 c).arrAt 12 (cfgs 0).N = val_main_v23 (F := Ideal) (a0 m c) (a1 m c) (a2 m c) (a3 m c) (aW m c) := by
  refine ((dats m 0 c).arrAt_eq_of_covers 12 (rU m c) (by decide +kernel) fun t hf' y => ?_).trans ?_
  · blk_simp
    rw [after0_12]
    by_cases h' : t.val % 32 = 0
    · refine up_A m c t h' y _ ?_ ?_ <;> (blk_simp [idx t] <;> try omega)
    · refine up_B m c t h' y _ ?_ ?_ <;> (blk_simp [idx t] <;> try omega)
  · funext j
    pointwise [val_main_v23]

end Cert.UpFwd
end
-- ==== Proof.UpFwdClaim.lean ====
module

public import proofs.«01_k».proof.Defs
public import proofs.«01_k».proof.Proof.Gen.ReferenceUpFwdIdeal.Run
public import proofs.«01_k».proof.Proof.Gen.KernelUpFwdIdeal.Value
public import proofs.«01_k».proof.Proof.UpFwd

@[expose] public section

set_option maxRecDepth 16384

/-!
# The modulated norm and the up-projection, forward: kernel and reference end alike
-/

noncomputable section

namespace Cert.UpFwd

open Idealize.ShloMosaic Idealize.ShloMosaic.TcCoe Idealize.SL.Sem
open Cert.ReferenceUpFwdIdeal.Read

set_option maxHeartbeats 4000000 in
/-- Kernel and reference end with the same modulated norm and the same projection of it. -/
theorem algebraic : Cert.algebraic_KernelUpFwdIdeal_ReferenceUpFwdIdeal
    (hKernelUpFwdIdeal := Cert.KernelUpFwdIdeal.Gen.facts) (hReferenceUpFwdIdeal := Cert.ReferenceUpFwdIdeal.Gen.facts) := by
  intro m g m' g' hpre hagree
  refine ⟨fun c => (Cert.KernelUpFwdIdeal.Gen.dats m 0 c).arrAt 11 Cert.KernelUpFwdIdeal.cfg0.N,
    fun c => (Cert.KernelUpFwdIdeal.Gen.dats m 0 c).arrAt 12 Cert.KernelUpFwdIdeal.cfg0.N,
    (θ_run _ _ _).mono (fun r h c => ?_) (Cert.KernelUpFwdIdeal.Value.run_blocks m g), ?_⟩
  · obtain ⟨h11, h12, _, _, _, _, _, _, _, _, hk⟩ := h c
    exact ⟨h11, h12, hk⟩
  refine (θ_run _ _ _).mono (fun r h c => ?_) (Cert.ReferenceUpFwdIdeal.Value.run m' g')
  obtain ⟨h11, h12, hk⟩ := h c
  obtain ⟨e0, e1, e2, e3, e4, e5, e6, e7, e8, e9, e10⟩ := hagree c
  refine ⟨?_, ?_, hk⟩
  · refine (h11.trans (val_main_v21_eq _ _ _ _)).trans ?_
    refine Eq.trans ?_ (final11 m c).symm
    show val_main_v21 (F := Ideal) (m' ((c : Thread Cert.ReferenceUpFwdIdeal.nD Cert.ReferenceUpFwdIdeal.τ).loc Cert.ReferenceUpFwdIdeal.main_arg0)) (m' ((c : Thread Cert.ReferenceUpFwdIdeal.nD Cert.ReferenceUpFwdIdeal.τ).loc Cert.ReferenceUpFwdIdeal.main_arg1)) (m' ((c : Thread Cert.ReferenceUpFwdIdeal.nD Cert.ReferenceUpFwdIdeal.τ).loc Cert.ReferenceUpFwdIdeal.main_arg2)) (m' ((c : Thread Cert.ReferenceUpFwdIdeal.nD Cert.ReferenceUpFwdIdeal.τ).loc Cert.ReferenceUpFwdIdeal.main_arg3)) = _
    rw [e0, e1, e2, e3]
  · refine (h12.trans (val_main_v23_eq _ _ _ _ _)).trans ?_
    refine Eq.trans ?_ (final12 m c).symm
    show val_main_v23 (F := Ideal) (m' ((c : Thread Cert.ReferenceUpFwdIdeal.nD Cert.ReferenceUpFwdIdeal.τ).loc Cert.ReferenceUpFwdIdeal.main_arg0)) (m' ((c : Thread Cert.ReferenceUpFwdIdeal.nD Cert.ReferenceUpFwdIdeal.τ).loc Cert.ReferenceUpFwdIdeal.main_arg1)) (m' ((c : Thread Cert.ReferenceUpFwdIdeal.nD Cert.ReferenceUpFwdIdeal.τ).loc Cert.ReferenceUpFwdIdeal.main_arg2)) (m' ((c : Thread Cert.ReferenceUpFwdIdeal.nD Cert.ReferenceUpFwdIdeal.τ).loc Cert.ReferenceUpFwdIdeal.main_arg3)) (m' ((c : Thread Cert.ReferenceUpFwdIdeal.nD Cert.ReferenceUpFwdIdeal.τ).loc Cert.ReferenceUpFwdIdeal.main_arg6)) = _
    rw [e0, e1, e2, e3, e6]

/-- The reference program runs, keeps its arguments and leaves no semaphore raised. -/
theorem frame_reference : Cert.quiescent_ReferenceUpFwdIdeal (hReferenceUpFwdIdeal := Cert.ReferenceUpFwdIdeal.Gen.facts) := by
  intro m g hpre
  refine (θ_run _ _ _).mono (fun r h => ⟨fun c => ?_, sem_eq_zero_of_no_sems (by decide) r.2⟩) (Cert.ReferenceUpFwdIdeal.Value.run m g)
  exact (h c).2.2

end Cert.UpFwd

end
-- ==== Proof.Mod.lean ====
module

public import proofs.«01_k».proof.Defs
public import proofs.«01_k».proof.Proof.Gen.ReferenceModIdeal.Run
public import proofs.«01_k».proof.Proof.Gen.ReferenceModIdeal.Read
public import proofs.«01_k».proof.Proof.Gen.KernelModIdeal.Value
public import Idealize.ShloMosaic.Lib.Pipeline.ValueKit
public import Idealize.ShloMosaic.Lib.Claim

/-!
# The modulation from the conditioning vectors

Three column blocks; each is the product of the activated conditioning vectors with a block of the weights, plus the bias.
-/

@[expose] public section

set_option maxRecDepth 16384

noncomputable section

namespace Cert.Mod

open Idealize.ShloMosaic Idealize.ShloMosaic.TcCoe Idealize.SL.Sem
open Cert.KernelModIdeal Cert.KernelModIdeal.Gen
open Cert.ReferenceModIdeal.Read

variable (m : (ℓ : Loc nD τ sig) → Buf (Elt Ideal) ℓ) (c : Dev nD)

/-- Where every window's block sits at each grid point. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The modulation. -/
theorem last3 : (dats m 0 c).arrAt 3 cfg0.N = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay1, val_main_v3, val_main_v2, val_main_v1, val_main_v0, val_main_call0_v5, val_main_call0_v4, val_main_call0_v3, val_main_call0_v2,
    val_main_call0_v1, val_main_call0_v0, val_main_call0_cst, val_main_call0_cst_0]
  simp only [zero_sub]
  blk_point [iblk, V, idx t]

/-- Kernel and reference end with the same modulation. -/
theorem algebraic : Cert.algebraic_KernelModIdeal_ReferenceModIdeal
    (hKernelModIdeal := Cert.KernelModIdeal.Gen.facts) (hReferenceModIdeal := Cert.ReferenceModIdeal.Gen.facts) := by
  intro m g m' g' hpre hagree
  refine ⟨fun c => (dats m 0 c).arrAt 3 cfg0.N, Cert.KernelModIdeal.Value.run_blocks m g, ?_⟩
  refine (θ_run _ _ _).mono (fun r h c => ?_) (Cert.ReferenceModIdeal.Value.run m' g')
  obtain ⟨h3, hk⟩ := h c
  obtain ⟨e0, e1, e2⟩ := hagree c
  refine ⟨?_, hk⟩
  refine (h3.trans (val_main_v3_eq _ _ _)).trans ?_
  rw [e0, e1, e2]
  exact (last3 m c).symm

/-- The reference program runs, keeps its arguments and leaves no semaphore raised. -/
theorem frame_reference : Cert.quiescent_ReferenceModIdeal (hReferenceModIdeal := Cert.ReferenceModIdeal.Gen.facts) := by
  intro m g hpre
  refine (θ_run _ _ _).mono (fun r h => ⟨fun c => ?_, sem_eq_zero_of_no_sems (by decide) r.2⟩) (Cert.ReferenceModIdeal.Value.run m g)
  exact (h c).2

end Cert.Mod

end
-- ==== Proof.Ada.lean ====
module

public import proofs.«01_k».proof.Defs
public import proofs.«01_k».proof.Proof.Gen.ReferenceAdaIdeal.Run
public import proofs.«01_k».proof.Proof.Gen.ReferenceAdaIdeal.Read
public import proofs.«01_k».proof.Proof.Gen.KernelAdaIdeal.Frame
public import Idealize.ShloMosaic.Lib.Pipeline.ValueKit
public import Idealize.ShloMosaic.Lib.Claim

/-!
# The gradient of the modulation's weights and their optimiser step

The gradient is the product of the transposed activated conditioning vectors with the gradients of the modulation: a sum of
eight outer products, one for each device.
-/

@[expose] public section

set_option maxRecDepth 16384

noncomputable section

namespace Cert.Ada

open Idealize.ShloMosaic Idealize.ShloMosaic.TcCoe Idealize.SL.Sem
open Cert.KernelAdaIdeal Cert.KernelAdaIdeal.Gen
open Cert.ReferenceAdaIdeal.Read

variable (m : (ℓ : Loc nD τ sig) → Buf (Elt Ideal) ℓ) (c : Dev nD)

/-- Where every window's block sits at each grid point. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] :=
  (by decide +kernel : ∀ t : Fin grid0.N, _)

/-- A block of the transposed conditioning vectors. -/
theorem ct_at (t : Fin cfg0.N) (i : S256x8.Idx) (j : S8x1024.Idx) (h0 : (j 0 : ℕ) = (i 1 : ℕ)) (h1 : (j 1 : ℕ) = t.val * 256 + (i 0 : ℕ)) :
    (iblk m c 0 t : FVec Ideal S256x8 .f32) i = m ((c : Thread nD τ).loc main_arg0) j := by
  blk_simp [iblk]
  entry_read
  pointwise
  blk_point [idx t]

/-- The gradients of the modulation, whole at every point. -/
theorem dm_at (t : Fin cfg0.N) (i : S8x1536.Idx) : (iblk m c 1 t : FVec Ideal S8x1536 .f32) i = m ((c : Thread nD τ).loc main_arg1) i := by
  blk_point [iblk, V, idx t]

/-- The activation of a conditioning vector. -/
abbrev act (x : EReal) : EReal := x * Ideal.div 1 (1 + Ideal.exp (-x))

theorem pay2_at (ct : FVec Ideal S256x8 .f32) (i : S256x8.Idx) : (k0_pay2 (F := Ideal) ct i : EReal) = act (ct i) := by
  pointwise [k0_pay2]
  simp only [zero_sub]

/-- The sum of the eight outer products, at one index. -/
theorem pay5_at (ct : FVec Ideal S256x8 .f32) (dm : FVec Ideal S8x1536 .f32) (w m1 m2 : FVec Ideal S256x1536 .f32) (i : S256x1536.Idx) :
    (k0_pay5 (F := Ideal) (k0_pay10 ct dm w m1 m2) (k0_pay11 ct dm w m1 m2) (View.ld dm r0_6) (k0_pay12 ct dm w m1 m2) (View.ld dm r0_7) (View.ld dm r0_8) i : EReal)
      = ∑ k : Fin 8, (dm (ix2 k (i 1)) : EReal) * act (ct (ix2 (i 0) k)) := by
  pointwise [k0_pay5, k0_pay12, k0_pay11, k0_pay10, k0_pay4, k0_pay3]
  simp only [pay2_at, Fin.sum_univ_eight]
  have hl : View.ld (S := S256x8) (Val := Elt Ideal) (e' := .f32) ct r0_0 = ct :=
    View.ld_unit_zero (Val := Elt Ideal) (S := S256x8) (e := .f32) (off := ![0, 0]) (by decide +kernel) inb_S256x8_S256x8_0_0 ct
  simp only [mul_comm]
  exact congrArg (fun Y : FVec Ideal S256x8 .f32 => (dm (ix2 0 (i 1)) : EReal) * act (Y (ix2 (i 0) 0)) + (dm (ix2 1 (i 1)) : EReal) * act (Y (ix2 (i 0) 1)) + (dm (ix2 2 (i 1)) : EReal) * act (Y (ix2 (i 0) 2)) + (dm (ix2 3 (i 1)) : EReal) * act (Y (ix2 (i 0) 3)) + (dm (ix2 4 (i 1)) : EReal) * act (Y (ix2 (i 0) 4)) + (dm (ix2 5 (i 1)) : EReal) * act (Y (ix2 (i 0) 5)) + (dm (ix2 6 (i 1)) : EReal) * act (Y (ix2 (i 0) 6)) + (dm (ix2 7 (i 1)) : EReal) * act (Y (ix2 (i 0) 7))) hl

theorem href3 (X0 : FVec Ideal S8x1024 .f32) (X1 : FVec Ideal S8x1536 .f32) (j : S1024x1536.Idx) :
    (val_main_v3 (F := Ideal) X0 X1 j : EReal) = ∑ k : Fin 8, (X1 (ix2 k (j 1)) : EReal) * act (X0 (ix2 k (j 0))) := by
  pointwise [val_main_v3, val_main_v2, val_main_v0, val_main_call0_v5, val_main_call0_v3, val_main_call0_v1, val_main_call0_v0, val_main_call0_v2, val_main_call0_cst, val_main_call0_v4, val_main_call0_cst_0]

/-- One block of the gradient is the reference's. -/
theorem grad_at (t : Fin cfg0.N) (w m1 m2 : FVec Ideal S256x1536 .f32) (i : S256x1536.Idx) (j : S1024x1536.Idx)
    (h0 : (j 0 : ℕ) = t.val * 256 + (i 0 : ℕ)) (h1 : (j 1 : ℕ) = (i 1 : ℕ)) :
    (k0_pay5 (F := Ideal) (k0_pay10 (iblk m c 0 t) (iblk m c 1 t) w m1 m2) (k0_pay11 (iblk m c 0 t) (iblk m c 1 t) w m1 m2) (View.ld (iblk m c 1 t) r0_6) (k0_pay12 (iblk m c 0 t) (iblk m c 1 t) w m1 m2) (View.ld (iblk m c 1 t) r0_7) (View.ld (iblk m c 1 t) r0_8) i : EReal)
      = val_main_v3 (F := Ideal) (m ((c : Thread nD τ).loc main_arg0)) (m ((c : Thread nD τ).loc main_arg1)) j := by
  have e : (i 1 : Fin 1536) = j 1 := Fin.ext h1.symm
  refine (pay5_at _ _ w m1 m2 i).trans (Eq.trans ?_ (href3 _ _ j).symm)
  exact Finset.sum_congr rfl fun k _ => congrArg₂ (· * ·) ((dm_at m c t (ix2 k (i 1))).trans (congrArg (fun q => m ((c : Thread nD τ).loc main_arg1) (ix2 k q)) e))
    (congrArg act (ct_at m c t (ix2 (i 0) k) (ix2 k (j 0)) rfl h0))

/-- The gradient. -/
theorem last5 : (dats m 0 c).arrAt 5 cfg0.N = val_main_v3 (F := Ideal) (m ((c : Thread nD τ).loc main_arg0)) (m ((c : Thread nD τ).loc main_arg1)) := by
  refine (dats m 0 c).arrAt_eq_of_covers 5 _ (by decide +kernel) fun t _ y => ?_
  blk_simp
  rw [after0_5]; frame_out
  refine grad_at m c t _ _ _ y _ ?_ ?_ <;> (blk_simp [idx t] <;> try omega)

/-- One optimiser step as a function of the gradient, the weight and the moments, at equal values. -/
theorem step_eq {g g' w w' a a' b b' : EReal} (e : g = g') (e2 : w = w') (e3 : a = a') (e4 : b = b') :
    Ideal.ofBits FTy.f32 3129152111#32 * (Ideal.div (Ideal.div (Ideal.ofBits FTy.f32 1063675494#32 * a + Ideal.ofBits FTy.f32 1036831949#32 * g) (Ideal.ofBits FTy.f32 1059503362#32))
        (Ideal.sqrt (Ideal.div (Ideal.ofBits FTy.f32 1065336439#32 * b + Ideal.ofBits FTy.f32 981668463#32 * (g * g)) (Ideal.ofBits FTy.f32 1008933580#32)) + Ideal.ofBits FTy.f32 841731191#32)
        + Ideal.ofBits FTy.f32 1008981770#32 * w)
      = Ideal.ofBits FTy.f32 3129152111#32 * (Ideal.div (Ideal.div (Ideal.ofBits FTy.f32 1063675494#32 * a' + Ideal.ofBits FTy.f32 1036831949#32 * g') (Ideal.ofBits FTy.f32 1059503362#32))
        (Ideal.sqrt (Ideal.div (Ideal.ofBits FTy.f32 1065336439#32 * b' + Ideal.ofBits FTy.f32 981668463#32 * (g' * g')) (Ideal.ofBits FTy.f32 1008933580#32)) + Ideal.ofBits FTy.f32 841731191#32)
        + Ideal.ofBits FTy.f32 1008981770#32 * w') := by
  rw [e, e2, e3, e4]

/-- The update of the weights. -/
theorem last6 : (dats m 0 c).arrAt 6 cfg0.N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  pointwise [k0_pay1, k0_pay9, k0_pay8, k0_pay7, k0_pay6, val_main_v27, val_main_v25, val_main_v24, val_main_v23, val_main_cst_6, val_main_v22, val_main_v21, val_main_v20, val_main_cst_5, val_main_v19, val_main_v18, val_main_v17, val_main_cst_4, val_main_v14, val_main_v13, val_main_v11, val_main_v12, val_main_cst_2, val_main_v10, val_main_v9, val_main_cst_1, val_main_v16, val_main_v15, val_main_cst_3, val_main_v8, val_main_v7, val_main_v6, val_main_cst_0, val_main_v5, val_main_v4, val_main_cst, val_main_v26, val_main_cst_7]
  have e := grad_at m c t (iblk m c 2 t) (iblk m c 3 t) (iblk m c 4 t) y (((View.whole main_v1_1).slice (win0_6.rect t)).emb y)
    (by blk_simp [idx t] <;> try omega) (by blk_simp [idx t] <;> try omega)
  have e2 : (iblk m c 2 t : FVec Ideal S256x1536 .f32) y = m ((c : Thread nD τ).loc main_arg2) (((View.whole main_v1_1).slice (win0_6.rect t)).emb y) := by
    blk_point [iblk, V, idx t]
  have e3 : (iblk m c 3 t : FVec Ideal S256x1536 .f32) y = m ((c : Thread nD τ).loc main_arg3) (((View.whole main_v1_1).slice (win0_6.rect t)).emb y) := by
    blk_point [iblk, V, idx t]
  have e4 : (iblk m c 4 t : FVec Ideal S256x1536 .f32) y = m ((c : Thread nD τ).loc main_arg4) (((View.whole main_v1_1).slice (win0_6.rect t)).emb y) := by
    blk_point [iblk, V, idx t]
  exact step_eq e e2 e3 e4

/-- The new first moment. -/
theorem last7 : (dats m 0 c).arrAt 7 cfg0.N = val_main_v8 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7]; frame_out
  pointwise [k0_pay6, val_main_v8, val_main_v7, val_main_v6, val_main_cst_0, val_main_v5, val_main_v4, val_main_cst]
  have e := grad_at m c t (iblk m c 2 t) (iblk m c 3 t) (iblk m c 4 t) y (((View.whole main_v1_2).slice (win0_7.rect t)).emb y)
    (by blk_simp [idx t] <;> try omega) (by blk_simp [idx t] <;> try omega)
  have ek : (iblk m c 3 t : FVec Ideal S256x1536 .f32) y = m ((c : Thread nD τ).loc main_arg3) (((View.whole main_v1_2).slice (win0_7.rect t)).emb y) := by
    blk_point [iblk, V, idx t]
  exact congrArg₂ (fun a b : EReal => Ideal.ofBits FTy.f32 1063675494#32 * a + Ideal.ofBits FTy.f32 1036831949#32 * b) ek e

/-- The new second moment. -/
theorem last8 : (dats m 0 c).arrAt 8 cfg0.N = val_main_v14 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8]; frame_out
  pointwise [k0_pay7, val_main_v14, val_main_v13, val_main_v11, val_main_v12, val_main_cst_2, val_main_v10, val_main_v9, val_main_cst_1]
  have e := grad_at m c t (iblk m c 2 t) (iblk m c 3 t) (iblk m c 4 t) y (((View.whole main_v1_3).slice (win0_8.rect t)).emb y)
    (by blk_simp [idx t] <;> try omega) (by blk_simp [idx t] <;> try omega)
  have ek : (iblk m c 4 t : FVec Ideal S256x1536 .f32) y = m ((c : Thread nD τ).loc main_arg4) (((View.whole main_v1_3).slice (win0_8.rect t)).emb y) := by
    blk_point [iblk, V, idx t]
  exact congrArg₂ (fun a b : EReal => Ideal.ofBits FTy.f32 1065336439#32 * a + Ideal.ofBits FTy.f32 981668463#32 * (b * b)) ek e

/-- What the program leaves in its results and its arguments. -/
theorem run_blocks (ρ) : θ_run defs (onTc (τ := τ) (main (F := Ideal))) ⟨m, fun _ => 0, ρ⟩ fun r => ∀ c : Dev nD,
      r.2.mem ((c : Thread nD τ).loc main_v1_0) = (dats m 0 c).arrAt 5 cfg0.N
      ∧ r.2.mem ((c : Thread nD τ).loc main_v1_1) = (dats m 0 c).arrAt 6 cfg0.N
      ∧ r.2.mem ((c : Thread nD τ).loc main_v1_2) = (dats m 0 c).arrAt 7 cfg0.N
      ∧ r.2.mem ((c : Thread nD τ).loc main_v1_3) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (h c).1 8,
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

/-- Kernel and reference end with the same gradient, update and moments. -/
theorem algebraic : Cert.algebraic_KernelAdaIdeal_ReferenceAdaIdeal
    (hKernelAdaIdeal := Cert.KernelAdaIdeal.Gen.facts) (hReferenceAdaIdeal := Cert.ReferenceAdaIdeal.Gen.facts) := by
  intro m g m' g' hpre hagree
  refine ⟨fun c => (dats m 0 c).arrAt 5 cfg0.N, fun c => (dats m 0 c).arrAt 6 cfg0.N, fun c => (dats m 0 c).arrAt 7 cfg0.N,
    fun c => (dats m 0 c).arrAt 8 cfg0.N, run_blocks m g, ?_⟩
  refine (θ_run _ _ _).mono (fun r h c => ?_) (Cert.ReferenceAdaIdeal.Value.run m' g')
  obtain ⟨h5, h6, h7, h8, hk⟩ := h c
  obtain ⟨e0, e1, e2, e3, e4⟩ := hagree c
  refine ⟨?_, ?_, ?_, ?_, hk⟩
  · refine (h5.trans (val_main_v3_eq _ _)).trans ?_
    rw [e0, e1]
    exact (last5 m c).symm
  · refine (h6.trans (val_main_v27_eq _ _ _ _ _)).trans ?_
    rw [e0, e1, e2, e3, e4]
    exact (last6 m c).symm
  · refine (h7.trans (val_main_v8_eq _ _ _)).trans ?_
    rw [e0, e1, e3]
    exact (last7 m c).symm
  · refine (h8.trans (val_main_v14_eq _ _ _)).trans ?_
    rw [e0, e1, e4]
    exact (last8 m c).symm

/-- The reference program runs, keeps its arguments and leaves no semaphore raised. -/
theorem frame_reference : Cert.quiescent_ReferenceAdaIdeal (hReferenceAdaIdeal := Cert.ReferenceAdaIdeal.Gen.facts) := by
  intro m g hpre
  refine (θ_run _ _ _).mono (fun r h => ⟨fun c => ?_, sem_eq_zero_of_no_sems (by decide) r.2⟩) (Cert.ReferenceAdaIdeal.Value.run m g)
  exact (h c).2.2.2.2

end Cert.Ada

end
-- ==== Proof.StepUp.lean ====
module

public import proofs.«01_k».proof.Defs
public import proofs.«01_k».proof.Proof.Gen.ReferenceStepUpIdeal.Run
public import proofs.«01_k».proof.Proof.Gen.ReferenceStepUpIdeal.Read
public import proofs.«01_k».proof.Proof.Gen.KernelStepUpIdeal.Value
public import Idealize.ShloMosaic.Lib.Pipeline.ValueKit
public import Idealize.ShloMosaic.Lib.Claim

/-!
# One optimiser step of the weights of the shape of w_up and w_in

The gradient is the sum of two cores' sums; the moments and the update are the reference's, element by element.
-/

@[expose] public section

set_option maxRecDepth 16384

noncomputable section

namespace Cert.StepUp

open Idealize.ShloMosaic Idealize.ShloMosaic.TcCoe Idealize.SL.Sem
open Cert.KernelStepUpIdeal Cert.KernelStepUpIdeal.Gen
open Cert.ReferenceStepUpIdeal.Read

variable (m : (ℓ : Loc nD τ sig) → Buf (Elt Ideal) ℓ) (c : Dev nD)

/-- The summed gradient. -/
theorem last5 : (dats m 0 c).arrAt 5 cfg0.N = val_main_v0 (F := Ideal) (m ((c : Thread nD τ).loc main_arg3)) (m ((c : Thread nD τ).loc main_arg4)) := by
  refine (Cert.KernelStepUpIdeal.Value.final5 m c).trans (funext fun i => ?_)
  pointwise [val_main_v0]

/-- The update of the weight. -/
theorem last6 : (dats m 0 c).arrAt 6 cfg0.N = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (Cert.KernelStepUpIdeal.Value.final6 m c).trans (funext fun i => ?_)
  pointwise [val_main_v24, val_main_v22, val_main_v21, val_main_v20, val_main_cst_6, val_main_v19, val_main_v18, val_main_v17, val_main_cst_5, val_main_v16, val_main_v15, val_main_v14, val_main_cst_4, val_main_v11, val_main_v10, val_main_v8, val_main_v0, val_main_v9, val_main_cst_2, val_main_v7, val_main_v6, val_main_cst_1, val_main_v13, val_main_v12, val_main_cst_3, val_main_v5, val_main_v4, val_main_v3, val_main_cst_0, val_main_v2, val_main_v1, val_main_cst, val_main_v23, val_main_cst_7]

/-- The new first moment. -/
theorem last7 : (dats m 0 c).arrAt 7 cfg0.N = val_main_v5 (F := Ideal) (m ((c : Thread nD τ).loc main_arg1)) (m ((c : Thread nD τ).loc main_arg3)) (m ((c : Thread nD τ).loc main_arg4)) := by
  refine (Cert.KernelStepUpIdeal.Value.final7 m c).trans (funext fun i => ?_)
  pointwise [val_main_v5, val_main_v4, val_main_v0, val_main_v3, val_main_cst_0, val_main_v2, val_main_v1, val_main_cst]

/-- The new second moment. -/
theorem last8 : (dats m 0 c).arrAt 8 cfg0.N = val_main_v11 (F := Ideal) (m ((c : Thread nD τ).loc main_arg2)) (m ((c : Thread nD τ).loc main_arg3)) (m ((c : Thread nD τ).loc main_arg4)) := by
  refine (Cert.KernelStepUpIdeal.Value.final8 m c).trans (funext fun i => ?_)
  pointwise [val_main_v11, val_main_v10, val_main_v8, val_main_v0, val_main_v9, val_main_cst_2, val_main_v7, val_main_v6, val_main_cst_1]

/-- Kernel and reference end with the same gradient, update and moments. -/
theorem algebraic : Cert.algebraic_KernelStepUpIdeal_ReferenceStepUpIdeal
    (hKernelStepUpIdeal := Cert.KernelStepUpIdeal.Gen.facts) (hReferenceStepUpIdeal := Cert.ReferenceStepUpIdeal.Gen.facts) := by
  intro m g m' g' hpre hagree
  refine ⟨fun c => (dats m 0 c).arrAt 5 cfg0.N, fun c => (dats m 0 c).arrAt 6 cfg0.N, fun c => (dats m 0 c).arrAt 7 cfg0.N,
    fun c => (dats m 0 c).arrAt 8 cfg0.N, Cert.KernelStepUpIdeal.Value.run_blocks m g, ?_⟩
  refine (θ_run _ _ _).mono (fun r h c => ?_) (Cert.ReferenceStepUpIdeal.Value.run m' g')
  obtain ⟨h5, h6, h7, h8, hk⟩ := h c
  obtain ⟨e0, e1, e2, e3, e4⟩ := hagree c
  refine ⟨?_, ?_, ?_, ?_, hk⟩
  · refine (h5.trans (val_main_v0_eq _ _)).trans ?_
    rw [e3, e4]
    exact (last5 m c).symm
  · refine (h6.trans (val_main_v24_eq _ _ _ _ _)).trans ?_
    rw [e0, e1, e2, e3, e4]
    exact (last6 m c).symm
  · refine (h7.trans (val_main_v5_eq _ _ _)).trans ?_
    rw [e1, e3, e4]
    exact (last7 m c).symm
  · refine (h8.trans (val_main_v11_eq _ _ _)).trans ?_
    rw [e2, e3, e4]
    exact (last8 m c).symm

/-- The reference program runs, keeps its arguments and leaves no semaphore raised. -/
theorem frame_reference : Cert.quiescent_ReferenceStepUpIdeal (hReferenceStepUpIdeal := Cert.ReferenceStepUpIdeal.Gen.facts) := by
  intro m g hpre
  refine (θ_run _ _ _).mono (fun r h => ⟨fun c => ?_, sem_eq_zero_of_no_sems (by decide) r.2⟩) (Cert.ReferenceStepUpIdeal.Value.run m g)
  exact (h c).2.2.2.2

end Cert.StepUp

end
-- ==== Proof.StepDown.lean ====
module

public import proofs.«01_k».proof.Defs
public import proofs.«01_k».proof.Proof.Gen.ReferenceStepDownIdeal.Run
public import proofs.«01_k».proof.Proof.Gen.ReferenceStepDownIdeal.Read
public import proofs.«01_k».proof.Proof.Gen.KernelStepDownIdeal.Value
public import Idealize.ShloMosaic.Lib.Pipeline.ValueKit
public import Idealize.ShloMosaic.Lib.Claim

/-!
# One optimiser step of the weights of the shape of w_down

The gradient is the sum of two cores' sums; the moments and the update are the reference's, element by element.
-/

@[expose] public section

set_option maxRecDepth 16384

noncomputable section

namespace Cert.StepDown

open Idealize.ShloMosaic Idealize.ShloMosaic.TcCoe Idealize.SL.Sem
open Cert.KernelStepDownIdeal Cert.KernelStepDownIdeal.Gen
open Cert.ReferenceStepDownIdeal.Read

variable (m : (ℓ : Loc nD τ sig) → Buf (Elt Ideal) ℓ) (c : Dev nD)

/-- The summed gradient. -/
theorem last5 : (dats m 0 c).arrAt 5 cfg0.N = val_main_v0 (F := Ideal) (m ((c : Thread nD τ).loc main_arg3)) (m ((c : Thread nD τ).loc main_arg4)) := by
  refine (Cert.KernelStepDownIdeal.Value.final5 m c).trans (funext fun i => ?_)
  pointwise [val_main_v0]

/-- The update of the weight. -/
theorem last6 : (dats m 0 c).arrAt 6 cfg0.N = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (Cert.KernelStepDownIdeal.Value.final6 m c).trans (funext fun i => ?_)
  pointwise [val_main_v24, val_main_v22, val_main_v21, val_main_v20, val_main_cst_6, val_main_v19, val_main_v18, val_main_v17, val_main_cst_5, val_main_v16, val_main_v15, val_main_v14, val_main_cst_4, val_main_v11, val_main_v10, val_main_v8, val_main_v0, val_main_v9, val_main_cst_2, val_main_v7, val_main_v6, val_main_cst_1, val_main_v13, val_main_v12, val_main_cst_3, val_main_v5, val_main_v4, val_main_v3, val_main_cst_0, val_main_v2, val_main_v1, val_main_cst, val_main_v23, val_main_cst_7]

/-- The new first moment. -/
theorem last7 : (dats m 0 c).arrAt 7 cfg0.N = val_main_v5 (F := Ideal) (m ((c : Thread nD τ).loc main_arg1)) (m ((c : Thread nD τ).loc main_arg3)) (m ((c : Thread nD τ).loc main_arg4)) := by
  refine (Cert.KernelStepDownIdeal.Value.final7 m c).trans (funext fun i => ?_)
  pointwise [val_main_v5, val_main_v4, val_main_v0, val_main_v3, val_main_cst_0, val_main_v2, val_main_v1, val_main_cst]

/-- The new second moment. -/
theorem last8 : (dats m 0 c).arrAt 8 cfg0.N = val_main_v11 (F := Ideal) (m ((c : Thread nD τ).loc main_arg2)) (m ((c : Thread nD τ).loc main_arg3)) (m ((c : Thread nD τ).loc main_arg4)) := by
  refine (Cert.KernelStepDownIdeal.Value.final8 m c).trans (funext fun i => ?_)
  pointwise [val_main_v11, val_main_v10, val_main_v8, val_main_v0, val_main_v9, val_main_cst_2, val_main_v7, val_main_v6, val_main_cst_1]

/-- Kernel and reference end with the same gradient, update and moments. -/
theorem algebraic : Cert.algebraic_KernelStepDownIdeal_ReferenceStepDownIdeal
    (hKernelStepDownIdeal := Cert.KernelStepDownIdeal.Gen.facts) (hReferenceStepDownIdeal := Cert.ReferenceStepDownIdeal.Gen.facts) := by
  intro m g m' g' hpre hagree
  refine ⟨fun c => (dats m 0 c).arrAt 5 cfg0.N, fun c => (dats m 0 c).arrAt 6 cfg0.N, fun c => (dats m 0 c).arrAt 7 cfg0.N,
    fun c => (dats m 0 c).arrAt 8 cfg0.N, Cert.KernelStepDownIdeal.Value.run_blocks m g, ?_⟩
  refine (θ_run _ _ _).mono (fun r h c => ?_) (Cert.ReferenceStepDownIdeal.Value.run m' g')
  obtain ⟨h5, h6, h7, h8, hk⟩ := h c
  obtain ⟨e0, e1, e2, e3, e4⟩ := hagree c
  refine ⟨?_, ?_, ?_, ?_, hk⟩
  · refine (h5.trans (val_main_v0_eq _ _)).trans ?_
    rw [e3, e4]
    exact (last5 m c).symm
  · refine (h6.trans (val_main_v24_eq _ _ _ _ _)).trans ?_
    rw [e0, e1, e2, e3, e4]
    exact (last6 m c).symm
  · refine (h7.trans (val_main_v5_eq _ _ _)).trans ?_
    rw [e1, e3, e4]
    exact (last7 m c).symm
  · refine (h8.trans (val_main_v11_eq _ _ _)).trans ?_
    rw [e2, e3, e4]
    exact (last8 m c).symm

/-- The reference program runs, keeps its arguments and leaves no semaphore raised. -/
theorem frame_reference : Cert.quiescent_ReferenceStepDownIdeal (hReferenceStepDownIdeal := Cert.ReferenceStepDownIdeal.Gen.facts) := by
  intro m g hpre
  refine (θ_run _ _ _).mono (fun r h => ⟨fun c => ?_, sem_eq_zero_of_no_sems (by decide) r.2⟩) (Cert.ReferenceStepDownIdeal.Value.run m g)
  exact (h c).2.2.2.2

end Cert.StepDown

end
-- ==== Proof.StepOut.lean ====
module

public import proofs.«01_k».proof.Defs
public import proofs.«01_k».proof.Proof.Gen.ReferenceStepOutIdeal.Run
public import proofs.«01_k».proof.Proof.Gen.ReferenceStepOutIdeal.Read
public import proofs.«01_k».proof.Proof.Gen.KernelStepOutIdeal.Value
public import Idealize.ShloMosaic.Lib.Pipeline.ValueKit
public import Idealize.ShloMosaic.Lib.Claim

/-!
# One optimiser step of the weights of the shape of w_out, w_branch_a and w_branch_b

The gradient is the sum of two cores' sums; the moments and the update are the reference's, element by element.
-/

@[expose] public section

set_option maxRecDepth 16384

noncomputable section

namespace Cert.StepOut

open Idealize.ShloMosaic Idealize.ShloMosaic.TcCoe Idealize.SL.Sem
open Cert.KernelStepOutIdeal Cert.KernelStepOutIdeal.Gen
open Cert.ReferenceStepOutIdeal.Read

variable (m : (ℓ : Loc nD τ sig) → Buf (Elt Ideal) ℓ) (c : Dev nD)

/-- The summed gradient. -/
theorem last5 : (dats m 0 c).arrAt 5 cfg0.N = val_main_v0 (F := Ideal) (m ((c : Thread nD τ).loc main_arg3)) (m ((c : Thread nD τ).loc main_arg4)) := by
  refine (Cert.KernelStepOutIdeal.Value.final5 m c).trans (funext fun i => ?_)
  pointwise [val_main_v0]

/-- The update of the weight. -/
theorem last6 : (dats m 0 c).arrAt 6 cfg0.N = val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (Cert.KernelStepOutIdeal.Value.final6 m c).trans (funext fun i => ?_)
  pointwise [val_main_v24, val_main_v22, val_main_v21, val_main_v20, val_main_cst_6, val_main_v19, val_main_v18, val_main_v17, val_main_cst_5, val_main_v16, val_main_v15, val_main_v14, val_main_cst_4, val_main_v11, val_main_v10, val_main_v8, val_main_v0, val_main_v9, val_main_cst_2, val_main_v7, val_main_v6, val_main_cst_1, val_main_v13, val_main_v12, val_main_cst_3, val_main_v5, val_main_v4, val_main_v3, val_main_cst_0, val_main_v2, val_main_v1, val_main_cst, val_main_v23, val_main_cst_7]

/-- The new first moment. -/
theorem last7 : (dats m 0 c).arrAt 7 cfg0.N = val_main_v5 (F := Ideal) (m ((c : Thread nD τ).loc main_arg1)) (m ((c : Thread nD τ).loc main_arg3)) (m ((c : Thread nD τ).loc main_arg4)) := by
  refine (Cert.KernelStepOutIdeal.Value.final7 m c).trans (funext fun i => ?_)
  pointwise [val_main_v5, val_main_v4, val_main_v0, val_main_v3, val_main_cst_0, val_main_v2, val_main_v1, val_main_cst]

/-- The new second moment. -/
theorem last8 : (dats m 0 c).arrAt 8 cfg0.N = val_main_v11 (F := Ideal) (m ((c : Thread nD τ).loc main_arg2)) (m ((c : Thread nD τ).loc main_arg3)) (m ((c : Thread nD τ).loc main_arg4)) := by
  refine (Cert.KernelStepOutIdeal.Value.final8 m c).trans (funext fun i => ?_)
  pointwise [val_main_v11, val_main_v10, val_main_v8, val_main_v0, val_main_v9, val_main_cst_2, val_main_v7, val_main_v6, val_main_cst_1]

/-- Kernel and reference end with the same gradient, update and moments. -/
theorem algebraic : Cert.algebraic_KernelStepOutIdeal_ReferenceStepOutIdeal
    (hKernelStepOutIdeal := Cert.KernelStepOutIdeal.Gen.facts) (hReferenceStepOutIdeal := Cert.ReferenceStepOutIdeal.Gen.facts) := by
  intro m g m' g' hpre hagree
  refine ⟨fun c => (dats m 0 c).arrAt 5 cfg0.N, fun c => (dats m 0 c).arrAt 6 cfg0.N, fun c => (dats m 0 c).arrAt 7 cfg0.N,
    fun c => (dats m 0 c).arrAt 8 cfg0.N, Cert.KernelStepOutIdeal.Value.run_blocks m g, ?_⟩
  refine (θ_run _ _ _).mono (fun r h c => ?_) (Cert.ReferenceStepOutIdeal.Value.run m' g')
  obtain ⟨h5, h6, h7, h8, hk⟩ := h c
  obtain ⟨e0, e1, e2, e3, e4⟩ := hagree c
  refine ⟨?_, ?_, ?_, ?_, hk⟩
  · refine (h5.trans (val_main_v0_eq _ _)).trans ?_
    rw [e3, e4]
    exact (last5 m c).symm
  · refine (h6.trans (val_main_v24_eq _ _ _ _ _)).trans ?_
    rw [e0, e1, e2, e3, e4]
    exact (last6 m c).symm
  · refine (h7.trans (val_main_v5_eq _ _ _)).trans ?_
    rw [e1, e3, e4]
    exact (last7 m c).symm
  · refine (h8.trans (val_main_v11_eq _ _ _)).trans ?_
    rw [e2, e3, e4]
    exact (last8 m c).symm

/-- The reference program runs, keeps its arguments and leaves no semaphore raised. -/
theorem frame_reference : Cert.quiescent_ReferenceStepOutIdeal (hReferenceStepOutIdeal := Cert.ReferenceStepOutIdeal.Gen.facts) := by
  intro m g hpre
  refine (θ_run _ _ _).mono (fun r h => ⟨fun c => ?_, sem_eq_zero_of_no_sems (by decide) r.2⟩) (Cert.ReferenceStepOutIdeal.Value.run m g)
  exact (h c).2.2.2.2

end Cert.StepOut

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.KernelFfnIdeal.Value
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Gen.KernelUpFwd
public import proofs.«01_k».proof.Proof.Gen.KernelUpFwd.Skeleton
public import proofs.«01_k».proof.Proof.Gen.KernelUpFwd.Launch
public import proofs.«01_k».proof.Proof.Gen.KernelUpFwd.Points
public import proofs.«01_k».proof.Proof.Gen.KernelUpFwd.Frame
public import proofs.«01_k».proof.Proof.Gen.KernelUpFwdIdeal
public import proofs.«01_k».proof.Proof.Gen.KernelUpFwdIdeal.Skeleton
public import proofs.«01_k».proof.Proof.Gen.KernelUpFwdIdeal.Launch
public import proofs.«01_k».proof.Proof.Gen.KernelUpFwdIdeal.Points
public import proofs.«01_k».proof.Proof.Gen.KernelUpFwdIdeal.Frame
public import proofs.«01_k».proof.Proof.Gen.KernelUpFwdIdeal.Value
public import proofs.«01_k».proof.Proof.Gen.ReferenceUpFwdIdeal
public import proofs.«01_k».proof.Proof.Gen.ReferenceUpFwdIdeal.Run
public import proofs.«01_k».proof.Proof.Gen.ReferenceUpFwdIdeal.Read
public import proofs.«01_k».proof.Proof.Gen.KernelMod
public import proofs.«01_k».proof.Proof.Gen.KernelMod.Skeleton
public import proofs.«01_k».proof.Proof.Gen.KernelMod.Launch
public import proofs.«01_k».proof.Proof.Gen.KernelMod.Points
public import proofs.«01_k».proof.Proof.Gen.KernelMod.Frame
public import proofs.«01_k».proof.Proof.Gen.KernelModIdeal
public import proofs.«01_k».proof.Proof.Gen.KernelModIdeal.Skeleton
public import proofs.«01_k».proof.Proof.Gen.KernelModIdeal.Launch
public import proofs.«01_k».proof.Proof.Gen.KernelModIdeal.Points
public import proofs.«01_k».proof.Proof.Gen.KernelModIdeal.Frame
public import proofs.«01_k».proof.Proof.Gen.KernelModIdeal.Value
public import proofs.«01_k».proof.Proof.Gen.ReferenceModIdeal
public import proofs.«01_k».proof.Proof.Gen.ReferenceModIdeal.Run
public import proofs.«01_k».proof.Proof.Gen.ReferenceModIdeal.Read
public import proofs.«01_k».proof.Proof.Gen.KernelAda
public import proofs.«01_k».proof.Proof.Gen.KernelAda.Skeleton
public import proofs.«01_k».proof.Proof.Gen.KernelAda.Launch
public import proofs.«01_k».proof.Proof.Gen.KernelAda.Points
public import proofs.«01_k».proof.Proof.Gen.KernelAda.Frame
public import proofs.«01_k».proof.Proof.Gen.KernelAdaIdeal
public import proofs.«01_k».proof.Proof.Gen.KernelAdaIdeal.Skeleton
public import proofs.«01_k».proof.Proof.Gen.KernelAdaIdeal.Launch
public import proofs.«01_k».proof.Proof.Gen.KernelAdaIdeal.Points
public import proofs.«01_k».proof.Proof.Gen.KernelAdaIdeal.Frame
public import proofs.«01_k».proof.Proof.Gen.ReferenceAdaIdeal
public import proofs.«01_k».proof.Proof.Gen.ReferenceAdaIdeal.Run
public import proofs.«01_k».proof.Proof.Gen.ReferenceAdaIdeal.Read
public import proofs.«01_k».proof.Proof.Gen.KernelStepUp
public import proofs.«01_k».proof.Proof.Gen.KernelStepUp.Skeleton
public import proofs.«01_k».proof.Proof.Gen.KernelStepUp.Launch
public import proofs.«01_k».proof.Proof.Gen.KernelStepUp.Points
public import proofs.«01_k».proof.Proof.Gen.KernelStepUp.Frame
public import proofs.«01_k».proof.Proof.Gen.KernelStepUpIdeal
public import proofs.«01_k».proof.Proof.Gen.KernelStepUpIdeal.Skeleton
public import proofs.«01_k».proof.Proof.Gen.KernelStepUpIdeal.Launch
public import proofs.«01_k».proof.Proof.Gen.KernelStepUpIdeal.Points
public import proofs.«01_k».proof.Proof.Gen.KernelStepUpIdeal.Frame
public import proofs.«01_k».proof.Proof.Gen.KernelStepUpIdeal.Value
public import proofs.«01_k».proof.Proof.Gen.ReferenceStepUpIdeal
public import proofs.«01_k».proof.Proof.Gen.ReferenceStepUpIdeal.Run
public import proofs.«01_k».proof.Proof.Gen.ReferenceStepUpIdeal.Read
public import proofs.«01_k».proof.Proof.Gen.KernelStepDown
public import proofs.«01_k».proof.Proof.Gen.KernelStepDown.Skeleton
public import proofs.«01_k».proof.Proof.Gen.KernelStepDown.Launch
public import proofs.«01_k».proof.Proof.Gen.KernelStepDown.Points
public import proofs.«01_k».proof.Proof.Gen.KernelStepDown.Frame
public import proofs.«01_k».proof.Proof.Gen.KernelStepDownIdeal
public import proofs.«01_k».proof.Proof.Gen.KernelStepDownIdeal.Skeleton
public import proofs.«01_k».proof.Proof.Gen.KernelStepDownIdeal.Launch
public import proofs.«01_k».proof.Proof.Gen.KernelStepDownIdeal.Points
public import proofs.«01_k».proof.Proof.Gen.KernelStepDownIdeal.Frame
public import proofs.«01_k».proof.Proof.Gen.KernelStepDownIdeal.Value
public import proofs.«01_k».proof.Proof.Gen.ReferenceStepDownIdeal
public import proofs.«01_k».proof.Proof.Gen.ReferenceStepDownIdeal.Run
public import proofs.«01_k».proof.Proof.Gen.ReferenceStepDownIdeal.Read
public import proofs.«01_k».proof.Proof.Gen.KernelStepOut
public import proofs.«01_k».proof.Proof.Gen.KernelStepOut.Skeleton
public import proofs.«01_k».proof.Proof.Gen.KernelStepOut.Launch
public import proofs.«01_k».proof.Proof.Gen.KernelStepOut.Points
public import proofs.«01_k».proof.Proof.Gen.KernelStepOut.Frame
public import proofs.«01_k».proof.Proof.Gen.KernelStepOutIdeal
public import proofs.«01_k».proof.Proof.Gen.KernelStepOutIdeal.Skeleton
public import proofs.«01_k».proof.Proof.Gen.KernelStepOutIdeal.Launch
public import proofs.«01_k».proof.Proof.Gen.KernelStepOutIdeal.Points
public import proofs.«01_k».proof.Proof.Gen.KernelStepOutIdeal.Frame
public import proofs.«01_k».proof.Proof.Gen.KernelStepOutIdeal.Value
public import proofs.«01_k».proof.Proof.Gen.ReferenceStepOutIdeal
public import proofs.«01_k».proof.Proof.Gen.ReferenceStepOutIdeal.Run
public import proofs.«01_k».proof.Proof.Gen.ReferenceStepOutIdeal.Read
public import proofs.«01_k».proof.Proof.Merge
public import proofs.«01_k».proof.Proof.ProductUpClaim
public import proofs.«01_k».proof.Proof.ProductOutClaim
public import proofs.«01_k».proof.Proof.ProductDownClaim
public import proofs.«01_k».proof.Proof.NormInClaim
public import proofs.«01_k».proof.Proof.FfnClaim
public import proofs.«01_k».proof.Proof.UpFwdClaim
public import proofs.«01_k».proof.Proof.Mod
public import proofs.«01_k».proof.Proof.Ada
public import proofs.«01_k».proof.Proof.StepUp
public import proofs.«01_k».proof.Proof.StepDown
public import proofs.«01_k».proof.Proof.StepOut
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelOut.Gen.facts, Cert.KernelOutIdeal.Gen.facts, Cert.ReferenceOutIdeal.Gen.facts,
    Cert.KernelDown.Gen.facts, Cert.KernelDownIdeal.Gen.facts, Cert.ReferenceDownIdeal.Gen.facts,
    Cert.KernelIn.Gen.facts, Cert.KernelInIdeal.Gen.facts, Cert.ReferenceInIdeal.Gen.facts,
    Cert.KernelFfn.Gen.facts, Cert.KernelFfnIdeal.Gen.facts, Cert.ReferenceFfnIdeal.Gen.facts,
    Cert.KernelUpFwd.Gen.facts, Cert.KernelUpFwdIdeal.Gen.facts, Cert.ReferenceUpFwdIdeal.Gen.facts,
    Cert.KernelMod.Gen.facts, Cert.KernelModIdeal.Gen.facts, Cert.ReferenceModIdeal.Gen.facts,
    Cert.KernelAda.Gen.facts, Cert.KernelAdaIdeal.Gen.facts, Cert.ReferenceAdaIdeal.Gen.facts,
    Cert.KernelStepUp.Gen.facts, Cert.KernelStepUpIdeal.Gen.facts, Cert.ReferenceStepUpIdeal.Gen.facts,
    Cert.KernelStepDown.Gen.facts, Cert.KernelStepDownIdeal.Gen.facts, Cert.ReferenceStepDownIdeal.Gen.facts,
    Cert.KernelStepOut.Gen.facts, Cert.KernelStepOutIdeal.Gen.facts, Cert.ReferenceStepOutIdeal.Gen.facts,
    Cert.NormIn.finite_facts,
    Cert.Ffn.finite_facts,
    Cert.Merge.gate_facts,
    fun m ρ _ => Cert.Kernel.Gen.frame m ρ, fun m ρ _ => Cert.KernelIdeal.Gen.frame m ρ, Cert.Merge.frame_reference,
    fun m ρ _ => Cert.KernelUp.Gen.frame m ρ, fun m ρ _ => Cert.KernelUpIdeal.Gen.frame m ρ, Cert.ProductUp.frame_reference,
    fun m ρ _ => Cert.KernelOut.Gen.frame m ρ, fun m ρ _ => Cert.KernelOutIdeal.Gen.frame m ρ, Cert.ProductOut.frame_reference,
    fun m ρ _ => Cert.KernelDown.Gen.frame m ρ, fun m ρ _ => Cert.KernelDownIdeal.Gen.frame m ρ, Cert.ProductDown.frame_reference,
    fun m ρ _ => Cert.KernelIn.Gen.frame m ρ, fun m ρ _ => Cert.KernelInIdeal.Gen.frame m ρ, fun m ρ _ => Cert.KernelInIdeal.Gen.frame m ρ, Cert.NormIn.frame_reference, fun m ρ _ => Cert.NormIn.frame_reference m ρ trivial,
    fun m ρ _ => Cert.KernelFfn.Gen.frame m ρ, fun m ρ _ => Cert.KernelFfnIdeal.Gen.frame m ρ, fun m ρ _ => Cert.KernelFfnIdeal.Gen.frame m ρ, Cert.Ffn.frame_reference, fun m ρ _ => Cert.Ffn.frame_reference m ρ trivial,
    fun m ρ _ => Cert.KernelUpFwd.Gen.frame m ρ, fun m ρ _ => Cert.KernelUpFwdIdeal.Gen.frame m ρ, Cert.UpFwd.frame_reference,
    fun m ρ _ => Cert.KernelMod.Gen.frame m ρ, fun m ρ _ => Cert.KernelModIdeal.Gen.frame m ρ, Cert.Mod.frame_reference,
    fun m ρ _ => Cert.KernelAda.Gen.frame m ρ, fun m ρ _ => Cert.KernelAdaIdeal.Gen.frame m ρ, Cert.Ada.frame_reference,
    fun m ρ _ => Cert.KernelStepUp.Gen.frame m ρ, fun m ρ _ => Cert.KernelStepUpIdeal.Gen.frame m ρ, Cert.StepUp.frame_reference,
    fun m ρ _ => Cert.KernelStepDown.Gen.frame m ρ, fun m ρ _ => Cert.KernelStepDownIdeal.Gen.frame m ρ, Cert.StepDown.frame_reference,
    fun m ρ _ => Cert.KernelStepOut.Gen.frame m ρ, fun m ρ _ => Cert.KernelStepOutIdeal.Gen.frame m ρ, Cert.StepOut.frame_reference,
    trivial, Cert.Merge.algebraic,
    trivial, Cert.ProductUp.algebraic,
    trivial, Cert.ProductOut.algebraic,
    trivial, Cert.ProductDown.algebraic,
    trivial, Cert.NormIn.algebraic,
    trivial, Cert.Ffn.algebraic,
    trivial, Cert.UpFwd.algebraic,
    trivial, Cert.Mod.algebraic,
    trivial, Cert.Ada.algebraic,
    trivial, Cert.StepUp.algebraic,
    trivial, Cert.StepDown.algebraic,
    trivial, Cert.StepOut.algebraic⟩

end Cert.Proof

end
